-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_KnnAll (m : (ℓ : Loc Cert.KnnAll.nD Cert.KnnAll.τ Cert.KnnAll.sig) → Buf (Elt Bits) ℓ) : Prop :=
  True

def Pre_KnnAllIdeal (m : (ℓ : Loc Cert.KnnAllIdeal.nD Cert.KnnAllIdeal.τ Cert.KnnAllIdeal.sig) → Buf (Elt Ideal) ℓ) : Prop :=
  True

def Pre_KnnAllIdeal_enough_neighbours [hPre_enough_neighbours : Cert.Pre_enough_neighbours.Facts] (m : (ℓ : Loc Cert.KnnAllIdeal.nD Cert.KnnAllIdeal.τ Cert.KnnAllIdeal.sig) → Buf (Elt Ideal) ℓ) : Prop :=
  ∀ c : Dev Cert.KnnAllIdeal.nD,
    (Cert.Pre_enough_neighbours.fn (F := Ideal) (m ((c.tc : Thread Cert.KnnAllIdeal.nD Cert.KnnAllIdeal.τ).loc Cert.KnnAllIdeal.main_arg0)) (m ((c.tc : Thread Cert.KnnAllIdeal.nD Cert.KnnAllIdeal.τ).loc Cert.KnnAllIdeal.main_arg1))) = (fun _ => 1#1)

def Pre_KnnReferenceIdeal (m : (ℓ : Loc Cert.KnnReferenceIdeal.nD Cert.KnnReferenceIdeal.τ Cert.KnnReferenceIdeal.sig) → Buf (Elt Ideal) ℓ) : Prop :=
  True

def Pre_KnnReferenceIdeal_enough_neighbours [hPre_enough_neighbours : Cert.Pre_enough_neighbours.Facts] (m : (ℓ : Loc Cert.KnnReferenceIdeal.nD Cert.KnnReferenceIdeal.τ Cert.KnnReferenceIdeal.sig) → Buf (Elt Ideal) ℓ) : Prop :=
  ∀ c : Dev Cert.KnnReferenceIdeal.nD,
    (Cert.Pre_enough_neighbours.fn (F := Ideal) (m ((c.tc : Thread Cert.KnnReferenceIdeal.nD Cert.KnnReferenceIdeal.τ).loc Cert.KnnReferenceIdeal.main_arg0)) (m ((c.tc : Thread Cert.KnnReferenceIdeal.nD Cert.KnnReferenceIdeal.τ).loc Cert.KnnReferenceIdeal.main_arg1))) = (fun _ => 1#1)

def Pre_KnnReferenceIdeal_seg_fits [hPre_seg_fits : Cert.Pre_seg_fits.Facts] (m : (ℓ : Loc Cert.KnnReferenceIdeal.nD Cert.KnnReferenceIdeal.τ Cert.KnnReferenceIdeal.sig) → Buf (Elt Ideal) ℓ) : Prop :=
  ∀ c : Dev Cert.KnnReferenceIdeal.nD,
    (Cert.Pre_seg_fits.fn (F := Ideal) (m ((c.tc : Thread Cert.KnnReferenceIdeal.nD Cert.KnnReferenceIdeal.τ).loc Cert.KnnReferenceIdeal.main_arg0)) (m ((c.tc : Thread Cert.KnnReferenceIdeal.nD Cert.KnnReferenceIdeal.τ).loc Cert.KnnReferenceIdeal.main_arg1))) = (fun _ => 1#1)

def Pre_KnnWide (m : (ℓ : Loc Cert.KnnWide.nD Cert.KnnWide.τ Cert.KnnWide.sig) → Buf (Elt Bits) ℓ) : Prop :=
  True

def Pre_KnnWideIdeal (m : (ℓ : Loc Cert.KnnWideIdeal.nD Cert.KnnWideIdeal.τ Cert.KnnWideIdeal.sig) → Buf (Elt Ideal) ℓ) : Prop :=
  True

def Pre_KnnWideIdeal_enough_neighbours_wide [hPre_enough_neighbours_wide : Cert.Pre_enough_neighbours_wide.Facts] (m : (ℓ : Loc Cert.KnnWideIdeal.nD Cert.KnnWideIdeal.τ Cert.KnnWideIdeal.sig) → Buf (Elt Ideal) ℓ) : Prop :=
  ∀ c : Dev Cert.KnnWideIdeal.nD,
    (Cert.Pre_enough_neighbours_wide.fn (F := Ideal) (m ((c.tc : Thread Cert.KnnWideIdeal.nD Cert.KnnWideIdeal.τ).loc Cert.KnnWideIdeal.main_arg0)) (m ((c.tc : Thread Cert.KnnWideIdeal.nD Cert.KnnWideIdeal.τ).loc Cert.KnnWideIdeal.main_arg1))) = (fun _ => 1#1)

def Pre_KnnWideReferenceIdeal (m : (ℓ : Loc Cert.KnnWideReferenceIdeal.nD Cert.KnnWideReferenceIdeal.τ Cert.KnnWideReferenceIdeal.sig) → Buf (Elt Ideal) ℓ) : Prop :=
  True

def Pre_KnnWideReferenceIdeal_enough_neighbours_wide [hPre_enough_neighbours_wide : Cert.Pre_enough_neighbours_wide.Facts] (m : (ℓ : Loc Cert.KnnWideReferenceIdeal.nD Cert.KnnWideReferenceIdeal.τ Cert.KnnWideReferenceIdeal.sig) → Buf (Elt Ideal) ℓ) : Prop :=
  ∀ c : Dev Cert.KnnWideReferenceIdeal.nD,
    (Cert.Pre_enough_neighbours_wide.fn (F := Ideal) (m ((c.tc : Thread Cert.KnnWideReferenceIdeal.nD Cert.KnnWideReferenceIdeal.τ).loc Cert.KnnWideReferenceIdeal.main_arg0)) (m ((c.tc : Thread Cert.KnnWideReferenceIdeal.nD Cert.KnnWideReferenceIdeal.τ).loc Cert.KnnWideReferenceIdeal.main_arg1))) = (fun _ => 1#1)

def Pre_KnnSeg (m : (ℓ : Loc Cert.KnnSeg.nD Cert.KnnSeg.τ Cert.KnnSeg.sig) → Buf (Elt Bits) ℓ) : Prop :=
  True

def Pre_KnnSegIdeal (m : (ℓ : Loc Cert.KnnSegIdeal.nD Cert.KnnSegIdeal.τ Cert.KnnSegIdeal.sig) → Buf (Elt Ideal) ℓ) : Prop :=
  True

def Pre_KnnSegIdeal_seg_fits [hPre_seg_fits : Cert.Pre_seg_fits.Facts] (m : (ℓ : Loc Cert.KnnSegIdeal.nD Cert.KnnSegIdeal.τ Cert.KnnSegIdeal.sig) → Buf (Elt Ideal) ℓ) : Prop :=
  ∀ c : Dev Cert.KnnSegIdeal.nD,
    (Cert.Pre_seg_fits.fn (F := Ideal) (m ((c.tc : Thread Cert.KnnSegIdeal.nD Cert.KnnSegIdeal.τ).loc Cert.KnnSegIdeal.main_arg0)) (m ((c.tc : Thread Cert.KnnSegIdeal.nD Cert.KnnSegIdeal.τ).loc Cert.KnnSegIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KnnAll [hKnnAll : Cert.KnnAll.Facts] : Prop :=
  ∀ (m : (ℓ : Loc Cert.KnnAll.nD Cert.KnnAll.τ Cert.KnnAll.sig) → Buf (Elt Bits) ℓ) (g : Dev Cert.KnnAll.nD → PrngReg), Pre_KnnAll m →
    θ_run (Cert.KnnAll.defs (F := Bits)) (onTc (τ := Cert.KnnAll.τ) (Cert.KnnAll.main (F := Bits))) ⟨m, fun _ => 0, g⟩ (fun r => (∀ c : Dev Cert.KnnAll.nD,
      r.2.mem ((c.tc : Thread Cert.KnnAll.nD Cert.KnnAll.τ).loc Cert.KnnAll.main_arg0) = m ((c.tc : Thread Cert.KnnAll.nD Cert.KnnAll.τ).loc Cert.KnnAll.main_arg0)
      ∧ r.2.mem ((c.tc : Thread Cert.KnnAll.nD Cert.KnnAll.τ).loc Cert.KnnAll.main_arg1) = m ((c.tc : Thread Cert.KnnAll.nD Cert.KnnAll.τ).loc Cert.KnnAll.main_arg1))
      ∧ r.2.sem = fun _ => 0)

def quiescent_KnnAllIdeal [hKnnAllIdeal : Cert.KnnAllIdeal.Facts] : Prop :=
  ∀ (m : (ℓ : Loc Cert.KnnAllIdeal.nD Cert.KnnAllIdeal.τ Cert.KnnAllIdeal.sig) → Buf (Elt Ideal) ℓ) (g : Dev Cert.KnnAllIdeal.nD → PrngReg), Pre_KnnAllIdeal m →
    θ_run (Cert.KnnAllIdeal.defs (F := Ideal)) (onTc (τ := Cert.KnnAllIdeal.τ) (Cert.KnnAllIdeal.main (F := Ideal))) ⟨m, fun _ => 0, g⟩ (fun r => (∀ c : Dev Cert.KnnAllIdeal.nD,
      r.2.mem ((c.tc : Thread Cert.KnnAllIdeal.nD Cert.KnnAllIdeal.τ).loc Cert.KnnAllIdeal.main_arg0) = m ((c.tc : Thread Cert.KnnAllIdeal.nD Cert.KnnAllIdeal.τ).loc Cert.KnnAllIdeal.main_arg0)
      ∧ r.2.mem ((c.tc : Thread Cert.KnnAllIdeal.nD Cert.KnnAllIdeal.τ).loc Cert.KnnAllIdeal.main_arg1) = m ((c.tc : Thread Cert.KnnAllIdeal.nD Cert.KnnAllIdeal.τ).loc Cert.KnnAllIdeal.main_arg1))
      ∧ r.2.sem = fun _ => 0)

def quiescent_KnnAllIdeal_pre_enough_neighbours [hKnnAllIdeal : Cert.KnnAllIdeal.Facts] [hPre_enough_neighbours : Cert.Pre_enough_neighbours.Facts] : Prop :=
  ∀ (m : (ℓ : Loc Cert.KnnAllIdeal.nD Cert.KnnAllIdeal.τ Cert.KnnAllIdeal.sig) → Buf (Elt Ideal) ℓ) (g : Dev Cert.KnnAllIdeal.nD → PrngReg), Pre_KnnAllIdeal_enough_neighbours m →
    θ_run (Cert.KnnAllIdeal.defs (F := Ideal)) (onTc (τ := Cert.KnnAllIdeal.τ) (Cert.KnnAllIdeal.main (F := Ideal))) ⟨m, fun _ => 0, g⟩ (fun r => (∀ c : Dev Cert.KnnAllIdeal.nD,
      r.2.mem ((c.tc : Thread Cert.KnnAllIdeal.nD Cert.KnnAllIdeal.τ).loc Cert.KnnAllIdeal.main_arg0) = m ((c.tc : Thread Cert.KnnAllIdeal.nD Cert.KnnAllIdeal.τ).loc Cert.KnnAllIdeal.main_arg0)
      ∧ r.2.mem ((c.tc : Thread Cert.KnnAllIdeal.nD Cert.KnnAllIdeal.τ).loc Cert.KnnAllIdeal.main_arg1) = m ((c.tc : Thread Cert.KnnAllIdeal.nD Cert.KnnAllIdeal.τ).loc Cert.KnnAllIdeal.main_arg1))
      ∧ r.2.sem = fun _ => 0)

def quiescent_KnnReferenceIdeal [hKnnReferenceIdeal : Cert.KnnReferenceIdeal.Facts] : Prop :=
  ∀ (m : (ℓ : Loc Cert.KnnReferenceIdeal.nD Cert.KnnReferenceIdeal.τ Cert.KnnReferenceIdeal.sig) → Buf (Elt Ideal) ℓ) (g : Dev Cert.KnnReferenceIdeal.nD → PrngReg), Pre_KnnReferenceIdeal m →
    θ_run (Cert.KnnReferenceIdeal.defs (F := Ideal)) (onTc (τ := Cert.KnnReferenceIdeal.τ) (Cert.KnnReferenceIdeal.main (F := Ideal))) ⟨m, fun _ => 0, g⟩ (fun r => (∀ c : Dev Cert.KnnReferenceIdeal.nD,
      r.2.mem ((c.tc : Thread Cert.KnnReferenceIdeal.nD Cert.KnnReferenceIdeal.τ).loc Cert.KnnReferenceIdeal.main_arg0) = m ((c.tc : Thread Cert.KnnReferenceIdeal.nD Cert.KnnReferenceIdeal.τ).loc Cert.KnnReferenceIdeal.main_arg0)
      ∧ r.2.mem ((c.tc : Thread Cert.KnnReferenceIdeal.nD Cert.KnnReferenceIdeal.τ).loc Cert.KnnReferenceIdeal.main_arg1) = m ((c.tc : Thread Cert.KnnReferenceIdeal.nD Cert.KnnReferenceIdeal.τ).loc Cert.KnnReferenceIdeal.main_arg1))
      ∧ r.2.sem = fun _ => 0)

def quiescent_KnnReferenceIdeal_pre_enough_neighbours [hKnnReferenceIdeal : Cert.KnnReferenceIdeal.Facts] [hPre_enough_neighbours : Cert.Pre_enough_neighbours.Facts] : Prop :=
  ∀ (m : (ℓ : Loc Cert.KnnReferenceIdeal.nD Cert.KnnReferenceIdeal.τ Cert.KnnReferenceIdeal.sig) → Buf (Elt Ideal) ℓ) (g : Dev Cert.KnnReferenceIdeal.nD → PrngReg), Pre_KnnReferenceIdeal_enough_neighbours m →
    θ_run (Cert.KnnReferenceIdeal.defs (F := Ideal)) (onTc (τ := Cert.KnnReferenceIdeal.τ) (Cert.KnnReferenceIdeal.main (F := Ideal))) ⟨m, fun _ => 0, g⟩ (fun r => (∀ c : Dev Cert.KnnReferenceIdeal.nD,
      r.2.mem ((c.tc : Thread Cert.KnnReferenceIdeal.nD Cert.KnnReferenceIdeal.τ).loc Cert.KnnReferenceIdeal.main_arg0) = m ((c.tc : Thread Cert.KnnReferenceIdeal.nD Cert.KnnReferenceIdeal.τ).loc Cert.KnnReferenceIdeal.main_arg0)
      ∧ r.2.mem ((c.tc : Thread Cert.KnnReferenceIdeal.nD Cert.KnnReferenceIdeal.τ).loc Cert.KnnReferenceIdeal.main_arg1) = m ((c.tc : Thread Cert.KnnReferenceIdeal.nD Cert.KnnReferenceIdeal.τ).loc Cert.KnnReferenceIdeal.main_arg1))
      ∧ r.2.sem = fun _ => 0)

def quiescent_KnnReferenceIdeal_pre_seg_fits [hKnnReferenceIdeal : Cert.KnnReferenceIdeal.Facts] [hPre_seg_fits : Cert.Pre_seg_fits.Facts] : Prop :=
  ∀ (m : (ℓ : Loc Cert.KnnReferenceIdeal.nD Cert.KnnReferenceIdeal.τ Cert.KnnReferenceIdeal.sig) → Buf (Elt Ideal) ℓ) (g : Dev Cert.KnnReferenceIdeal.nD → PrngReg), Pre_KnnReferenceIdeal_seg_fits m →
    θ_run (Cert.KnnReferenceIdeal.defs (F := Ideal)) (onTc (τ := Cert.KnnReferenceIdeal.τ) (Cert.KnnReferenceIdeal.main (F := Ideal))) ⟨m, fun _ => 0, g⟩ (fun r => (∀ c : Dev Cert.KnnReferenceIdeal.nD,
      r.2.mem ((c.tc : Thread Cert.KnnReferenceIdeal.nD Cert.KnnReferenceIdeal.τ).loc Cert.KnnReferenceIdeal.main_arg0) = m ((c.tc : Thread Cert.KnnReferenceIdeal.nD Cert.KnnReferenceIdeal.τ).loc Cert.KnnReferenceIdeal.main_arg0)
      ∧ r.2.mem ((c.tc : Thread Cert.KnnReferenceIdeal.nD Cert.KnnReferenceIdeal.τ).loc Cert.KnnReferenceIdeal.main_arg1) = m ((c.tc : Thread Cert.KnnReferenceIdeal.nD Cert.KnnReferenceIdeal.τ).loc Cert.KnnReferenceIdeal.main_arg1))
      ∧ r.2.sem = fun _ => 0)

def quiescent_KnnWide [hKnnWide : Cert.KnnWide.Facts] : Prop :=
  ∀ (m : (ℓ : Loc Cert.KnnWide.nD Cert.KnnWide.τ Cert.KnnWide.sig) → Buf (Elt Bits) ℓ) (g : Dev Cert.KnnWide.nD → PrngReg), Pre_KnnWide m →
    θ_run (Cert.KnnWide.defs (F := Bits)) (onTc (τ := Cert.KnnWide.τ) (Cert.KnnWide.main (F := Bits))) ⟨m, fun _ => 0, g⟩ (fun r => (∀ c : Dev Cert.KnnWide.nD,
      r.2.mem ((c.tc : Thread Cert.KnnWide.nD Cert.KnnWide.τ).loc Cert.KnnWide.main_arg0) = m ((c.tc : Thread Cert.KnnWide.nD Cert.KnnWide.τ).loc Cert.KnnWide.main_arg0)
      ∧ r.2.mem ((c.tc : Thread Cert.KnnWide.nD Cert.KnnWide.τ).loc Cert.KnnWide.main_arg1) = m ((c.tc : Thread Cert.KnnWide.nD Cert.KnnWide.τ).loc Cert.KnnWide.main_arg1))
      ∧ r.2.sem = fun _ => 0)

def quiescent_KnnWideIdeal [hKnnWideIdeal : Cert.KnnWideIdeal.Facts] : Prop :=
  ∀ (m : (ℓ : Loc Cert.KnnWideIdeal.nD Cert.KnnWideIdeal.τ Cert.KnnWideIdeal.sig) → Buf (Elt Ideal) ℓ) (g : Dev Cert.KnnWideIdeal.nD → PrngReg), Pre_KnnWideIdeal m →
    θ_run (Cert.KnnWideIdeal.defs (F := Ideal)) (onTc (τ := Cert.KnnWideIdeal.τ) (Cert.KnnWideIdeal.main (F := Ideal))) ⟨m, fun _ => 0, g⟩ (fun r => (∀ c : Dev Cert.KnnWideIdeal.nD,
      r.2.mem ((c.tc : Thread Cert.KnnWideIdeal.nD Cert.KnnWideIdeal.τ).loc Cert.KnnWideIdeal.main_arg0) = m ((c.tc : Thread Cert.KnnWideIdeal.nD Cert.KnnWideIdeal.τ).loc Cert.KnnWideIdeal.main_arg0)
      ∧ r.2.mem ((c.tc : Thread Cert.KnnWideIdeal.nD Cert.KnnWideIdeal.τ).loc Cert.KnnWideIdeal.main_arg1) = m ((c.tc : Thread Cert.KnnWideIdeal.nD Cert.KnnWideIdeal.τ).loc Cert.KnnWideIdeal.main_arg1))
      ∧ r.2.sem = fun _ => 0)

def quiescent_KnnWideIdeal_pre_enough_neighbours_wide [hKnnWideIdeal : Cert.KnnWideIdeal.Facts] [hPre_enough_neighbours_wide : Cert.Pre_enough_neighbours_wide.Facts] : Prop :=
  ∀ (m : (ℓ : Loc Cert.KnnWideIdeal.nD Cert.KnnWideIdeal.τ Cert.KnnWideIdeal.sig) → Buf (Elt Ideal) ℓ) (g : Dev Cert.KnnWideIdeal.nD → PrngReg), Pre_KnnWideIdeal_enough_neighbours_wide m →
    θ_run (Cert.KnnWideIdeal.defs (F := Ideal)) (onTc (τ := Cert.KnnWideIdeal.τ) (Cert.KnnWideIdeal.main (F := Ideal))) ⟨m, fun _ => 0, g⟩ (fun r => (∀ c : Dev Cert.KnnWideIdeal.nD,
      r.2.mem ((c.tc : Thread Cert.KnnWideIdeal.nD Cert.KnnWideIdeal.τ).loc Cert.KnnWideIdeal.main_arg0) = m ((c.tc : Thread Cert.KnnWideIdeal.nD Cert.KnnWideIdeal.τ).loc Cert.KnnWideIdeal.main_arg0)
      ∧ r.2.mem ((c.tc : Thread Cert.KnnWideIdeal.nD Cert.KnnWideIdeal.τ).loc Cert.KnnWideIdeal.main_arg1) = m ((c.tc : Thread Cert.KnnWideIdeal.nD Cert.KnnWideIdeal.τ).loc Cert.KnnWideIdeal.main_arg1))
      ∧ r.2.sem = fun _ => 0)

def quiescent_KnnWideReferenceIdeal [hKnnWideReferenceIdeal : Cert.KnnWideReferenceIdeal.Facts] : Prop :=
  ∀ (m : (ℓ : Loc Cert.KnnWideReferenceIdeal.nD Cert.KnnWideReferenceIdeal.τ Cert.KnnWideReferenceIdeal.sig) → Buf (Elt Ideal) ℓ) (g : Dev Cert.KnnWideReferenceIdeal.nD → PrngReg), Pre_KnnWideReferenceIdeal m →
    θ_run (Cert.KnnWideReferenceIdeal.defs (F := Ideal)) (onTc (τ := Cert.KnnWideReferenceIdeal.τ) (Cert.KnnWideReferenceIdeal.main (F := Ideal))) ⟨m, fun _ => 0, g⟩ (fun r => (∀ c : Dev Cert.KnnWideReferenceIdeal.nD,
      r.2.mem ((c.tc : Thread Cert.KnnWideReferenceIdeal.nD Cert.KnnWideReferenceIdeal.τ).loc Cert.KnnWideReferenceIdeal.main_arg0) = m ((c.tc : Thread Cert.KnnWideReferenceIdeal.nD Cert.KnnWideReferenceIdeal.τ).loc Cert.KnnWideReferenceIdeal.main_arg0)
      ∧ r.2.mem ((c.tc : Thread Cert.KnnWideReferenceIdeal.nD Cert.KnnWideReferenceIdeal.τ).loc Cert.KnnWideReferenceIdeal.main_arg1) = m ((c.tc : Thread Cert.KnnWideReferenceIdeal.nD Cert.KnnWideReferenceIdeal.τ).loc Cert.KnnWideReferenceIdeal.main_arg1))
      ∧ r.2.sem = fun _ => 0)

def quiescent_KnnWideReferenceIdeal_pre_enough_neighbours_wide [hKnnWideReferenceIdeal : Cert.KnnWideReferenceIdeal.Facts] [hPre_enough_neighbours_wide : Cert.Pre_enough_neighbours_wide.Facts] : Prop :=
  ∀ (m : (ℓ : Loc Cert.KnnWideReferenceIdeal.nD Cert.KnnWideReferenceIdeal.τ Cert.KnnWideReferenceIdeal.sig) → Buf (Elt Ideal) ℓ) (g : Dev Cert.KnnWideReferenceIdeal.nD → PrngReg), Pre_KnnWideReferenceIdeal_enough_neighbours_wide m →
    θ_run (Cert.KnnWideReferenceIdeal.defs (F := Ideal)) (onTc (τ := Cert.KnnWideReferenceIdeal.τ) (Cert.KnnWideReferenceIdeal.main (F := Ideal))) ⟨m, fun _ => 0, g⟩ (fun r => (∀ c : Dev Cert.KnnWideReferenceIdeal.nD,
      r.2.mem ((c.tc : Thread Cert.KnnWideReferenceIdeal.nD Cert.KnnWideReferenceIdeal.τ).loc Cert.KnnWideReferenceIdeal.main_arg0) = m ((c.tc : Thread Cert.KnnWideReferenceIdeal.nD Cert.KnnWideReferenceIdeal.τ).loc Cert.KnnWideReferenceIdeal.main_arg0)
      ∧ r.2.mem ((c.tc : Thread Cert.KnnWideReferenceIdeal.nD Cert.KnnWideReferenceIdeal.τ).loc Cert.KnnWideReferenceIdeal.main_arg1) = m ((c.tc : Thread Cert.KnnWideReferenceIdeal.nD Cert.KnnWideReferenceIdeal.τ).loc Cert.KnnWideReferenceIdeal.main_arg1))
      ∧ r.2.sem = fun _ => 0)

def quiescent_KnnSeg [hKnnSeg : Cert.KnnSeg.Facts] : Prop :=
  ∀ (m : (ℓ : Loc Cert.KnnSeg.nD Cert.KnnSeg.τ Cert.KnnSeg.sig) → Buf (Elt Bits) ℓ) (g : Dev Cert.KnnSeg.nD → PrngReg), Pre_KnnSeg m →
    θ_run (Cert.KnnSeg.defs (F := Bits)) (onTc (τ := Cert.KnnSeg.τ) (Cert.KnnSeg.main (F := Bits))) ⟨m, fun _ => 0, g⟩ (fun r => (∀ c : Dev Cert.KnnSeg.nD,
      r.2.mem ((c.tc : Thread Cert.KnnSeg.nD Cert.KnnSeg.τ).loc Cert.KnnSeg.main_arg0) = m ((c.tc : Thread Cert.KnnSeg.nD Cert.KnnSeg.τ).loc Cert.KnnSeg.main_arg0)
      ∧ r.2.mem ((c.tc : Thread Cert.KnnSeg.nD Cert.KnnSeg.τ).loc Cert.KnnSeg.main_arg1) = m ((c.tc : Thread Cert.KnnSeg.nD Cert.KnnSeg.τ).loc Cert.KnnSeg.main_arg1))
      ∧ r.2.sem = fun _ => 0)

def quiescent_KnnSegIdeal [hKnnSegIdeal : Cert.KnnSegIdeal.Facts] : Prop :=
  ∀ (m : (ℓ : Loc Cert.KnnSegIdeal.nD Cert.KnnSegIdeal.τ Cert.KnnSegIdeal.sig) → Buf (Elt Ideal) ℓ) (g : Dev Cert.KnnSegIdeal.nD → PrngReg), Pre_KnnSegIdeal m →
    θ_run (Cert.KnnSegIdeal.defs (F := Ideal)) (onTc (τ := Cert.KnnSegIdeal.τ) (Cert.KnnSegIdeal.main (F := Ideal))) ⟨m, fun _ => 0, g⟩ (fun r => (∀ c : Dev Cert.KnnSegIdeal.nD,
      r.2.mem ((c.tc : Thread Cert.KnnSegIdeal.nD Cert.KnnSegIdeal.τ).loc Cert.KnnSegIdeal.main_arg0) = m ((c.tc : Thread Cert.KnnSegIdeal.nD Cert.KnnSegIdeal.τ).loc Cert.KnnSegIdeal.main_arg0)
      ∧ r.2.mem ((c.tc : Thread Cert.KnnSegIdeal.nD Cert.KnnSegIdeal.τ).loc Cert.KnnSegIdeal.main_arg1) = m ((c.tc : Thread Cert.KnnSegIdeal.nD Cert.KnnSegIdeal.τ).loc Cert.KnnSegIdeal.main_arg1))
      ∧ r.2.sem = fun _ => 0)

def quiescent_KnnSegIdeal_pre_seg_fits [hKnnSegIdeal : Cert.KnnSegIdeal.Facts] [hPre_seg_fits : Cert.Pre_seg_fits.Facts] : Prop :=
  ∀ (m : (ℓ : Loc Cert.KnnSegIdeal.nD Cert.KnnSegIdeal.τ Cert.KnnSegIdeal.sig) → Buf (Elt Ideal) ℓ) (g : Dev Cert.KnnSegIdeal.nD → PrngReg), Pre_KnnSegIdeal_seg_fits m →
    θ_run (Cert.KnnSegIdeal.defs (F := Ideal)) (onTc (τ := Cert.KnnSegIdeal.τ) (Cert.KnnSegIdeal.main (F := Ideal))) ⟨m, fun _ => 0, g⟩ (fun r => (∀ c : Dev Cert.KnnSegIdeal.nD,
      r.2.mem ((c.tc : Thread Cert.KnnSegIdeal.nD Cert.KnnSegIdeal.τ).loc Cert.KnnSegIdeal.main_arg0) = m ((c.tc : Thread Cert.KnnSegIdeal.nD Cert.KnnSegIdeal.τ).loc Cert.KnnSegIdeal.main_arg0)
      ∧ r.2.mem ((c.tc : Thread Cert.KnnSegIdeal.nD Cert.KnnSegIdeal.τ).loc Cert.KnnSegIdeal.main_arg1) = m ((c.tc : Thread Cert.KnnSegIdeal.nD Cert.KnnSegIdeal.τ).loc Cert.KnnSegIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v16_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v16_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KnnAll_KnnAllIdeal : Prop :=
  True

def algebraic_KnnAllIdeal_KnnReferenceIdeal_pre_enough_neighbours [hKnnAllIdeal : Cert.KnnAllIdeal.Facts] [hKnnReferenceIdeal : Cert.KnnReferenceIdeal.Facts] [hPre_enough_neighbours : Cert.Pre_enough_neighbours.Facts] : Prop :=
  ∀ (m : (ℓ : Loc Cert.KnnAllIdeal.nD Cert.KnnAllIdeal.τ Cert.KnnAllIdeal.sig) → Buf (Elt Ideal) ℓ) (g : Dev Cert.KnnAllIdeal.nD → PrngReg)
    (m' : (ℓ : Loc Cert.KnnReferenceIdeal.nD Cert.KnnReferenceIdeal.τ Cert.KnnReferenceIdeal.sig) → Buf (Elt Ideal) ℓ) (g' : Dev Cert.KnnReferenceIdeal.nD → PrngReg), Pre_KnnAllIdeal_enough_neighbours m →
    (∀ c : Dev Cert.KnnAllIdeal.nD,
      m' ((c.tc : Thread Cert.KnnReferenceIdeal.nD Cert.KnnReferenceIdeal.τ).loc Cert.KnnReferenceIdeal.main_arg0) = m ((c.tc : Thread Cert.KnnAllIdeal.nD Cert.KnnAllIdeal.τ).loc Cert.KnnAllIdeal.main_arg0)
      ∧ m' ((c.tc : Thread Cert.KnnReferenceIdeal.nD Cert.KnnReferenceIdeal.τ).loc Cert.KnnReferenceIdeal.main_arg1) = m ((c.tc : Thread Cert.KnnAllIdeal.nD Cert.KnnAllIdeal.τ).loc Cert.KnnAllIdeal.main_arg1)) →
    ∃ (v0 : (c : Dev Cert.KnnAllIdeal.nD) → Buf (Elt Ideal) ((c.tc : Thread Cert.KnnAllIdeal.nD Cert.KnnAllIdeal.τ).loc Cert.KnnAllIdeal.main_v3)),
      θ_run (Cert.KnnAllIdeal.defs (F := Ideal)) (onTc (τ := Cert.KnnAllIdeal.τ) (Cert.KnnAllIdeal.main (F := Ideal))) ⟨m, fun _ => 0, g⟩ (fun r => ∀ c : Dev Cert.KnnAllIdeal.nD,
          r.2.mem ((c.tc : Thread Cert.KnnAllIdeal.nD Cert.KnnAllIdeal.τ).loc Cert.KnnAllIdeal.main_v3) = v0 c
          ∧ r.2.mem ((c.tc : Thread Cert.KnnAllIdeal.nD Cert.KnnAllIdeal.τ).loc Cert.KnnAllIdeal.main_arg0) = m ((c.tc : Thread Cert.KnnAllIdeal.nD Cert.KnnAllIdeal.τ).loc Cert.KnnAllIdeal.main_arg0)
          ∧ r.2.mem ((c.tc : Thread Cert.KnnAllIdeal.nD Cert.KnnAllIdeal.τ).loc Cert.KnnAllIdeal.main_arg1) = m ((c.tc : Thread Cert.KnnAllIdeal.nD Cert.KnnAllIdeal.τ).loc Cert.KnnAllIdeal.main_arg1))
      ∧ θ_run (Cert.KnnReferenceIdeal.defs (F := Ideal)) (onTc (τ := Cert.KnnReferenceIdeal.τ) (Cert.KnnReferenceIdeal.main (F := Ideal))) ⟨m', fun _ => 0, g'⟩ (fun r => ∀ c : Dev Cert.KnnReferenceIdeal.nD,
          r.2.mem ((c.tc : Thread Cert.KnnReferenceIdeal.nD Cert.KnnReferenceIdeal.τ).loc Cert.KnnReferenceIdeal.main_indices) = v0 c
          ∧ r.2.mem ((c.tc : Thread Cert.KnnReferenceIdeal.nD Cert.KnnReferenceIdeal.τ).loc Cert.KnnReferenceIdeal.main_arg0) = m' ((c.tc : Thread Cert.KnnReferenceIdeal.nD Cert.KnnReferenceIdeal.τ).loc Cert.KnnReferenceIdeal.main_arg0)
          ∧ r.2.mem ((c.tc : Thread Cert.KnnReferenceIdeal.nD Cert.KnnReferenceIdeal.τ).loc Cert.KnnReferenceIdeal.main_arg1) = m' ((c.tc : Thread Cert.KnnReferenceIdeal.nD Cert.KnnReferenceIdeal.τ).loc Cert.KnnReferenceIdeal.main_arg1))

def preserves_KnnWide_KnnWideIdeal : Prop :=
  True

def algebraic_KnnWideIdeal_KnnWideReferenceIdeal_pre_enough_neighbours_wide [hKnnWideIdeal : Cert.KnnWideIdeal.Facts] [hKnnWideReferenceIdeal : Cert.KnnWideReferenceIdeal.Facts] [hPre_enough_neighbours_wide : Cert.Pre_enough_neighbours_wide.Facts] : Prop :=
  ∀ (m : (ℓ : Loc Cert.KnnWideIdeal.nD Cert.KnnWideIdeal.τ Cert.KnnWideIdeal.sig) → Buf (Elt Ideal) ℓ) (g : Dev Cert.KnnWideIdeal.nD → PrngReg)
    (m' : (ℓ : Loc Cert.KnnWideReferenceIdeal.nD Cert.KnnWideReferenceIdeal.τ Cert.KnnWideReferenceIdeal.sig) → Buf (Elt Ideal) ℓ) (g' : Dev Cert.KnnWideReferenceIdeal.nD → PrngReg), Pre_KnnWideIdeal_enough_neighbours_wide m →
    (∀ c : Dev Cert.KnnWideIdeal.nD,
      m' ((c.tc : Thread Cert.KnnWideReferenceIdeal.nD Cert.KnnWideReferenceIdeal.τ).loc Cert.KnnWideReferenceIdeal.main_arg0) = m ((c.tc : Thread Cert.KnnWideIdeal.nD Cert.KnnWideIdeal.τ).loc Cert.KnnWideIdeal.main_arg0)
      ∧ m' ((c.tc : Thread Cert.KnnWideReferenceIdeal.nD Cert.KnnWideReferenceIdeal.τ).loc Cert.KnnWideReferenceIdeal.main_arg1) = m ((c.tc : Thread Cert.KnnWideIdeal.nD Cert.KnnWideIdeal.τ).loc Cert.KnnWideIdeal.main_arg1)) →
    ∃ (v0 : (c : Dev Cert.KnnWideIdeal.nD) → Buf (Elt Ideal) ((c.tc : Thread Cert.KnnWideIdeal.nD Cert.KnnWideIdeal.τ).loc Cert.KnnWideIdeal.main_v3)),
      θ_run (Cert.KnnWideIdeal.defs (F := Ideal)) (onTc (τ := Cert.KnnWideIdeal.τ) (Cert.KnnWideIdeal.main (F := Ideal))) ⟨m, fun _ => 0, g⟩ (fun r => ∀ c : Dev Cert.KnnWideIdeal.nD,
          r.2.mem ((c.tc : Thread Cert.KnnWideIdeal.nD Cert.KnnWideIdeal.τ).loc Cert.KnnWideIdeal.main_v3) = v0 c
          ∧ r.2.mem ((c.tc : Thread Cert.KnnWideIdeal.nD Cert.KnnWideIdeal.τ).loc Cert.KnnWideIdeal.main_arg0) = m ((c.tc : Thread Cert.KnnWideIdeal.nD Cert.KnnWideIdeal.τ).loc Cert.KnnWideIdeal.main_arg0)
          ∧ r.2.mem ((c.tc : Thread Cert.KnnWideIdeal.nD Cert.KnnWideIdeal.τ).loc Cert.KnnWideIdeal.main_arg1) = m ((c.tc : Thread Cert.KnnWideIdeal.nD Cert.KnnWideIdeal.τ).loc Cert.KnnWideIdeal.main_arg1))
      ∧ θ_run (Cert.KnnWideReferenceIdeal.defs (F := Ideal)) (onTc (τ := Cert.KnnWideReferenceIdeal.τ) (Cert.KnnWideReferenceIdeal.main (F := Ideal))) ⟨m', fun _ => 0, g'⟩ (fun r => ∀ c : Dev Cert.KnnWideReferenceIdeal.nD,
          r.2.mem ((c.tc : Thread Cert.KnnWideReferenceIdeal.nD Cert.KnnWideReferenceIdeal.τ).loc Cert.KnnWideReferenceIdeal.main_indices) = v0 c
          ∧ r.2.mem ((c.tc : Thread Cert.KnnWideReferenceIdeal.nD Cert.KnnWideReferenceIdeal.τ).loc Cert.KnnWideReferenceIdeal.main_arg0) = m' ((c.tc : Thread Cert.KnnWideReferenceIdeal.nD Cert.KnnWideReferenceIdeal.τ).loc Cert.KnnWideReferenceIdeal.main_arg0)
          ∧ r.2.mem ((c.tc : Thread Cert.KnnWideReferenceIdeal.nD Cert.KnnWideReferenceIdeal.τ).loc Cert.KnnWideReferenceIdeal.main_arg1) = m' ((c.tc : Thread Cert.KnnWideReferenceIdeal.nD Cert.KnnWideReferenceIdeal.τ).loc Cert.KnnWideReferenceIdeal.main_arg1))

def preserves_KnnSeg_KnnSegIdeal : Prop :=
  True

def algebraic_KnnSegIdeal_KnnReferenceIdeal_pre_seg_fits [hKnnSegIdeal : Cert.KnnSegIdeal.Facts] [hKnnReferenceIdeal : Cert.KnnReferenceIdeal.Facts] [hPre_seg_fits : Cert.Pre_seg_fits.Facts] : Prop :=
  ∀ (m : (ℓ : Loc Cert.KnnSegIdeal.nD Cert.KnnSegIdeal.τ Cert.KnnSegIdeal.sig) → Buf (Elt Ideal) ℓ) (g : Dev Cert.KnnSegIdeal.nD → PrngReg)
    (m' : (ℓ : Loc Cert.KnnReferenceIdeal.nD Cert.KnnReferenceIdeal.τ Cert.KnnReferenceIdeal.sig) → Buf (Elt Ideal) ℓ) (g' : Dev Cert.KnnReferenceIdeal.nD → PrngReg), Pre_KnnSegIdeal_seg_fits m →
    (∀ c : Dev Cert.KnnSegIdeal.nD,
      m' ((c.tc : Thread Cert.KnnReferenceIdeal.nD Cert.KnnReferenceIdeal.τ).loc Cert.KnnReferenceIdeal.main_arg0) = m ((c.tc : Thread Cert.KnnSegIdeal.nD Cert.KnnSegIdeal.τ).loc Cert.KnnSegIdeal.main_arg0)
      ∧ m' ((c.tc : Thread Cert.KnnReferenceIdeal.nD Cert.KnnReferenceIdeal.τ).loc Cert.KnnReferenceIdeal.main_arg1) = m ((c.tc : Thread Cert.KnnSegIdeal.nD Cert.KnnSegIdeal.τ).loc Cert.KnnSegIdeal.main_arg1)) →
    ∃ (v0 : (c : Dev Cert.KnnSegIdeal.nD) → Buf (Elt Ideal) ((c.tc : Thread Cert.KnnSegIdeal.nD Cert.KnnSegIdeal.τ).loc Cert.KnnSegIdeal.main_v2)),
      θ_run (Cert.KnnSegIdeal.defs (F := Ideal)) (onTc (τ := Cert.KnnSegIdeal.τ) (Cert.KnnSegIdeal.main (F := Ideal))) ⟨m, fun _ => 0, g⟩ (fun r => ∀ c : Dev Cert.KnnSegIdeal.nD,
          r.2.mem ((c.tc : Thread Cert.KnnSegIdeal.nD Cert.KnnSegIdeal.τ).loc Cert.KnnSegIdeal.main_v2) = v0 c
          ∧ r.2.mem ((c.tc : Thread Cert.KnnSegIdeal.nD Cert.KnnSegIdeal.τ).loc Cert.KnnSegIdeal.main_arg0) = m ((c.tc : Thread Cert.KnnSegIdeal.nD Cert.KnnSegIdeal.τ).loc Cert.KnnSegIdeal.main_arg0)
          ∧ r.2.mem ((c.tc : Thread Cert.KnnSegIdeal.nD Cert.KnnSegIdeal.τ).loc Cert.KnnSegIdeal.main_arg1) = m ((c.tc : Thread Cert.KnnSegIdeal.nD Cert.KnnSegIdeal.τ).loc Cert.KnnSegIdeal.main_arg1))
      ∧ θ_run (Cert.KnnReferenceIdeal.defs (F := Ideal)) (onTc (τ := Cert.KnnReferenceIdeal.τ) (Cert.KnnReferenceIdeal.main (F := Ideal))) ⟨m', fun _ => 0, g'⟩ (fun r => ∀ c : Dev Cert.KnnReferenceIdeal.nD,
          r.2.mem ((c.tc : Thread Cert.KnnReferenceIdeal.nD Cert.KnnReferenceIdeal.τ).loc Cert.KnnReferenceIdeal.main_indices) = v0 c
          ∧ r.2.mem ((c.tc : Thread Cert.KnnReferenceIdeal.nD Cert.KnnReferenceIdeal.τ).loc Cert.KnnReferenceIdeal.main_arg0) = m' ((c.tc : Thread Cert.KnnReferenceIdeal.nD Cert.KnnReferenceIdeal.τ).loc Cert.KnnReferenceIdeal.main_arg0)
          ∧ r.2.mem ((c.tc : Thread Cert.KnnReferenceIdeal.nD Cert.KnnReferenceIdeal.τ).loc Cert.KnnReferenceIdeal.main_arg1) = m' ((c.tc : Thread Cert.KnnReferenceIdeal.nD Cert.KnnReferenceIdeal.τ).loc Cert.KnnReferenceIdeal.main_arg1))

def Claim : Prop :=
  ∃ (hKernel : Cert.Kernel.Facts) (hKernelIdeal : Cert.KernelIdeal.Facts) (hReferenceIdeal : Cert.ReferenceIdeal.Facts) (hKnnAll : Cert.KnnAll.Facts) (hKnnAllIdeal : Cert.KnnAllIdeal.Facts) (hKnnReferenceIdeal : Cert.KnnReferenceIdeal.Facts) (hKnnWide : Cert.KnnWide.Facts) (hKnnWideIdeal : Cert.KnnWideIdeal.Facts) (hKnnWideReferenceIdeal : Cert.KnnWideReferenceIdeal.Facts) (hKnnSeg : Cert.KnnSeg.Facts) (hKnnSegIdeal : Cert.KnnSegIdeal.Facts) (hPre_in_range : Cert.Pre_in_range.Facts) (hPre_enough_neighbours : Cert.Pre_enough_neighbours.Facts) (hPre_seg_fits : Cert.Pre_seg_fits.Facts) (hPre_enough_neighbours_wide : Cert.Pre_enough_neighbours_wide.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_KnnAll (hKnnAll := hKnnAll)
    ∧ quiescent_KnnAllIdeal (hKnnAllIdeal := hKnnAllIdeal)
    ∧ quiescent_KnnAllIdeal_pre_enough_neighbours (hKnnAllIdeal := hKnnAllIdeal) (hPre_enough_neighbours := hPre_enough_neighbours)
    ∧ quiescent_KnnReferenceIdeal (hKnnReferenceIdeal := hKnnReferenceIdeal)
    ∧ quiescent_KnnReferenceIdeal_pre_enough_neighbours (hKnnReferenceIdeal := hKnnReferenceIdeal) (hPre_enough_neighbours := hPre_enough_neighbours)
    ∧ quiescent_KnnReferenceIdeal_pre_seg_fits (hKnnReferenceIdeal := hKnnReferenceIdeal) (hPre_seg_fits := hPre_seg_fits)
    ∧ quiescent_KnnWide (hKnnWide := hKnnWide)
    ∧ quiescent_KnnWideIdeal (hKnnWideIdeal := hKnnWideIdeal)
    ∧ quiescent_KnnWideIdeal_pre_enough_neighbours_wide (hKnnWideIdeal := hKnnWideIdeal) (hPre_enough_neighbours_wide := hPre_enough_neighbours_wide)
    ∧ quiescent_KnnWideReferenceIdeal (hKnnWideReferenceIdeal := hKnnWideReferenceIdeal)
    ∧ quiescent_KnnWideReferenceIdeal_pre_enough_neighbours_wide (hKnnWideReferenceIdeal := hKnnWideReferenceIdeal) (hPre_enough_neighbours_wide := hPre_enough_neighbours_wide)
    ∧ quiescent_KnnSeg (hKnnSeg := hKnnSeg)
    ∧ quiescent_KnnSegIdeal (hKnnSegIdeal := hKnnSegIdeal)
    ∧ quiescent_KnnSegIdeal_pre_seg_fits (hKnnSegIdeal := hKnnSegIdeal) (hPre_seg_fits := hPre_seg_fits)
    ∧ preserves_Kernel_KernelIdeal
    ∧ algebraic_KernelIdeal_ReferenceIdeal (hKernelIdeal := hKernelIdeal) (hReferenceIdeal := hReferenceIdeal) (hPre_in_range := hPre_in_range)
    ∧ preserves_KnnAll_KnnAllIdeal
    ∧ algebraic_KnnAllIdeal_KnnReferenceIdeal_pre_enough_neighbours (hKnnAllIdeal := hKnnAllIdeal) (hKnnReferenceIdeal := hKnnReferenceIdeal) (hPre_enough_neighbours := hPre_enough_neighbours)
    ∧ preserves_KnnWide_KnnWideIdeal
    ∧ algebraic_KnnWideIdeal_KnnWideReferenceIdeal_pre_enough_neighbours_wide (hKnnWideIdeal := hKnnWideIdeal) (hKnnWideReferenceIdeal := hKnnWideReferenceIdeal) (hPre_enough_neighbours_wide := hPre_enough_neighbours_wide)
    ∧ preserves_KnnSeg_KnnSegIdeal
    ∧ algebraic_KnnSegIdeal_KnnReferenceIdeal_pre_seg_fits (hKnnSegIdeal := hKnnSegIdeal) (hKnnReferenceIdeal := hKnnReferenceIdeal) (hPre_seg_fits := hPre_seg_fits)
-- ==== Pre_enough_neighbours.lean ====
abbrev S4096x64 : Shape := ⟨2, ![4096, 64]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S64x4096 : Shape := ⟨2, ![64, 4096]⟩

class Facts : Prop where
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x64_S64x4096_1_0 : S4096x64.Transposes [1, 0] S64x4096
  bcast_S_S4096x4096 : S_.BroadcastsInDim S4096x4096 (![] : Fin 0 → Fin S4096x4096.rank)
  natLt_1_32 : 1 < 32
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x64_S64x4096_S4096x4096_1_0_0_1_n_n_wf : DotDims.WF S4096x64 S64x4096 S4096x4096 [1] [0] [0] [1] [] []

variable [Facts]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def fn_where {F : FTy → Type} [FloatOps F] (arg0 : IVec S4096x4096 1) (arg1 : FVec F S_ .f32) (arg2 : FVec F S4096x4096 .f32) : FVec F S4096x4096 .f32 :=
  let v0 : FVec F S_ .f32 := id arg1
  let v1 : FVec F S4096x4096 .f32 := broadcastInDim S4096x4096 ![] bcast_S_S4096x4096 v0
  let v2 : FVec F S4096x4096 .f32 := select arg0 v1 arg2
  v2

def fn_part1 {F : FTy → Type} [FloatOps F] (main_v11 : FVec F S4096x4096 .f32) (main_v16 : IVec S4096x4096 1) (main_v18 : IVec S4096x4096 32) (main_v20 : IVec S4096x4096 32) : IVec S_ 1 :=
  let main_v21 : IVec S4096x4096 1 := cmpi .eq main_v20 main_v18
  let main_v22 : IVec S4096x4096 1 := ori main_v16 main_v21
  let main_cst_1 : FVec F S_ .f32 := constant S_ .f32 0x7F800000#32
  let main_v23 : FVec F S4096x4096 .f32 := fn_where (F := F) main_v22 main_cst_1 main_v11
  let main_cst_2 : FVec F S_ .f32 := constant S_ .f32 0x7F800000#32
  let main_v24 : FVec F S4096x4096 .f32 := broadcastInDim S4096x4096 ![] bcast_S_S4096x4096 main_cst_2
  let main_v25 : IVec S4096x4096 1 := cmpf .olt main_v23 main_v24
  let main_v26 : IVec S4096x4096 32 := (extui 32 · natLt_1_32) main_v25
  let main_c_3 : IVec S_ 32 := constantI S_ 32 0#32
  let main_v27 : IVec S4096 32 := (fun x v => Host.reduce IntOp.addi x v reducesTo_S4096x4096_S4096_d1 h_S_) main_v26 main_c_3
  let main_c_4 : IVec S_ 32 := constantI S_ 32 32#32
  let main_v28 : IVec S4096 32 := broadcastInDim S4096 ![] bcast_S_S4096 main_c_4
  let main_v29 : IVec S4096 1 := cmpi .sge main_v27 main_v28
  let main_c_5 : IVec S_ 1 := constantI S_ 1 1#1
  let main_v30 : IVec S_ 1 := (fun x v => Host.reduce IntOp.andi x v reducesTo_S4096_S_d0 h_S_) main_v29 main_c_5
  main_v30

def fn {F : FTy → Type} [FloatOps F] (main_arg0 : FVec F S4096x64 .f32) (main_arg1 : IVec S4096 32) : IVec S_ 1 :=
  let main_v0 : FVec F S4096x64 .f32 := mulf main_arg0 main_arg0
  let main_cst : FVec F S_ .f32 := constant S_ .f32 0x00000000#32
  let main_v1 : FVec F S4096 .f32 := (fun x v => Host.reduceAdd x v reducesTo_S4096x64_S4096_d1 h_S_) main_v0 main_cst
  let main_v2 : FVec F S4096x1 .f32 := broadcastInDim S4096x1 ![0] bcast_S4096_S4096x1_0 main_v1
  let main_v3 : FVec F S1x4096 .f32 := broadcastInDim S1x4096 ![1] bcast_S4096_S1x4096_1 main_v1
  let main_v4 : FVec F S4096x4096 .f32 := broadcastInDim S4096x4096 ![0, 1] bcast_S4096x1_S4096x4096_0_1 main_v2
  let main_v5 : FVec F S4096x4096 .f32 := broadcastInDim S4096x4096 ![0, 1] bcast_S1x4096_S4096x4096_0_1 main_v3
  let main_v6 : FVec F S4096x4096 .f32 := addf main_v4 main_v5
  let main_v7 : FVec F S64x4096 .f32 := (transpose S64x4096 [1, 0] · transposes_S4096x64_S64x4096_1_0) main_arg0
  let main_v8 : FVec F S4096x4096 .f32 := (fun l r => Host.dotGeneral dot_S4096x64_S64x4096_S4096x4096_1_0_0_1_n_n none l r) main_arg0 main_v7
  let main_cst_0 : FVec F S_ .f32 := constant S_ .f32 0x40000000#32
  let main_v9 : FVec F S4096x4096 .f32 := broadcastInDim S4096x4096 ![] bcast_S_S4096x4096 main_cst_0
  let main_v10 : FVec F S4096x4096 .f32 := mulf main_v9 main_v8
  let main_v11 : FVec F S4096x4096 .f32 := subf main_v6 main_v10
  let main_v12 : IVec S4096x1 32 := broadcastInDim S4096x1 ![0] bcast_S4096_S4096x1_0 main_arg1
  let main_v13 : IVec S1x4096 32 := broadcastInDim S1x4096 ![1] bcast_S4096_S1x4096_1 main_arg1
  let main_v14 : IVec S4096x4096 32 := broadcastInDim S4096x4096 ![0, 1] bcast_S4096x1_S4096x4096_0_1 main_v12
  let main_v15 : IVec S4096x4096 32 := broadcastInDim S4096x4096 ![0, 1] bcast_S1x4096_S4096x4096_0_1 main_v13
  let main_v16 : IVec S4096x4096 1 := cmpi .ne main_v14 main_v15
  let main_v17 : IVec S4096x4096 32 := iotaInDim S4096x4096 32 0
  let main_v18 : IVec S4096x4096 32 := iotaInDim S4096x4096 32 1
  let main_c : IVec S_ 32 := constantI S_ 32 0#32
  let main_v19 : IVec S4096x4096 32 := broadcastInDim S4096x4096 ![] bcast_S_S4096x4096 main_c
  let main_v20 : IVec S4096x4096 32 := addi main_v17 main_v19
  fn_part1 (F := F) main_v11 main_v16 main_v18 main_v20
-- ==== Pre_enough_neighbours_wide.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩

class Facts : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  natLt_1_32 : 1 < 32
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x128_S128x4096_S4096x4096_1_0_0_1_n_n_wf : DotDims.WF S4096x128 S128x4096 S4096x4096 [1] [0] [0] [1] [] []

variable [Facts]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def fn_where {F : FTy → Type} [FloatOps F] (arg0 : IVec S4096x4096 1) (arg1 : FVec F S_ .f32) (arg2 : FVec F S4096x4096 .f32) : FVec F S4096x4096 .f32 :=
  let v0 : FVec F S_ .f32 := id arg1
  let v1 : FVec F S4096x4096 .f32 := broadcastInDim S4096x4096 ![] bcast_S_S4096x4096 v0
  let v2 : FVec F S4096x4096 .f32 := select arg0 v1 arg2
  v2

def fn_part1 {F : FTy → Type} [FloatOps F] (main_v11 : FVec F S4096x4096 .f32) (main_v16 : IVec S4096x4096 1) (main_v18 : IVec S4096x4096 32) (main_v20 : IVec S4096x4096 32) : IVec S_ 1 :=
  let main_v21 : IVec S4096x4096 1 := cmpi .eq main_v20 main_v18
  let main_v22 : IVec S4096x4096 1 := ori main_v16 main_v21
  let main_cst_1 : FVec F S_ .f32 := constant S_ .f32 0x7F800000#32
  let main_v23 : FVec F S4096x4096 .f32 := fn_where (F := F) main_v22 main_cst_1 main_v11
  let main_cst_2 : FVec F S_ .f32 := constant S_ .f32 0x7F800000#32
  let main_v24 : FVec F S4096x4096 .f32 := broadcastInDim S4096x4096 ![] bcast_S_S4096x4096 main_cst_2
  let main_v25 : IVec S4096x4096 1 := cmpf .olt main_v23 main_v24
  let main_v26 : IVec S4096x4096 32 := (extui 32 · natLt_1_32) main_v25
  let main_c_3 : IVec S_ 32 := constantI S_ 32 0#32
  let main_v27 : IVec S4096 32 := (fun x v => Host.reduce IntOp.addi x v reducesTo_S4096x4096_S4096_d1 h_S_) main_v26 main_c_3
  let main_c_4 : IVec S_ 32 := constantI S_ 32 32#32
  let main_v28 : IVec S4096 32 := broadcastInDim S4096 ![] bcast_S_S4096 main_c_4
  let main_v29 : IVec S4096 1 := cmpi .sge main_v27 main_v28
  let main_c_5 : IVec S_ 1 := constantI S_ 1 1#1
  let main_v30 : IVec S_ 1 := (fun x v => Host.reduce IntOp.andi x v reducesTo_S4096_S_d0 h_S_) main_v29 main_c_5
  main_v30

def fn {F : FTy → Type} [FloatOps F] (main_arg0 : FVec F S4096x128 .f32) (main_arg1 : IVec S4096 32) : IVec S_ 1 :=
  let main_v0 : FVec F S4096x128 .f32 := mulf main_arg0 main_arg0
  let main_cst : FVec F S_ .f32 := constant S_ .f32 0x00000000#32
  let main_v1 : FVec F S4096 .f32 := (fun x v => Host.reduceAdd x v reducesTo_S4096x128_S4096_d1 h_S_) main_v0 main_cst
  let main_v2 : FVec F S4096x1 .f32 := broadcastInDim S4096x1 ![0] bcast_S4096_S4096x1_0 main_v1
  let main_v3 : FVec F S1x4096 .f32 := broadcastInDim S1x4096 ![1] bcast_S4096_S1x4096_1 main_v1
  let main_v4 : FVec F S4096x4096 .f32 := broadcastInDim S4096x4096 ![0, 1] bcast_S4096x1_S4096x4096_0_1 main_v2
  let main_v5 : FVec F S4096x4096 .f32 := broadcastInDim S4096x4096 ![0, 1] bcast_S1x4096_S4096x4096_0_1 main_v3
  let main_v6 : FVec F S4096x4096 .f32 := addf main_v4 main_v5
  let main_v7 : FVec F S128x4096 .f32 := (transpose S128x4096 [1, 0] · transposes_S4096x128_S128x4096_1_0) main_arg0
  let main_v8 : FVec F S4096x4096 .f32 := (fun l r => Host.dotGeneral dot_S4096x128_S128x4096_S4096x4096_1_0_0_1_n_n none l r) main_arg0 main_v7
  let main_cst_0 : FVec F S_ .f32 := constant S_ .f32 0x40000000#32
  let main_v9 : FVec F S4096x4096 .f32 := broadcastInDim S4096x4096 ![] bcast_S_S4096x4096 main_cst_0
  let main_v10 : FVec F S4096x4096 .f32 := mulf main_v9 main_v8
  let main_v11 : FVec F S4096x4096 .f32 := subf main_v6 main_v10
  let main_v12 : IVec S4096x1 32 := broadcastInDim S4096x1 ![0] bcast_S4096_S4096x1_0 main_arg1
  let main_v13 : IVec S1x4096 32 := broadcastInDim S1x4096 ![1] bcast_S4096_S1x4096_1 main_arg1
  let main_v14 : IVec S4096x4096 32 := broadcastInDim S4096x4096 ![0, 1] bcast_S4096x1_S4096x4096_0_1 main_v12
  let main_v15 : IVec S4096x4096 32 := broadcastInDim S4096x4096 ![0, 1] bcast_S1x4096_S4096x4096_0_1 main_v13
  let main_v16 : IVec S4096x4096 1 := cmpi .ne main_v14 main_v15
  let main_v17 : IVec S4096x4096 32 := iotaInDim S4096x4096 32 0
  let main_v18 : IVec S4096x4096 32 := iotaInDim S4096x4096 32 1
  let main_c : IVec S_ 32 := constantI S_ 32 0#32
  let main_v19 : IVec S4096x4096 32 := broadcastInDim S4096x4096 ![] bcast_S_S4096x4096 main_c
  let main_v20 : IVec S4096x4096 32 := addi main_v17 main_v19
  fn_part1 (F := F) main_v11 main_v16 main_v18 main_v20
-- ==== Pre_in_range.lean ====
abbrev S4096x64 : Shape := ⟨2, ![4096, 64]⟩
abbrev S4096x32 : Shape := ⟨2, ![4096, 32]⟩
abbrev S4096 : Shape := ⟨1, ![4096]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S4096 32) (main_v14 : IVec S_ 1) (main_c_7 : IVec S_ 32) : IVec S_ 1 :=
  let main_v15 : IVec S4096 32 := broadcastInDim S4096 ![] bcast_S_S4096 main_c_7
  let main_v16 : IVec S4096 1 := cmpi .sge main_arg3 main_v15
  let main_c_8 : IVec S_ 1 := constantI S_ 1 1#1
  let main_v17 : IVec S_ 1 := (fun x v => Host.reduce IntOp.andi x v reducesTo_S4096_S_d0 h_S_) main_v16 main_c_8
  let main_v18 : IVec S_ 1 := andi main_v14 main_v17
  let main_c_9 : IVec S_ 32 := constantI S_ 32 40#32
  let main_v19 : IVec S4096 32 := broadcastInDim S4096 ![] bcast_S_S4096 main_c_9
  let main_v20 : IVec S4096 1 := cmpi .slt main_arg3 main_v19
  let main_c_10 : IVec S_ 1 := constantI S_ 1 1#1
  let main_v21 : IVec S_ 1 := (fun x v => Host.reduce IntOp.andi x v reducesTo_S4096_S_d0 h_S_) main_v20 main_c_10
  let main_v22 : IVec S_ 1 := andi main_v18 main_v21
  main_v22

def fn {F : FTy → Type} [FloatOps F] (main_arg0 : FVec F S4096x64 .f32) (main_arg1 : IVec S4096x32 32) (main_arg2 : IVec S4096x32 32) (main_arg3 : IVec S4096 32) (main_arg4 : FVec F S128x128 .f32) (main_arg5 : FVec F S128 .f32) (main_arg6 : FVec F S256x256 .f32) (main_arg7 : FVec F S256 .f32) (main_arg8 : FVec F S256x40 .f32) (main_arg9 : FVec F S40 .f32) : IVec S_ 1 :=
  let main_c : IVec S_ 32 := constantI S_ 32 0#32
  let main_v0 : IVec S4096x32 32 := broadcastInDim S4096x32 ![] bcast_S_S4096x32 main_c
  let main_v1 : IVec S4096x32 1 := cmpi .sge main_arg1 main_v0
  let main_c_0 : IVec S_ 1 := constantI S_ 1 1#1
  let main_v2 : IVec S_ 1 := (fun x v => Host.reduce IntOp.andi x v reducesTo_S4096x32_S_d0_1 h_S_) main_v1 main_c_0
  let main_c_1 : IVec S_ 32 := constantI S_ 32 4096#32
  let main_v3 : IVec S4096x32 32 := broadcastInDim S4096x32 ![] bcast_S_S4096x32 main_c_1
  let main_v4 : IVec S4096x32 1 := cmpi .slt main_arg1 main_v3
  let main_c_2 : IVec S_ 1 := constantI S_ 1 1#1
  let main_v5 : IVec S_ 1 := (fun x v => Host.reduce IntOp.andi x v reducesTo_S4096x32_S_d0_1 h_S_) main_v4 main_c_2
  let main_v6 : IVec S_ 1 := andi main_v2 main_v5
  let main_c_3 : IVec S_ 32 := constantI S_ 32 0#32
  let main_v7 : IVec S4096x32 32 := broadcastInDim S4096x32 ![] bcast_S_S4096x32 main_c_3
  let main_v8 : IVec S4096x32 1 := cmpi .sge main_arg2 main_v7
  let main_c_4 : IVec S_ 1 := constantI S_ 1 1#1
  let main_v9 : IVec S_ 1 := (fun x v => Host.reduce IntOp.andi x v reducesTo_S4096x32_S_d0_1 h_S_) main_v8 main_c_4
  let main_v10 : IVec S_ 1 := andi main_v6 main_v9
  let main_c_5 : IVec S_ 32 := constantI S_ 32 4096#32
  let main_v11 : IVec S4096x32 32 := broadcastInDim S4096x32 ![] bcast_S_S4096x32 main_c_5
  let main_v12 : IVec S4096x32 1 := cmpi .slt main_arg2 main_v11
  let main_c_6 : IVec S_ 1 := constantI S_ 1 1#1
  let main_v13 : IVec S_ 1 := (fun x v => Host.reduce IntOp.andi x v reducesTo_S4096x32_S_d0_1 h_S_) main_v12 main_c_6
  let main_v14 : IVec S_ 1 := andi main_v10 main_v13
  let main_c_7 : IVec S_ 32 := constantI S_ 32 0#32
  fn_part1 (F := F) main_arg3 main_v14 main_c_7
-- ==== Pre_seg_fits.lean ====
abbrev S4096x64 : Shape := ⟨2, ![4096, 64]⟩
abbrev S4096 : Shape := ⟨1, ![4096]⟩
abbrev S_ : Shape := ⟨0, ![]⟩
abbrev S4095 : Shape := ⟨1, ![4095]⟩
abbrev S4096x1 : Shape := ⟨2, ![4096, 1]⟩
abbrev S1x4096 : Shape := ⟨2, ![1, 4096]⟩
abbrev S4096x4096 : Shape := ⟨2, ![4096, 4096]⟩
abbrev S64x4096 : Shape := ⟨2, ![64, 4096]⟩

class Facts : Prop where
  bcast_S_S4096 : S_.BroadcastsInDim S4096 (![] : Fin 0 → Fin S4096.rank)
  reducesTo_S4096_S_d0 : S4096.ReducesTo [0] S_
  h_S_ : 0 < S_.numel
  slices_S4096_S4095_0 : S4096.Slices ![0] S4095
  slices_S4096_S4095_1 : S4096.Slices ![1] S4095
  reducesTo_S4095_S_d0 : S4095.ReducesTo [0] S_
  natLt_1_32 : 1 < 32
  reducesTo_S4096x64_S4096_d1 : S4096x64.ReducesTo [1] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x64_S64x4096_1_0 : S4096x64.Transposes [1, 0] S64x4096
  bcast_S_S4096x4096 : S_.BroadcastsInDim S4096x4096 (![] : Fin 0 → Fin S4096x4096.rank)
  reducesTo_S4096x4096_S4096_d1 : S4096x4096.ReducesTo [1] S4096
  dot_S4096x64_S64x4096_S4096x4096_1_0_0_1_n_n_wf : DotDims.WF S4096x64 S64x4096 S4096x4096 [1] [0] [0] [1] [] []

variable [Facts]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def fn_where {F : FTy → Type} [FloatOps F] (arg0 : IVec S4096x4096 1) (arg1 : FVec F S_ .f32) (arg2 : FVec F S4096x4096 .f32) : FVec F S4096x4096 .f32 :=
  let v0 : FVec F S_ .f32 := id arg1
  let v1 : FVec F S4096x4096 .f32 := broadcastInDim S4096x4096 ![] bcast_S_S4096x4096 v0
  let v2 : FVec F S4096x4096 .f32 := select arg0 v1 arg2
  v2

def fn_part3 {F : FTy → Type} [FloatOps F] (main_v35 : IVec S_ 1) (main_v47 : FVec F S4096x4096 .f32) (main_v52 : IVec S4096x4096 1) : IVec S_ 1 :=
  let main_v53 : IVec S4096x4096 32 := iotaInDim S4096x4096 32 0
  let main_v54 : IVec S4096x4096 32 := iotaInDim S4096x4096 32 1
  let main_c_17 : IVec S_ 32 := constantI S_ 32 0#32
  let main_v55 : IVec S4096x4096 32 := broadcastInDim S4096x4096 ![] bcast_S_S4096x4096 main_c_17
  let main_v56 : IVec S4096x4096 32 := addi main_v53 main_v55
  let main_v57 : IVec S4096x4096 1 := cmpi .eq main_v56 main_v54
  let main_v58 : IVec S4096x4096 1 := ori main_v52 main_v57
  let main_cst_18 : FVec F S_ .f32 := constant S_ .f32 0x7F800000#32
  let main_v59 : FVec F S4096x4096 .f32 := fn_where (F := F) main_v58 main_cst_18 main_v47
  let main_cst_19 : FVec F S_ .f32 := constant S_ .f32 0x7F800000#32
  let main_v60 : FVec F S4096x4096 .f32 := broadcastInDim S4096x4096 ![] bcast_S_S4096x4096 main_cst_19
  let main_v61 : IVec S4096x4096 1 := cmpf .olt main_v59 main_v60
  let main_v62 : IVec S4096x4096 32 := (extui 32 · natLt_1_32) main_v61
  let main_c_20 : IVec S_ 32 := constantI S_ 32 0#32
  let main_v63 : IVec S4096 32 := (fun x v => Host.reduce IntOp.addi x v reducesTo_S4096x4096_S4096_d1 h_S_) main_v62 main_c_20
  let main_c_21 : IVec S_ 32 := constantI S_ 32 32#32
  let main_v64 : IVec S4096 32 := broadcastInDim S4096 ![] bcast_S_S4096 main_c_21
  let main_v65 : IVec S4096 1 := cmpi .sge main_v63 main_v64
  let main_c_22 : IVec S_ 1 := constantI S_ 1 1#1
  let main_v66 : IVec S_ 1 := (fun x v => Host.reduce IntOp.andi x v reducesTo_S4096_S_d0 h_S_) main_v65 main_c_22
  let main_v67 : IVec S_ 1 := andi main_v35 main_v66
  main_v67

def fn_part2 {F : FTy → Type} [FloatOps F] (main_arg0 : FVec F S4096x64 .f32) (main_arg1 : IVec S4096 32) (main_v29 : IVec S_ 1) (main_v32 : IVec S4096 32) : IVec S_ 1 :=
  let main_c_14 : IVec S_ 32 := constantI S_ 32 0#32
  let main_v33 : IVec S_ 32 := (fun x v => Host.reduce IntOp.addi x v reducesTo_S4096_S_d0 h_S_) main_v32 main_c_14
  let main_c_15 : IVec S_ 32 := constantI S_ 32 1152#32
  let main_v34 : IVec S_ 1 := cmpi .sle main_v33 main_c_15
  let main_v35 : IVec S_ 1 := andi main_v29 main_v34
  let main_v36 : FVec F S4096x64 .f32 := mulf main_arg0 main_arg0
  let main_cst : FVec F S_ .f32 := constant S_ .f32 0x00000000#32
  let main_v37 : FVec F S4096 .f32 := (fun x v => Host.reduceAdd x v reducesTo_S4096x64_S4096_d1 h_S_) main_v36 main_cst
  let main_v38 : FVec F S4096x1 .f32 := broadcastInDim S4096x1 ![0] bcast_S4096_S4096x1_0 main_v37
  let main_v39 : FVec F S1x4096 .f32 := broadcastInDim S1x4096 ![1] bcast_S4096_S1x4096_1 main_v37
  let main_v40 : FVec F S4096x4096 .f32 := broadcastInDim S4096x4096 ![0, 1] bcast_S4096x1_S4096x4096_0_1 main_v38
  let main_v41 : FVec F S4096x4096 .f32 := broadcastInDim S4096x4096 ![0, 1] bcast_S1x4096_S4096x4096_0_1 main_v39
  let main_v42 : FVec F S4096x4096 .f32 := addf main_v40 main_v41
  let main_v43 : FVec F S64x4096 .f32 := (transpose S64x4096 [1, 0] · transposes_S4096x64_S64x4096_1_0) main_arg0
  let main_v44 : FVec F S4096x4096 .f32 := (fun l r => Host.dotGeneral dot_S4096x64_S64x4096_S4096x4096_1_0_0_1_n_n none l r) main_arg0 main_v43
  let main_cst_16 : FVec F S_ .f32 := constant S_ .f32 0x40000000#32
  let main_v45 : FVec F S4096x4096 .f32 := broadcastInDim S4096x4096 ![] bcast_S_S4096x4096 main_cst_16
  let main_v46 : FVec F S4096x4096 .f32 := mulf main_v45 main_v44
  let main_v47 : FVec F S4096x4096 .f32 := subf main_v42 main_v46
  let main_v48 : IVec S4096x1 32 := broadcastInDim S4096x1 ![0] bcast_S4096_S4096x1_0 main_arg1
  let main_v49 : IVec S1x4096 32 := broadcastInDim S1x4096 ![1] bcast_S4096_S1x4096_1 main_arg1
  let main_v50 : IVec S4096x4096 32 := broadcastInDim S4096x4096 ![0, 1] bcast_S4096x1_S4096x4096_0_1 main_v48
  let main_v51 : IVec S4096x4096 32 := broadcastInDim S4096x4096 ![0, 1] bcast_S1x4096_S4096x4096_0_1 main_v49
  let main_v52 : IVec S4096x4096 1 := cmpi .ne main_v50 main_v51
  fn_part3 (F := F) main_v35 main_v47 main_v52

def fn_part1 {F : FTy → Type} [FloatOps F] (main_arg0 : FVec F S4096x64 .f32) (main_arg1 : IVec S4096 32) (main_v11 : IVec S_ 1) (main_v15 : IVec S_ 32) (main_c_6 : IVec S_ 32) : IVec S_ 1 :=
  let main_v16 : IVec S_ 1 := cmpi .sle main_v15 main_c_6
  let main_v17 : IVec S_ 1 := andi main_v11 main_v16
  let main_c_7 : IVec S_ 32 := constantI S_ 32 1#32
  let main_v18 : IVec S4096 32 := broadcastInDim S4096 ![] bcast_S_S4096 main_c_7
  let main_v19 : IVec S4096 1 := cmpi .eq main_arg1 main_v18
  let main_v20 : IVec S4096 32 := (extui 32 · natLt_1_32) main_v19
  let main_c_8 : IVec S_ 32 := constantI S_ 32 0#32
  let main_v21 : IVec S_ 32 := (fun x v => Host.reduce IntOp.addi x v reducesTo_S4096_S_d0 h_S_) main_v20 main_c_8
  let main_c_9 : IVec S_ 32 := constantI S_ 32 1152#32
  let main_v22 : IVec S_ 1 := cmpi .sle main_v21 main_c_9
  let main_v23 : IVec S_ 1 := andi main_v17 main_v22
  let main_c_10 : IVec S_ 32 := constantI S_ 32 2#32
  let main_v24 : IVec S4096 32 := broadcastInDim S4096 ![] bcast_S_S4096 main_c_10
  let main_v25 : IVec S4096 1 := cmpi .eq main_arg1 main_v24
  let main_v26 : IVec S4096 32 := (extui 32 · natLt_1_32) main_v25
  let main_c_11 : IVec S_ 32 := constantI S_ 32 0#32
  let main_v27 : IVec S_ 32 := (fun x v => Host.reduce IntOp.addi x v reducesTo_S4096_S_d0 h_S_) main_v26 main_c_11
  let main_c_12 : IVec S_ 32 := constantI S_ 32 1152#32
  let main_v28 : IVec S_ 1 := cmpi .sle main_v27 main_c_12
  let main_v29 : IVec S_ 1 := andi main_v23 main_v28
  let main_c_13 : IVec S_ 32 := constantI S_ 32 3#32
  let main_v30 : IVec S4096 32 := broadcastInDim S4096 ![] bcast_S_S4096 main_c_13
  let main_v31 : IVec S4096 1 := cmpi .eq main_arg1 main_v30
  let main_v32 : IVec S4096 32 := (extui 32 · natLt_1_32) main_v31
  fn_part2 (F := F) main_arg0 main_arg1 main_v29 main_v32

def fn {F : FTy → Type} [FloatOps F] (main_arg0 : FVec F S4096x64 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 4#32
  let main_v3 : IVec S4096 32 := broadcastInDim S4096 ![] bcast_S_S4096 main_c_1
  let main_v4 : IVec S4096 1 := cmpi .slt main_arg1 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  let main_v7 : IVec S4095 32 := (extractStridedSlice S4095 ![0] · slices_S4096_S4095_0) main_arg1
  let main_v8 : IVec S4095 32 := (extractStridedSlice S4095 ![1] · slices_S4096_S4095_1) main_arg1
  let main_v9 : IVec S4095 1 := cmpi .sle main_v7 main_v8
  let main_c_3 : IVec S_ 1 := constantI S_ 1 1#1
  let main_v10 : IVec S_ 1 := (fun x v => Host.reduce IntOp.andi x v reducesTo_S4095_S_d0 h_S_) main_v9 main_c_3
  let main_v11 : IVec S_ 1 := andi main_v6 main_v10
  let main_c_4 : IVec S_ 32 := constantI S_ 32 0#32
  let main_v12 : IVec S4096 32 := broadcastInDim S4096 ![] bcast_S_S4096 main_c_4
  let main_v13 : IVec S4096 1 := cmpi .eq main_arg1 main_v12
  let main_v14 : IVec S4096 32 := (extui 32 · natLt_1_32) main_v13
  let main_c_5 : IVec S_ 32 := constantI S_ 32 0#32
  let main_v15 : IVec S_ 32 := (fun x v => Host.reduce IntOp.addi x v reducesTo_S4096_S_d0 h_S_) main_v14 main_c_5
  let main_c_6 : IVec S_ 32 := constantI S_ 32 1152#32
  fn_part1 (F := F) main_arg0 main_arg1 main_v11 main_v15 main_c_6
-- ==== Kernel.lean ====
abbrev S4096x64 : Shape := ⟨2, ![4096, 64]⟩
abbrev S4096x32 : Shape := ⟨2, ![4096, 32]⟩
abbrev S4096 : Shape := ⟨1, ![4096]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x40 : Shape := ⟨2, ![256, 40]⟩
abbrev S40 : Shape := ⟨1, ![40]⟩
abbrev S4096x1 : Shape := ⟨2, ![4096, 1]⟩
abbrev S64x128 : Shape := ⟨2, ![64, 128]⟩
abbrev S_ : Shape := ⟨0, ![]⟩
abbrev S4096x128 : Shape := ⟨2, ![4096, 128]⟩
abbrev S131072 : Shape := ⟨1, ![131072]⟩
abbrev S131072x128 : Shape := ⟨2, ![131072, 128]⟩
abbrev S256x128 : Shape := ⟨2, ![256, 128]⟩
abbrev S1x128 : Shape := ⟨2, ![1, 128]⟩
abbrev S128x64 : Shape := ⟨2, ![128, 64]⟩
abbrev S128x32x128 : Shape := ⟨3, ![128, 32, 128]⟩
abbrev S128x1x128 : Shape := ⟨3, ![128, 1, 128]⟩
abbrev S128x256 : Shape := ⟨2, ![128, 256]⟩
abbrev S1x256 : Shape := ⟨2, ![1, 256]⟩
abbrev S4096x256 : Shape := ⟨2, ![4096, 256]⟩
abbrev S128x32x256 : Shape := ⟨3, ![128, 32, 256]⟩
abbrev S128x1x256 : Shape := ⟨3, ![128, 1, 256]⟩
abbrev S1x40 : Shape := ⟨2, ![1, 40]⟩
abbrev S4096x40 : Shape := ⟨2, ![4096, 40]⟩
abbrev S1x1 : Shape := ⟨2, ![1, 1]⟩
abbrev S512x256 : Shape := ⟨2, ![512, 256]⟩
abbrev S512x1 : Shape := ⟨2, ![512, 1]⟩
abbrev S512x40 : Shape := ⟨2, ![512, 40]⟩
abbrev S512 : Shape := ⟨1, ![512]⟩
abbrev S1x512x40 : Shape := ⟨3, ![1, 512, 40]⟩
abbrev S1 : Shape := ⟨1, ![1]⟩
abbrev S1x1x1 : Shape := ⟨3, ![1, 1, 1]⟩

abbrev nBuf : Table → Nat
  | .hbm => 33
  | .local .tc .vmem => 31
  | .local .scVector .vmem => 6
  | _ => 0

abbrev bufTy : (tb : Table) → Fin (nBuf tb) → BufTy
  | .hbm, ⟨0, _⟩ => ⟨S4096x64, .f32⟩
  | .hbm, ⟨1, _⟩ => ⟨S4096x32, .i32⟩
  | .hbm, ⟨2, _⟩ => ⟨S4096x32, .i32⟩
  | .hbm, ⟨3, _⟩ => ⟨S4096, .i32⟩
  | .hbm, ⟨4, _⟩ => ⟨S128x128, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S256x40, .f32⟩
  | .hbm, ⟨9, _⟩ => ⟨S40, .f32⟩
  | .hbm, ⟨10, _⟩ => ⟨S4096x1, .i32⟩
  | .hbm, ⟨11, _⟩ => ⟨S64x128, .f32⟩
  | .hbm, ⟨12, _⟩ => ⟨S64x128, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S_, .i32⟩
  | .hbm, ⟨17, _⟩ => ⟨S_, .f32⟩
  | .hbm, ⟨18, _⟩ => ⟨S128x128, .f32⟩
  | .hbm, ⟨19, _⟩ => ⟨S131072, .i32⟩
  | .hbm, ⟨20, _⟩ => ⟨S131072x128, .f32⟩
  | .hbm, ⟨21, _⟩ => ⟨S1x128, .f32⟩
  | .hbm, ⟨22, _⟩ => ⟨S4096x128, .f32⟩
  | .hbm, ⟨23, _⟩ => ⟨S128x256, .f32⟩
  | .hbm, ⟨24, _⟩ => ⟨S128x256, .f32⟩
  | .hbm, ⟨25, _⟩ => ⟨S131072, .i32⟩
  | .hbm, ⟨26, _⟩ => ⟨S131072x128, .f32⟩
  | .hbm, ⟨27, _⟩ => ⟨S1x256, .f32⟩
  | .hbm, ⟨28, _⟩ => ⟨S4096x256, .f32⟩
  | .hbm, ⟨29, _⟩ => ⟨S1x40, .f32⟩
  | .hbm, ⟨30, _⟩ => ⟨S4096x40, .f32⟩
  | .hbm, ⟨31, _⟩ => ⟨S1x1, .f32⟩
  | .hbm, ⟨32, _⟩ => ⟨S_, .f32⟩
  | .local .tc .vmem, ⟨0, _⟩ => ⟨S4096x128, .f32⟩
  | .local .tc .vmem, ⟨1, _⟩ => ⟨S4096x128, .f32⟩
  | .local .tc .vmem, ⟨2, _⟩ => ⟨S128x128, .f32⟩
  | .local .tc .vmem, ⟨3, _⟩ => ⟨S128x128, .f32⟩
  | .local .tc .vmem, ⟨4, _⟩ => ⟨S128x64, .f32⟩
  | .local .tc .vmem, ⟨5, _⟩ => ⟨S128x64, .f32⟩
  | .local .tc .vmem, ⟨6, _⟩ => ⟨S64x128, .f32⟩
  | .local .tc .vmem, ⟨7, _⟩ => ⟨S128x128, .f32⟩
  | .local .tc .vmem, ⟨8, _⟩ => ⟨S1x128, .f32⟩
  | .local .tc .vmem, ⟨9, _⟩ => ⟨S128x128, .f32⟩
  | .local .tc .vmem, ⟨10, _⟩ => ⟨S128x128, .f32⟩
  | .local .tc .vmem, ⟨11, _⟩ => ⟨S4096x128, .f32⟩
  | .local .tc .vmem, ⟨12, _⟩ => ⟨S4096x128, .f32⟩
  | .local .tc .vmem, ⟨13, _⟩ => ⟨S128x128, .f32⟩
  | .local .tc .vmem, ⟨14, _⟩ => ⟨S128x128, .f32⟩
  | .local .tc .vmem, ⟨15, _⟩ => ⟨S128x128, .f32⟩
  | .local .tc .vmem, ⟨16, _⟩ => ⟨S128x128, .f32⟩
  | .local .tc .vmem, ⟨17, _⟩ => ⟨S128x256, .f32⟩
  | .local .tc .vmem, ⟨18, _⟩ => ⟨S128x256, .f32⟩
  | .local .tc .vmem, ⟨19, _⟩ => ⟨S1x256, .f32⟩
  | .local .tc .vmem, ⟨20, _⟩ => ⟨S128x256, .f32⟩
  | .local .tc .vmem, ⟨21, _⟩ => ⟨S128x256, .f32⟩
  | .local .tc .vmem, ⟨22, _⟩ => ⟨S512x256, .f32⟩
  | .local .tc .vmem, ⟨23, _⟩ => ⟨S512x256, .f32⟩
  | .local .tc .vmem, ⟨24, _⟩ => ⟨S256x40, .f32⟩
  | .local .tc .vmem, ⟨25, _⟩ => ⟨S1x40, .f32⟩
  | .local .tc .vmem, ⟨26, _⟩ => ⟨S512x1, .i32⟩
  | .local .tc .vmem, ⟨27, _⟩ => ⟨S512x1, .i32⟩
  | .local .tc .vmem, ⟨28, _⟩ => ⟨S512x40, .f32⟩
  | .local .tc .vmem, ⟨29, _⟩ => ⟨S512x40, .f32⟩
  | .local .tc .vmem, ⟨30, _⟩ => ⟨S1x1, .f32⟩
  | .local .scVector .vmem, ⟨0, _⟩ => ⟨S4096, .i32⟩
  | .local .scVector .vmem, ⟨1, _⟩ => ⟨S256x128, .f32⟩
  | .local .scVector .vmem, ⟨2, _⟩ => ⟨S256x128, .f32⟩
  | .local .scVector .vmem, ⟨3, _⟩ => ⟨S4096, .i32⟩
  | .local .scVector .vmem, ⟨4, _⟩ => ⟨S256x128, .f32⟩
  | .local .scVector .vmem, ⟨5, _⟩ => ⟨S256x128, .f32⟩
  | _, _ => ⟨S4096x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 41 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => false
  | ⟨20, _⟩ => false
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTables nBuf rfl bufTy 4 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v17 : Ref sig .tc := ⟨.hbm, 32, rfl⟩
abbrev main_v3_scv : Ref sig .scVector := ⟨.hbm, 15, rfl⟩
abbrev main_v5_scv : Ref sig .scVector := ⟨.hbm, 19, rfl⟩
abbrev main_v6_scv : Ref sig .scVector := ⟨.hbm, 20, rfl⟩
abbrev main_v8_scv : Ref sig .scVector := ⟨.hbm, 22, rfl⟩
abbrev main_v11_scv : Ref sig .scVector := ⟨.hbm, 25, rfl⟩
abbrev main_v12_scv : Ref sig .scVector := ⟨.hbm, 26, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg6_1 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg5_0 : Ref sig .tc := ⟨.vmem, 19, rfl⟩
abbrev cc3_stg6_0 : Ref sig .tc := ⟨.vmem, 20, rfl⟩
abbrev cc3_stg6_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc4_stg4_0 : Ref sig .tc := ⟨.vmem, 28, rfl⟩
abbrev cc4_stg4_1 : Ref sig .tc := ⟨.vmem, 29, rfl⟩
abbrev cc4_stg5_0 : Ref sig .tc := ⟨.vmem, 30, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc4_sem5_0 : DmaSem sig := 40
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v3 : BitVec 32 := Scalar.muli v2 c32_i32
  ![v3.toNat]
@[reducible] def k0_t1_loop : Scf.Loop 32 :=
  let c0_i32_4 : BitVec 32 := 0#32
  let c8_i32 : BitVec 32 := 8#32
  let v8 : BitVec 32 := Scalar.addi c0_i32_4 c8_i32
  let c1_i32 : BitVec 32 := 1#32
  ⟨c0_i32_4, v8, c1_i32⟩
def k0_off2 (k0_t1 : Fin k0_t1_loop.trips) (c0_i32_12 : BitVec 32) : Fin 1 → Nat :=
  let c0_i32_11 : BitVec 32 := 0#32
  let c0_i32_4 : BitVec 32 := 0#32
  let c1_i32 : BitVec 32 := 1#32
  let arg12 : BitVec 32 := Scf.iv c0_i32_4 c1_i32 k0_t1
  let c2_i32_10 : BitVec 32 := 2#32
  let v15 : BitVec 32 := Scalar.muli arg12 c2_i32_10
  let v16 : BitVec 32 := Scalar.addi c0_i32_11 v15
  let v17 : BitVec 32 := Scalar.addi v16 c0_i32_12
  let c256_i32_13 : BitVec 32 := 256#32
  let v18 : BitVec 32 := Scalar.muli v17 c256_i32_13
  ![v18.toNat]
def k0_off3 (i : grid0.Coords) (k0_t1 : Fin k0_t1_loop.trips) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v3 : BitVec 32 := Scalar.muli v2 c32_i32
  let c0_i32_11 : BitVec 32 := 0#32
  let c0_i32_4 : BitVec 32 := 0#32
  let c1_i32 : BitVec 32 := 1#32
  let arg12 : BitVec 32 := Scf.iv c0_i32_4 c1_i32 k0_t1
  let c2_i32_10 : BitVec 32 := 2#32
  let v15 : BitVec 32 := Scalar.muli arg12 c2_i32_10
  let v16 : BitVec 32 := Scalar.addi c0_i32_11 v15
  let v17 : BitVec 32 := Scalar.addi v16 c0_i32_12
  let c256_i32_16 : BitVec 32 := 256#32
  let v21 : BitVec 32 := Scalar.muli v17 c256_i32_16
  let v22 : BitVec 32 := Scalar.addi v3 v21
  let c0_i32_17 : BitVec 32 := 0#32
  ![v22.toNat, 0]
def k0_cond1 (k0_t1 : Fin k0_t1_loop.trips) : BitVec 1 :=
  let c0_i32_11 : BitVec 32 := 0#32
  let c0_i32_4 : BitVec 32 := 0#32
  let c1_i32 : BitVec 32 := 1#32
  let arg12 : BitVec 32 := Scf.iv c0_i32_4 c1_i32 k0_t1
  let c2_i32_10 : BitVec 32 := 2#32
  let v15 : BitVec 32 := Scalar.muli arg12 c2_i32_10
  let v16 : BitVec 32 := Scalar.addi c0_i32_11 v15
  let c0_i32_12 : BitVec 32 := 0#32
  let v17 : BitVec 32 := Scalar.addi v16 c0_i32_12
  let c2_i32_19 : BitVec 32 := 2#32
  let v25 : BitVec 32 := Scalar.addi v17 c2_i32_19
  let c16_i32 : BitVec 32 := 16#32
  let v26 : BitVec 1 := Scalar.cmpi .slt v25 c16_i32
  let v27 : BitVec 32 := Scalar.extui v26
  let c0_i32_20 : BitVec 32 := 0#32
  let v28 : BitVec 1 := Scalar.cmpi .ne v27 c0_i32_20
  v28

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v3 : BitVec 32 := Scalar.muli v2 c32_i32
  let c0_i32_11 : BitVec 32 := 0#32
  let c0_i32_4 : BitVec 32 := 0#32
  let c1_i32 : BitVec 32 := 1#32
  let arg12 : BitVec 32 := Scf.iv c0_i32_4 c1_i32 k0_t1
  let c2_i32_10 : BitVec 32 := 2#32
  let v15 : BitVec 32 := Scalar.muli arg12 c2_i32_10
  let v16 : BitVec 32 := Scalar.addi c0_i32_11 v15
  let c0_i32_12 : BitVec 32 := 0#32
  let v17 : BitVec 32 := Scalar.addi v16 c0_i32_12
  let c256_i32_31 : BitVec 32 := 256#32
  let v41 : BitVec 32 := Scalar.muli v17 c256_i32_31
  let v42 : BitVec 32 := Scalar.addi v3 v41
  let c0_i32_32 : BitVec 32 := 0#32
  ![v42.toNat, 0]
def k0_off5 (k0_t1 : Fin k0_t1_loop.trips) : Fin 1 → Nat :=
  let c0_i32_11 : BitVec 32 := 0#32
  let c0_i32_4 : BitVec 32 := 0#32
  let c1_i32 : BitVec 32 := 1#32
  let arg12 : BitVec 32 := Scf.iv c0_i32_4 c1_i32 k0_t1
  let c2_i32_10 : BitVec 32 := 2#32
  let v15 : BitVec 32 := Scalar.muli arg12 c2_i32_10
  let v16 : BitVec 32 := Scalar.addi c0_i32_11 v15
  let c0_i32_12 : BitVec 32 := 0#32
  let v17 : BitVec 32 := Scalar.addi v16 c0_i32_12
  let c2_i32_34 : BitVec 32 := 2#32
  let v45 : BitVec 32 := Scalar.addi v17 c2_i32_34
  let c256_i32_35 : BitVec 32 := 256#32
  let v46 : BitVec 32 := Scalar.muli v45 c256_i32_35
  ![v46.toNat]
def k0_cond2 (k0_t1 : Fin k0_t1_loop.trips) : BitVec 1 :=
  let c0_i32_11 : BitVec 32 := 0#32
  let c0_i32_4 : BitVec 32 := 0#32
  let c1_i32 : BitVec 32 := 1#32
  let arg12 : BitVec 32 := Scf.iv c0_i32_4 c1_i32 k0_t1
  let c2_i32_10 : BitVec 32 := 2#32
  let v15 : BitVec 32 := Scalar.muli arg12 c2_i32_10
  let v16 : BitVec 32 := Scalar.addi c0_i32_11 v15
  let c1_i32_21 : BitVec 32 := 1#32
  let v29 : BitVec 32 := Scalar.addi v16 c1_i32_21
  let c2_i32_28 : BitVec 32 := 2#32
  let v37 : BitVec 32 := Scalar.addi v29 c2_i32_28
  let c16_i32_29 : BitVec 32 := 16#32
  let v38 : BitVec 1 := Scalar.cmpi .slt v37 c16_i32_29
  let v39 : BitVec 32 := Scalar.extui v38
  let c0_i32_30 : BitVec 32 := 0#32
  let v40 : BitVec 1 := Scalar.cmpi .ne v39 c0_i32_30
  v40

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v3 : BitVec 32 := Scalar.muli v2 c32_i32
  let c0_i32_11 : BitVec 32 := 0#32
  let c0_i32_4 : BitVec 32 := 0#32
  let c1_i32 : BitVec 32 := 1#32
  let arg12 : BitVec 32 := Scf.iv c0_i32_4 c1_i32 k0_t1
  let c2_i32_10 : BitVec 32 := 2#32
  let v15 : BitVec 32 := Scalar.muli arg12 c2_i32_10
  let v16 : BitVec 32 := Scalar.addi c0_i32_11 v15
  let c1_i32_21 : BitVec 32 := 1#32
  let v29 : BitVec 32 := Scalar.addi v16 c1_i32_21
  let c256_i32_31 : BitVec 32 := 256#32
  let v41 : BitVec 32 := Scalar.muli v29 c256_i32_31
  let v42 : BitVec 32 := Scalar.addi v3 v41
  let c0_i32_32 : BitVec 32 := 0#32
  ![v42.toNat, 0]
def k0_off7 (k0_t1 : Fin k0_t1_loop.trips) : Fin 1 → Nat :=
  let c0_i32_11 : BitVec 32 := 0#32
  let c0_i32_4 : BitVec 32 := 0#32
  let c1_i32 : BitVec 32 := 1#32
  let arg12 : BitVec 32 := Scf.iv c0_i32_4 c1_i32 k0_t1
  let c2_i32_10 : BitVec 32 := 2#32
  let v15 : BitVec 32 := Scalar.muli arg12 c2_i32_10
  let v16 : BitVec 32 := Scalar.addi c0_i32_11 v15
  let c1_i32_21 : BitVec 32 := 1#32
  let v29 : BitVec 32 := Scalar.addi v16 c1_i32_21
  let c2_i32_34 : BitVec 32 := 2#32
  let v45 : BitVec 32 := Scalar.addi v29 c2_i32_34
  let c256_i32_35 : BitVec 32 := 256#32
  let v46 : BitVec 32 := Scalar.muli v45 c256_i32_35
  ![v46.toNat]
def k0_off8 (i : grid0.Coords) (c3584_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v3 : BitVec 32 := Scalar.muli v2 c32_i32
  let v9 : BitVec 32 := Scalar.addi v3 c3584_i32
  let c0_i32_6 : BitVec 32 := 0#32
  ![v9.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v3 : BitVec 32 := Scalar.muli v2 c32_i32
  ![v3.toNat]
@[reducible] def k2_t1_loop : Scf.Loop 32 :=
  let c0_i32_4 : BitVec 32 := 0#32
  let c8_i32 : BitVec 32 := 8#32
  let v8 : BitVec 32 := Scalar.addi c0_i32_4 c8_i32
  let c1_i32 : BitVec 32 := 1#32
  ⟨c0_i32_4, v8, c1_i32⟩
def k2_off2 (k2_t1 : Fin k2_t1_loop.trips) (c0_i32_12 : BitVec 32) : Fin 1 → Nat :=
  let c0_i32_11 : BitVec 32 := 0#32
  let c0_i32_4 : BitVec 32 := 0#32
  let c1_i32 : BitVec 32 := 1#32
  let arg12 : BitVec 32 := Scf.iv c0_i32_4 c1_i32 k2_t1
  let c2_i32_10 : BitVec 32 := 2#32
  let v15 : BitVec 32 := Scalar.muli arg12 c2_i32_10
  let v16 : BitVec 32 := Scalar.addi c0_i32_11 v15
  let v17 : BitVec 32 := Scalar.addi v16 c0_i32_12
  let c256_i32_13 : BitVec 32 := 256#32
  let v18 : BitVec 32 := Scalar.muli v17 c256_i32_13
  ![v18.toNat]
def k2_off3 (i : grid2.Coords) (k2_t1 : Fin k2_t1_loop.trips) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v3 : BitVec 32 := Scalar.muli v2 c32_i32
  let c0_i32_11 : BitVec 32 := 0#32
  let c0_i32_4 : BitVec 32 := 0#32
  let c1_i32 : BitVec 32 := 1#32
  let arg12 : BitVec 32 := Scf.iv c0_i32_4 c1_i32 k2_t1
  let c2_i32_10 : BitVec 32 := 2#32
  let v15 : BitVec 32 := Scalar.muli arg12 c2_i32_10
  let v16 : BitVec 32 := Scalar.addi c0_i32_11 v15
  let v17 : BitVec 32 := Scalar.addi v16 c0_i32_12
  let c256_i32_16 : BitVec 32 := 256#32
  let v21 : BitVec 32 := Scalar.muli v17 c256_i32_16
  let v22 : BitVec 32 := Scalar.addi v3 v21
  let c0_i32_17 : BitVec 32 := 0#32
  ![v22.toNat, 0]
def k2_cond1 (k2_t1 : Fin k2_t1_loop.trips) : BitVec 1 :=
  let c0_i32_11 : BitVec 32 := 0#32
  let c0_i32_4 : BitVec 32 := 0#32
  let c1_i32 : BitVec 32 := 1#32
  let arg12 : BitVec 32 := Scf.iv c0_i32_4 c1_i32 k2_t1
  let c2_i32_10 : BitVec 32 := 2#32
  let v15 : BitVec 32 := Scalar.muli arg12 c2_i32_10
  let v16 : BitVec 32 := Scalar.addi c0_i32_11 v15
  let c0_i32_12 : BitVec 32 := 0#32
  let v17 : BitVec 32 := Scalar.addi v16 c0_i32_12
  let c2_i32_19 : BitVec 32 := 2#32
  let v25 : BitVec 32 := Scalar.addi v17 c2_i32_19
  let c16_i32 : BitVec 32 := 16#32
  let v26 : BitVec 1 := Scalar.cmpi .slt v25 c16_i32
  let v27 : BitVec 32 := Scalar.extui v26
  let c0_i32_20 : BitVec 32 := 0#32
  let v28 : BitVec 1 := Scalar.cmpi .ne v27 c0_i32_20
  v28

def k2_off4 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v3 : BitVec 32 := Scalar.muli v2 c32_i32
  let c0_i32_11 : BitVec 32 := 0#32
  let c0_i32_4 : BitVec 32 := 0#32
  let c1_i32 : BitVec 32 := 1#32
  let arg12 : BitVec 32 := Scf.iv c0_i32_4 c1_i32 k2_t1
  let c2_i32_10 : BitVec 32 := 2#32
  let v15 : BitVec 32 := Scalar.muli arg12 c2_i32_10
  let v16 : BitVec 32 := Scalar.addi c0_i32_11 v15
  let c0_i32_12 : BitVec 32 := 0#32
  let v17 : BitVec 32 := Scalar.addi v16 c0_i32_12
  let c256_i32_31 : BitVec 32 := 256#32
  let v41 : BitVec 32 := Scalar.muli v17 c256_i32_31
  let v42 : BitVec 32 := Scalar.addi v3 v41
  let c0_i32_32 : BitVec 32 := 0#32
  ![v42.toNat, 0]
def k2_off5 (k2_t1 : Fin k2_t1_loop.trips) : Fin 1 → Nat :=
  let c0_i32_11 : BitVec 32 := 0#32
  let c0_i32_4 : BitVec 32 := 0#32
  let c1_i32 : BitVec 32 := 1#32
  let arg12 : BitVec 32 := Scf.iv c0_i32_4 c1_i32 k2_t1
  let c2_i32_10 : BitVec 32 := 2#32
  let v15 : BitVec 32 := Scalar.muli arg12 c2_i32_10
  let v16 : BitVec 32 := Scalar.addi c0_i32_11 v15
  let c0_i32_12 : BitVec 32 := 0#32
  let v17 : BitVec 32 := Scalar.addi v16 c0_i32_12
  let c2_i32_34 : BitVec 32 := 2#32
  let v45 : BitVec 32 := Scalar.addi v17 c2_i32_34
  let c256_i32_35 : BitVec 32 := 256#32
  let v46 : BitVec 32 := Scalar.muli v45 c256_i32_35
  ![v46.toNat]
def k2_cond2 (k2_t1 : Fin k2_t1_loop.trips) : BitVec 1 :=
  let c0_i32_11 : BitVec 32 := 0#32
  let c0_i32_4 : BitVec 32 := 0#32
  let c1_i32 : BitVec 32 := 1#32
  let arg12 : BitVec 32 := Scf.iv c0_i32_4 c1_i32 k2_t1
  let c2_i32_10 : BitVec 32 := 2#32
  let v15 : BitVec 32 := Scalar.muli arg12 c2_i32_10
  let v16 : BitVec 32 := Scalar.addi c0_i32_11 v15
  let c1_i32_21 : BitVec 32 := 1#32
  let v29 : BitVec 32 := Scalar.addi v16 c1_i32_21
  let c2_i32_28 : BitVec 32 := 2#32
  let v37 : BitVec 32 := Scalar.addi v29 c2_i32_28
  let c16_i32_29 : BitVec 32 := 16#32
  let v38 : BitVec 1 := Scalar.cmpi .slt v37 c16_i32_29
  let v39 : BitVec 32 := Scalar.extui v38
  let c0_i32_30 : BitVec 32 := 0#32
  let v40 : BitVec 1 := Scalar.cmpi .ne v39 c0_i32_30
  v40

def k2_off6 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v3 : BitVec 32 := Scalar.muli v2 c32_i32
  let c0_i32_11 : BitVec 32 := 0#32
  let c0_i32_4 : BitVec 32 := 0#32
  let c1_i32 : BitVec 32 := 1#32
  let arg12 : BitVec 32 := Scf.iv c0_i32_4 c1_i32 k2_t1
  let c2_i32_10 : BitVec 32 := 2#32
  let v15 : BitVec 32 := Scalar.muli arg12 c2_i32_10
  let v16 : BitVec 32 := Scalar.addi c0_i32_11 v15
  let c1_i32_21 : BitVec 32 := 1#32
  let v29 : BitVec 32 := Scalar.addi v16 c1_i32_21
  let c256_i32_31 : BitVec 32 := 256#32
  let v41 : BitVec 32 := Scalar.muli v29 c256_i32_31
  let v42 : BitVec 32 := Scalar.addi v3 v41
  let c0_i32_32 : BitVec 32 := 0#32
  ![v42.toNat, 0]
def k2_off7 (k2_t1 : Fin k2_t1_loop.trips) : Fin 1 → Nat :=
  let c0_i32_11 : BitVec 32 := 0#32
  let c0_i32_4 : BitVec 32 := 0#32
  let c1_i32 : BitVec 32 := 1#32
  let arg12 : BitVec 32 := Scf.iv c0_i32_4 c1_i32 k2_t1
  let c2_i32_10 : BitVec 32 := 2#32
  let v15 : BitVec 32 := Scalar.muli arg12 c2_i32_10
  let v16 : BitVec 32 := Scalar.addi c0_i32_11 v15
  let c1_i32_21 : BitVec 32 := 1#32
  let v29 : BitVec 32 := Scalar.addi v16 c1_i32_21
  let c2_i32_34 : BitVec 32 := 2#32
  let v45 : BitVec 32 := Scalar.addi v29 c2_i32_34
  let c256_i32_35 : BitVec 32 := 256#32
  let v46 : BitVec 32 := Scalar.muli v45 c256_i32_35
  ![v46.toNat]
def k2_off8 (i : grid2.Coords) (c3584_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v3 : BitVec 32 := Scalar.muli v2 c32_i32
  let v9 : BitVec 32 := Scalar.addi v3 c3584_i32
  let c0_i32_6 : BitVec 32 := 0#32
  ![v9.toNat, 0]
abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S128x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x40 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096x64 : Shape := ⟨2, ![4096, 64]⟩
abbrev S4096x32 : Shape := ⟨2, ![4096, 32]⟩
abbrev S4096 : Shape := ⟨1, ![4096]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩
abbrev S4096x32x1 : Shape := ⟨3, ![4096, 32, 1]⟩
abbrev S4096x32x64 : Shape := ⟨3, ![4096, 32, 64]⟩
abbrev S4096x1x64 : Shape := ⟨3, ![4096, 1, 64]⟩
abbrev S4096x32x128 : Shape := ⟨3, ![4096, 32, 128]⟩
abbrev S1x1x128 : Shape := ⟨3, ![1, 1, 128]⟩
abbrev S4096x128 : Shape := ⟨2, ![4096, 128]⟩
abbrev S4096x1x128 : Shape := ⟨3, ![4096, 1, 128]⟩
abbrev S4096x32x256 : Shape := ⟨3, ![4096, 32, 256]⟩
abbrev S1x1x256 : Shape := ⟨3, ![1, 1, 256]⟩
abbrev S4096x256 : Shape := ⟨2, ![4096, 256]⟩
abbrev S4096x40 : Shape := ⟨2, ![4096, 40]⟩
abbrev S1x40 : Shape := ⟨2, ![1, 40]⟩
abbrev S4096x1 : Shape := ⟨2, ![4096, 1]⟩
abbrev S4096x2 : Shape := ⟨2, ![4096, 2]⟩

abbrev nBuf : Space → Nat
  | .hbm => 97
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x32, .i32⟩
  | .hbm, ⟨2, _⟩ => ⟨S4096x32, .i32⟩
  | .hbm, ⟨3, _⟩ => ⟨S4096, .i32⟩
  | .hbm, ⟨4, _⟩ => ⟨S128x128, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S256x40, .f32⟩
  | .hbm, ⟨9, _⟩ => ⟨S40, .f32⟩
  | .hbm, ⟨10, _⟩ => ⟨S_, .i32⟩
  | .hbm, ⟨11, _⟩ => ⟨S4096x32, .i32⟩
  | .hbm, ⟨12, _⟩ => ⟨S4096x32, .i1⟩
  | .hbm, ⟨13, _⟩ => ⟨S_, .i32⟩
  | .hbm, ⟨14, _⟩ => ⟨S4096x32, .i32⟩
  | .hbm, ⟨15, _⟩ => ⟨S4096x32, .i32⟩
  | .hbm, ⟨16, _⟩ => ⟨S4096x32, .i32⟩
  | .hbm, ⟨17, _⟩ => ⟨S4096x32x1, .i32⟩
  | .hbm, ⟨18, _⟩ => ⟨S4096x32x64, .f32⟩
  | .hbm, ⟨19, _⟩ => ⟨S4096x1x64, .f32⟩
  | .hbm, ⟨20, _⟩ => ⟨S4096x32x64, .f32⟩
  | .hbm, ⟨21, _⟩ => ⟨S4096x32x64, .f32⟩
  | .hbm, ⟨22, _⟩ => ⟨S4096x32x128, .f32⟩
  | .hbm, ⟨23, _⟩ => ⟨S4096x32x128, .f32⟩
  | .hbm, ⟨24, _⟩ => ⟨S1x1x128, .f32⟩
  | .hbm, ⟨25, _⟩ => ⟨S4096x32x128, .f32⟩
  | .hbm, ⟨26, _⟩ => ⟨S4096x32x128, .f32⟩
  | .hbm, ⟨27, _⟩ => ⟨S_, .f32⟩
  | .hbm, ⟨28, _⟩ => ⟨S4096x32x128, .f32⟩
  | .hbm, ⟨29, _⟩ => ⟨S4096x32x128, .f32⟩
  | .hbm, ⟨30, _⟩ => ⟨S_, .f32⟩
  | .hbm, ⟨31, _⟩ => ⟨S4096x128, .f32⟩
  | .hbm, ⟨32, _⟩ => ⟨S_, .i32⟩
  | .hbm, ⟨33, _⟩ => ⟨S4096x32, .i32⟩
  | .hbm, ⟨34, _⟩ => ⟨S4096x32, .i1⟩
  | .hbm, ⟨35, _⟩ => ⟨S_, .i32⟩
  | .hbm, ⟨36, _⟩ => ⟨S4096x32, .i32⟩
  | .hbm, ⟨37, _⟩ => ⟨S4096x32, .i32⟩
  | .hbm, ⟨38, _⟩ => ⟨S4096x32, .i32⟩
  | .hbm, ⟨39, _⟩ => ⟨S4096x32x1, .i32⟩
  | .hbm, ⟨40, _⟩ => ⟨S4096x32x128, .f32⟩
  | .hbm, ⟨41, _⟩ => ⟨S4096x1x128, .f32⟩
  | .hbm, ⟨42, _⟩ => ⟨S4096x32x128, .f32⟩
  | .hbm, ⟨43, _⟩ => ⟨S4096x32x128, .f32⟩
  | .hbm, ⟨44, _⟩ => ⟨S4096x32x256, .f32⟩
  | .hbm, ⟨45, _⟩ => ⟨S4096x32x256, .f32⟩
  | .hbm, ⟨46, _⟩ => ⟨S1x1x256, .f32⟩
  | .hbm, ⟨47, _⟩ => ⟨S4096x32x256, .f32⟩
  | .hbm, ⟨48, _⟩ => ⟨S4096x32x256, .f32⟩
  | .hbm, ⟨49, _⟩ => ⟨S_, .f32⟩
  | .hbm, ⟨50, _⟩ => ⟨S4096x32x256, .f32⟩
  | .hbm, ⟨51, _⟩ => ⟨S4096x32x256, .f32⟩
  | .hbm, ⟨52, _⟩ => ⟨S_, .f32⟩
  | .hbm, ⟨53, _⟩ => ⟨S4096x256, .f32⟩
  | .hbm, ⟨54, _⟩ => ⟨S4096x40, .f32⟩
  | .hbm, ⟨55, _⟩ => ⟨S1x40, .f32⟩
  | .hbm, ⟨56, _⟩ => ⟨S4096x40, .f32⟩
  | .hbm, ⟨57, _⟩ => ⟨S4096x40, .f32⟩
  | .hbm, ⟨58, _⟩ => ⟨S_, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096x1, .f32⟩
  | .hbm, ⟨64, _⟩ => ⟨S4096x40, .f32⟩
  | .hbm, ⟨65, _⟩ => ⟨S4096x40, .f32⟩
  | .hbm, ⟨66, _⟩ => ⟨S4096x40, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x40, .f32⟩
  | .hbm, ⟨71, _⟩ => ⟨S4096x40, .f32⟩
  | .hbm, ⟨72, _⟩ => ⟨S4096x40, .f32⟩
  | .hbm, ⟨73, _⟩ => ⟨S4096, .i32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S4096x1, .i32⟩
  | .hbm, ⟨89, _⟩ => ⟨S4096x1, .i32⟩
  | .hbm, ⟨90, _⟩ => ⟨S4096x2, .i32⟩
  | .hbm, ⟨91, _⟩ => ⟨S4096, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_7 : Ref sig .tc := ⟨.hbm, 74, rfl⟩
abbrev main_v51 : Ref sig .tc := ⟨.hbm, 75, rfl⟩
abbrev main_v52 : Ref sig .tc := ⟨.hbm, 76, rfl⟩
abbrev main_c_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_9 : Ref sig .tc := ⟨.hbm, 81, rfl⟩
abbrev main_v56 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== KnnAll.lean ====
abbrev S4096x64 : Shape := ⟨2, ![4096, 64]⟩
abbrev S4096 : Shape := ⟨1, ![4096]⟩
abbrev S64x4096 : Shape := ⟨2, ![64, 4096]⟩
abbrev S1x4096 : Shape := ⟨2, ![1, 4096]⟩
abbrev S4096x1 : Shape := ⟨2, ![4096, 1]⟩
abbrev S4096x32 : Shape := ⟨2, ![4096, 32]⟩
abbrev S256x64 : Shape := ⟨2, ![256, 64]⟩
abbrev S256x1 : Shape := ⟨2, ![256, 1]⟩
abbrev S256x32 : Shape := ⟨2, ![256, 32]⟩
abbrev S256x4096 : Shape := ⟨2, ![256, 4096]⟩
abbrev S256 : Shape := ⟨1, ![256]⟩

abbrev nBuf : Space → Nat
  | .hbm => 6
  | .vmem => 9
  | .smem => 0
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S64x4096, .f32⟩
  | .hbm, ⟨3, _⟩ => ⟨S1x4096, .i32⟩
  | .hbm, ⟨4, _⟩ => ⟨S4096x1, .i32⟩
  | .hbm, ⟨5, _⟩ => ⟨S4096x32, .i32⟩
  | .local _ .vmem, ⟨0, _⟩ => ⟨S64x4096, .f32⟩
  | .local _ .vmem, ⟨1, _⟩ => ⟨S1x4096, .i32⟩
  | .local _ .vmem, ⟨2, _⟩ => ⟨S256x64, .f32⟩
  | .local _ .vmem, ⟨3, _⟩ => ⟨S256x64, .f32⟩
  | .local _ .vmem, ⟨4, _⟩ => ⟨S256x1, .i32⟩
  | .local _ .vmem, ⟨5, _⟩ => ⟨S256x1, .i32⟩
  | .local _ .vmem, ⟨6, _⟩ => ⟨S256x32, .i32⟩
  | .local _ .vmem, ⟨7, _⟩ => ⟨S256x32, .i32⟩
  | .local _ .vmem, ⟨8, _⟩ => ⟨S256x4096, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KnnAllIdeal.lean ====
abbrev S4096x64 : Shape := ⟨2, ![4096, 64]⟩
abbrev S4096 : Shape := ⟨1, ![4096]⟩
abbrev S64x4096 : Shape := ⟨2, ![64, 4096]⟩
abbrev S1x4096 : Shape := ⟨2, ![1, 4096]⟩
abbrev S4096x1 : Shape := ⟨2, ![4096, 1]⟩
abbrev S4096x32 : Shape := ⟨2, ![4096, 32]⟩
abbrev S256x64 : Shape := ⟨2, ![256, 64]⟩
abbrev S256x1 : Shape := ⟨2, ![256, 1]⟩
abbrev S256x32 : Shape := ⟨2, ![256, 32]⟩
abbrev S256x4096 : Shape := ⟨2, ![256, 4096]⟩
abbrev S256 : Shape := ⟨1, ![256]⟩

abbrev nBuf : Space → Nat
  | .hbm => 6
  | .vmem => 9
  | .smem => 0
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S64x4096, .f32⟩
  | .hbm, ⟨3, _⟩ => ⟨S1x4096, .i32⟩
  | .hbm, ⟨4, _⟩ => ⟨S4096x1, .i32⟩
  | .hbm, ⟨5, _⟩ => ⟨S4096x32, .i32⟩
  | .local _ .vmem, ⟨0, _⟩ => ⟨S64x4096, .f32⟩
  | .local _ .vmem, ⟨1, _⟩ => ⟨S1x4096, .i32⟩
  | .local _ .vmem, ⟨2, _⟩ => ⟨S256x64, .f32⟩
  | .local _ .vmem, ⟨3, _⟩ => ⟨S256x64, .f32⟩
  | .local _ .vmem, ⟨4, _⟩ => ⟨S256x1, .i32⟩
  | .local _ .vmem, ⟨5, _⟩ => ⟨S256x1, .i32⟩
  | .local _ .vmem, ⟨6, _⟩ => ⟨S256x32, .i32⟩
  | .local _ .vmem, ⟨7, _⟩ => ⟨S256x32, .i32⟩
  | .local _ .vmem, ⟨8, _⟩ => ⟨S256x4096, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KnnReferenceIdeal.lean ====
abbrev S4096x64 : Shape := ⟨2, ![4096, 64]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S64x4096 : Shape := ⟨2, ![64, 4096]⟩
abbrev S4096x32 : Shape := ⟨2, ![4096, 32]⟩

abbrev nBuf : Space → Nat
  | .hbm => 35
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S4096x64, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S64x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x1, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x32, .f32⟩
  | .hbm, ⟨34, _⟩ => ⟨S4096x32, .i32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v23 : Ref sig .tc := ⟨.hbm, 31, rfl⟩
abbrev main_v24 : Ref sig .tc := ⟨.hbm, 32, rfl⟩
abbrev main_values : Ref sig .tc := ⟨.hbm, 33, rfl⟩
abbrev main_indices : Ref sig .tc := ⟨.hbm, 34, rfl⟩

abbrev nD : Nat := 1
abbrev τ : Topo := Topo.v7x

variable {F : FTy → Type} [FloatOps F]
-- ==== KnnWide.lean ====
abbrev S4096x128 : Shape := ⟨2, ![4096, 128]⟩
abbrev S4096 : Shape := ⟨1, ![4096]⟩
abbrev S128x4096 : Shape := ⟨2, ![128, 4096]⟩
abbrev S1x4096 : Shape := ⟨2, ![1, 4096]⟩
abbrev S4096x1 : Shape := ⟨2, ![4096, 1]⟩
abbrev S4096x32 : Shape := ⟨2, ![4096, 32]⟩
abbrev S256x128 : Shape := ⟨2, ![256, 128]⟩
abbrev S256x1 : Shape := ⟨2, ![256, 1]⟩
abbrev S256x32 : Shape := ⟨2, ![256, 32]⟩
abbrev S256x4096 : Shape := ⟨2, ![256, 4096]⟩
abbrev S256 : Shape := ⟨1, ![256]⟩

abbrev nBuf : Space → Nat
  | .hbm => 6
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S128x4096, .f32⟩
  | .hbm, ⟨3, _⟩ => ⟨S1x4096, .i32⟩
  | .hbm, ⟨4, _⟩ => ⟨S4096x1, .i32⟩
  | .hbm, ⟨5, _⟩ => ⟨S4096x32, .i32⟩
  | .local _ .vmem, ⟨0, _⟩ => ⟨S128x4096, .f32⟩
  | .local _ .vmem, ⟨1, _⟩ => ⟨S1x4096, .i32⟩
  | .local _ .vmem, ⟨2, _⟩ => ⟨S256x128, .f32⟩
  | .local _ .vmem, ⟨3, _⟩ => ⟨S256x128, .f32⟩
  | .local _ .vmem, ⟨4, _⟩ => ⟨S256x1, .i32⟩
  | .local _ .vmem, ⟨5, _⟩ => ⟨S256x1, .i32⟩
  | .local _ .vmem, ⟨6, _⟩ => ⟨S256x32, .i32⟩
  | .local _ .vmem, ⟨7, _⟩ => ⟨S256x32, .i32⟩
  | .local _ .vmem, ⟨8, _⟩ => ⟨S256x4096, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KnnWideReferenceIdeal.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩
abbrev S4096x32 : Shape := ⟨2, ![4096, 32]⟩

abbrev nBuf : Space → Nat
  | .hbm => 35
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S128x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x1, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x32, .f32⟩
  | .hbm, ⟨34, _⟩ => ⟨S4096x32, .i32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v23 : Ref sig .tc := ⟨.hbm, 31, rfl⟩
abbrev main_v24 : Ref sig .tc := ⟨.hbm, 32, rfl⟩
abbrev main_values : Ref sig .tc := ⟨.hbm, 33, rfl⟩
abbrev main_indices : Ref sig .tc := ⟨.hbm, 34, rfl⟩

abbrev nD : Nat := 1
abbrev τ : Topo := Topo.v7x

variable {F : FTy → Type} [FloatOps F]
-- ==== KnnSeg.lean ====
abbrev S4096x64 : Shape := ⟨2, ![4096, 64]⟩
abbrev S4096 : Shape := ⟨1, ![4096]⟩
abbrev S64x4096 : Shape := ⟨2, ![64, 4096]⟩
abbrev S1x4096 : Shape := ⟨2, ![1, 4096]⟩
abbrev S4096x32 : Shape := ⟨2, ![4096, 32]⟩
abbrev S256x1280 : Shape := ⟨2, ![256, 1280]⟩
abbrev S1x1x4096 : Shape := ⟨3, ![1, 1, 4096]⟩
abbrev S1 : Shape := ⟨1, ![1]⟩
abbrev S1x1x1 : Shape := ⟨3, ![1, 1, 1]⟩
abbrev S256x64 : Shape := ⟨2, ![256, 64]⟩
abbrev S64x1280 : Shape := ⟨2, ![64, 1280]⟩
abbrev S1280 : Shape := ⟨1, ![1280]⟩
abbrev S1x1280 : Shape := ⟨2, ![1, 1280]⟩
abbrev S256 : Shape := ⟨1, ![256]⟩
abbrev S256x1 : Shape := ⟨2, ![256, 1]⟩
abbrev S256x32 : Shape := ⟨2, ![256, 32]⟩

abbrev nBuf : Space → Nat
  | .hbm => 5
  | .vmem => 5
  | .smem => 0
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S64x4096, .f32⟩
  | .hbm, ⟨3, _⟩ => ⟨S1x4096, .i32⟩
  | .hbm, ⟨4, _⟩ => ⟨S4096x32, .i32⟩
  | .local _ .vmem, ⟨0, _⟩ => ⟨S64x4096, .f32⟩
  | .local _ .vmem, ⟨1, _⟩ => ⟨S1x4096, .i32⟩
  | .local _ .vmem, ⟨2, _⟩ => ⟨S4096x64, .f32⟩
  | .local _ .vmem, ⟨3, _⟩ => ⟨S4096x32, .i32⟩
  | .local _ .vmem, ⟨4, _⟩ => ⟨S256x1280, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![4, 5], ![false, false]⟩

def k0_off1 (i : grid0.Coords) (v8 : BitVec 32) : Fin 2 → Nat :=
  let c0_i32 : BitVec 32 := 0#32
  let v17 : BitVec 1 := Scalar.cmpi .sgt v8 c0_i32
  let v18 : BitVec 32 := Scalar.extui v17
  let c0_i32_2 : BitVec 32 := 0#32
  let v19 : BitVec 1 := Scalar.cmpi .slt v8 c0_i32_2
  let v20 : BitVec 32 := Scalar.extui v19
  let v21 : BitVec 32 := Scalar.subi v18 v20
  let c8_i32 : BitVec 32 := 8#32
  let c0_i32_3 : BitVec 32 := 0#32
  let v22 : BitVec 1 := Scalar.cmpi .sgt c8_i32 c0_i32_3
  let v23 : BitVec 32 := Scalar.extui v22
  let c0_i32_4 : BitVec 32 := 0#32
  let v24 : BitVec 1 := Scalar.cmpi .slt c8_i32 c0_i32_4
  let v25 : BitVec 32 := Scalar.extui v24
  let v26 : BitVec 32 := Scalar.subi v23 v25
  let v27 : BitVec 1 := Scalar.cmpi .ne v21 v26
  let v28 : BitVec 32 := Scalar.remsi v8 c8_i32
  let c0_i32_5 : BitVec 32 := 0#32
  let v29 : BitVec 1 := Scalar.cmpi .ne v28 c0_i32_5
  let v30 : BitVec 1 := Scalar.andi v27 v29
  let v16 : BitVec 32 := Scalar.divsi v8 c8_i32
  let c1_i32 : BitVec 32 := 1#32
  let v31 : BitVec 32 := Scalar.subi v16 c1_i32
  let v32 : BitVec 32 := Scalar.select v30 v31 v16
  let c8_i32_6 : BitVec 32 := 8#32
  let v33 : BitVec 32 := Scalar.muli v32 c8_i32_6
  let arg1 : BitVec 32 := BitVec.ofNat 32 (i 1).val
  let c256_i32_8 : BitVec 32 := 256#32
  let v40 : BitVec 32 := Scalar.muli arg1 c256_i32_8
  let v41 : BitVec 32 := Scalar.addi v33 v40
  let c3840_i32 : BitVec 32 := 3840#32
  let v42 : BitVec 32 := Scalar.minsi v41 c3840_i32
  let v62 : Index := Scalar.indexCast v42
  let c0_16 : Index := 0#32
  ![v62.toNat, 0]
def k0_cond1 (i : grid0.Coords) (v8 : BitVec 32) (v15 : BitVec 32) : BitVec 1 :=
  let c0_i32 : BitVec 32 := 0#32
  let v17 : BitVec 1 := Scalar.cmpi .sgt v8 c0_i32
  let v18 : BitVec 32 := Scalar.extui v17
  let c0_i32_2 : BitVec 32 := 0#32
  let v19 : BitVec 1 := Scalar.cmpi .slt v8 c0_i32_2
  let v20 : BitVec 32 := Scalar.extui v19
  let v21 : BitVec 32 := Scalar.subi v18 v20
  let c8_i32 : BitVec 32 := 8#32
  let c0_i32_3 : BitVec 32 := 0#32
  let v22 : BitVec 1 := Scalar.cmpi .sgt c8_i32 c0_i32_3
  let v23 : BitVec 32 := Scalar.extui v22
  let c0_i32_4 : BitVec 32 := 0#32
  let v24 : BitVec 1 := Scalar.cmpi .slt c8_i32 c0_i32_4
  let v25 : BitVec 32 := Scalar.extui v24
  let v26 : BitVec 32 := Scalar.subi v23 v25
  let v27 : BitVec 1 := Scalar.cmpi .ne v21 v26
  let v28 : BitVec 32 := Scalar.remsi v8 c8_i32
  let c0_i32_5 : BitVec 32 := 0#32
  let v29 : BitVec 1 := Scalar.cmpi .ne v28 c0_i32_5
  let v30 : BitVec 1 := Scalar.andi v27 v29
  let v16 : BitVec 32 := Scalar.divsi v8 c8_i32
  let c1_i32 : BitVec 32 := 1#32
  let v31 : BitVec 32 := Scalar.subi v16 c1_i32
  let v32 : BitVec 32 := Scalar.select v30 v31 v16
  let c8_i32_6 : BitVec 32 := 8#32
  let v33 : BitVec 32 := Scalar.muli v32 c8_i32_6
  let arg1 : BitVec 32 := BitVec.ofNat 32 (i 1).val
  let c256_i32 : BitVec 32 := 256#32
  let v34 : BitVec 32 := Scalar.muli arg1 c256_i32
  let v35 : BitVec 32 := Scalar.addi v33 v34
  let v36 : BitVec 32 := Scalar.addi v8 v15
  let v37 : BitVec 1 := Scalar.cmpi .slt v35 v36
  let v38 : BitVec 32 := Scalar.extui v37
  let c0_i32_7 : BitVec 32 := 0#32
  let v39 : BitVec 1 := Scalar.cmpi .ne v38 c0_i32_7
  v39

def k0_off2 (v8 : BitVec 32) : Fin 2 → Nat :=
  let c0_17 : Index := 0#32
  let c0_i32_9 : BitVec 32 := 0#32
  let v44 : BitVec 1 := Scalar.cmpi .sgt v8 c0_i32_9
  let v45 : BitVec 32 := Scalar.extui v44
  let c0_i32_10 : BitVec 32 := 0#32
  let v46 : BitVec 1 := Scalar.cmpi .slt v8 c0_i32_10
  let v47 : BitVec 32 := Scalar.extui v46
  let v48 : BitVec 32 := Scalar.subi v45 v47
  let c128_i32 : BitVec 32 := 128#32
  let c0_i32_11 : BitVec 32 := 0#32
  let v49 : BitVec 1 := Scalar.cmpi .sgt c128_i32 c0_i32_11
  let v50 : BitVec 32 := Scalar.extui v49
  let c0_i32_12 : BitVec 32 := 0#32
  let v51 : BitVec 1 := Scalar.cmpi .slt c128_i32 c0_i32_12
  let v52 : BitVec 32 := Scalar.extui v51
  let v53 : BitVec 32 := Scalar.subi v50 v52
  let v54 : BitVec 1 := Scalar.cmpi .ne v48 v53
  let v55 : BitVec 32 := Scalar.remsi v8 c128_i32
  let c0_i32_13 : BitVec 32 := 0#32
  let v56 : BitVec 1 := Scalar.cmpi .ne v55 c0_i32_13
  let v57 : BitVec 1 := Scalar.andi v54 v56
  let v43 : BitVec 32 := Scalar.divsi v8 c128_i32
  let c1_i32_14 : BitVec 32 := 1#32
  let v58 : BitVec 32 := Scalar.subi v43 c1_i32_14
  let v59 : BitVec 32 := Scalar.select v57 v58 v43
  let c128_i32_15 : BitVec 32 := 128#32
  let v60 : BitVec 32 := Scalar.muli v59 c128_i32_15
  let c2816_i32 : BitVec 32 := 2816#32
  let v61 : BitVec 32 := Scalar.minsi v60 c2816_i32
  let v64 : Index := Scalar.indexCast v61
  ![0, v64.toNat]
def k0_off3 (v8 : BitVec 32) : Fin 2 → Nat :=
  let c0_22 : Index := 0#32
  let c0_i32_9 : BitVec 32 := 0#32
  let v44 : BitVec 1 := Scalar.cmpi .sgt v8 c0_i32_9
  let v45 : BitVec 32 := Scalar.extui v44
  let c0_i32_10 : BitVec 32 := 0#32
  let v46 : BitVec 1 := Scalar.cmpi .slt v8 c0_i32_10
  let v47 : BitVec 32 := Scalar.extui v46
  let v48 : BitVec 32 := Scalar.subi v45 v47
  let c128_i32 : BitVec 32 := 128#32
  let c0_i32_11 : BitVec 32 := 0#32
  let v49 : BitVec 1 := Scalar.cmpi .sgt c128_i32 c0_i32_11
  let v50 : BitVec 32 := Scalar.extui v49
  let c0_i32_12 : BitVec 32 := 0#32
  let v51 : BitVec 1 := Scalar.cmpi .slt c128_i32 c0_i32_12
  let v52 : BitVec 32 := Scalar.extui v51
  let v53 : BitVec 32 := Scalar.subi v50 v52
  let v54 : BitVec 1 := Scalar.cmpi .ne v48 v53
  let v55 : BitVec 32 := Scalar.remsi v8 c128_i32
  let c0_i32_13 : BitVec 32 := 0#32
  let v56 : BitVec 1 := Scalar.cmpi .ne v55 c0_i32_13
  let v57 : BitVec 1 := Scalar.andi v54 v56
  let v43 : BitVec 32 := Scalar.divsi v8 c128_i32
  let c1_i32_14 : BitVec 32 := 1#32
  let v58 : BitVec 32 := Scalar.subi v43 c1_i32_14
  let v59 : BitVec 32 := Scalar.select v57 v58 v43
  let c128_i32_15 : BitVec 32 := 128#32
  let v60 : BitVec 32 := Scalar.muli v59 c128_i32_15
  let c2816_i32 : BitVec 32 := 2816#32
  let v61 : BitVec 32 := Scalar.minsi v60 c2816_i32
  let v88 : Index := Scalar.indexCast v61
  ![0, v88.toNat]
def k0_off4 (i : grid0.Coords) (v8 : BitVec 32) : Fin 2 → Nat :=
  let c0_i32 : BitVec 32 := 0#32
  let v17 : BitVec 1 := Scalar.cmpi .sgt v8 c0_i32
  let v18 : BitVec 32 := Scalar.extui v17
  let c0_i32_2 : BitVec 32 := 0#32
  let v19 : BitVec 1 := Scalar.cmpi .slt v8 c0_i32_2
  let v20 : BitVec 32 := Scalar.extui v19
  let v21 : BitVec 32 := Scalar.subi v18 v20
  let c8_i32 : BitVec 32 := 8#32
  let c0_i32_3 : BitVec 32 := 0#32
  let v22 : BitVec 1 := Scalar.cmpi .sgt c8_i32 c0_i32_3
  let v23 : BitVec 32 := Scalar.extui v22
  let c0_i32_4 : BitVec 32 := 0#32
  let v24 : BitVec 1 := Scalar.cmpi .slt c8_i32 c0_i32_4
  let v25 : BitVec 32 := Scalar.extui v24
  let v26 : BitVec 32 := Scalar.subi v23 v25
  let v27 : BitVec 1 := Scalar.cmpi .ne v21 v26
  let v28 : BitVec 32 := Scalar.remsi v8 c8_i32
  let c0_i32_5 : BitVec 32 := 0#32
  let v29 : BitVec 1 := Scalar.cmpi .ne v28 c0_i32_5
  let v30 : BitVec 1 := Scalar.andi v27 v29
  let v16 : BitVec 32 := Scalar.divsi v8 c8_i32
  let c1_i32 : BitVec 32 := 1#32
  let v31 : BitVec 32 := Scalar.subi v16 c1_i32
  let v32 : BitVec 32 := Scalar.select v30 v31 v16
  let c8_i32_6 : BitVec 32 := 8#32
  let v33 : BitVec 32 := Scalar.muli v32 c8_i32_6
  let arg1 : BitVec 32 := BitVec.ofNat 32 (i 1).val
  let c256_i32_8 : BitVec 32 := 256#32
  let v40 : BitVec 32 := Scalar.muli arg1 c256_i32_8
  let v41 : BitVec 32 := Scalar.addi v33 v40
  let c3840_i32 : BitVec 32 := 3840#32
  let v42 : BitVec 32 := Scalar.minsi v41 c3840_i32
  let v623 : Index := Scalar.indexCast v42
  let c0_281 : Index := 0#32
  ![v623.toNat, 0]

def k0_chk1 (i : grid0.Coords) (v8 : BitVec 32) (v15 : BitVec 32) : Prop :=
  (∀ (k0_h1 : k0_cond1 i v8 v15 = 1#1), ∀ a, (k0_off1 i v8) a + S256x64.size a ≤ S4096x64.size a) ∧
  (∀ (k0_h1 : k0_cond1 i v8 v15 = 1#1), ∀ a, (k0_off2 v8) a + S64x1280.size a ≤ S64x4096.size a) ∧
  (∀ (k0_h1 : k0_cond1 i v8 v15 = 1#1), ∀ a, (k0_off3 v8) a + S1x1280.size a ≤ S1x4096.size a) ∧
  (∀ (k0_h1 : k0_cond1 i v8 v15 = 1#1), ∀ a, (k0_off4 i v8) a + S256x32.size a ≤ S4096x32.size a)
theorem k0_off1_inb : ∀ (i : grid0.Coords) (v8 : BitVec 32) (v15 : BitVec 32) (k0_hw1 : k0_chk1 i v8 v15), ∀ (k0_h1 : k0_cond1 i v8 v15 = 1#1), ∀ a, (k0_off1 i v8) a + S256x64.size a ≤ S4096x64.size a := fun i v8 v15 k0_hw1 k0_h1 => k0_hw1.1 k0_h1
theorem k0_off2_inb : ∀ (i : grid0.Coords) (v8 : BitVec 32) (v15 : BitVec 32) (k0_hw1 : k0_chk1 i v8 v15), ∀ (k0_h1 : k0_cond1 i v8 v15 = 1#1), ∀ a, (k0_off2 v8) a + S64x1280.size a ≤ S64x4096.size a := fun i v8 v15 k0_hw1 k0_h1 => k0_hw1.2.1 k0_h1
theorem k0_off3_inb : ∀ (i : grid0.Coords) (v8 : BitVec 32) (v15 : BitVec 32) (k0_hw1 : k0_chk1 i v8 v15), ∀ (k0_h1 : k0_cond1 i v8 v15 = 1#1), ∀ a, (k0_off3 v8) a + S1x1280.size a ≤ S1x4096.size a := fun i v8 v15 k0_hw1 k0_h1 => k0_hw1.2.2.1 k0_h1
theorem k0_off4_inb : ∀ (i : grid0.Coords) (v8 : BitVec 32) (v15 : BitVec 32) (k0_hw1 : k0_chk1 i v8 v15), ∀ (k0_h1 : k0_cond1 i v8 v15 = 1#1), ∀ a, (k0_off4 i v8) a + S256x32.size a ≤ S4096x32.size a := fun i v8 v15 k0_hw1 k0_h1 => k0_hw1.2.2.2 k0_h1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Proof.Spec.lean ====
/-
  The network in extended reals, at coordinates: one edge convolution over the nearest-neighbour lists, and small facts
  about greatest values over finitely many terms.
-/
module

public import Idealize.ShloMosaic.Lib.Pointwise

@[expose] public section

noncomputable section

namespace Cert.Proof

open Idealize.ShloMosaic

/-- One edge convolution: over the 32 neighbours `l i k` of a point `i`, the greatest of the rectified products of the
    point's features and of the neighbour's difference from it with the two halves of the weights. -/
def conv {d o : ℕ} (h : Fin 4096 → Fin d → EReal) (l : Fin 4096 → Fin 32 → Fin 4096) (wa wb : Fin d → Fin o → EReal)
    (b : Fin o → EReal) (i : Fin 4096) (j : Fin o) : EReal :=
  (Finset.univ : Finset (Fin 32)).sup fun k =>
    max ((∑ q, h i q * wa q j + ∑ q, (h (l i k) q - h i q) * wb q j) + b j) 0

/-- A neighbour list's entry as a row number. -/
def nbr (w : BitVec 32) : Fin 4096 := ⟨w.toNat % 4096, Nat.mod_lt _ (by decide)⟩

/-- The greatest of `f 0 … f n`, taken one after the other. -/
def chain (f : ℕ → EReal) : ℕ → EReal
  | 0 => f 0
  | n + 1 => max (chain f n) (f (n + 1))

theorem chain_le (f : ℕ → EReal) (n : ℕ) (a : EReal) : chain f n ≤ a ↔ ∀ k ≤ n, f k ≤ a := by
  induction n with
  | zero => simp [chain]
  | succ n ih =>
    simp only [chain, max_le_iff, ih]
    constructor
    · rintro ⟨h1, h2⟩ k hk
      rcases Nat.lt_or_ge n k with h | h
      · rw [show k = n + 1 by omega]; exact h2
      · exact h1 k h
    · exact fun h => ⟨fun k hk => h k (by omega), h _ le_rfl⟩

/-- Rectifying the greatest of the terms is the greatest of the rectified terms. -/
theorem chain_relu (f : ℕ → EReal) (n : ℕ) :
    max (chain f n) 0 = (Finset.univ : Finset (Fin (n + 1))).sup fun k => max (f k) 0 := by
  refine eq_of_forall_ge_iff fun a => ?_
  simp only [max_le_iff, chain_le, Finset.sup_le_iff, Finset.mem_univ, forall_true_left]
  exact ⟨fun h k => ⟨h.1 k (by omega), h.2⟩, fun h => ⟨fun k hk => (h ⟨k, by omega⟩).1, (h 0).2⟩⟩

/-- A fold of greatest values from the least extended real. -/
theorem fold_max_bot {n : ℕ} (f : Fin n → EReal) : (Finset.univ : Finset (Fin n)).fold max ⊥ f = Finset.univ.sup f := rfl

/-- A row of class probabilities: the exponentials of the scores below their greatest, over their sum. -/
def soft {n : ℕ} (z : Fin n → EReal) (j : Fin n) : EReal :=
  Ideal.div (Ideal.exp (z j - Finset.univ.sup z)) (∑ q, Ideal.exp (z q - Finset.univ.sup z))

theorem ofBits_neg_inf : Ideal.ofBits .f32 0xFF800000#32 = (⊥ : EReal) := by
  simp [Ideal.ofBits, Ideal.ieee]

/-- A word below 4096, read as a signed number. -/
theorem toInt_of_lt {w : BitVec 32} (h : w.toNat < 4096) : w.toInt.toNat = w.toNat := by
  rw [BitVec.toInt_eq_toNat_of_lt (by omega)]; rfl

/-- Counting from the end changes nothing where a word is not negative. -/
theorem select_nonneg {w : BitVec 32} (h : w.toNat < 4096) (a : BitVec 32) :
    Scalar.select (IntOp.cmpi CmpIPredicate.slt w 0#32) a w = w := by
  have hs : IntOp.cmpi CmpIPredicate.slt w 0#32 = 0#1 := by
    have : BitVec.slt w 0#32 = false := by
      rw [BitVec.slt_eq_decide, BitVec.toInt_eq_toNat_of_lt (by omega)]; simp
    simp [IntOp.cmpi, this]
  rw [hs]; rfl

/-- A target's word as a class. -/
def cls (w : BitVec 32) : Fin 40 := ⟨w.toNat % 40, Nat.mod_lt _ (by decide)⟩

end Cert.Proof
-- ==== Proof.Base.lean ====
/-
  The program as the launch theorem of a SparseCore module sees it: the label signature of the tensor-core
  pipelines, the two SparseCore calls over it, the body table, and the ghost state every later file works in —
  the handshakes' rounds, the pipelines' rounds, and the counters of the transfers in flight.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.ShareLeaves
public import Idealize.SL.BI.BigOpNat
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev ΛP : Labels := Pipeline.Sig Λ₀ (Fin 3) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UPl : Type := URounds (GSem nD τ sig) Unit
abbrev UU : Type := UH × (UPl × Counters)

/-- The algebra of the resources all later files are stated in. -/
abbrev MK (F : FTy → Type) : Type := MT nD τ sig (HIx 2) (Elt F) ℕ UU ℕ

abbrev EH : Emb UH (MK F) := embL

end Cert.Proof
-- ==== Proof.Region.lean ====
/-
  What the three tensor-core pipelines of the program have in common: what a body passes through unread, what the
  tensor core owes the SparseCores while a pipeline runs, and the whole-buffer loads and stores of the bodies.
-/
module

public import proofs.«01_k».proof.Proof.Base
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation)

variable {F : FTy → Type} [FloatOps F]

/-- A body's invariant: the scoped buffers its pipeline does not stage, and the generator register. -/
def rest {gr W : Nat} (win : Fin W → Pipeline.WinSpec sig gr) (c : Dev nD) : sProp (MK F) :=
  iprop(Pipeline.scopedRest (Ix := HIx 2) (Name := ℕ) (U := UU) (Lvl := ℕ) (Val := Elt F) win c ∗ ∃ r, prngReg c r)

/-- The pairs a tensor core may have waited at before call `n` of the SparseCores. -/
def seen (F : FTy → Type) [FloatOps F] (n : ℕ) (c : Dev nD) : Set (SemLoc sig × HIx 2) :=
  {p | (K (F := F)).lev (T c, p.1) p.2 ≤ 8 * SparseCore.Cfg.Blocks.fst (Q := 2) (N := 2) n}

section Whole

variable {Val : EltTy → Type} {s : Shape} {e : EltTy}

/-- The rectangle of a whole buffer meets every index where it is. -/
theorem whole_idx (off : Fin s.rank → Nat) (h : ∀ a, off a + s.size a ≤ s.size a) (x : s.Idx) :
    (Rect.unit (s := s) off s.size h).emb x = x := by
  funext a
  apply Fin.ext
  have h0 : off a = 0 := by have := h a; omega
  refine (Rect.emb_apply (Rect.unit (s := s) off s.size h) x a).trans ?_
  show off a + 1 * (x a).val = (x a).val
  omega

theorem ld_whole (X : s.Idx → Val e) (off : Fin s.rank → Nat) (h : ∀ a, off a + s.size a ≤ s.size a) :
    View.ld X (Rect.unit (s := s) off s.size h) = X :=
  funext fun x => congrArg X (whole_idx off h x)

/-- A last store of a whole buffer leaves the buffer at what was stored. -/
theorem read_write_whole [∀ e, Nonempty (Val e)] {κ : Kind} {sp : Space} (v : View sig κ sp s e) (f : v.ty.Contents Val)
    (off : Fin s.rank → Nat) (h : ∀ a, off a + s.size a ≤ s.size a) (w : s.Idx → Val e) (l : List (View.Piece Val s e)) :
    v.read Val (v.writes Val f (⟨Rect.unit (s := s) off s.size h, w⟩ :: l)) = w := by
  refine (View.read_writes_eq_canon v f _ fun y => ⟨_, List.mem_cons_self, ?_⟩).trans ?_
  · exact (Rect.mem_set_unit (inb := h)).mpr fun a => ⟨by have := h a; omega, by have := (y a).isLt; have := h a; omega⟩
  · funext y
    exact (congrArg _ (whole_idx off h y).symm).trans (View.canon_cons_emb (Rect.unit (s := s) off s.size h) w l y)

end Whole

end Cert.Proof
-- ==== Proof.EdgeBody.lean ====
/-
  What the two edge layers' pipelines have in common: their bodies read six buffers and store the seventh whole, and an
  input's buffer holds its block at every point.
-/
module

public import proofs.«01_k».proof.Proof.Region

@[expose] public section

set_option maxRecDepth 16384

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

/-- An input's staging buffer, that the body leaves at its block, holds that block before the body too. -/
theorem before_input {cfg : Cfg sig Λ₀} {c : Dev nD} (dat : Dat τ (Elt F) (HIx 2) ℕ UU ℕ cfg c) (w : Fin cfg.W) (hw : (cfg.win w).isOut = false)
    (hlive : ∀ i, cfg.idle w i = false)
    (hclip : ∀ t t' : Fin cfg.N, (cfg.win w).index t = (cfg.win w).index t' → (cfg.win w).clip (cfg.grid.coords t) = (cfg.win w).clip (cfg.grid.coords t'))
    (hkeep : ∀ t, (cfg.win w).cut (cfg.grid.coords t) (dat.after w t) = dat.blockOf w t) (t : Fin cfg.N) (hf : ∀ d, dat.fetched w t d = dat.after w t)
    (d : (cfg.win w).block.Idx → Elt F (cfg.win w).elt) : dat.before w t d = dat.after w t :=
  (dat.before_in_eq_fetched w hw hlive hclip hkeep t d).trans (hf d)

section Stores

variable {s1 s2 s3 s4 s5 s6 s7 : Shape} (c : Dev nD) (a1 : Memref sig .tc .vmem s1 .f32) (a2 : Memref sig .tc .vmem s2 .f32)
  (a3 : Memref sig .tc .vmem s3 .f32) (a4 : Memref sig .tc .vmem s4 .f32) (a5 : Memref sig .tc .vmem s5 .f32) (a6 : Memref sig .tc .vmem s6 .f32)
  (a7 : Memref sig .tc .vmem s7 .f32)

/-- The body leaves six buffers as they are, and the seventh at `y` of what they hold. -/
def Stores (y : Vec F s1 .f32 → Vec F s2 .f32 → Vec F s3 .f32 → Vec F s4 .f32 → Vec F s5 .f32 → Vec F s6 .f32 → Vec F s7 .f32)
    (e : Prog (TpuEff nD τ sig (Elt F) Λ₀ .tc) PUnit) : Prop :=
  ∀ (x1 : Vec F s1 .f32) (x2 : Vec F s2 .f32) (x3 : Vec F s3 .f32) (x4 : Vec F s4 .f32) (x5 : Vec F s5 .f32) (x6 : Vec F s6 .f32)
    (Q : PUnit → sProp (MK F)),
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ (∃ d, owns (c : Thread nD τ) a7 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare (y x1 x2 x3 x4 x5 x6)) -∗ Q ⟨⟩))
      ⊢ wp frame (wpE (defs₀ (F := F)) 𝒱₀ c none) Set.univ e Q

variable {c a1 a2 a3 a4 a5 a6 a7}
variable {y : Vec F s1 .f32 → Vec F s2 .f32 → Vec F s3 .f32 → Vec F s4 .f32 → Vec F s5 .f32 → Vec F s6 .f32 → Vec F s7 .f32}
  {e : Prog (TpuEff nD τ sig (Elt F) Λ₀ .tc) PUnit}

/-- It does so if it does on the buffers' contents. -/
theorem Stores.of
    (h : ∀ (f1 : Buf (Elt F) (a1.view.loc (c : Thread nD τ))) (f2 : Buf (Elt F) (a2.view.loc (c : Thread nD τ))) (f3 : Buf (Elt F) (a3.view.loc (c : Thread nD τ)))
      (f4 : Buf (Elt F) (a4.view.loc (c : Thread nD τ))) (f5 : Buf (Elt F) (a5.view.loc (c : Thread nD τ))) (f6 : Buf (Elt F) (a6.view.loc (c : Thread nD τ)))
      (f7 : Buf (Elt F) (a7.view.loc (c : Thread nD τ))) (Q : PUnit → sProp (MK F)),
      iprop((a1.view.loc (c : Thread nD τ) ↦[a1.view.set]{fullShare} f1) ∗ (a2.view.loc (c : Thread nD τ) ↦[a2.view.set]{fullShare} f2)
          ∗ (a3.view.loc (c : Thread nD τ) ↦[a3.view.set]{fullShare} f3) ∗ (a4.view.loc (c : Thread nD τ) ↦[a4.view.set]{fullShare} f4)
          ∗ (a5.view.loc (c : Thread nD τ) ↦[a5.view.set]{fullShare} f5) ∗ (a6.view.loc (c : Thread nD τ) ↦[a6.view.set]{fullShare} f6)
          ∗ (a7.view.loc (c : Thread nD τ) ↦[a7.view.set]{fullShare} f7)
          ∗ (iprop((a1.view.loc (c : Thread nD τ) ↦[a1.view.set]{fullShare} f1) ∗ (a2.view.loc (c : Thread nD τ) ↦[a2.view.set]{fullShare} f2)
              ∗ (a3.view.loc (c : Thread nD τ) ↦[a3.view.set]{fullShare} f3) ∗ (a4.view.loc (c : Thread nD τ) ↦[a4.view.set]{fullShare} f4)
              ∗ (a5.view.loc (c : Thread nD τ) ↦[a5.view.set]{fullShare} f5) ∗ (a6.view.loc (c : Thread nD τ) ↦[a6.view.set]{fullShare} f6)
              ∗ owns (c : Thread nD τ) a7 fullShare (y (a1.view.read (Elt F) f1) (a2.view.read (Elt F) f2) (a3.view.read (Elt F) f3)
                (a4.view.read (Elt F) f4) (a5.view.read (Elt F) f5) (a6.view.read (Elt F) f6))) -∗ Q ⟨⟩))
        ⊢ wp frame (wpE (defs₀ (F := F)) 𝒱₀ c none) Set.univ e Q) :
    Stores c a1 a2 a3 a4 a5 a6 a7 y e := by
  intro x1 x2 x3 x4 x5 x6 Q
  iintro ⟨H1, H2, H3, H4, H5, H6, ⟨%d, H7⟩, Hq⟩
  unfold owns
  icases H1 with ⟨%f1, %e1, H1⟩; icases H2 with ⟨%f2, %e2, H2⟩; icases H3 with ⟨%f3, %e3, H3⟩; icases H4 with ⟨%f4, %e4, H4⟩
  icases H5 with ⟨%f5, %e5, H5⟩; icases H6 with ⟨%f6, %e6, H6⟩; icases H7 with ⟨%f7, -, H7⟩
  subst e1 e2 e3 e4 e5 e6
  iapply (h f1 f2 f3 f4 f5 f6 f7 Q)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  iapply Hq
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  unfold owns
  iexact H7

/-- At a point of the grid: with what the body passes through, and whatever the inputs' buffers held before. -/
theorem Stores.framed (h : Stores c a1 a2 a3 a4 a5 a6 a7 y e) {Φ Φ' O O' : sProp (MK F)} (hΦ : Φ = Φ') (hO : O = O') {δ1 δ2 δ3 δ4 δ5 δ6 δ7 : Type}
    {b1 : δ1 → Vec F s1 .f32} {b2 : δ2 → Vec F s2 .f32} {b3 : δ3 → Vec F s3 .f32} {b4 : δ4 → Vec F s4 .f32} {b5 : δ5 → Vec F s5 .f32}
    {b6 : δ6 → Vec F s6 .f32} {b7 : δ7 → Vec F s7 .f32} {x1 : Vec F s1 .f32} {x2 : Vec F s2 .f32} {x3 : Vec F s3 .f32} {x4 : Vec F s4 .f32}
    {x5 : Vec F s5 .f32} {x6 : Vec F s6 .f32} {x7 : Vec F s7 .f32} (h1 : ∀ d, b1 d = x1) (h2 : ∀ d, b2 d = x2) (h3 : ∀ d, b3 d = x3) (h4 : ∀ d, b4 d = x4)
    (h5 : ∀ d, b5 d = x5) (h6 : ∀ d, b6 d = x6) (h7 : y x1 x2 x3 x4 x5 x6 = x7) :
    iprop(Φ ∗ O ∗ (∃ d, owns (c : Thread nD τ) a1 fullShare (b1 d)) ∗ (∃ d, owns (c : Thread nD τ) a2 fullShare (b2 d))
        ∗ (∃ d, owns (c : Thread nD τ) a3 fullShare (b3 d)) ∗ (∃ d, owns (c : Thread nD τ) a4 fullShare (b4 d))
        ∗ (∃ d, owns (c : Thread nD τ) a5 fullShare (b5 d)) ∗ (∃ d, owns (c : Thread nD τ) a6 fullShare (b6 d))
        ∗ (∃ d, owns (c : Thread nD τ) a7 fullShare (b7 d)))
      ⊢ wp frame (wpE (defs₀ (F := F)) 𝒱₀ c none) Set.univ e fun _ =>
        iprop(Φ' ∗ O' ∗ owns (c : Thread nD τ) a1 fullShare x1 ∗ owns (c : Thread nD τ) a2 fullShare x2 ∗ owns (c : Thread nD τ) a3 fullShare x3
          ∗ owns (c : Thread nD τ) a4 fullShare x4 ∗ owns (c : Thread nD τ) a5 fullShare x5 ∗ owns (c : Thread nD τ) a6 fullShare x6
          ∗ owns (c : Thread nD τ) a7 fullShare x7) := by
  subst hΦ hO h7
  simp only [h1, h2, h3, h4, h5, h6]
  iintro ⟨HΦ, Ho, ⟨%d1, H1⟩, ⟨%d2, H2⟩, ⟨%d3, H3⟩, ⟨%d4, H4⟩, ⟨%d5, H5⟩, ⟨%d6, H6⟩, ⟨%d7, H7⟩⟩
  iapply (h x1 x2 x3 x4 x5 x6 _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

end Stores

end Cert.Proof
-- ==== Proof.Edge1.lean ====
/-
  The first edge layer's pipeline: what its body leaves in the output block, and that the body does so at every point
  of the grid.
-/
module

public import proofs.«01_k».proof.Proof.EdgeBody

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation)

variable {F : FTy → Type} [FloatOps F]

/-- The block the body stores: from the gathered rows `g`, the padded rows `xp`, the rows `xi`, the two halves of the
    weights and the bias. -/
def edge1 (g : Vec F S4096x128 .f32) (xp : Vec F S128x128 .f32) (xi : Vec F S128x64 .f32) (wa : Vec F S64x128 .f32)
    (wb : Vec F S128x128 .f32) (b : Vec F S1x128 .f32) : Vec F S128x128 .f32 :=
  k1_pay1 (k1_pay2 xi wa b) (k1_pay3 g xp wb)
    (k1_pay6 (k1_pay2 xi wa b) (k1_pay3 g xp wb) (k1_pay4 g xp wb xi wa b) (k1_pay5 g xp wb)) (k1_pay7 (k1_pay3 g xp wb))

set_option maxHeartbeats 1000000 in
theorem body1 (c : Dev nD) (i : grid1.Coords)
    (a1 : Memref sig .tc .vmem S4096x128 .f32) (h1 : a1.IsWhole) (a2 : Memref sig .tc .vmem S128x128 .f32) (h2 : a2.IsWhole)
    (a3 : Memref sig .tc .vmem S128x64 .f32) (h3 : a3.IsWhole) (a4 : Memref sig .tc .vmem S64x128 .f32) (h4 : a4.IsWhole)
    (a5 : Memref sig .tc .vmem S128x128 .f32) (h5 : a5.IsWhole) (a6 : Memref sig .tc .vmem S1x128 .f32) (h6 : a6.IsWhole)
    (a7 : Memref sig .tc .vmem S128x128 .f32) (h7 : a7.IsWhole) :
    Stores c a1 a2 a3 a4 a5 a6 a7 (edge1 (F := F)) (cc1__edge_body i a1 h1 a2 h2 a3 h3 a4 h4 a5 h5 a6 h6 a7 h7) := by
  refine .of fun f1 f2 f3 f4 f5 f6 f7 Q => ?_
  simp only [cc1__edge_body_eq_skeleton]; unfold cc1__edge_body_skel
  simp only [k1_part1_eq_skeleton, k1_part2_eq_skeleton]
  rw [← ld_whole (a1.view.read (Elt F) f1) _ inb_S4096x128_S4096x128_0_0, ← ld_whole (a2.view.read (Elt F) f2) _ inb_S128x128_S128x128_0_0,
    ← ld_whole (a3.view.read (Elt F) f3) _ inb_S128x64_S128x64_0_0, ← ld_whole (a4.view.read (Elt F) f4) _ inb_S64x128_S64x128_0_0,
    ← ld_whole (a5.view.read (Elt F) f5) _ inb_S128x128_S128x128_0_0, ← ld_whole (a6.view.read (Elt F) f6) _ inb_S1x128_S1x128_0_0]
  iintro ⟨H1, H2, H3, H4, H5, H6, H7, Hq⟩
  sl_exec
  sl_step
  iapply Hq
  unfold owns
  iframe H1 H2 H3 H4 H5 H6
  iexists _; isplitr
  swap; · iexact H7
  ipureintro
  exact read_write_whole _ _ _ _ _ _

section Data

variable (V : (c : Dev nD) → (b : Ref sig .tc) → Buf (Elt F) ((c : Thread nD τ).loc b))

/-- Window `w`'s block at point `t`, as the pipeline finds its array. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The pipeline's data: the inputs stay, the output's block is `edge1` of theirs. -/
def dat1 (c : Dev nD) : Dat τ (Elt F) (HIx 2) ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => edge1 (blk1 V c 0 t) (blk1 V c 1 t) (blk1 V c 2 t) (blk1 V c 3 t) (blk1 V c 4 t) (blk1 V c 5 t)
  Φ _ := rest spec1 c
  q _ := fullShare
  owed _ := (K (F := F)).Otc c 1
  recorded _ := seen F 1 c

theorem A1 (c : Dev nD) (w : Fin cfg1.W) : (dat1 V c).A w = V c (Pipeline.arrRef spec1 w) := by dsimp only [dat1]

theorem out1 (c : Dev nD) (t : Fin cfg1.N) : (dat1 V c).after 6 t
    = edge1 (blk1 V c 0 t) (blk1 V c 1 t) (blk1 V c 2 t) (blk1 V c 3 t) (blk1 V c 4 t) (blk1 V c 5 t) := by dsimp only [dat1]

theorem row1 (t : Fin cfg1.N) : defs₀ (F := F) .tc cfg1.body (cfg1.bodyArgs t (cfg1.slots t)) = bodyAt1 t := rfl

theorem obligation1 (c : Dev nD) : BodyObligation (dat1 (F := F) V c) (defs₀ (F := F)) 𝒱₀ none Set.univ := fun t => by
  rw [bigSep_W1, bigSep_W1, row1]
  exact triple_restated ((body1 c (grid1.coords t) _ _ _ _ _ _ _ _ _ _ _ _ _ _).framed (Φ' := (dat1 V c).Φ t.succ) (O' := (dat1 V c).owesAt none t.succ) rfl rfl
    (before_input (dat1 V c) 0 rfl (fun _ => rfl) (fun _ _ _ => rfl) (fun _ => rfl) t fun _ => rfl)
    (before_input (dat1 V c) 1 rfl (fun _ => rfl) (fun _ _ _ => rfl) (fun _ => rfl) t fun _ => rfl)
    (before_input (dat1 V c) 2 rfl (fun _ => rfl) (fun _ _ _ => rfl) (fun _ => rfl) t fun _ => rfl)
    (before_input (dat1 V c) 3 rfl (fun _ => rfl) (fun _ _ _ => rfl) (fun _ => rfl) t fun _ => rfl)
    (before_input (dat1 V c) 4 rfl (fun _ => rfl) (fun _ _ _ => rfl) (fun _ => rfl) t fun _ => rfl)
    (before_input (dat1 V c) 5 rfl (fun _ => rfl) (fun _ _ _ => rfl) (fun _ => rfl) t fun _ => rfl) (out1 V c t).symm) rfl .rfl fun _ => .rfl

end Data

end Cert.Proof
-- ==== Proof.Edge2.lean ====
/-
  The second edge layer's pipeline, two of whose inputs are blocks of one array. `EdgeBody` has what it shares with the
  first; here are its own block and data.
-/
module

public import proofs.«01_k».proof.Proof.EdgeBody

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation)

variable {F : FTy → Type} [FloatOps F]

/-- The block the body stores. The arguments are `edge1`'s; the second layer's rows have 128 features and its output 256. -/
def edge2 (g : Vec F S4096x128 .f32) (xp xi : Vec F S128x128 .f32) (wa wb : Vec F S128x256 .f32) (b : Vec F S1x256 .f32) :
    Vec F S128x256 .f32 :=
  k3_pay1 (k3_pay2 xi wa b) (k3_pay3 g xp wb) (k3_pay5 (k3_pay2 xi wa b) (k3_pay3 g xp wb) (k3_pay4 g xp wb xi wa b))

set_option maxHeartbeats 1000000 in
theorem body2 (c : Dev nD) (i : grid3.Coords) (ag : Memref sig .tc .vmem S4096x128 .f32) (hg : ag.IsWhole)
    (ap : Memref sig .tc .vmem S128x128 .f32) (hp : ap.IsWhole) (ai : Memref sig .tc .vmem S128x128 .f32) (hi : ai.IsWhole)
    (awa : Memref sig .tc .vmem S128x256 .f32) (hwa : awa.IsWhole) (awb : Memref sig .tc .vmem S128x256 .f32) (hwb : awb.IsWhole)
    (ab : Memref sig .tc .vmem S1x256 .f32) (hb : ab.IsWhole) (ao : Memref sig .tc .vmem S128x256 .f32) (ho : ao.IsWhole) :
    Stores c ag ap ai awa awb ab ao (edge2 (F := F)) (cc3__edge_body i ag hg ap hp ai hi awa hwa awb hwb ab hb ao ho) := by
  refine .of fun fg fp fi fwa fwb fb _ Q => ?_
  simp only [cc3__edge_body_eq_skeleton]; unfold cc3__edge_body_skel
  simp only [k3_part1_eq_skeleton, k3_part2_eq_skeleton]
  rw [← ld_whole (ag.view.read (Elt F) fg) _ inb_S4096x128_S4096x128_0_0, ← ld_whole (ap.view.read (Elt F) fp) _ inb_S128x128_S128x128_0_0,
    ← ld_whole (ai.view.read (Elt F) fi) _ inb_S128x128_S128x128_0_0, ← ld_whole (awa.view.read (Elt F) fwa) _ inb_S128x256_S128x256_0_0,
    ← ld_whole (awb.view.read (Elt F) fwb) _ inb_S128x256_S128x256_0_0, ← ld_whole (ab.view.read (Elt F) fb) _ inb_S1x256_S1x256_0_0]
  iintro ⟨Hg, Hp, Hi, Hwa, Hwb, Hb, Ho, Hq⟩
  sl_exec
  sl_step
  iapply Hq
  unfold owns
  iframe Hg Hp Hi Hwa Hwb Hb
  iexists _; isplitr
  swap; · iexact Ho
  ipureintro
  exact read_write_whole _ _ _ _ _ _

section Data

variable (V : (c : Dev nD) → (b : Ref sig .tc) → Buf (Elt F) ((c : Thread nD τ).loc b))

/-- Window `w`'s block at point `t`, as the pipeline finds its array. -/
def blk2 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The pipeline's data: the inputs stay, each at its window's share of its array, and the output's block is `edge2` of
    theirs. -/
def dat2 (c : Dev nD) : Dat τ (Elt F) (HIx 2) ℕ UU ℕ cfg3 c where
  A w := V c (Pipeline.arrRef spec3 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => edge2 (blk2 V c 0 t) (blk2 V c 1 t) (blk2 V c 2 t) (blk2 V c 3 t) (blk2 V c 4 t) (blk2 V c 5 t)
  Φ _ := rest spec3 c
  q w := Pipeline.shareOf spec3 w
  owed _ := (K (F := F)).Otc c 2
  recorded _ := seen F 2 c

theorem A2 (c : Dev nD) (w : Fin cfg3.W) : (dat2 V c).A w = V c (Pipeline.arrRef spec3 w) := by dsimp only [dat2]

theorem out2 (c : Dev nD) (t : Fin cfg3.N) : (dat2 V c).after 6 t
    = edge2 (blk2 V c 0 t) (blk2 V c 1 t) (blk2 V c 2 t) (blk2 V c 3 t) (blk2 V c 4 t) (blk2 V c 5 t) := by dsimp only [dat2]

theorem row2 (t : Fin cfg3.N) : defs₀ (F := F) .tc cfg3.body (cfg3.bodyArgs t (cfg3.slots t)) = bodyAt3 t := rfl

theorem obligation2 (c : Dev nD) : BodyObligation (dat2 (F := F) V c) (defs₀ (F := F)) 𝒱₀ none Set.univ := fun t => by
  rw [bigSep_W3, bigSep_W3, row2]
  exact triple_restated ((body2 c (grid3.coords t) _ _ _ _ _ _ _ _ _ _ _ _ _ _).framed (Φ' := (dat2 V c).Φ t.succ) (O' := (dat2 V c).owesAt none t.succ) rfl rfl
    (before_input (dat2 V c) 0 rfl (fun _ => rfl) (fun _ _ _ => rfl) (fun _ => rfl) t fun _ => rfl)
    (before_input (dat2 V c) 1 rfl (fun _ => rfl) (fun _ _ _ => rfl) (fun _ => rfl) t fun _ => rfl)
    (before_input (dat2 V c) 2 rfl (fun _ => rfl) (fun _ _ _ => rfl) (fun _ => rfl) t fun _ => rfl)
    (before_input (dat2 V c) 3 rfl (fun _ => rfl) (fun _ _ _ => rfl) (fun _ => rfl) t fun _ => rfl)
    (before_input (dat2 V c) 4 rfl (fun _ => rfl) (fun _ _ _ => rfl) (fun _ => rfl) t fun _ => rfl)
    (before_input (dat2 V c) 5 rfl (fun _ => rfl) (fun _ _ _ => rfl) (fun _ => rfl) t fun _ => rfl) (out2 V c t).symm) rfl .rfl fun _ => .rfl

end Data

end Cert.Proof
-- ==== Proof.EdgeValue.lean ====
/-
  What one grid point of an edge call leaves in its output block, read at coordinates.
-/
module

public import proofs.«01_k».proof.Proof.Spec
public import proofs.«01_k».proof.Proof.Edge1
public import proofs.«01_k».proof.Proof.Edge2

@[expose] public section

set_option maxRecDepth 16384

noncomputable section

namespace Cert.Proof

open Cert.KernelIdeal Cert.KernelIdeal.Gen
open Idealize.ShloMosaic

/-- Entry `k` of a stack of neighbours, as a function of every number. -/
def nth {n : ℕ} (f : Fin n → EReal) (k : ℕ) : EReal := if h : k < n then f ⟨k, h⟩ else 0

theorem tower1 (g : FVec Ideal S4096x128 .f32) (xp wb : FVec Ideal S128x128 .f32)
    (xi : FVec Ideal S128x64 .f32) (wa : FVec Ideal S64x128 .f32) (b : FVec Ideal S1x128 .f32) (r o : Fin 128) :
    edge1 (F := Ideal) g xp xi wa wb b (ix2 r o)
      = max (chain (nth fun k : Fin 32 => k1_pay2 (F := Ideal) xi wa b (ix2 r o) + k1_pay3 (F := Ideal) g xp wb (ix3 r k o)) 31) 0 := by
  pointwise [edge1, k1_pay1, k1_pay4, k1_pay5, k1_pay6, k1_pay7]
  rfl

theorem tower2 (g : FVec Ideal S4096x128 .f32) (xp : FVec Ideal S128x128 .f32) (wb : FVec Ideal S128x256 .f32)
    (xi : FVec Ideal S128x128 .f32) (wa : FVec Ideal S128x256 .f32) (b : FVec Ideal S1x256 .f32) (r : Fin 128) (o : Fin 256) :
    edge2 (F := Ideal) g xp xi wa wb b (ix2 r o)
      = max (chain (nth fun k : Fin 32 => k3_pay2 (F := Ideal) xi wa b (ix2 r o) + k3_pay3 (F := Ideal) g xp wb (ix3 r k o)) 31) 0 := by
  pointwise [edge2, k3_pay1, k3_pay4, k3_pay5]
  rfl

/-- The rectified greatest of 32 terms. -/
theorem chain_nth (f : Fin 32 → EReal) : max (chain (nth f) 31) 0 = Finset.univ.sup fun k => max (f k) 0 := by
  rw [chain_relu]
  refine Finset.sup_congr rfl fun k _ => ?_
  unfold nth
  rw [dif_pos k.isLt]

theorem edge1_apply (g : FVec Ideal S4096x128 .f32) (xp wb : FVec Ideal S128x128 .f32)
    (xi : FVec Ideal S128x64 .f32) (wa : FVec Ideal S64x128 .f32) (b : FVec Ideal S1x128 .f32) (r o : Fin 128) :
    edge1 (F := Ideal) g xp xi wa wb b (ix2 r o)
      = (Finset.univ : Finset (Fin 32)).sup fun k => max ((∑ q : Fin 64, xi (ix2 r q) * wa (ix2 q o) + b (ix2 0 o))
        + ∑ q : Fin 128, (g (ix2 ⟨r.val * 32 + k.val, by omega⟩ q) - xp (ix2 r q)) * wb (ix2 q o)) 0 := by
  rw [tower1, chain_nth]
  refine Finset.sup_congr rfl fun k _ => ?_
  have h2 : k1_pay2 (F := Ideal) xi wa b (ix2 r o) = ∑ q : Fin 64, xi (ix2 r q) * wa (ix2 q o) + b (ix2 0 o) := by pointwise [k1_pay2]
  have h3 : k1_pay3 (F := Ideal) g xp wb (ix3 r k o)
      = ∑ q : Fin 128, (g (ix2 ⟨r.val * 32 + k.val, by omega⟩ q) - xp (ix2 r q)) * wb (ix2 q o) := by pointwise [k1_pay3]
  rw [h2, h3]

theorem edge2_apply (g : FVec Ideal S4096x128 .f32) (xp : FVec Ideal S128x128 .f32) (wb : FVec Ideal S128x256 .f32)
    (xi : FVec Ideal S128x128 .f32) (wa : FVec Ideal S128x256 .f32) (b : FVec Ideal S1x256 .f32) (r : Fin 128) (o : Fin 256) :
    edge2 (F := Ideal) g xp xi wa wb b (ix2 r o)
      = (Finset.univ : Finset (Fin 32)).sup fun k => max ((∑ q : Fin 128, xi (ix2 r q) * wa (ix2 q o) + b (ix2 0 o))
        + ∑ q : Fin 128, (g (ix2 ⟨r.val * 32 + k.val, by omega⟩ q) - xp (ix2 r q)) * wb (ix2 q o)) 0 := by
  rw [tower2, chain_nth]
  refine Finset.sup_congr rfl fun k _ => ?_
  have h2 : k3_pay2 (F := Ideal) xi wa b (ix2 r o) = ∑ q : Fin 128, xi (ix2 r q) * wa (ix2 q o) + b (ix2 0 o) := by pointwise [k3_pay2]
  have h3 : k3_pay3 (F := Ideal) g xp wb (ix3 r k o)
      = ∑ q : Fin 128, (g (ix2 ⟨r.val * 32 + k.val, by omega⟩ q) - xp (ix2 r q)) * wb (ix2 q o) := by pointwise [k3_pay3]
  rw [h2, h3]

end Cert.Proof
-- ==== Proof.EdgeArrays.lean ====
/-
  The arrays that the two edge calls leave, read at coordinates: the grid's blocks tile each of them.
-/
module

public import proofs.«01_k».proof.Proof.EdgeValue
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe
open Idealize.ShloMosaic.Pipeline (Dat)

/-- An edge call's result, from the gathered rows, the padded rows, the rows, the two halves of the weights and the bias. -/
def edgeOut {d n : ℕ} (g : FVec Ideal S131072x128 .f32) (xp : FVec Ideal S4096x128 .f32) (xi : FVec Ideal ⟨2, ![4096, d]⟩ .f32)
    (wa : FVec Ideal ⟨2, ![d, n]⟩ .f32) (wb : FVec Ideal ⟨2, ![128, n]⟩ .f32) (b : FVec Ideal ⟨2, ![1, n]⟩ .f32)
    (i : Fin 4096) (o : Fin n) : EReal :=
  (Finset.univ : Finset (Fin 32)).sup fun k => max ((∑ q : Fin d, xi (ix2 i q) * wa (ix2 q o) + b (ix2 0 o))
    + ∑ q : Fin 128, (g (ix2 ⟨i.val * 32 + k.val, by omega⟩ q) - xp (ix2 i q)) * wb (ix2 q o)) 0

variable (V : (c : Dev nD) → (b : Ref sig .tc) → Buf (Elt Ideal) ((c : Thread nD τ).loc b))

theorem idx1 : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![0, 0] ∧ win1_6.index t = ![t.val, 0] :=
  (by decide +kernel : ∀ t : Fin grid1.N, _)

theorem idx3 : ∀ t : Fin cfg3.N, win3_0.index t = ![t.val, 0] ∧ win3_1.index t = ![t.val, 0] ∧ win3_2.index t = ![t.val, 0]
    ∧ win3_3.index t = ![0, 0] ∧ win3_4.index t = ![0, 0] ∧ win3_5.index t = ![0, 0] ∧ win3_6.index t = ![t.val, 0] :=
  (by decide +kernel : ∀ t : Fin grid3.N, _)

theorem final1 (c : Dev nD) : (dat1 V c).arrAt 6 cfg1.N
    = (fun i => edgeOut (V c main_v6) (V c main_v3) (V c main_arg0) (V c main_v1) (V c main_v4) (V c main_v7) (i 0) (i 1) : FVec Ideal S4096x128 .f32) := by
  refine (dat1 V c).arrAt_eq_of_covers 6 _ (by decide +kernel) fun t _ y => ?_
  blk_simp
  rw [out1]
  obtain ⟨r, o, rfl⟩ : ∃ (r : Fin 128) (o : Fin 128), y = ix2 r o := ⟨y 0, y 1, eq_ix2 y⟩
  refine (edge1_apply _ _ _ _ _ _ r o).trans ?_
  unfold edgeOut
  blk_point [blk1, idx1 t]

theorem final2 (c : Dev nD) : (dat2 V c).arrAt 6 cfg3.N
    = (fun i => edgeOut (V c main_v12) (V c main_v8) (V c main_v8) (V c main_v9) (V c main_v10) (V c main_v13) (i 0) (i 1) : FVec Ideal S4096x256 .f32) := by
  refine (dat2 V c).arrAt_eq_of_covers 6 _ (by decide +kernel) fun t _ y => ?_
  blk_simp
  rw [out2]
  obtain ⟨r, o, rfl⟩ : ∃ (r : Fin 128) (o : Fin 256), y = ix2 r o := ⟨y 0, y 1, eq_ix2 y⟩
  refine (edge2_apply _ _ _ _ _ _ r o).trans ?_
  unfold edgeOut
  blk_point [blk2, idx3 t]

end Cert.Proof
-- ==== Proof.GatherMath.lean ====
/-
  What one tile of the row gather moves, as functions: the rows of the whole result, a chunk of 256 of them,
  and the facts that tie a chunk to the slices and the index lists the tile names.
-/
module

public import proofs.«01_k».proof.Proof.Base
public import Idealize.ShloMosaic.Lib.Pointwise.Index

@[expose] public section

noncomputable section

namespace Cert.Proof

open Cert.KernelIdeal Cert.KernelIdeal.Gen

open Idealize.ShloMosaic
open Idealize.ShloMosaic.SparseCore (S V T rows gatherPayload)
open Idealize.SL Idealize.SL.RA Idealize.SL.BI
open scoped Idealize.SL.BI
open Idealize.SL.BI.BIBase Idealize.SL.BI.Laws Idealize.SL.ProofMode Idealize.SL.Sem

variable {F : FTy → Type}

/-- The gathered rows: row `r` of the result is the row of the table that entry `r` of the index list names. -/
def gatherAll (T : S4096x128.Idx → Elt F .f32) (I : S131072.Idx → Elt F .i32) : S131072x128.Idx → Elt F .f32 :=
  fun j => T (ix2 (n0 := 4096) (n1 := 128) ⟨(I (ix1 (n0 := 131072) (j 0))).toNat % 4096, Nat.mod_lt _ (by decide)⟩ (j 1))

/-- Rows `lo … lo + 255` of the result. -/
def rowsIn (lo : ℕ) : Finset S131072x128.Idx := Finset.univ.filter fun j => lo ≤ (j 0).val ∧ (j 0).val < lo + 256

/-- Those rows of a whole result, as a block. -/
def chunkOf {α : Type} (G : S131072x128.Idx → α) (lo : ℕ) : S256x128.Idx → α :=
  fun x => G (ix2 (n0 := 131072) (n1 := 128) ⟨(lo + (x 0).val) % 131072, Nat.mod_lt _ (by decide)⟩ (x 1))

/-- Entries `lo …` of the index list, as a list of 4096. -/
def listOf {α : Type} (I : S131072.Idx → α) (lo : ℕ) : S4096.Idx → α :=
  fun x => I (ix1 (n0 := 131072) ⟨(lo + (x 0).val) % 131072, Nat.mod_lt _ (by decide)⟩)

theorem set_rows {off : Fin 2 → ℕ} {inb} {lo : ℕ} (hoff : off = ![lo, 0]) :
    (Rect.unit (s := S131072x128) off S256x128.size inb).set = rowsIn lo := by
  subst hoff
  ext j
  rw [show j ∈ (Rect.unit (s := S131072x128) ![lo, 0] S256x128.size inb).set ↔ _ from Rect.mem_set_unit]
  simp only [rowsIn, Finset.mem_filter, Finset.mem_univ, true_and]
  have h1 : (j 1).val < 128 := (j 1).isLt
  constructor
  · intro h; exact h 0
  · intro h a
    match a with
    | 0 => exact h
    | 1 => exact ⟨Nat.zero_le _, by show (j 1).val < 0 + 128; omega⟩

theorem emb_rows {α : Type} (G : S131072x128.Idx → α) {off : Fin 2 → ℕ} {inb} {lo : ℕ} (hoff : off = ![lo, 0]) (x : S256x128.Idx) :
    G ((Rect.unit (s := S131072x128) off S256x128.size inb).emb x) = chunkOf G lo x := by
  subst hoff
  unfold chunkOf
  congr 1
  have h0 : lo + 256 ≤ 131072 := inb 0
  have hx : (x 0).val < 256 := (x 0).isLt
  funext a
  match a with
  | 0 => exact Fin.ext (by show lo + 1 * (x 0).val = (lo + (x 0).val) % 131072; rw [Nat.mod_eq_of_lt (by omega)]; omega)
  | 1 => exact Fin.ext (by show 0 + 1 * (x 1).val = (x 1).val; omega)

theorem emb_list {α : Type} (I : S131072.Idx → α) {off : Fin 1 → ℕ} {inb} {lo : ℕ} (hoff : off = ![lo]) (x : S4096.Idx) :
    I ((Rect.unit (s := S131072) off S4096.size inb).emb x) = listOf I lo x := by
  subst hoff
  unfold listOf
  congr 1
  have h0 : lo + 4096 ≤ 131072 := inb 0
  have hx : (x 0).val < 4096 := (x 0).isLt
  funext a
  match a with
  | 0 => exact Fin.ext (by show lo + 1 * (x 0).val = (lo + (x 0).val) % 131072; rw [Nat.mod_eq_of_lt (by omega)]; omega)

/-- The list's 256 entries from `p` on. -/
theorem emb_sub {α : Type} (I : S131072.Idx → α) {lo : ℕ} {off : Fin 1 → ℕ} {inb} {p : ℕ} (hoff : off = ![p]) (x : S256.Idx) :
    listOf I lo ((Rect.unit (s := S4096) off S256.size inb).emb x)
      = I (ix1 (n0 := 131072) ⟨(lo + p + (x 0).val) % 131072, Nat.mod_lt _ (by decide)⟩) := by
  subst hoff
  unfold listOf
  congr 2
  exact Fin.ext (by show (lo + (p + 1 * (x 0).val)) % 131072 = (lo + p + (x 0).val) % 131072; congr 1; omega)

/-- The gather a tile starts on 256 entries of its list brings the result's rows from there on. -/
theorem gather_chunk (T : S4096x128.Idx → Elt F .f32) (I : S131072.Idx → Elt F .i32) (lo : ℕ)
    (hg : S4096x128.Gathers 0 S256x128) {L : S256.Idx → Elt F .i32} (hn : S256.numel = S256x128.size hg.axis')
    (hin : ∀ x, (L x).toNat < S4096x128.size hg.axis)
    (hL : ∀ x : S256.Idx, L x = I (ix1 (n0 := 131072) ⟨(lo + (x 0).val) % 131072, Nat.mod_lt _ (by decide)⟩))
    {T' : S4096x128.Idx → Elt F .f32} (hT : ∀ x, T' x = T x) :
    gatherPayload hg T' (rows L hn hin) = chunkOf (gatherAll T I) lo := by
  funext x
  unfold gatherPayload chunkOf gatherAll
  rw [hT]
  congr 1
  have hk : (S256.rowMajor.symm ((x hg.axis').cast hn.symm) 0).val = (x 0).val := by
    have h := Shape.rowMajor_val_one (S256.rowMajor.symm ((x hg.axis').cast hn.symm))
    rw [Equiv.apply_symm_apply] at h
    exact h.symm
  funext a
  apply Fin.ext
  match a with
  | 0 =>
    have e : (hg.idx (rows L hn hin) x 0).val = (rows L hn hin (x hg.axis')).val :=
      congrArg Fin.val (Shape.Gathers.idx_axis hg (rows L hn hin) x)
    have hlt := hin (S256.rowMajor.symm ((x hg.axis').cast hn.symm))
    rw [e]
    show (L (S256.rowMajor.symm ((x hg.axis').cast hn.symm))).toNat = (I (ix1 (n0 := 131072) _)).toNat % 4096
    rw [hL] at hlt ⊢
    have hlt' : (I (ix1 (n0 := 131072) ⟨(lo + (S256.rowMajor.symm ((x hg.axis').cast hn.symm) 0).val) % 131072, Nat.mod_lt _ (by decide)⟩)).toNat < 4096 := hlt
    rw [← Nat.mod_eq_of_lt hlt']
    have e2 : (⟨(lo + (S256.rowMajor.symm ((x hg.axis').cast hn.symm) 0).val) % 131072, Nat.mod_lt _ (by decide)⟩ : Fin 131072)
        = ⟨(lo + (x 0).val) % 131072, Nat.mod_lt _ (by decide)⟩ := Fin.ext (congrArg (fun n => (lo + n) % 131072) hk)
    exact congrArg (fun r : Fin 131072 => (I (ix1 (n0 := 131072) r)).toNat % 4096) e2
  | 1 => exact Shape.Gathers.idx_of_ne hg (rows L hn hin) x (1 : Fin 2) (show ((1 : Fin 2).val) ≠ 0 by decide)

/-- A buffer written through a view with what another buffer reads there agrees with it on the view. -/
theorem write_eq_of_read {sig : RefSig} {κ : Kind} {sp : Space} {s : Shape} {e : EltTy} {Val : EltTy → Type} (v : View sig κ sp s e)
    (f G : v.ty.Contents Val) (w : s.Idx → Val e) (h : ∀ x, v.read Val G x = w x) :
    ∀ i ∈ v.set, v.write Val f w Finset.univ i = G i := by
  intro i hi
  obtain ⟨x, -, rfl⟩ := Finset.mem_map.mp hi
  rw [View.write_emb_of_mem f w (Finset.mem_univ x), ← h x, View.read_apply, cast_cast, cast_eq]

end Cert.Proof
-- ==== Proof.EdgeConv.lean ====
/-
  An edge call's result over the gathered rows is the edge convolution: the product with the weights splits in two
  halves, and the columns padded with zeros add nothing.
-/
module

public import proofs.«01_k».proof.Proof.EdgeArrays
public import proofs.«01_k».proof.Proof.GatherMath

@[expose] public section

set_option maxRecDepth 16384

noncomputable section

namespace Cert.Proof

open Cert.KernelIdeal Cert.KernelIdeal.Gen
open Idealize.ShloMosaic

/-- The padding's zero. -/
abbrev zeroPad : FVec Ideal S_ .f32 := sitofp .f32 (constantI S_ 32 0#32)

abbrev padRows (x : FVec Ideal S4096x64 .f32) : FVec Ideal S4096x128 .f32 :=
  pad S4096x128 ![0, 0] ![0, 64] ![0, 0] x zeroPad pads_S4096x64_S4096x128_000_0640 h_S_

theorem gathered_at (T : FVec Ideal S4096x128 .f32) (l : IVec S4096x32 32) (i : Fin 4096) (k : Fin 32) (q : Fin 128) :
    gatherAll (F := Ideal) T (shapeCast S131072 l shapeCasts_S4096x32_S131072) (ix2 ⟨i.val * 32 + k.val, by omega⟩ q)
      = T (ix2 (nbr (l (ix2 i k))) q) := by
  pointwise [gatherAll]
  rfl

/-- A padded row's first half is the row. -/
theorem padRows_lo (x : FVec Ideal S4096x64 .f32) (n : Fin 4096) (q : Fin 64) :
    padRows x (ix2 n ⟨q.val, by omega⟩) = x (ix2 n q) := by
  pointwise []

theorem zeroPad_eq : (FloatOps.sitofp (F := Ideal) .f32 (0#32 : BitVec 32) : EReal) = 0 := by
  show ((((0#32 : BitVec 32).toInt : ℝ)) : EReal) = 0
  simp

theorem edge_conv1 (x : FVec Ideal S4096x64 .f32) (l : IVec S4096x32 32) (W : FVec Ideal S128x128 .f32) (b : FVec Ideal S128 .f32)
    (i : Fin 4096) (j : Fin 128) :
    edgeOut (gatherAll (F := Ideal) (padRows x) (shapeCast S131072 l shapeCasts_S4096x32_S131072)) (padRows x) x
        (extractStridedSlice S64x128 ![0, 0] W slices_S128x128_S64x128_0_0)
        (pad S128x128 ![0, 0] ![64, 0] ![0, 0] (extractStridedSlice S64x128 ![64, 0] W slices_S128x128_S64x128_64_0) zeroPad pads_S64x128_S128x128_0640_000 h_S_)
        (shapeCast S1x128 b shapeCasts_S128_S1x128) i j
      = conv (fun i (q : Fin 64) => x (ix2 i q)) (fun i k => nbr (l (ix2 i k)))
        (fun q o => W (ix2 ⟨q.val, by omega⟩ o)) (fun q o => W (ix2 ⟨64 + q.val, by omega⟩ o)) (fun o => b (ix1 o)) i j := by
  unfold edgeOut conv
  refine Finset.sup_congr rfl fun k _ => ?_
  pointwise []
  refine congrArg (max · 0) ?_
  refine (congrArg₂ (· + ·) rfl (congrArg₂ (· + ·)
    (Finset.sum_congr rfl fun q _ => congrArg (fun u => (u - x (ix2 i q)) * W (ix2 ⟨64 + q.val, by omega⟩ j))
      ((gathered_at (padRows x) l i k ⟨q.val, by omega⟩).trans (padRows_lo x _ q)))
    (Finset.sum_eq_zero fun q _ => (congrArg (_ * ·) zeroPad_eq).trans (mul_zero _)))).trans ?_
  exact (congrArg (_ + ·) (add_zero _)).trans (add_right_comm _ _ _)

theorem edge_conv2 (x : FVec Ideal S4096x128 .f32) (l : IVec S4096x32 32) (W : FVec Ideal S256x256 .f32) (b : FVec Ideal S256 .f32)
    (i : Fin 4096) (j : Fin 256) :
    edgeOut (gatherAll (F := Ideal) x (shapeCast S131072 l shapeCasts_S4096x32_S131072)) x x
        (extractStridedSlice S128x256 ![0, 0] W slices_S256x256_S128x256_0_0)
        (extractStridedSlice S128x256 ![128, 0] W slices_S256x256_S128x256_128_0)
        (shapeCast S1x256 b shapeCasts_S256_S1x256) i j
      = conv (fun i (q : Fin 128) => x (ix2 i q)) (fun i k => nbr (l (ix2 i k)))
        (fun q o => W (ix2 ⟨q.val, by omega⟩ o)) (fun q o => W (ix2 ⟨128 + q.val, by omega⟩ o)) (fun o => b (ix1 o)) i j := by
  unfold edgeOut conv
  refine Finset.sup_congr rfl fun k _ => ?_
  pointwise []
  refine congrArg (max · 0) ?_
  refine (congrArg (_ + ·) (Finset.sum_congr rfl fun q _ =>
    congrArg (fun u => (u - x (ix2 i q)) * W (ix2 ⟨128 + q.val, by omega⟩ j)) (gathered_at x l i k q))).trans ?_
  exact add_right_comm _ _ _

end Cert.Proof
-- ==== Proof.LossMath.lean ====
/-
  Facts of extended reals behind the loss: log probabilities are at most 0, and the mean's division passes through a sum
  of such terms.
-/
module

public import proofs.«01_k».proof.Proof.Spec

@[expose] public section

noncomputable section

namespace Cert.Proof

open Idealize.ShloMosaic

theorem exp_nonneg (x : EReal) : 0 ≤ Ideal.exp x := by
  induction x with
  | bot => exact le_of_eq rfl
  | top => exact le_top
  | coe r => exact EReal.coe_nonneg.mpr (Real.exp_pos r).le

theorem div_le_one {x y : EReal} (h0 : 0 ≤ x) (h : x ≤ y) : Ideal.div x y ≤ 1 := by
  unfold Ideal.div
  split
  · rename_i hy
    rw [if_neg (not_lt.mpr (hy ▸ h))]
    exact bot_le
  · rename_i hy
    have hy0 : 0 ≤ y⁻¹ := EReal.inv_nonneg_of_nonneg (h0.trans h)
    refine (mul_le_mul_of_nonneg_right h hy0).trans ?_
    induction y with
    | bot => simp
    | top => simp
    | coe r =>
      have hr : r ≠ 0 := fun e => hy (by rw [e]; rfl)
      rw [← EReal.coe_inv, ← EReal.coe_mul, mul_inv_cancel₀ hr]
      exact le_of_eq EReal.coe_one

theorem log_nonpos {x : EReal} (h : x ≤ 1) : Ideal.log x ≤ 0 := by
  induction x with
  | bot => exact bot_le
  | top => exact absurd (top_le_iff.mp h) (EReal.coe_ne_top 1)
  | coe r =>
    show (if r ≤ 0 then ⊥ else (Real.log r : EReal)) ≤ 0
    split
    · exact bot_le
    · rename_i hr
      have : r ≤ 1 := by exact_mod_cast h
      exact EReal.coe_nonpos.mpr (Real.log_nonpos (by linarith) this)

/-- The logarithm of a class probability is at most 0. -/
theorem log_soft {n : ℕ} (z : Fin n → EReal) (j : Fin n) : Ideal.log (soft z j) ≤ 0 :=
  log_nonpos (div_le_one (exp_nonneg _)
    (Finset.single_le_sum (f := fun q => Ideal.exp (z q - Finset.univ.sup z)) (fun _ _ => exp_nonneg _) (Finset.mem_univ j)))

theorem count_pos : ∃ r : ℝ, 0 < r ∧ Ideal.ofBits .f32 0x45800000#32 = (r : EReal) := by
  refine ⟨4096, by norm_num, ?_⟩
  simp [Ideal.ofBits, Ideal.ieee]
  rw [← EReal.coe_mul]
  norm_num

/-- The negated sum over the number of points. -/
def mean (s : EReal) : EReal := Ideal.div (0 - s) (Ideal.ofBits .f32 0x45800000#32)

theorem mean_eq (s : EReal) : -Ideal.div s (Ideal.ofBits .f32 0x45800000#32) = mean s := by
  obtain ⟨r, h0, hr⟩ := count_pos
  have hn : (r : EReal) ≠ 0 := by exact_mod_cast h0.ne'
  unfold mean Ideal.div
  rw [hr, if_neg hn, if_neg hn, zero_sub, EReal.neg_mul]

theorem mean_zero : mean 0 = 0 := by
  rw [← mean_eq]
  obtain ⟨r, h0, hr⟩ := count_pos
  have hn : (r : EReal) ≠ 0 := by exact_mod_cast h0.ne'
  unfold Ideal.div
  rw [hr, if_neg hn, zero_mul, neg_zero]

/-- The mean of two sums of log probabilities is the sum of their means. -/
theorem mean_add {s t : EReal} (hs : s ≤ 0) (ht : t ≤ 0) : mean (s + t) = mean s + mean t := by
  obtain ⟨r, h0, hr⟩ := count_pos
  have hn : (r : EReal) ≠ 0 := by exact_mod_cast h0.ne'
  have top (x : EReal) (hx : x ≤ 0) : x ≠ ⊤ := fun h => by simp [h] at hx
  unfold mean Ideal.div
  rw [hr, if_neg hn, if_neg hn, if_neg hn, zero_sub, zero_sub, zero_sub, EReal.neg_add (.inr (top t ht)) (.inl (top s hs)), sub_eq_add_neg]
  exact EReal.right_distrib_of_nonneg (EReal.neg_nonneg.mpr hs) (EReal.neg_nonneg.mpr ht)

/-- Adding up the means of 512 terms at a time. -/
theorem mean_blocks (f : ℕ → EReal) (hf : ∀ i, f i ≤ 0) (n : ℕ) :
    mean (∑ i ∈ Finset.range (n * 512), f i) + mean (∑ i ∈ Finset.range 512, f (n * 512 + i))
      = mean (∑ i ∈ Finset.range ((n + 1) * 512), f i) := by
  rw [← mean_add (Finset.sum_nonpos fun i _ => hf i) (Finset.sum_nonpos fun i _ => hf _), show (n + 1) * 512 = n * 512 + 512 by ring,
    Finset.sum_range_add]

/-- The one term selected by a word. -/
theorem sum_select (f : Fin 40 → EReal) {w : BitVec 32} (h : w.toNat < 40) :
    (∑ j : Fin 40, Scalar.select (IntOp.cmpi CmpIPredicate.eq (BitVec.ofNat 32 j.val) w) (f j) 0) = f (cls w) := by
  have hc : BitVec.ofNat 32 (cls w).val = w := by
    apply BitVec.eq_of_toNat_eq
    rw [BitVec.toNat_ofNat]
    show w.toNat % 40 % 2 ^ 32 = w.toNat
    omega
  rw [Finset.sum_eq_single (cls w)]
  · rw [hc]
    simp [IntOp.cmpi, Scalar.select]
  · intro j _ hj
    have : BitVec.ofNat 32 j.val ≠ w := fun he => hj (Fin.ext (by
      show j.val = w.toNat % 40
      rw [← he, BitVec.toNat_ofNat]
      omega))
    have hb : (BitVec.ofNat 32 j.val == w) = false := beq_eq_false_iff_ne.mpr this
    simp [IntOp.cmpi, Scalar.select, hb]
  · exact fun h => absurd (Finset.mem_univ _) h

end Cert.Proof
-- ==== Proof.Cls.lean ====
/-
  The classifier's pipeline: its body leaves a block of probabilities, and in the one block of the loss the sum so far,
  begun at the first point of the grid.
-/
module

public import proofs.«01_k».proof.Proof.Region

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation)

variable {F : FTy → Type} [FloatOps F]

/-- The body is at the grid's first point. -/
abbrev first4 (i : grid4.Coords) : Prop :=
  Scalar.cmpi .ne (Scalar.extui (Scalar.cmpi .eq (BitVec.ofNat 32 (i 0).val) 0#32)) 0#32 = 1#1

theorem first4_iff (t : Fin cfg4.N) : first4 (grid4.coords t) ↔ t.val = 0 := by
  have ht : t.val < 8 := Nat.lt_of_lt_of_eq t.isLt N_4
  have e : (grid4.coords t 0).val = t.val / 1 % 8 := Pipeline.Grid.coords_val t 0 (by decide) rfl
  have hm : first4 (grid4.coords t) ↔ t.val % 8 = 0 := by
    simp only [first4, e]
    word_cmp
  rw [hm, Nat.mod_eq_of_lt ht]

set_option maxHeartbeats 1000000 in
/-- The body at the first point. -/
theorem body4_first (c : Dev nD) (E : Set ℕ) (i : grid4.Coords)
    (a1 : Memref sig .tc .vmem S512x256 .f32) (h1 : a1.IsWhole) (a2 : Memref sig .tc .vmem S256x40 .f32) (h2 : a2.IsWhole)
    (a3 : Memref sig .tc .vmem S1x40 .f32) (h3 : a3.IsWhole) (a4 : Memref sig .tc .vmem S512x1 .i32) (h4 : a4.IsWhole)
    (a5 : Memref sig .tc .vmem S512x40 .f32) (h5 : a5.IsWhole) (a6 : Memref sig .tc .vmem S1x1 .f32) (h6 : a6.IsWhole)
    (h : Vec F S512x256 .f32) (w : Vec F S256x40 .f32) (b : Vec F S1x40 .f32) (y : Vec F S512x1 .i32) (hc : first4 i) (Q : PUnit → sProp (MK F)) :
    iprop(owns (c : Thread nD τ) a1 fullShare h ∗ owns (c : Thread nD τ) a2 fullShare w ∗ owns (c : Thread nD τ) a3 fullShare b
        ∗ owns (c : Thread nD τ) a4 fullShare y ∗ (∃ d, owns (c : Thread nD τ) a5 fullShare d) ∗ (∃ d, owns (c : Thread nD τ) a6 fullShare d)
        ∗ (iprop(owns (c : Thread nD τ) a1 fullShare h ∗ owns (c : Thread nD τ) a2 fullShare w ∗ owns (c : Thread nD τ) a3 fullShare b
            ∗ owns (c : Thread nD τ) a4 fullShare y ∗ owns (c : Thread nD τ) a5 fullShare (k4_pay3 h w b)
            ∗ owns (c : Thread nD τ) a6 fullShare (k4_pay2 (k4_pay4 h w b y) k4_pay1)) -∗ Q ⟨⟩))
      ⊢ wp frame (wpE (defs₀ (F := F)) 𝒱₀ c none) E (cc4__cls_body i a1 h1 a2 h2 a3 h3 a4 h4 a5 h5 a6 h6) Q := by
  simp only [cc4__cls_body_eq_skeleton]; unfold cc4__cls_body_skel
  simp only [k4_part1_eq_skeleton]
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, Hq⟩
  sl_exec (disch := first | sl_exact hc)
  sl_step
  iapply Hq
  have r1 := (ld_whole (a1.view.read (Elt F) f1) _ inb_S512x256_S512x256_0_0).trans e1
  have r2 := (ld_whole (a2.view.read (Elt F) f2) _ inb_S256x40_S256x40_0_0).trans e2
  have r3 := (ld_whole (a3.view.read (Elt F) f3) _ inb_S1x40_S1x40_0_0).trans e3
  have r4 := (ld_whole (a4.view.read (Elt F) f4) _ inb_S512x1_S512x1_0_0).trans e4
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]
  · iexists _; isplitr
    swap; · iexact H5
    ipureintro
    refine (read_write_whole _ _ _ _ _ _).trans ?_
    rw [← r1, ← r2, ← r3]
    rfl
  iexists _; isplitr
  swap; · iexact H6
  ipureintro
  refine (read_write_whole _ _ _ _ _ _).trans ?_
  rw [← r1, ← r2, ← r3, ← r4]
  refine congrArg (k4_pay2 _) ?_
  show View.ld (a6.view.read (Elt F) (a6.view.writes (Elt F) a6.view.junk [⟨Rect.unit (s := S1x1) ![0, 0] S1x1.size inb_S1x1_S1x1_0_0, k4_pay1⟩])) (Rect.unit (s := S1x1) ![0, 0] S1x1.size inb_S1x1_S1x1_0_0) = _
  rw [ld_whole, read_write_whole]

set_option maxHeartbeats 1000000 in
/-- The body at a later point, the sum so far being `s`. -/
theorem body4_next (c : Dev nD) (E : Set ℕ) (i : grid4.Coords)
    (a1 : Memref sig .tc .vmem S512x256 .f32) (h1 : a1.IsWhole) (a2 : Memref sig .tc .vmem S256x40 .f32) (h2 : a2.IsWhole)
    (a3 : Memref sig .tc .vmem S1x40 .f32) (h3 : a3.IsWhole) (a4 : Memref sig .tc .vmem S512x1 .i32) (h4 : a4.IsWhole)
    (a5 : Memref sig .tc .vmem S512x40 .f32) (h5 : a5.IsWhole) (a6 : Memref sig .tc .vmem S1x1 .f32) (h6 : a6.IsWhole)
    (h : Vec F S512x256 .f32) (w : Vec F S256x40 .f32) (b : Vec F S1x40 .f32) (y : Vec F S512x1 .i32) (s : Vec F S1x1 .f32) (hc : ¬ first4 i) (Q : PUnit → sProp (MK F)) :
    iprop(owns (c : Thread nD τ) a1 fullShare h ∗ owns (c : Thread nD τ) a2 fullShare w ∗ owns (c : Thread nD τ) a3 fullShare b
        ∗ owns (c : Thread nD τ) a4 fullShare y ∗ (∃ d, owns (c : Thread nD τ) a5 fullShare d) ∗ owns (c : Thread nD τ) a6 fullShare s
        ∗ (iprop(owns (c : Thread nD τ) a1 fullShare h ∗ owns (c : Thread nD τ) a2 fullShare w ∗ owns (c : Thread nD τ) a3 fullShare b
            ∗ owns (c : Thread nD τ) a4 fullShare y ∗ owns (c : Thread nD τ) a5 fullShare (k4_pay3 h w b)
            ∗ owns (c : Thread nD τ) a6 fullShare (k4_pay2 (k4_pay4 h w b y) s)) -∗ Q ⟨⟩))
      ⊢ wp frame (wpE (defs₀ (F := F)) 𝒱₀ c none) E (cc4__cls_body i a1 h1 a2 h2 a3 h3 a4 h4 a5 h5 a6 h6) Q := by
  simp only [cc4__cls_body_eq_skeleton]; unfold cc4__cls_body_skel
  simp only [k4_part1_eq_skeleton]
  unfold owns
  iintro ⟨⟨%f1, %e1, H1⟩, ⟨%f2, %e2, H2⟩, ⟨%f3, %e3, H3⟩, ⟨%f4, %e4, H4⟩, ⟨%d5, %f5, -, H5⟩, ⟨%f6, %e6, H6⟩, Hq⟩
  sl_exec (disch := first | sl_exact hc)
  sl_step
  iapply Hq
  have r1 := (ld_whole (a1.view.read (Elt F) f1) _ inb_S512x256_S512x256_0_0).trans e1
  have r2 := (ld_whole (a2.view.read (Elt F) f2) _ inb_S256x40_S256x40_0_0).trans e2
  have r3 := (ld_whole (a3.view.read (Elt F) f3) _ inb_S1x40_S1x40_0_0).trans e3
  have r4 := (ld_whole (a4.view.read (Elt F) f4) _ inb_S512x1_S512x1_0_0).trans e4
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]
  · iexists _; isplitr
    swap; · iexact H5
    ipureintro
    refine (read_write_whole _ _ _ _ _ _).trans ?_
    rw [← r1, ← r2, ← r3]
    rfl
  iexists _; isplitr
  swap; · iexact H6
  ipureintro
  refine (read_write_whole _ _ _ _ _ _).trans ?_
  have r6 := (ld_whole (a6.view.read (Elt F) f6) _ inb_S1x1_S1x1_0_0).trans e6
  rw [← r1, ← r2, ← r3, ← r4, ← r6]
  rfl

section Data

variable (V : (c : Dev nD) → (b : Ref sig .tc) → Buf (Elt F) ((c : Thread nD τ).loc b))

/-- Window `w`'s block at point `t`, as the pipeline finds its array. -/
def blk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- What point `t` adds to the loss. -/
def part4 (c : Dev nD) (t : Fin cfg4.N) : Vec F S1x1 .f32 := k4_pay4 (blk4 V c 0 t) (blk4 V c 1 t) (blk4 V c 2 t) (blk4 V c 3 t)

/-- The loss summed up to point `n`. -/
def loss4 (c : Dev nD) : (n : ℕ) → n < cfg4.N → Vec F S1x1 .f32
  | 0, h => k4_pay2 (part4 V c ⟨0, h⟩) k4_pay1
  | n + 1, h => k4_pay2 (part4 V c ⟨n + 1, h⟩) (loss4 c n (by omega))

/-- The pipeline's data: the inputs stay, the probabilities are the block's, the loss the sum up to here. -/
def dat4 (c : Dev nD) : Dat τ (Elt F) (HIx 2) ℕ UU ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => k4_pay3 (blk4 V c 0 t) (blk4 V c 1 t) (blk4 V c 2 t)
    | ⟨5, _⟩ => loss4 V c t.val t.isLt
  Φ _ := rest spec4 c
  q _ := fullShare
  owed _ := (K (F := F)).Otc c 2
  recorded _ := seen F 2 c

theorem A4 (c : Dev nD) (w : Fin cfg4.W) : (dat4 V c).A w = V c (Pipeline.arrRef spec4 w) := by dsimp only [dat4]

theorem out4 (c : Dev nD) (t : Fin cfg4.N) : (dat4 V c).after 4 t = k4_pay3 (blk4 V c 0 t) (blk4 V c 1 t) (blk4 V c 2 t) := by
  dsimp only [dat4]

theorem out5 (c : Dev nD) (t : Fin cfg4.N) : (dat4 V c).after 5 t = loss4 V c t.val t.isLt := by dsimp only [dat4]

/-- An input's staging buffer holds its block after the body, -/
theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]

/-- and before it, fetched at that point or not. -/
theorem before4_0 (c : Dev nD) (t : Fin cfg4.N) (d) : (dat4 V c).before 0 t d = blk4 V c 0 t :=
  ((dat4 V c).before_in_eq_fetched 0 rfl (fun _ => rfl) (fun _ _ _ => rfl)
    (fun t => by rw [after4_0]; unfold Dat.blockOf blk4; rw [A4]; try rfl) t d).trans
    (by unfold Dat.fetched Dat.blockOf blk4; rw [A4]; try rfl)
theorem before4_1 (c : Dev nD) (t : Fin cfg4.N) (d) : (dat4 V c).before 1 t d = blk4 V c 1 t :=
  ((dat4 V c).before_in_eq_fetched 1 rfl (fun _ => rfl) (fun _ _ _ => rfl)
    (fun t => by rw [after4_1]; unfold Dat.blockOf blk4; rw [A4]; try rfl) t d).trans
    (by unfold Dat.fetched Dat.blockOf blk4; rw [A4]; try rfl)
theorem before4_2 (c : Dev nD) (t : Fin cfg4.N) (d) : (dat4 V c).before 2 t d = blk4 V c 2 t :=
  ((dat4 V c).before_in_eq_fetched 2 rfl (fun _ => rfl) (fun _ _ _ => rfl)
    (fun t => by rw [after4_2]; unfold Dat.blockOf blk4; rw [A4]; try rfl) t d).trans
    (by unfold Dat.fetched Dat.blockOf blk4; rw [A4]; try rfl)
theorem before4_3 (c : Dev nD) (t : Fin cfg4.N) (d) : (dat4 V c).before 3 t d = blk4 V c 3 t :=
  ((dat4 V c).before_in_eq_fetched 3 rfl (fun _ => rfl) (fun _ _ _ => rfl)
    (fun t => by rw [after4_3]; unfold Dat.blockOf blk4; rw [A4]; try rfl) t d).trans
    (by unfold Dat.fetched Dat.blockOf blk4; rw [A4]; try rfl)

/-- At a later point the loss's block holds the sum up to the point before. -/
theorem before4_5 (c : Dev nD) (t : Fin cfg4.N) (h0 : t.val ≠ 0) (d) :
    (dat4 V c).before 5 t d = loss4 V c (t.val - 1) (by omega) := by
  have ht : t.val < 8 := Nat.lt_of_lt_of_eq t.isLt N_4
  rw [Dat.before_out_kept _ 5 rfl t h0
    (Bool.eq_false_iff.mpr fun h => by have := (flush4_5 _).mp h; dsimp only at this; omega) (fun _ => rfl) (fun _ _ => rfl)]
  exact out5 V c _

theorem loss4_first (c : Dev nD) (t : Fin cfg4.N) (h0 : t.val = 0) :
    loss4 V c t.val t.isLt = k4_pay2 (k4_pay4 (blk4 V c 0 t) (blk4 V c 1 t) (blk4 V c 2 t) (blk4 V c 3 t)) k4_pay1 := by
  obtain ⟨n, h⟩ := t
  obtain rfl : n = 0 := h0
  rfl

theorem loss4_next (c : Dev nD) (t : Fin cfg4.N) (h0 : t.val ≠ 0) :
    loss4 V c t.val t.isLt = k4_pay2 (k4_pay4 (blk4 V c 0 t) (blk4 V c 1 t) (blk4 V c 2 t) (blk4 V c 3 t))
      (loss4 V c (t.val - 1) (by omega)) := by
  obtain ⟨n, h⟩ := t
  obtain ⟨k, rfl⟩ : ∃ k, n = k + 1 := ⟨n - 1, by have : n ≠ 0 := h0; omega⟩
  rfl

theorem point4_first (c : Dev nD) (t : Fin cfg4.N) (h0 : t.val = 0) :
    iprop((dat4 V c).Φ t.castSucc ∗ (dat4 V c).owesAt none t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d))
        ∗ (∃ d, owns (c : Thread nD τ) (st4_3 t) fullShare ((dat4 V c).before 3 t d))
        ∗ (∃ d, owns (c : Thread nD τ) (st4_4 t) fullShare ((dat4 V c).before 4 t d))
        ∗ (∃ d, owns (c : Thread nD τ) (st4_5 t) fullShare ((dat4 V c).before 5 t d)))
      ⊢ wp frame (wpE (defs₀ (F := F)) 𝒱₀ c none) Set.univ (bodyAt4 t) fun _ =>
        iprop((dat4 V c).Φ t.succ ∗ (dat4 V c).owesAt none t.succ
        ∗ owns (c : Thread nD τ) (st4_0 t) fullShare ((dat4 V c).after 0 t)
        ∗ owns (c : Thread nD τ) (st4_1 t) fullShare ((dat4 V c).after 1 t)
        ∗ owns (c : Thread nD τ) (st4_2 t) fullShare ((dat4 V c).after 2 t)
        ∗ owns (c : Thread nD τ) (st4_3 t) fullShare ((dat4 V c).after 3 t)
        ∗ owns (c : Thread nD τ) (st4_4 t) fullShare ((dat4 V c).after 4 t)
        ∗ owns (c : Thread nD τ) (st4_5 t) fullShare ((dat4 V c).after 5 t)) := by
  unfold bodyAt4
  simp only [before4_0, before4_1, before4_2, before4_3]
  rw [show (dat4 V c).Φ t.succ = (dat4 V c).Φ t.castSucc from rfl,
    show (dat4 V c).owesAt none t.succ = (dat4 V c).owesAt none t.castSucc from rfl,
    after4_0, after4_1, after4_2, after4_3, out4, out5, loss4_first V c t h0]
  iintro ⟨HΦ, Ho, ⟨%d0, H0⟩, ⟨%d1, H1⟩, ⟨%d2, H2⟩, ⟨%d3, H3⟩, ⟨%d4, H4⟩, ⟨%d5, H5⟩⟩
  iapply (body4_first c Set.univ (grid4.coords t) _ _ _ _ _ _ _ _ _ _ _ _ (blk4 V c 0 t) (blk4 V c 1 t) (blk4 V c 2 t)
    (blk4 V c 3 t) ((first4_iff t).mpr h0) _)
  isplitl [H0]; · iexact H0
  isplitl [H1]; · iexact H1
  isplitl [H2]; · iexact H2
  isplitl [H3]; · iexact H3
  isplitl [H4]; · iexists _; iexact H4
  isplitl [H5]; · iexists _; iexact H5
  iintro H
  isplitl [HΦ]; · iexact HΦ
  isplitl [Ho]; · iexact Ho
  iexact H

theorem point4_next (c : Dev nD) (t : Fin cfg4.N) (h0 : t.val ≠ 0) :
    iprop((dat4 V c).Φ t.castSucc ∗ (dat4 V c).owesAt none t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d))
        ∗ (∃ d, owns (c : Thread nD τ) (st4_3 t) fullShare ((dat4 V c).before 3 t d))
        ∗ (∃ d, owns (c : Thread nD τ) (st4_4 t) fullShare ((dat4 V c).before 4 t d))
        ∗ (∃ d, owns (c : Thread nD τ) (st4_5 t) fullShare ((dat4 V c).before 5 t d)))
      ⊢ wp frame (wpE (defs₀ (F := F)) 𝒱₀ c none) Set.univ (bodyAt4 t) fun _ =>
        iprop((dat4 V c).Φ t.succ ∗ (dat4 V c).owesAt none t.succ
        ∗ owns (c : Thread nD τ) (st4_0 t) fullShare ((dat4 V c).after 0 t)
        ∗ owns (c : Thread nD τ) (st4_1 t) fullShare ((dat4 V c).after 1 t)
        ∗ owns (c : Thread nD τ) (st4_2 t) fullShare ((dat4 V c).after 2 t)
        ∗ owns (c : Thread nD τ) (st4_3 t) fullShare ((dat4 V c).after 3 t)
        ∗ owns (c : Thread nD τ) (st4_4 t) fullShare ((dat4 V c).after 4 t)
        ∗ owns (c : Thread nD τ) (st4_5 t) fullShare ((dat4 V c).after 5 t)) := by
  unfold bodyAt4
  simp only [before4_0, before4_1, before4_2, before4_3, before4_5 V c t h0]
  rw [show (dat4 V c).Φ t.succ = (dat4 V c).Φ t.castSucc from rfl,
    show (dat4 V c).owesAt none t.succ = (dat4 V c).owesAt none t.castSucc from rfl,
    after4_0, after4_1, after4_2, after4_3, out4, out5, loss4_next V c t h0]
  iintro ⟨HΦ, Ho, ⟨%d0, H0⟩, ⟨%d1, H1⟩, ⟨%d2, H2⟩, ⟨%d3, H3⟩, ⟨%d4, H4⟩, ⟨%d5, H5⟩⟩
  iapply (body4_next c Set.univ (grid4.coords t) _ _ _ _ _ _ _ _ _ _ _ _ (blk4 V c 0 t) (blk4 V c 1 t) (blk4 V c 2 t)
    (blk4 V c 3 t) _ (fun h => h0 ((first4_iff t).mp h)) _)
  isplitl [H0]; · iexact H0
  isplitl [H1]; · iexact H1
  isplitl [H2]; · iexact H2
  isplitl [H3]; · iexact H3
  isplitl [H4]; · iexists _; iexact H4
  isplitl [H5]; · iexact H5
  iintro H
  isplitl [HΦ]; · iexact HΦ
  isplitl [Ho]; · iexact Ho
  iexact H

theorem row4 (t : Fin cfg4.N) : defs₀ (F := F) .tc cfg4.body (cfg4.bodyArgs t (cfg4.slots t)) = bodyAt4 t := rfl

theorem obligation4 (c : Dev nD) : BodyObligation (dat4 (F := F) V c) (defs₀ (F := F)) 𝒱₀ none Set.univ := fun t => by
  rw [bigSep_W4, bigSep_W4, row4]
  by_cases h0 : t.val = 0
  · exact triple_restated (point4_first V c t h0) rfl .rfl fun _ => .rfl
  · exact triple_restated (point4_next V c t h0) rfl .rfl fun _ => .rfl

end Data

end Cert.Proof
-- ==== Proof.ClsValue.lean ====
/-
  What one grid point of the classifier leaves in its two output blocks, read at coordinates.
-/
module

public import proofs.«01_k».proof.Proof.LossMath
public import proofs.«01_k».proof.Proof.Cls
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe
open Idealize.ShloMosaic.Pipeline (Dat)

/-- A row of class scores. -/
def rowScores {n : ℕ} (h : FVec Ideal ⟨2, ![n, 256]⟩ .f32) (Wc : FVec Ideal S256x40 .f32) (bc : FVec Ideal S1x40 .f32) (r : Fin n) (j : Fin 40) : EReal :=
  ∑ q : Fin 256, h (ix2 r q) * Wc (ix2 q j) + bc (ix2 0 j)

theorem probs_apply (h : FVec Ideal S512x256 .f32) (Wc : FVec Ideal S256x40 .f32) (bc : FVec Ideal S1x40 .f32) (r : Fin 512) (j : Fin 40) :
    k4_pay3 (F := Ideal) h Wc bc (ix2 r j) = soft (rowScores h Wc bc r) j := by
  pointwise [k4_pay3]
  simp only [ofBits_neg_inf, fold_max_bot]
  rfl

theorem part_apply (h : FVec Ideal S512x256 .f32) (Wc : FVec Ideal S256x40 .f32) (bc : FVec Ideal S1x40 .f32) (tg : IVec S512x1 32)
    (ht : ∀ r, (tg (ix2 r 0)).toNat < 40) (y : S1x1.Idx) :
    k4_pay4 (F := Ideal) h Wc bc tg y = mean (∑ r : Fin 512, Ideal.log (soft (rowScores h Wc bc r) (cls (tg (ix2 r 0))))) := by
  pointwise [k4_pay4]
  unfold mean
  refine congrArg (fun s => Ideal.div (0 - s) _) (Finset.sum_congr rfl fun r _ => ?_)
  simp only [probs_apply]
  exact sum_select (fun j => Ideal.log (soft (rowScores h Wc bc r) j)) (ht r)

theorem step_apply (a b : FVec Ideal S1x1 .f32) (y : S1x1.Idx) : k4_pay2 (F := Ideal) a b y = b y + a y := by
  pointwise [k4_pay2]

theorem zero_apply (y : S1x1.Idx) : k4_pay1 (F := Ideal) y = 0 := by
  pointwise [k4_pay1]

variable (V : (c : Dev nD) → (b : Ref sig .tc) → Buf (Elt Ideal) ((c : Thread nD τ).loc b))

theorem idx4 : ∀ t : Fin cfg4.N, win4_0.index t = ![t.val, 0] ∧ win4_1.index t = ![0, 0] ∧ win4_2.index t = ![0, 0]
    ∧ win4_3.index t = ![t.val, 0] ∧ win4_4.index t = ![t.val, 0] ∧ win4_5.index t = ![0, 0] :=
  (by decide +kernel : ∀ t : Fin grid4.N, _)

/-- The scores of one point of the whole array. -/
def allScores (c : Dev nD) (i : Fin 4096) : Fin 40 → EReal := rowScores (V c main_v14) (V c main_arg8) (V c main_v15) i

theorem blkScores (c : Dev nD) (t : Fin cfg4.N) (r : Fin 512) (ht : t.val * 512 + r.val < 4096) :
    rowScores (blk4 V c 0 t) (blk4 V c 1 t) (blk4 V c 2 t) r = allScores V c ⟨t.val * 512 + r.val, ht⟩ := by
  funext j
  unfold allScores rowScores
  blk_point [blk4, idx4 t]

theorem blkTarget (c : Dev nD) (t : Fin cfg4.N) (r : Fin 512) (ht : t.val * 512 + r.val < 4096) :
    (show IVec S512x1 32 from blk4 V c 3 t) (ix2 r 0) = (show IVec S4096x1 32 from V c main_v0) (ix2 ⟨t.val * 512 + r.val, ht⟩ 0) := by
  blk_point [blk4, idx4 t]

theorem final4 (c : Dev nD) : (dat4 V c).arrAt 4 cfg4.N = (fun i => soft (allScores V c (i 0)) (i 1) : FVec Ideal S4096x40 .f32) := by
  refine (dat4 V c).arrAt_eq_of_covers 4 _ (by decide +kernel) fun t _ y => ?_
  blk_simp
  rw [out4]
  obtain ⟨r, o, rfl⟩ : ∃ (r : Fin 512) (o : Fin 40), y = ix2 r o := ⟨y 0, y 1, eq_ix2 y⟩
  refine (probs_apply _ _ _ r o).trans ?_
  have hN : t.val < 8 := t.isLt
  rw [blkScores V c t r (by omega)]
  have e : (win4_4.blk t).view.emb (ix2 r o) = ix2 (n0 := 4096) (n1 := 40) ⟨t.val * 512 + r.val, by omega⟩ o := by blk_ext [idx4 t]
  rw [e]
  rfl

/-- The target's log probability at a point, of any number. -/
def term4 (c : Dev nD) (i : ℕ) : EReal :=
  if h : i < 4096 then Ideal.log (soft (allScores V c ⟨i, h⟩) (cls ((show IVec S4096x1 32 from V c main_v0) (ix2 ⟨i, h⟩ 0)))) else 0

theorem term4_nonpos (c : Dev nD) (i : ℕ) : term4 V c i ≤ 0 := by
  unfold term4; split
  · exact log_soft _ _
  · exact le_rfl

theorem part4_eq (c : Dev nD) (ht : ∀ i, ((show IVec S4096x1 32 from V c main_v0) (ix2 i 0)).toNat < 40) (t : Fin cfg4.N) (y : S1x1.Idx) :
    part4 V c t y = mean (∑ i ∈ Finset.range 512, term4 V c (t.val * 512 + i)) := by
  have hN : t.val < 8 := t.isLt
  unfold part4
  refine (part_apply _ _ _ _ (fun r => ?_) y).trans (congrArg mean ?_)
  · exact lt_of_eq_of_lt (congrArg BitVec.toNat (blkTarget V c t r (by omega))) (ht _)
  · rw [Finset.sum_range]
    refine Finset.sum_congr rfl fun r _ => ?_
    rw [blkScores V c t r (by omega)]
    unfold term4
    rw [dif_pos (by omega)]
    exact congrArg (fun w => Ideal.log (soft _ (cls w))) (blkTarget V c t r (by omega))

theorem loss4_eq (c : Dev nD) (ht : ∀ i, ((show IVec S4096x1 32 from V c main_v0) (ix2 i 0)).toNat < 40) (y : S1x1.Idx) :
    (n : ℕ) → (h : n < cfg4.N) → loss4 V c n h y = mean (∑ i ∈ Finset.range ((n + 1) * 512), term4 V c i)
  | 0, h => by
    refine (step_apply _ _ y).trans ?_
    rw [zero_apply, zero_add, part4_eq V c ht]
    simp
  | n + 1, h => by
    refine (step_apply _ _ y).trans ?_
    rw [part4_eq V c ht, loss4_eq c ht y n (by omega)]
    exact mean_blocks _ (term4_nonpos V c) (n + 1)

theorem final5 (c : Dev nD) (ht : ∀ i, ((show IVec S4096x1 32 from V c main_v0) (ix2 i 0)).toNat < 40) :
    (dat4 V c).arrAt 5 cfg4.N = (fun _ => mean (∑ i : Fin 4096, Ideal.log (soft (allScores V c i)
      (cls ((show IVec S4096x1 32 from V c main_v0) (ix2 i 0))))) : FVec Ideal S1x1 .f32) := by
  refine (dat4 V c).arrAt_eq_of_covers 5 _ (by decide +kernel) fun t hf y => ?_
  blk_simp
  rw [out5]
  have h7 : t.val = 7 := (by decide +kernel : ∀ t : Fin grid4.N, (cfg4.win 5).flush t = true → t.val = 7) t hf
  refine (loss4_eq V c ht _ _ t.isLt).trans (congrArg mean ?_)
  rw [h7, show (7 + 1) * 512 = 4096 from rfl, Finset.sum_range]
  refine Finset.sum_congr rfl fun i _ => ?_
  unfold term4
  rw [dif_pos i.isLt]

end Cert.Proof
-- ==== Proof.TileOps.lean ====
/-
  The two transfers a tile of the row gather repeats, each with what it delivers as values: the gather of 256 rows
  of the table into a row buffer, and the write of a row buffer to its 256 rows of the result.
-/
module

public import proofs.«01_k».proof.Proof.GatherMath

@[expose] public section

noncomputable section

namespace Cert.Proof

open Cert.KernelIdeal Cert.KernelIdeal.Gen

open Idealize.ShloMosaic
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- The credit of a transfer of `s` at 32 bits an element. -/
abbrev cred (s : Shape) (e : EltTy) : ℕ := s.numel * e.bits

/-- The elements of the result under its rows `lo … lo + 255`, in the buffer it lies in. -/
abbrev outSet (A4 : Memref sig .scVector .hbm S131072x128 .f32) (lo : ℕ) : Finset A4.view.ty.Idx := A4.view.setOn (rowsIn lo)

theorem set_out (A4 : Memref sig .scVector .hbm S131072x128 .f32) {off : Fin 2 → ℕ} {inb} {hst} {lo : ℕ} (hoff : off = ![lo, 0]) :
    (A4.slice (Rect.unit (s := S131072x128) off S256x128.size inb) hst).view.set = outSet A4 lo := by
  show (A4.view.slice (Rect.unit (s := S131072x128) off S256x128.size inb)).set = _
  rw [View.set_slice, set_rows hoff]; rfl

section

variable (d : Dev nD) (c : Fin τ.nSC) (i : Fin τ.nSub)

/-- A gather in flight: it delivers the row buffer at the result's rows `lo …`, and the shares of the table and of the
    index list it reads. -/
def gathF (A2 : Memref sig .scVector .hbm S4096x128 .f32) (A5 : Memref sig .scVector .vmem S4096 .i32)
    (B : Memref sig .scVector .vmem S256x128 .f32) (sm : DmaSem sig) (g : S131072x128.Idx → Elt F .f32) (lo : ℕ)
    (qt : PosShare TreeShare) (tbl : Buf (Elt F) (A2.view.loc (V d c i)))
    (ql : PosShare TreeShare) (lst : Buf (Elt F) (A5.view.loc (V d c i))) : sProp 𝕄 :=
  Transfers.Flight countersEmb (V d c i) (.dma sm) (none : HIx 2) (cred S256x128 .f32)
    iprop((∃ f, ⌜∀ x, B.view.read (Elt F) f x = chunkOf g lo x⌝ ∗ (B.view.loc (V d c i) ↦{fullShare} f))
      ∗ (A2.view.loc (V d c i) ↦{qt} tbl) ∗ (A5.view.loc (V d c i) ↦{ql} lst))

/-- A write-back in flight: it delivers the result's rows `lo …` at `G`, and the row buffer. -/
def writeF (A4 : Memref sig .scVector .hbm S131072x128 .f32) (B : Memref sig .scVector .vmem S256x128 .f32) (sm : DmaSem sig)
    (G : Buf (Elt F) (A4.view.loc (V d c i))) (lo : ℕ) : sProp 𝕄 :=
  Transfers.Flight countersEmb (V d c i) (.dma sm) (none : HIx 2) (cred S256x128 .f32)
    iprop((A4.view.loc (V d c i) ↦[outSet A4 lo]{fullShare} G) ∗ ∃ f, B.view.loc (V d c i) ↦{fullShare} f)

variable {α : Type} {Q : α → sProp (MT nD τ sig (HIx 2) (Elt F) ℕ UU ℕ)} {Λ : Labels} {defs : Defs nD τ sig (Elt F) Λ} (𝒲 : Variants) (bd : Option 𝒲.V)

/-- A local transfer whose source and destination are held whole. -/
theorem wp_dmaW {sp sp' : Space} {s : Shape} {e : EltTy}
    {src : Memref sig (V d c i).2.kind sp s e} {dst : Memref sig (V d c i).2.kind sp' s e} {sm : DmaSem sig}
    {hsrc : src.view.WordExact} {hdst : dst.view.WordExact} {hsem : (DmaTarget.here dst : DmaTarget nD τ sig (V d c i).2 sp' s e).Typed sp (.dma sm)}
    {k : PUnit → Prog (TpuEff nD τ sig (Elt F) Λ (V d c i).2) α} {q : PosShare TreeShare} {fs : Buf (Elt F) (src.view.loc (V d c i))}
    {fd : Buf (Elt F) (dst.view.loc (V d c i))} (N : ℕ) (hN : dst.view.dmaCredit = N) (hN0 : 0 < N) :
    iprop((src.view.loc (V d c i) ↦{q} fs) ∗ (dst.view.loc (V d c i) ↦{fullShare} fd) ∗ semVal (V d c i, .dma sm) 0)
      ⊢ iprop((Transfers.Flight countersEmb (V d c i) (.dma sm) (none : HIx 2) N
              iprop((dst.view.loc (V d c i) ↦{fullShare} dst.view.write (Elt F) fd (src.view.read (Elt F) fs) Finset.univ)
                ∗ (src.view.loc (V d c i) ↦{q} fs))
            -∗ wp frame (wpE defs 𝒲 (V d c i) bd) Set.univ (k ⟨⟩) Q)
        -∗ wp frame (wpE defs 𝒲 (V d c i) bd) Set.univ (Prog.lift (.enqueueDma src (.here dst) (.dma sm) hsrc hdst hsem) >>= k) Q) := by
  change _ ⊢ iprop(_ -∗ wp _ _ _ (.op (.enqueueDma src (.here dst) (.dma sm) hsrc hdst hsem) k) Q)
  iintro H Hk
  iapply (Transfers.wp_dmaFromWhole countersEmb 𝒲 (V d c i) bd (none : HIx 2) N (dst := dst) (sm := .dma sm) hN hN0 (Finset.subset_univ _)) $$ H
  iintro Hf
  iapply Hk
  iexact Hf

theorem wp_writeBack {A4 : Memref sig .scVector .hbm S131072x128 .f32} {B : Memref sig .scVector .vmem S256x128 .f32} {sm : DmaSem sig}
    {off : Fin 2 → ℕ} {inb} {hst} {lo : ℕ} (hoff : off = ![lo, 0])
    {hsrc : B.view.WordExact} {hdst : (A4.slice (Rect.unit (s := S131072x128) off S256x128.size inb) hst).view.WordExact}
    {hsem : (DmaTarget.here (A4.slice (Rect.unit (s := S131072x128) off S256x128.size inb) hst) : DmaTarget nD τ sig (V d c i).2 .hbm S256x128 .f32).Typed .vmem (.dma sm)}
    {k : PUnit → Prog (TpuEff nD τ sig (Elt F) Λ (V d c i).2) α}
    {fB : Buf (Elt F) (B.view.loc (V d c i))} {f0 G : Buf (Elt F) (A4.view.loc (V d c i))}
    {g : S131072x128.Idx → Elt F .f32} (hG : ∀ j, A4.view.read (Elt F) G j = g j)
    (hB : ∀ x, B.view.read (Elt F) fB x = chunkOf g lo x) :
    iprop((B.view.loc (V d c i) ↦{fullShare} fB) ∗ (A4.view.loc (V d c i) ↦[outSet A4 lo]{fullShare} f0) ∗ semVal (V d c i, .dma sm) 0)
      ⊢ iprop((writeF d c i A4 B sm G lo -∗ wp frame (wpE defs 𝒲 (V d c i) bd) Set.univ (k ⟨⟩) Q)
        -∗ wp frame (wpE defs 𝒲 (V d c i) bd) Set.univ
            (Prog.lift (.enqueueDma B (.here (A4.slice (Rect.unit (s := S131072x128) off S256x128.size inb) hst)) (.dma sm) hsrc hdst hsem) >>= k) Q) := by
  change _ ⊢ iprop(_ -∗ wp _ _ _ (.op (.enqueueDma B (.here (A4.slice (Rect.unit (s := S131072x128) off S256x128.size inb) hst)) (.dma sm) hsrc hdst hsem) k) Q)
  iintro ⟨HB, HA, Hv⟩ Hk
  iapply (Transfers.wp_dmaFromWhole countersEmb 𝒲 (V d c i) bd (none : HIx 2) (cred S256x128 .f32) rfl (by decide)
    (Sd := outSet A4 lo) (by rw [set_out A4 hoff])) $$ [HB HA Hv]
  · isplitl [HB]; · iexact HB
    isplitl [HA]; · iexact HA
    iexact Hv
  iintro Hf
  iapply Hk
  unfold writeF
  iapply (Transfers.Flight_mono countersEmb (V d c i) ?_) $$ Hf
  iintro ⟨HA, HB⟩
  isplitl [HA]
  · iapply (Entails.of_eq (pointsTo_congr ?_)) $$ HA
    intro e he
    have he : e ∈ (A4.slice (Rect.unit (s := S131072x128) off S256x128.size inb) hst).view.set := (set_out A4 hoff (inb := inb) (hst := hst)).symm ▸ he
    refine write_eq_of_read (A4.slice (Rect.unit (s := S131072x128) off S256x128.size inb) hst).view f0 G _ (fun x => ?_) e he
    show A4.view.read (Elt F) G ((Rect.unit (s := S131072x128) off S256x128.size inb).emb x) = B.view.read (Elt F) fB x
    rw [hG, hB]
    exact emb_rows g hoff x
  · iexists fB; iexact HB

theorem wp_gatherChunk {A2 : Memref sig .scVector .hbm S4096x128 .f32} {A5 : Memref sig .scVector .vmem S4096 .i32}
    {B : Memref sig .scVector .vmem S256x128 .f32} {sm : DmaSem sig}
    {off : Fin 1 → ℕ} {inb} {hst} {p lo : ℕ} (hoff : off = ![p])
    {hp : (V d c i).2.kind = .scVector}
    {inb2 : ∀ a, (![0, 0] : Fin 2 → ℕ) a + S4096x128.size a ≤ S4096x128.size a} {hst2}
    {hg : S4096x128.Gathers 0 S256x128} {hn : S256.numel = S256x128.size hg.axis'}
    {hsrc : (A2.slice (Rect.unit (s := S4096x128) ![0, 0] S4096x128.size inb2) hst2).view.WordExact} {he : EltTy.f32.bits = 32}
    {hsp : Space.hbm = .hbm ∨ Space.hbm = .shared} {hr : S4096x128.StreamRows 0}
    {k : PUnit → Prog (TpuEff nD τ sig (Elt F) Λ (V d c i).2) α}
    {qt ql : PosShare TreeShare} {tbl : Buf (Elt F) (A2.view.loc (V d c i))} {lst : Buf (Elt F) (A5.view.loc (V d c i))}
    {fB : Buf (Elt F) (B.view.loc (V d c i))} {I : S131072.Idx → Elt F .i32} (hI : ∀ x, (I x).toNat < 4096)
    (hl : ∀ x, A5.view.read (Elt F) lst x = listOf I lo x) :
    iprop((A2.view.loc (V d c i) ↦{qt} tbl) ∗ (A5.view.loc (V d c i) ↦{ql} lst) ∗ (B.view.loc (V d c i) ↦{fullShare} fB) ∗ semVal (V d c i, .dma sm) 0)
      ⊢ iprop((gathF d c i A2 A5 B sm (gatherAll (A2.view.read (Elt F) tbl) I) (lo + p) qt tbl ql lst
            -∗ wp frame (wpE defs 𝒲 (V d c i) bd) Set.univ (k ⟨⟩) Q)
        -∗ wp frame (wpE defs 𝒲 (V d c i) bd) Set.univ
            (SparseCore.enqueueIndirectGather hp (A2.slice (Rect.unit (s := S4096x128) ![0, 0] S4096x128.size inb2) hst2) B hg
              (A5.slice (Rect.unit (s := S4096) off S256.size inb) hst) hn sm hsrc he hsp hr >>= k) Q) := by
  have hL : ∀ x : S256.Idx, (A5.slice (Rect.unit (s := S4096) off S256.size inb) hst).view.read (Elt F) lst x
      = I (ix1 (n0 := 131072) ⟨(lo + p + (x 0).val) % 131072, Nat.mod_lt _ (by decide)⟩) := fun x => by
    show A5.view.read (Elt F) lst ((Rect.unit (s := S4096) off S256.size inb).emb x) = _
    rw [hl]; exact emb_sub I hoff x
  have hin : ∀ x, ((A5.slice (Rect.unit (s := S4096) off S256.size inb) hst).view.read (Elt F) lst x).toNat < S4096x128.size hg.axis := fun x => by
    rw [hL]; exact hI _
  have hT : ∀ x, (A2.slice (Rect.unit (s := S4096x128) ![0, 0] S4096x128.size inb2) hst2).view.read (Elt F) tbl x = A2.view.read (Elt F) tbl x := fun x => by
    show A2.view.read (Elt F) tbl ((Rect.unit (s := S4096x128) ![0, 0] S4096x128.size inb2).emb x) = _
    congr 1; funext a
    match a with
    | 0 => exact Fin.ext (by show 0 + 1 * (x 0).val = (x 0).val; omega)
    | 1 => exact Fin.ext (by show 0 + 1 * (x 1).val = (x 1).val; omega)
  iintro ⟨HT, HL, HB, Hv⟩ Hk
  iapply (SparseCore.wp_gatherFromWhole countersEmb 𝒲 (V d c i) bd (none : HIx 2) (cred S256x128 .f32)
    (SparseCore.sum_rowCredit_eq_dmaCredit B hg.axis' (fun _ => rfl)) (by decide) hin) $$ [HT HL HB Hv]
  · isplitl [HT]; · iexact HT
    isplitl [HB]; · iexact HB
    isplitl [HL]; · iexact HL
    iexact Hv
  iintro Hf
  iapply Hk
  unfold gathF
  iapply (Transfers.Flight_mono countersEmb (V d c i) ?_) $$ Hf
  iintro ⟨HB, HT, HL⟩
  isplitl [HB]
  · iexists _
    isplitr
    swap; · iexact HB
    ipureintro
    intro x
    rw [View.read_write_univ]
    exact congrFun (gather_chunk (A2.view.read (Elt F) tbl) I (lo + p) hg hn hin hL hT) x
  isplitl [HT]; · iexact HT
  iexact HL

end

end Cert.Proof
-- ==== Proof.Tile.lean ====
/-
  One tile of the row gather, as printed, proved once over the memrefs it is handed: it fetches its 4096 entries of the
  index list, and then, over two row buffers in turn, gathers 256 rows of the table and writes them to its rows of the
  result, the gather of one buffer in flight under the write of the other. It ends with the result's rows the gathered
  ones and everything it read as it was.
-/
module

public import proofs.«01_k».proof.Proof.TileOps

@[expose] public section

noncomputable section

namespace Cert.Proof

open Cert.KernelIdeal Cert.KernelIdeal.Gen

open Idealize.ShloMosaic
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

abbrev cV (i : grid0.Coords) : Fin τ.nSC := (i 0).castLE hcore0
abbrev jV (i : grid0.Coords) : Fin τ.nSub := (i 1).castLE hsub0
/-- The vector subcore that runs task `i`. -/
abbrev tV (d : Dev nD) (i : grid0.Coords) : Thread nD τ := V d (cV i) (jV i)

/-- The first row of task `i`'s part of the result. -/
abbrev base (i : grid0.Coords) : ℕ := 8192 * (i 1).val + 4096 * (i 0).val

theorem trips_eq : k0_t1_loop.trips = 8 := by decide +kernel
theorem cond1_iff : ∀ t : Fin k0_t1_loop.trips, k0_cond1 t = 1#1 ↔ t.val < 7 := by decide +kernel
theorem cond2_iff : ∀ t : Fin k0_t1_loop.trips, k0_cond2 t = 1#1 ↔ t.val < 7 := by decide +kernel

section Body

variable (d : Dev nD) (i : grid0.Coords)
variable (A2 : Memref sig .scVector .hbm S4096x128 .f32) (A3 : Memref sig .scVector .hbm S131072 .i32)
variable (A4 : Memref sig .scVector .hbm S131072x128 .f32) (A5 : Memref sig .scVector .vmem S4096 .i32)
variable (A6 A7 : Memref sig .scVector .vmem S256x128 .f32) (s8 s9 s10 s11 s0 : DmaSems sig S_)
variable (tbl : Buf (Elt F) (A2.view.loc (tV d i))) (ix : Buf (Elt F) (A3.view.loc (tV d i)))
variable (G f0 : Buf (Elt F) (A4.view.loc (tV d i))) (lst : Buf (Elt F) (A5.view.loc (tV d i)))
variable (qt qi : PosShare TreeShare)
variable (O : CellTallies nD τ sig (HIx 2)) (W : Waits sig (HIx 2))

/-- The rows every gather reads, as a whole result. -/
abbrev gAll : S131072x128.Idx → Elt F .f32 := gatherAll (A2.view.read (Elt F) tbl) (A3.view.read (Elt F) ix)

/-- Chunk `m` of the task's rows, at `f`. -/
abbrev outPts (f : Buf (Elt F) (A4.view.loc (tV d i))) (m : ℕ) : sProp 𝕄 :=
  A4.view.loc (tV d i) ↦[outSet A4 (base i + 256 * m)]{fullShare} f

abbrev doneC (n : ℕ) : sProp 𝕄 := bigSep (Finset.range n) (outPts d i A4 G)
abbrev todoC (n : ℕ) : sProp 𝕄 := bigSep (Finset.Ico n 16) (outPts d i A4 f0)

omit [FloatOps F] in
theorem todo_step (n : ℕ) (h : n < 16) : todoC d i A4 f0 n = iprop(outPts d i A4 f0 n ∗ todoC d i A4 f0 (n + 1)) := by
  unfold todoC
  rw [← Finset.insert_Ico_succ_left_eq_Ico h, BI.bigSep_insert (by simp)]
  rfl

/-- What the thread owes, its waits recorded at the index every local transfer waits at. -/
abbrev owe : sProp 𝕄 := iprop(∃ W', ⌜∀ p ∈ W', p ∈ W ∨ p.2 = none⌝ ∗ owes (tV d i) O W')

/-- The two streams at the head of trip `t`, or, after the last trip, the two last writes. -/
def streams (t : ℕ) : sProp 𝕄 :=
  if t < 8 then
    iprop(gathF d (cV i) (jV i) A2 A5 A6 s8.sem (gAll d i A2 A3 tbl ix) (base i + 256 * (2 * t)) qt.left tbl fullShare.left lst
      ∗ gathF d (cV i) (jV i) A2 A5 A7 s9.sem (gAll d i A2 A3 tbl ix) (base i + 256 * (2 * t + 1)) qt.right tbl fullShare.right lst
      ∗ semVal (tV d i, .dma s10.sem) 0 ∗ semVal (tV d i, .dma s11.sem) 0
      ∗ doneC d i A4 G (2 * t) ∗ todoC d i A4 f0 (2 * t))
  else
    iprop(semVal (tV d i, .dma s8.sem) 0 ∗ semVal (tV d i, .dma s9.sem) 0
      ∗ writeF d (cV i) (jV i) A4 A6 s10.sem G (base i + 256 * 14) ∗ writeF d (cV i) (jV i) A4 A7 s11.sem G (base i + 256 * 15)
      ∗ ((A2.view.loc (tV d i) ↦{qt.left} tbl) ∗ (A2.view.loc (tV d i) ↦{qt.right} tbl))
      ∗ ((A5.view.loc (tV d i) ↦{fullShare.left} lst) ∗ (A5.view.loc (tV d i) ↦{fullShare.right} lst))
      ∗ doneC d i A4 G 14)

def inv (t : ℕ) (_ : Unit) : sProp 𝕄 :=
  iprop(Transfers.MayWaits (tV d i) (none : HIx 2) O ∗ owe d i O W
    ∗ streams d i A2 A3 A4 A5 A6 A7 s8 s9 s10 s11 tbl ix G f0 lst qt t)

omit [FloatOps F] in
theorem owe_insert {W' : Waits sig (HIx 2)} (sm : SemLoc sig) (h : ∀ p ∈ W', p ∈ W ∨ p.2 = none) :
    (owes (tV d i) O (insert (sm, (none : HIx 2)) W') : sProp 𝕄) ⊢ owe d i O W := by
  iintro HO
  iexists _; isplitr
  swap; · iexact HO
  ipureintro; intro p hp
  rcases Finset.mem_insert.mp hp with hp | hp
  · exact .inr (hp ▸ rfl)
  · exact h p hp

/-- The slices a trip names, at the rows and the entries they stand for. -/
theorem off3_0 (t : Fin k0_t1_loop.trips) : k0_off3 i t 0#32 = ![base i + 256 * (2 * t.val), 0] :=
  (k0_off3_eq i t 0).trans (congrArg (fun n => ![n, 0]) (show 8192 * (i 1).val + 4096 * (i 0).val + 512 * t.val + 256 * 0 = 8192 * (i 1).val + 4096 * (i 0).val + 256 * (2 * t.val) by omega))
theorem off3_1 (t : Fin k0_t1_loop.trips) : k0_off3 i t 1#32 = ![base i + 256 * (2 * t.val + 1), 0] :=
  (k0_off3_eq i t 1).trans (congrArg (fun n => ![n, 0]) (show 8192 * (i 1).val + 4096 * (i 0).val + 512 * t.val + 256 * 1 = 8192 * (i 1).val + 4096 * (i 0).val + 256 * (2 * t.val + 1) by omega))
theorem off5 (t : Fin k0_t1_loop.trips) : k0_off5 t = ![256 * (2 * (t.val + 1))] :=
  (k0_off5_eq t).trans (congrArg (fun n => ![n]) (by omega))
theorem off7 (t : Fin k0_t1_loop.trips) : k0_off7 t = ![256 * (2 * (t.val + 1) + 1)] :=
  (k0_off7_eq t).trans (congrArg (fun n => ![n]) (by omega))

/-- A wait of the task: the transfer's delivery, the counter at zero, and what the thread owes again. -/
theorem wp_waitO {Λ : Labels} {defs : Defs nD τ sig (Elt F) Λ} {α : Type} {Q : α → sProp (MT nD τ sig (HIx 2) (Elt F) ℕ UU ℕ)} {sp sp' : Space} {s s' : Shape} {e e' : EltTy}
    {sem : DmaSem sig} {srcw : Memref sig (tV d i).2.kind sp' s' e'} {dstw : Memref sig (tV d i).2.kind sp s e}
    {hsrc : srcw.view.WordExact} {hdst : dstw.view.WordExact} {k : PUnit → Prog (TpuEff nD τ sig (Elt F) Λ (tV d i).2) α}
    {N : ℕ} (hN : dstw.view.dmaCredit = N) {R : sProp (MT nD τ sig (HIx 2) (Elt F) ℕ UU ℕ)} :
    iprop(Transfers.Flight countersEmb (tV d i) (.dma sem) (none : HIx 2) N R ∗ owe d i O W ∗ Transfers.MayWaits (tV d i) (none : HIx 2) O)
      ⊢ iprop((iprop(R ∗ semVal (tV d i, .dma sem) 0 ∗ owe d i O W) -∗ wp frame (wpE defs 𝒱₀ (tV d i) none) Set.univ (k ⟨⟩) Q)
        -∗ wp frame (wpE defs 𝒱₀ (tV d i) none) Set.univ (Prog.lift (.waitDma2 sem srcw dstw hsrc hdst) >>= k) Q) := by
  change _ ⊢ iprop(_ -∗ wp _ _ _ (.op (.waitDma2 sem srcw dstw hsrc hdst) k) Q)
  iintro ⟨Hf, ⟨%W0, %hW0, HO⟩, #Hmw⟩ Hk
  iapply (Transfers.wp_waitLocalO countersEmb 𝒱₀ (tV d i) none (none : HIx 2) hN) $$ [Hf HO]
  · isplitl [Hf]; · iexact Hf
    isplitl [HO]; · iexact HO
    iapply (Transfers.MayWaits.elim (SemLoc.dma sem)) $$ Hmw
  iintro ⟨HR, Hv, HO⟩
  iapply Hk
  isplitl [HR]; · iexact HR
  isplitl [Hv]; · iexact Hv
  iapply (owe_insert d i O W _ hW0) $$ HO

/-- The same of a wait for a gather. -/
theorem wp_waitG {Λ : Labels} {defs : Defs nD τ sig (Elt F) Λ} {α : Type} {Q : α → sProp (MT nD τ sig (HIx 2) (Elt F) ℕ UU ℕ)} {sp' : Space} {s s' : Shape} {e e' : EltTy}
    {sem : DmaSem sig} {srcw : Memref sig (tV d i).2.kind sp' s' e'} {dstw : Memref sig (tV d i).2.kind .vmem s e}
    {hsrc : srcw.view.WordExact} {hdst : dstw.view.WordExact} {k : PUnit → Prog (TpuEff nD τ sig (Elt F) Λ (tV d i).2) α}
    {N : ℕ} (hN : dstw.view.dmaCredit = N) {R : sProp (MT nD τ sig (HIx 2) (Elt F) ℕ UU ℕ)} :
    iprop(Transfers.Flight countersEmb (tV d i) (.dma sem) (none : HIx 2) N R ∗ owe d i O W ∗ Transfers.MayWaits (tV d i) (none : HIx 2) O)
      ⊢ iprop((iprop(R ∗ semVal (tV d i, .dma sem) 0 ∗ owe d i O W) -∗ wp frame (wpE defs 𝒱₀ (tV d i) none) Set.univ (k ⟨⟩) Q)
        -∗ wp frame (wpE defs 𝒱₀ (tV d i) none) Set.univ (SparseCore.waitIndirectGather sem srcw dstw hsrc hdst >>= k) Q) :=
  wp_waitO d i O W (hsrc := hsrc) (hdst := hdst) hN

set_option maxHeartbeats 1000000 in
/-- A trip that is not the last: each buffer's gather waited for, its rows written out and the write waited for, the next
    gather started. -/
theorem trip_mid (harg2 : A2.IsWhole) (harg3 : A3.IsWhole) (harg4 : A4.IsWhole) (harg5 : A5.IsWhole) (harg6 : A6.IsWhole) (harg7 : A7.IsWhole)
    (hG : ∀ j, A4.view.read (Elt F) G j = gAll d i A2 A3 tbl ix j)
    (hI : ∀ x, (A3.view.read (Elt F) ix x).toNat < 4096)
    (hl : ∀ x, A5.view.read (Elt F) lst x = listOf (A3.view.read (Elt F) ix) (base i) x)
    (t : Fin k0_t1_loop.trips) (ht : t.val < 7) :
    inv d i A2 A3 A4 A5 A6 A7 s8 s9 s10 s11 tbl ix G f0 lst qt O W t.val ()
      ⊢ wp frame (wpE (defs₀ (F := F)) 𝒱₀ (tV d i) none) Set.univ
          (k0_t1_body i A2 harg2 A3 harg3 A4 harg4 A5 harg5 A6 harg6 A7 harg7 s8 s9 s10 s11 s0 t ())
          (inv d i A2 A3 A4 A5 A6 A7 s8 s9 s10 s11 tbl ix G f0 lst qt O W (t.val + 1)) := by
  have h1 : k0_cond1 t = 1#1 := (cond1_iff t).mpr ht
  have h2 : k0_cond2 t = 1#1 := (cond2_iff t).mpr ht
  unfold k0_t1_body inv streams
  rw [if_pos (by omega), if_pos (by omega)]
  simp (proj := false) only [h1, h2, dite_true]
  iintro ⟨#Hmw, HO, Hg0, Hg1, Hw0, Hw1, Hdone, Htodo⟩
  ihave Htodo := (Entails.of_eq (todo_step d i A4 f0 (2 * t.val) (by omega))) $$ Htodo
  icases Htodo with ⟨Hc0, Htodo⟩
  ihave Htodo := (Entails.of_eq (todo_step d i A4 f0 (2 * t.val + 1) (by omega))) $$ Htodo
  icases Htodo with ⟨Hc1, Htodo⟩
  unfold gathF
  iapply (wp_waitG d i O W (N := cred S256x128 .f32) rfl) $$ [Hg0 HO]
  · isplitl [Hg0]; · iexact Hg0
    isplitl [HO]; · iexact HO
    iexact Hmw
  iintro ⟨⟨⟨%f6, %hf6, HB⟩, HT0, HL0⟩, Hg0, HO⟩
  iapply (wp_writeBack d (cV i) (jV i) 𝒱₀ none (A4 := A4) (B := A6) (sm := s10.sem) (lo := base i + 256 * (2 * t.val)) (f0 := f0) (G := G)
    (off3_0 i t) hG hf6) $$ [HB Hc0 Hw0]
  · isplitl [HB]; · iexact HB
    isplitl [Hc0]; · iexact Hc0
    iexact Hw0
  iintro Hw0
  unfold writeF
  iapply (wp_waitO d i O W (N := cred S256x128 .f32) rfl) $$ [Hw0 HO]
  · isplitl [Hw0]; · iexact Hw0
    isplitl [HO]; · iexact HO
    iexact Hmw
  iintro ⟨⟨Hc0, %g6, HB⟩, Hw0, HO⟩
  iapply (wp_gatherChunk d (cV i) (jV i) 𝒱₀ none (A2 := A2) (A5 := A5) (B := A6) (sm := s8.sem) (p := 256 * (2 * (t.val + 1))) (lo := base i) (off5 t) hI hl)
    $$ [HT0 HL0 HB Hg0]
  · isplitl [HT0]; · iexact HT0
    isplitl [HL0]; · iexact HL0
    isplitl [HB]; · iexact HB
    iexact Hg0
  iintro Hg0
  iapply (wp_waitG d i O W (N := cred S256x128 .f32) rfl) $$ [Hg1 HO]
  · isplitl [Hg1]; · iexact Hg1
    isplitl [HO]; · iexact HO
    iexact Hmw
  iintro ⟨⟨⟨%f7, %hf7, HB⟩, HT1, HL1⟩, Hg1, HO⟩
  iapply (wp_writeBack d (cV i) (jV i) 𝒱₀ none (A4 := A4) (B := A7) (sm := s11.sem) (lo := base i + 256 * (2 * t.val + 1)) (f0 := f0) (G := G)
    (off3_1 i t) hG hf7) $$ [HB Hc1 Hw1]
  · isplitl [HB]; · iexact HB
    isplitl [Hc1]; · iexact Hc1
    iexact Hw1
  iintro Hw1
  unfold writeF
  iapply (wp_waitO d i O W (N := cred S256x128 .f32) rfl) $$ [Hw1 HO]
  · isplitl [Hw1]; · iexact Hw1
    isplitl [HO]; · iexact HO
    iexact Hmw
  iintro ⟨⟨Hc1, %g7, HB⟩, Hw1, HO⟩
  iapply (wp_gatherChunk d (cV i) (jV i) 𝒱₀ none (A2 := A2) (A5 := A5) (B := A7) (sm := s9.sem) (p := 256 * (2 * (t.val + 1) + 1)) (lo := base i) (off7 t) hI hl)
    $$ [HT1 HL1 HB Hg1]
  · isplitl [HT1]; · iexact HT1
    isplitl [HL1]; · iexact HL1
    isplitl [HB]; · iexact HB
    iexact Hg1
  iintro Hg1
  sl_step
  isplitr; · iexact Hmw
  isplitl [HO]; · iexact HO
  unfold gathF
  isplitl [Hg0]; · iexact Hg0
  isplitl [Hg1]; · iexact Hg1
  isplitl [Hw0]; · iexact Hw0
  isplitl [Hw1]; · iexact Hw1
  isplitl [Hdone Hc0 Hc1]
  · rw [show 2 * (t.val + 1) = 2 * t.val + 1 + 1 by omega]
    iapply (Entails.of_eq (show doneC d i A4 G (2 * t.val + 1 + 1) = _ from bigSep_range_succ _ _).symm)
    isplitl [Hc1]; · iexact Hc1
    iapply (Entails.of_eq (show doneC d i A4 G (2 * t.val + 1) = _ from bigSep_range_succ _ _).symm)
    isplitl [Hc0]; · iexact Hc0
    iexact Hdone
  · iexact Htodo

set_option maxHeartbeats 1000000 in
/-- The last trip: each buffer's gather waited for and its rows' write started. -/
theorem trip_last (harg2 : A2.IsWhole) (harg3 : A3.IsWhole) (harg4 : A4.IsWhole) (harg5 : A5.IsWhole) (harg6 : A6.IsWhole) (harg7 : A7.IsWhole)
    (hG : ∀ j, A4.view.read (Elt F) G j = gAll d i A2 A3 tbl ix j)
    (t : Fin k0_t1_loop.trips) (ht : t.val = 7) :
    inv d i A2 A3 A4 A5 A6 A7 s8 s9 s10 s11 tbl ix G f0 lst qt O W t.val ()
      ⊢ wp frame (wpE (defs₀ (F := F)) 𝒱₀ (tV d i) none) Set.univ
          (k0_t1_body i A2 harg2 A3 harg3 A4 harg4 A5 harg5 A6 harg6 A7 harg7 s8 s9 s10 s11 s0 t ())
          (inv d i A2 A3 A4 A5 A6 A7 s8 s9 s10 s11 tbl ix G f0 lst qt O W (t.val + 1)) := by
  have h1 : ¬ k0_cond1 t = 1#1 := fun h => by have := (cond1_iff t).mp h; omega
  have h2 : ¬ k0_cond2 t = 1#1 := fun h => by have := (cond2_iff t).mp h; omega
  unfold k0_t1_body inv streams
  rw [if_pos (by omega), if_neg (by omega)]
  simp (proj := false) only [h1, h2, dite_false]
  iintro ⟨#Hmw, HO, Hg0, Hg1, Hw0, Hw1, Hdone, Htodo⟩
  ihave Htodo := (Entails.of_eq (todo_step d i A4 f0 (2 * t.val) (by omega))) $$ Htodo
  icases Htodo with ⟨Hc0, Htodo⟩
  ihave Htodo := (Entails.of_eq (todo_step d i A4 f0 (2 * t.val + 1) (by omega))) $$ Htodo
  icases Htodo with ⟨Hc1, Htodo⟩
  unfold gathF
  iapply (wp_waitG d i O W (N := cred S256x128 .f32) rfl) $$ [Hg0 HO]
  · isplitl [Hg0]; · iexact Hg0
    isplitl [HO]; · iexact HO
    iexact Hmw
  iintro ⟨⟨⟨%f6, %hf6, HB⟩, HT0, HL0⟩, Hg0, HO⟩
  iapply (wp_writeBack d (cV i) (jV i) 𝒱₀ none (A4 := A4) (B := A6) (sm := s10.sem) (lo := base i + 256 * (2 * t.val)) (f0 := f0) (G := G)
    (off3_0 i t) hG hf6) $$ [HB Hc0 Hw0]
  · isplitl [HB]; · iexact HB
    isplitl [Hc0]; · iexact Hc0
    iexact Hw0
  iintro Hw0
  iapply (wp_waitG d i O W (N := cred S256x128 .f32) rfl) $$ [Hg1 HO]
  · isplitl [Hg1]; · iexact Hg1
    isplitl [HO]; · iexact HO
    iexact Hmw
  iintro ⟨⟨⟨%f7, %hf7, HB⟩, HT1, HL1⟩, Hg1, HO⟩
  iapply (wp_writeBack d (cV i) (jV i) 𝒱₀ none (A4 := A4) (B := A7) (sm := s11.sem) (lo := base i + 256 * (2 * t.val + 1)) (f0 := f0) (G := G)
    (off3_1 i t) hG hf7) $$ [HB Hc1 Hw1]
  · isplitl [HB]; · iexact HB
    isplitl [Hc1]; · iexact Hc1
    iexact Hw1
  iintro Hw1
  sl_step
  isplitr; · iexact Hmw
  isplitl [HO]; · iexact HO
  have e : 2 * t.val = 14 := by omega
  rw [e]
  isplitl [Hg0]; · iexact Hg0
  isplitl [Hg1]; · iexact Hg1
  isplitl [Hw0]; · iexact Hw0
  isplitl [Hw1]; · iexact Hw1
  isplitl [HT0 HT1]
  · isplitl [HT0]; · iexact HT0
    iexact HT1
  isplitl [HL0 HL1]
  · isplitl [HL0]; · iexact HL0
    iexact HL1
  iexact Hdone

/-- The list of a task, read out of the whole index list. -/
theorem read_list {harg3 : A3.IsWhole} (f5 : Buf (Elt F) (A5.view.loc (tV d i))) (x : S4096.Idx) :
    A5.view.read (Elt F) (A5.view.write (Elt F) f5 ((A3.slice (Rect.unit (s := S131072) (k0_off1 i) S4096.size (k0_off1_inb i)) (fun _ => rfl)).view.read (Elt F) ix) Finset.univ) x
      = listOf (A3.view.read (Elt F) ix) (base i) x := by
  rw [View.read_write_univ]
  exact emb_list (A3.view.read (Elt F) ix) (k0_off1_eq i) x

set_option maxHeartbeats 1000000 in
/-- The task: from its shares of the table and the index list, its rows of the result, its three scratch buffers and its five
    counters at zero, to the same with the result's rows the gathered ones. -/
theorem task (harg2 : A2.IsWhole) (harg3 : A3.IsWhole) (harg4 : A4.IsWhole) (harg5 : A5.IsWhole) (harg6 : A6.IsWhole) (harg7 : A7.IsWhole)
    (hG : ∀ j, A4.view.read (Elt F) G j = gAll d i A2 A3 tbl ix j)
    (hI : ∀ x, (A3.view.read (Elt F) ix x).toNat < 4096) :
    iprop(Transfers.MayWaits (tV d i) (none : HIx 2) O
        ∗ ((A2.view.loc (tV d i) ↦{qt} tbl) ∗ (A3.view.loc (tV d i) ↦{qi} ix) ∗ bigSep (Finset.range 16) (outPts d i A4 f0))
        ∗ ((∃ f, A5.view.loc (tV d i) ↦{fullShare} f) ∗ (∃ f, A6.view.loc (tV d i) ↦{fullShare} f) ∗ (∃ f, A7.view.loc (tV d i) ↦{fullShare} f))
        ∗ (semVal (tV d i, .dma s8.sem) 0 ∗ semVal (tV d i, .dma s9.sem) 0 ∗ semVal (tV d i, .dma s10.sem) 0 ∗ semVal (tV d i, .dma s11.sem) 0
          ∗ semVal (tV d i, .dma s0.sem) 0)
        ∗ owe d i O W)
      ⊢ wp frame (wpE (defs₀ (F := F)) 𝒱₀ (tV d i) none) Set.univ
          (cc0_gxj i A2 harg2 A3 harg3 A4 harg4 A5 harg5 A6 harg6 A7 harg7 s8 s9 s10 s11 s0)
          fun _ => iprop(((A2.view.loc (tV d i) ↦{qt} tbl) ∗ (A3.view.loc (tV d i) ↦{qi} ix) ∗ bigSep (Finset.range 16) (outPts d i A4 G))
            ∗ ((∃ f, A5.view.loc (tV d i) ↦{fullShare} f) ∗ (∃ f, A6.view.loc (tV d i) ↦{fullShare} f) ∗ (∃ f, A7.view.loc (tV d i) ↦{fullShare} f))
            ∗ (semVal (tV d i, .dma s8.sem) 0 ∗ semVal (tV d i, .dma s9.sem) 0 ∗ semVal (tV d i, .dma s10.sem) 0 ∗ semVal (tV d i, .dma s11.sem) 0
              ∗ semVal (tV d i, .dma s0.sem) 0)
            ∗ owe d i O W) := by
  rw [cc0_gxj_eq_skeleton]; unfold cc0_gxj_skel
  iintro ⟨#Hmw, ⟨HT, Hix, Hout⟩, ⟨⟨%f5, H5⟩, ⟨%f6, H6⟩, ⟨%f7, H7⟩⟩, ⟨Hg0, Hg1, Hw0, Hw1, Hs0⟩, HO⟩
  -- the list: fetched and waited for
  iapply (wp_dmaW d (cV i) (jV i) 𝒱₀ none (cred S4096 .i32) rfl (by decide)) $$ [Hix H5 Hs0]
  · isplitl [Hix]; · iexact Hix
    isplitl [H5]; · iexact H5
    iexact Hs0
  iintro Hs0
  iapply (wp_waitO d i O W (N := cred S4096 .i32) rfl) $$ [Hs0 HO]
  · isplitl [Hs0]; · iexact Hs0
    isplitl [HO]; · iexact HO
    iexact Hmw
  iintro ⟨⟨H5, Hix⟩, Hs0, HO⟩
  have hl := read_list d i A3 A5 ix (harg3 := harg3) f5
  generalize A5.view.write (Elt F) f5 _ Finset.univ = lst at hl
  -- the two first gathers, each on half of the two shares
  ihave HT := (pointsTo_share (PosShare.mem_left_op_right qt)).1 $$ HT
  icases HT with ⟨HT0, HT1⟩
  ihave HL := (pointsTo_share (PosShare.mem_left_op_right fullShare)).1 $$ H5
  icases HL with ⟨HL0, HL1⟩
  iapply (wp_gatherChunk d (cV i) (jV i) 𝒱₀ none (A2 := A2) (A5 := A5) (B := A6) (sm := s8.sem) (p := 256 * (2 * 0)) (lo := base i) rfl hI hl)
    $$ [HT0 HL0 H6 Hg0]
  · isplitl [HT0]; · iexact HT0
    isplitl [HL0]; · iexact HL0
    isplitl [H6]; · iexact H6
    iexact Hg0
  iintro Hg0
  iapply (wp_gatherChunk d (cV i) (jV i) 𝒱₀ none (A2 := A2) (A5 := A5) (B := A7) (sm := s9.sem) (p := 256 * (2 * 0 + 1)) (lo := base i) rfl hI hl)
    $$ [HT1 HL1 H7 Hg1]
  · isplitl [HT1]; · iexact HT1
    isplitl [HL1]; · iexact HL1
    isplitl [H7]; · iexact H7
    iexact Hg1
  iintro Hg1
  sl_for (inv d i A2 A3 A4 A5 A6 A7 s8 s9 s10 s11 tbl ix G f0 lst qt O W) $$ [HO Hg0 Hg1 Hw0 Hw1 Hout]
  case region =>
    intro t _
    have ht : t.val < 8 := trips_eq ▸ t.isLt
    by_cases h : t.val < 7
    · exact trip_mid d i A2 A3 A4 A5 A6 A7 s8 s9 s10 s11 s0 tbl ix G f0 lst qt O W harg2 harg3 harg4 harg5 harg6 harg7 hG hI hl t h
    · exact trip_last d i A2 A3 A4 A5 A6 A7 s8 s9 s10 s11 s0 tbl ix G f0 lst qt O W harg2 harg3 harg4 harg5 harg6 harg7 hG t (by omega)
  · unfold inv streams
    rw [if_pos (by omega)]
    isplitr; · iexact Hmw
    isplitl [HO]; · iexact HO
    isplitl [Hg0]; · iexact Hg0
    isplitl [Hg1]; · iexact Hg1
    isplitl [Hw0]; · iexact Hw0
    isplitl [Hw1]; · iexact Hw1
    isplitr
    · simp only [doneC, Nat.mul_zero, Finset.range_zero, BI.bigSep_empty]; iempintro
    · iapply (Entails.of_eq (show bigSep (Finset.range 16) (outPts d i A4 f0) = todoC d i A4 f0 (2 * 0) by
        unfold todoC; rw [Nat.mul_zero, ← Finset.range_eq_Ico])) $$ Hout
  iintro %_ HI
  unfold inv streams
  rw [if_neg (by rw [show Scf.trips _ _ _ = 8 from trips_eq]; omega)]
  icases HI with ⟨-, HO, Hg0, Hg1, Hw0, Hw1, ⟨HT0, HT1⟩, ⟨HL0, HL1⟩, Hdone⟩
  unfold writeF
  iapply (wp_waitO d i O W (N := cred S256x128 .f32) rfl) $$ [Hw0 HO]
  · isplitl [Hw0]; · iexact Hw0
    isplitl [HO]; · iexact HO
    iexact Hmw
  iintro ⟨⟨Hc0, HB0⟩, Hw0, HO⟩
  iapply (wp_waitO d i O W (N := cred S256x128 .f32) rfl) $$ [Hw1 HO]
  · isplitl [Hw1]; · iexact Hw1
    isplitl [HO]; · iexact HO
    iexact Hmw
  iintro ⟨⟨Hc1, HB1⟩, Hw1, HO⟩
  ihave HT := (pointsTo_share (PosShare.mem_left_op_right qt)).2 $$ [HT0 HT1]; · isplitl [HT0] <;> iassumption
  ihave H5 := (pointsTo_share (PosShare.mem_left_op_right fullShare)).2 $$ [HL0 HL1]; · isplitl [HL0] <;> iassumption
  sl_step
  isplitl [HT Hix Hdone Hc0 Hc1]
  · isplitl [HT]; · iexact HT
    isplitl [Hix]; · iexact Hix
    iapply (Entails.of_eq (show doneC d i A4 G (14 + 1 + 1) = _ from bigSep_range_succ _ _).symm)
    isplitl [Hc1]; · iexact Hc1
    iapply (Entails.of_eq (show doneC d i A4 G (14 + 1) = _ from bigSep_range_succ _ _).symm)
    isplitl [Hc0]; · iexact Hc0
    iexact Hdone
  isplitl [H5 HB0 HB1]
  · isplitl [H5]; · iexists _; iexact H5
    isplitl [HB0]; · iexact HB0
    iexact HB1
  isplitl [Hg0 Hg1 Hw0 Hw1 Hs0]
  · isplitl [Hg0]; · iexact Hg0
    isplitl [Hg1]; · iexact Hg1
    isplitl [Hw0]; · iexact Hw0
    isplitl [Hw1]; · iexact Hw1
    iexact Hs0
  iexact HO

end Body

end Cert.Proof
-- ==== Proof.Memory.lean ====
/-
  The contents of the tensor core's buffers at each boundary of the program, from the launch to the return: what a
  stretch of host operations computes, what a gather leaves, what a pipeline's write-backs leave.
-/
module

public import proofs.«01_k».proof.Proof.Edge1
public import proofs.«01_k».proof.Proof.Edge2
public import proofs.«01_k».proof.Proof.Cls
public import proofs.«01_k».proof.Proof.GatherMath

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation)

variable {F : FTy → Type} [FloatOps F]

/-! ## The host operations -/

abbrev ops0 : List (HloOp τ sig (Elt F)) :=
  [StableHlo.reshape main_arg3 main_v0 (rfl : (.i32 : EltTy) = .i32) shapeCasts_S4096_S4096x1,
    StableHlo.unary main_arg4 main_v1 ((extractStridedSlice S64x128 ![0, 0] · slices_S128x128_S64x128_0_0) :
      (⟨S128x128, .f32⟩ : BufTy).Contents (Elt F) → (⟨S64x128, .f32⟩ : BufTy).Contents (Elt F)),
    StableHlo.unary main_arg4 main_v2 ((extractStridedSlice S64x128 ![64, 0] · slices_S128x128_S64x128_64_0) :
      (⟨S128x128, .f32⟩ : BufTy).Contents (Elt F) → (⟨S64x128, .f32⟩ : BufTy).Contents (Elt F)),
    StableHlo.nullary main_c (constantI S_ 32 0#32),
    StableHlo.TRef.unary (.of main_c : StableHlo.TRef sig ⟨S_, .i32⟩) (.of main_call0_v0 : StableHlo.TRef sig ⟨S_, .f32⟩) (sitofp .f32),
    StableHlo.TRef.binary (.of main_arg0 : StableHlo.TRef sig ⟨S4096x64, .f32⟩) (.of main_call0_v0 : StableHlo.TRef sig ⟨S_, .f32⟩)
      (.of main_v3 : StableHlo.TRef sig ⟨S4096x128, .f32⟩)
      (fun x v => pad S4096x128 ![0, 0] ![0, 64] ![0, 0] x v pads_S4096x64_S4096x128_000_0640 h_S_),
    StableHlo.nullary main_c_0 (constantI S_ 32 0#32),
    StableHlo.TRef.unary (.of main_c_0 : StableHlo.TRef sig ⟨S_, .i32⟩) (.of main_call1_v0 : StableHlo.TRef sig ⟨S_, .f32⟩) (sitofp .f32),
    StableHlo.TRef.binary (.of main_v2 : StableHlo.TRef sig ⟨S64x128, .f32⟩) (.of main_call1_v0 : StableHlo.TRef sig ⟨S_, .f32⟩)
      (.of main_v4 : StableHlo.TRef sig ⟨S128x128, .f32⟩)
      (fun x v => pad S128x128 ![0, 0] ![64, 0] ![0, 0] x v pads_S64x128_S128x128_0640_000 h_S_),
    StableHlo.reshape main_arg1 main_v5 (rfl : (.i32 : EltTy) = .i32) shapeCasts_S4096x32_S131072]

abbrev ops1 : List (HloOp τ sig (Elt F)) :=
  [StableHlo.reshape main_arg5 main_v7 (rfl : (.f32 : EltTy) = .f32) shapeCasts_S128_S1x128]

abbrev ops2 : List (HloOp τ sig (Elt F)) :=
  [StableHlo.unary main_arg6 main_v9 ((extractStridedSlice S128x256 ![0, 0] · slices_S256x256_S128x256_0_0) :
      (⟨S256x256, .f32⟩ : BufTy).Contents (Elt F) → (⟨S128x256, .f32⟩ : BufTy).Contents (Elt F)),
    StableHlo.unary main_arg6 main_v10 ((extractStridedSlice S128x256 ![128, 0] · slices_S256x256_S128x256_128_0) :
      (⟨S256x256, .f32⟩ : BufTy).Contents (Elt F) → (⟨S128x256, .f32⟩ : BufTy).Contents (Elt F)),
    StableHlo.reshape main_arg2 main_v11 (rfl : (.i32 : EltTy) = .i32) shapeCasts_S4096x32_S131072]

abbrev ops3 : List (HloOp τ sig (Elt F)) :=
  [StableHlo.reshape main_arg7 main_v13 (rfl : (.f32 : EltTy) = .f32) shapeCasts_S256_S1x256]

abbrev ops4 : List (HloOp τ sig (Elt F)) :=
  [StableHlo.reshape main_arg9 main_v15 (rfl : (.f32 : EltTy) = .f32) shapeCasts_S40_S1x40]

abbrev ops5 : List (HloOp τ sig (Elt F)) :=
  [StableHlo.reshape main_v16_1 main_v17 (rfl : (.f32 : EltTy) = .f32) shapeCasts_S1x1_S_]

/-- The program is its stretches of host operations, its two gathers and its three pipelines, in order. -/
theorem main_eq (d : Dev nD) : main (F := F) d = (do
    StableHlo.seq ops0
    sc.run d 0
    StableHlo.seq ops1
    Prog.lift (.customCall (SparseCore.inner (Pipeline.entry 0)) ())
    StableHlo.seq ops2
    sc.run d 1
    StableHlo.seq ops3
    Prog.lift (.customCall (SparseCore.inner (Pipeline.entry 1)) ())
    StableHlo.seq ops4
    Prog.lift (.customCall (SparseCore.inner (Pipeline.entry 2)) ())
    StableHlo.seq ops5) := by
  rfl

/-! ## The contents at each boundary -/

/-- What the gathers find and leave, as arrays. -/
abbrev Table (F : FTy → Type) : Type := S4096x128.Idx → Elt F .f32
abbrev List32 (F : FTy → Type) : Type := S131072.Idx → Elt F .i32
abbrev Rows (F : FTy → Type) : Type := S131072x128.Idx → Elt F .f32

/-- The contents after a gather of the rows of `t` that `l` lists, into `o`. -/
def gathered (W : Valuation τ sig (Elt F)) (o : Ref sig .tc) (f : (Proc.devRef (τ := τ) .tc o).ty.Contents (Elt F)) :
    Valuation τ sig (Elt F) := Function.update W (Proc.devRef .tc o) f

variable (m : (ℓ : Loc nD τ sig) → Buf (Elt F) ℓ)

def W0 (c : Dev nD) : Valuation τ sig (Elt F) := fun b => m (c, b)
def W1 (c : Dev nD) : Valuation τ sig (Elt F) := StableHlo.after ops0 (W0 m c)
abbrev V1 (c : Dev nD) (b : Ref sig .tc) : Buf (Elt F) ((c : Thread nD τ).loc b) := W1 m c (Proc.devRef .tc b)
def rows0 (c : Dev nD) : Rows F :=
  gatherAll (show Table F from W1 m c (Proc.devRef .tc main_v3)) (show List32 F from W1 m c (Proc.devRef .tc main_v5))
def W2 (c : Dev nD) : Valuation τ sig (Elt F) := gathered (W1 m c) main_v6 (rows0 m c)
def W3 (c : Dev nD) : Valuation τ sig (Elt F) := StableHlo.after ops1 (W2 m c)
abbrev V3 (c : Dev nD) (b : Ref sig .tc) : Buf (Elt F) ((c : Thread nD τ).loc b) := W3 m c (Proc.devRef .tc b)
def W4 (c : Dev nD) : Valuation τ sig (Elt F) :=
  Pipeline.withArrays spec1 c (W3 m c) fun w => (dat1 (V3 m) c).arrAt w cfg1.N
abbrev V4 (c : Dev nD) (b : Ref sig .tc) : Buf (Elt F) ((c : Thread nD τ).loc b) := W4 m c (Proc.devRef .tc b)
def W5 (c : Dev nD) : Valuation τ sig (Elt F) := StableHlo.after ops2 (W4 m c)
abbrev V5 (c : Dev nD) (b : Ref sig .tc) : Buf (Elt F) ((c : Thread nD τ).loc b) := W5 m c (Proc.devRef .tc b)
def rows1 (c : Dev nD) : Rows F :=
  gatherAll (show Table F from W5 m c (Proc.devRef .tc main_v8)) (show List32 F from W5 m c (Proc.devRef .tc main_v11))
def W6 (c : Dev nD) : Valuation τ sig (Elt F) := gathered (W5 m c) main_v12 (rows1 m c)
def W7 (c : Dev nD) : Valuation τ sig (Elt F) := StableHlo.after ops3 (W6 m c)
abbrev V7 (c : Dev nD) (b : Ref sig .tc) : Buf (Elt F) ((c : Thread nD τ).loc b) := W7 m c (Proc.devRef .tc b)
def W8 (c : Dev nD) : Valuation τ sig (Elt F) :=
  Pipeline.withArrays spec3 c (W7 m c) fun w => (dat2 (V7 m) c).arrAt w cfg3.N
abbrev V8 (c : Dev nD) (b : Ref sig .tc) : Buf (Elt F) ((c : Thread nD τ).loc b) := W8 m c (Proc.devRef .tc b)
def W9 (c : Dev nD) : Valuation τ sig (Elt F) := StableHlo.after ops4 (W8 m c)
abbrev V9 (c : Dev nD) (b : Ref sig .tc) : Buf (Elt F) ((c : Thread nD τ).loc b) := W9 m c (Proc.devRef .tc b)
def W10 (c : Dev nD) : Valuation τ sig (Elt F) :=
  Pipeline.withArrays spec4 c (W9 m c) fun w => (dat4 (V9 m) c).arrAt w cfg4.N
abbrev V10 (c : Dev nD) (b : Ref sig .tc) : Buf (Elt F) ((c : Thread nD τ).loc b) := W10 m c (Proc.devRef .tc b)
def W11 (c : Dev nD) : Valuation τ sig (Elt F) := StableHlo.after ops5 (W10 m c)

end Cert.Proof
-- ==== Proof.Calls.lean ====
/-
  What the two calls of the SparseCores hand over: the table and the list by shares, the result by rows. A core's part
  and a tile's part of each, and that the parts make the whole.
-/
module

public import proofs.«01_k».proof.Proof.Tile
public import proofs.«01_k».proof.Proof.Memory
public import Idealize.ShloMosaic.Lib.SparseCore.Quiescent
public import Idealize.ShloMosaic.Lib.ShareLeaves

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.Pipeline (Dat Window BodyObligation)

variable {F : FTy → Type} [FloatOps F]

/-! ## One call's buffers, whole, per core and per tile -/

section Parts

variable (ℓt ℓl ℓo : Loc nD τ sig) (S : ℕ → Finset (Idx ℓo)) (t : Buf (Elt F) ℓt) (l : Buf (Elt F) ℓl) (o : Buf (Elt F) ℓo)

/-- The blocks of rows of tile `s` of core `c`. -/
def blocksAt (c : Fin 2) (s : Fin 16) (i : ℕ) : Finset (Idx ℓo) := S (8192 * s.val + 4096 * c.val + 256 * i)

def wholePay : sProp (MK F) := iprop((ℓt ↦{fullShare} t) ∗ (ℓl ↦{fullShare} l) ∗ (ℓo ↦{fullShare} o))

def corePay (c : Fin 2) : sProp (MK F) :=
  iprop((ℓt ↦{leaf 1 fullShare c} t) ∗ (ℓl ↦{leaf 1 fullShare c} l)
    ∗ bigSep Finset.univ fun s : Fin 16 => bigSep (Finset.range 16) fun i => ℓo ↦[blocksAt ℓo S c s i]{fullShare} o)

def tilePay (c : Fin 2) (s : Fin 16) : sProp (MK F) :=
  iprop((ℓt ↦{leaf 4 (leaf 1 fullShare c) s} t) ∗ (ℓl ↦{leaf 4 (leaf 1 fullShare c) s} l)
    ∗ bigSep (Finset.range 16) fun i => ℓo ↦[blocksAt ℓo S c s i]{fullShare} o)

theorem corePay_tiles (c : Fin 2) : corePay ℓt ℓl ℓo S t l o c = bigSep Finset.univ fun s : Fin 16 => tilePay ℓt ℓl ℓo S t l o c s := by
  unfold corePay tilePay
  rw [bigSep_sep', bigSep_sep', pointsTo_leaves (ℓ := ℓt) Finset.univ t 4, pointsTo_leaves (ℓ := ℓl) Finset.univ l 4]
  rfl

variable (row : Idx ℓo → ℕ) (hrow : ∀ j, row j < 131072) (hS : ∀ lo j, j ∈ S lo ↔ lo ≤ row j ∧ row j < lo + 256)

include hrow hS in
/-- The rows of the result are the tiles' blocks, no two sharing a row. -/
theorem rows_split : (ℓo ↦{fullShare} o : sProp (MK F)) = bigSep Finset.univ fun c : Fin 2 => bigSep Finset.univ fun s : Fin 16 =>
    bigSep (Finset.range 16) fun i => ℓo ↦[blocksAt ℓo S c s i]{fullShare} o := by
  have mem (c : Fin 2) (s : Fin 16) (i : ℕ) (j : Idx ℓo) : j ∈ blocksAt ℓo S c s i ↔
      8192 * s.val + 4096 * c.val + 256 * i ≤ row j ∧ row j < 8192 * s.val + 4096 * c.val + 256 * i + 256 := hS _ j
  have cover : (Finset.univ.biUnion fun c : Fin 2 => Finset.univ.biUnion fun s : Fin 16 =>
      (Finset.range 16).biUnion fun i => blocksAt ℓo S c s i) = Finset.univ := by
    refine Finset.eq_univ_of_forall fun j => ?_
    have := hrow j
    refine Finset.mem_biUnion.mpr ⟨⟨row j / 4096 % 2, by omega⟩, Finset.mem_univ _, Finset.mem_biUnion.mpr
      ⟨⟨row j / 8192, by omega⟩, Finset.mem_univ _, Finset.mem_biUnion.mpr ⟨row j % 4096 / 256, Finset.mem_range.mpr (by omega), ?_⟩⟩⟩
    rw [mem]; constructor <;> (dsimp only; omega)
  refine (congrArg (fun I => (ℓo ↦[I]{fullShare} o : sProp (MK F))) cover.symm).trans ?_
  refine (pointsTo_biUnion _ _ ?_).trans ?_; rotate_left
  · refine bigSep_congr fun c _ => ?_
    refine (pointsTo_biUnion _ _ ?_).trans ?_; rotate_left
    · refine bigSep_congr fun s _ => ?_
      refine pointsTo_biUnion _ _ ?_
      intro i _ i' _ hne
      rw [Finset.disjoint_left]; intro j hj hj'
      rw [mem] at hj hj'; omega
    · intro s _ s' _ hne
      have : s.val ≠ s'.val := fun e => hne (Fin.ext e)
      rw [Finset.disjoint_left]; intro j hj hj'
      simp only [Finset.mem_biUnion, Finset.mem_range, mem] at hj hj'
      obtain ⟨i, hi, hj⟩ := hj; obtain ⟨i', hi', hj'⟩ := hj'
      have := c.isLt; omega
  · intro c _ c' _ hne
    have : c.val ≠ c'.val := fun e => hne (Fin.ext e)
    rw [Finset.disjoint_left]; intro j hj hj'
    simp only [Finset.mem_biUnion, Finset.mem_range, Finset.mem_univ, _root_.true_and, mem] at hj hj'
    obtain ⟨s, i, hi, hj⟩ := hj; obtain ⟨s', i', hi', hj'⟩ := hj'
    have := c.isLt; have := c'.isLt; omega

include hrow hS in
theorem wholePay_cores : wholePay ℓt ℓl ℓo t l o = bigSep Finset.univ fun c : Fin 2 => corePay ℓt ℓl ℓo S t l o c := by
  unfold wholePay corePay
  rw [bigSep_sep', bigSep_sep', pointsTo_leaves (ℓ := ℓt) Finset.univ t 1, pointsTo_leaves (ℓ := ℓl) Finset.univ l 1,
    rows_split ℓo S o row hrow hS]
  rfl

end Parts

/-! ## A tile's own semaphores and scratch buffers -/

theorem own_five (thr : Thread nD τ) (s : Fin 5 → SemLoc sig) (hs : Function.Injective s)
    (hc : ∀ k, (GSem.isScoped ((thr, s k) : GSem nD τ sig)) = true) :
    (ownSems0 thr : sProp (MK F)) = iprop((bigSep Finset.univ fun k => semVal (thr, s k) 0)
      ∗ bigSep (ownCells thr \ Finset.univ.image fun k => ((thr, s k) : GSem nD τ sig)) fun g => semVal g 0) := by
  unfold SparseCore.Cfg.ownSems0
  rw [BI.bigSep_sdiff_split (t := Finset.univ.image fun k => ((thr, s k) : GSem nD τ sig)) ?_, SparseCore.bigSep_image_of_injOn fun a _ b _ e => hs (congrArg Prod.snd e)]
  · rfl
  · intro g hg
    obtain ⟨k, -, rfl⟩ := Finset.mem_image.mp hg
    exact mem_ownCells.mpr ⟨rfl, hc k⟩

theorem own_three (d : Dev nD) (c : Fin τ.nSC) (i : Fin τ.nSub) (r : Fin 3 → Ref sig .scVector) (hr : Function.Injective r)
    (ho : ∀ k, ((Proc.scVector c i).devRef (r k)).owner = .proc (Proc.scVector c i)) :
    (ownBufs (V d c i) : sProp (MK F)) = iprop((bigSep Finset.univ fun k => iprop(∃ f, (V d c i).loc (r k) ↦{fullShare} f))
      ∗ bigSep (ownRefs (Proc.scVector c i) \ Finset.univ.image fun k => (Proc.scVector c i).devRef (r k))
          fun b => iprop(∃ f, ((d, b) : Loc nD τ sig) ↦{fullShare} f)) := by
  unfold SparseCore.Cfg.ownBufs
  rw [BI.bigSep_sdiff_split (t := Finset.univ.image fun k => (Proc.scVector c i).devRef (r k)) ?_,
    SparseCore.bigSep_image_of_injOn fun a _ b _ e => hr (Proc.devRef_injective _ e)]
  · rfl
  · intro g hg
    obtain ⟨k, -, rfl⟩ := Finset.mem_image.mp hg
    exact SparseCore.Cfg.mem_ownRefs_of_owner (ho k)

/-! ## The payloads -/

variable (m : (ℓ : Loc nD τ sig) → Buf (Elt F) ℓ)

/-- A core's part of call 0's buffers, the result at `o`; -/
abbrev core0 (d : Dev nD) (o : Rows F) (c : Fin 2) : sProp (MK F) :=
  corePay ((SparseCore.T d).loc main_v3) ((SparseCore.T d).loc main_v5) ((SparseCore.T d).loc main_v6) rowsIn (V1 m d main_v3) (V1 m d main_v5) o c
abbrev tile0 (d : Dev nD) (o : Rows F) (c : Fin 2) (s : Fin 16) : sProp (MK F) :=
  tilePay ((SparseCore.T d).loc main_v3) ((SparseCore.T d).loc main_v5) ((SparseCore.T d).loc main_v6) rowsIn (V1 m d main_v3) (V1 m d main_v5) o c s
/-- and of call 1's. -/
abbrev core1 (d : Dev nD) (o : Rows F) (c : Fin 2) : sProp (MK F) :=
  corePay ((SparseCore.T d).loc main_v8) ((SparseCore.T d).loc main_v11) ((SparseCore.T d).loc main_v12) rowsIn (V5 m d main_v8) (V5 m d main_v11) o c
abbrev tile1 (d : Dev nD) (o : Rows F) (c : Fin 2) (s : Fin 16) : sProp (MK F) :=
  tilePay ((SparseCore.T d).loc main_v8) ((SparseCore.T d).loc main_v11) ((SparseCore.T d).loc main_v12) rowsIn (V5 m d main_v8) (V5 m d main_v11) o c s

def P : (K (F := F)).Pay (nD := nD) (Val := Elt F) (Name := ℕ) (U := UU) where
  st q d c := match q with
    | 0 => core0 m d (V1 m d main_v6) c
    | 1 => core1 m d (V5 m d main_v12) c
  dn q d c := match q with
    | 0 => core0 m d (rows0 m d) c
    | 1 => core1 m d (rows1 m d) c
  go q d c i := match q with
    | 0 => tile0 m d (V1 m d main_v6) c i
    | 1 => tile1 m d (V5 m d main_v12) c i
  td q d c i := match q with
    | 0 => tile0 m d (rows0 m d) c i
    | 1 => tile1 m d (rows1 m d) c i
  x _ _ := iprop(emp)

section Storable

variable (ℓt ℓl ℓo : Loc nD τ sig) (S : ℕ → Finset (Idx ℓo)) (t : Buf (Elt F) ℓt) (l : Buf (Elt F) ℓl) (o : Buf (Elt F) ℓo)

instance corePay_storable (c : Fin 2) : BI.Storable (upEmb : UEmb _ (MK F)) (corePay ℓt ℓl ℓo S t l o c) := by
  unfold corePay; infer_instance

instance tilePay_storable (c : Fin 2) (s : Fin 16) : BI.Storable (upEmb : UEmb _ (MK F)) (tilePay ℓt ℓl ℓo S t l o c s) := by
  unfold tilePay; infer_instance

end Storable

instance P_storable : (P (F := F) m).IsStorable where
  st q d c := match q with
    | 0 => corePay_storable ..
    | 1 => corePay_storable ..
  dn q d c := match q with
    | 0 => corePay_storable ..
    | 1 => corePay_storable ..
  go q d c i := match q with
    | 0 => tilePay_storable ..
    | 1 => tilePay_storable ..
  td q d c i := match q with
    | 0 => tilePay_storable ..
    | 1 => tilePay_storable ..

/-- A core's part splits into its tiles', and those join into it again. -/
theorem split0 : (K (F := F)).VecSplit' (P m) 0 := by
  intro d c
  show core0 m d (V1 m d main_v6) c ⊢ |={Set.univ}=> iprop((bigSep Finset.univ fun s : Fin 16 => tile0 m d (V1 m d main_v6) c s)
    ∗ ((bigSep Finset.univ fun s : Fin 16 => tile0 m d (rows0 m d) c s) -∗ core0 m d (rows0 m d) c))
  unfold core0 tile0
  rw [← corePay_tiles, ← corePay_tiles]
  iintro H; imodintro
  isplitl [H]; · iexact H
  iintro H; iexact H

theorem split1 : (K (F := F)).VecSplit' (P m) 1 := by
  intro d c
  show core1 m d (V5 m d main_v12) c ⊢ |={Set.univ}=> iprop((bigSep Finset.univ fun s : Fin 16 => tile1 m d (V5 m d main_v12) c s)
    ∗ ((bigSep Finset.univ fun s : Fin 16 => tile1 m d (rows1 m d) c s) -∗ core1 m d (rows1 m d) c))
  unfold core1 tile1
  rw [← corePay_tiles, ← corePay_tiles]
  iintro H; imodintro
  isplitl [H]; · iexact H
  iintro H; iexact H

end Cert.Proof
-- ==== Proof.Tasks.lean ====
/-
  The tiles' obligations: the tile proof run on each vector subcore, for both calls of the SparseCores.
-/
module

public import proofs.«01_k».proof.Proof.Calls

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.Pipeline (Dat Window BodyObligation)

variable {F : FTy → Type} [FloatOps F]

/-! ## The task among a subcore's own storage -/

section Own

variable (d : Dev nD) (i : grid0.Coords)
  (A2 : Memref sig .scVector .hbm S4096x128 .f32) (A3 : Memref sig .scVector .hbm S131072 .i32) (A4 : Memref sig .scVector .hbm S131072x128 .f32)
  (A5 : Memref sig .scVector .vmem S4096 .i32) (A6 A7 : Memref sig .scVector .vmem S256x128 .f32)
  (s8 s9 s10 s11 s0 : DmaSems sig S_)
  {tbl : Buf (Elt F) (A2.view.loc (tV d i))} {ix : Buf (Elt F) (A3.view.loc (tV d i))} {G f0 : Buf (Elt F) (A4.view.loc (tV d i))}
  {qt qi : PosShare TreeShare} (O : CellTallies nD τ sig (HIx 2)) (W : Waits sig (HIx 2)) {RB RS : sProp (MK F)}

theorem task_own (harg2 : A2.IsWhole) (harg3 : A3.IsWhole) (harg4 : A4.IsWhole) (harg5 : A5.IsWhole) (harg6 : A6.IsWhole) (harg7 : A7.IsWhole)
    (hG : ∀ j, A4.view.read (Elt F) G j = gAll d i A2 A3 tbl ix j)
    (hI : ∀ x, (A3.view.read (Elt F) ix x).toNat < 4096)
    (hO : ∀ g, O g none = 0)
    (hB : ownBufs (tV d i) = iprop(((∃ f, A5.view.loc (tV d i) ↦{fullShare} f) ∗ (∃ f, A6.view.loc (tV d i) ↦{fullShare} f)
      ∗ (∃ f, A7.view.loc (tV d i) ↦{fullShare} f)) ∗ RB))
    (hS : ownSems0 (tV d i) = iprop((semVal (tV d i, .dma s8.sem) 0 ∗ semVal (tV d i, .dma s9.sem) 0 ∗ semVal (tV d i, .dma s10.sem) 0
      ∗ semVal (tV d i, .dma s11.sem) 0 ∗ semVal (tV d i, .dma s0.sem) 0) ∗ RS)) :
    iprop(levAts (K (F := F)).L (K (F := F)).lev ∗ emp
        ∗ ((A2.view.loc (tV d i) ↦{qt} tbl) ∗ (A3.view.loc (tV d i) ↦{qi} ix) ∗ bigSep (Finset.range 16) (outPts d i A4 f0))
        ∗ scopedBufs (tV d i) ∗ scopedSems0 (tV d i) ∗ owes (tV d i) O W)
      ⊢ wp frame (wpE (defs₀ (F := F)) 𝒱₀ (tV d i) none) Set.univ
          (cc0_gxj i A2 harg2 A3 harg3 A4 harg4 A5 harg5 A6 harg6 A7 harg7 s8 s9 s10 s11 s0)
          fun _ => iprop(((A2.view.loc (tV d i) ↦{qt} tbl) ∗ (A3.view.loc (tV d i) ↦{qi} ix) ∗ bigSep (Finset.range 16) (outPts d i A4 G))
            ∗ scopedBufs (tV d i) ∗ scopedSems0 (tV d i)
            ∗ ∃ W', ⌜∀ p ∈ W', p ∈ W ∨ p.2 = none⌝ ∗ owes (tV d i) O W') := by
  rw [(K (F := F)).scopedBufs_V facts d (cV i) (jV i), SparseCore.Cfg.scopedSems0_V (Val := Elt F) d (cV i) (jV i), hB, hS]
  iintro ⟨#Hlev, -, Hpay, ⟨HB, HRB⟩, ⟨HS, HRS⟩, HO⟩
  ihave #Hmw := ((K (F := F)).mayWaits_none (thr := tV d i) hO) $$ Hlev
  iapply (wp_wand frame _ _) $$ [Hpay HB HS HO]
  · iapply (task d i A2 A3 A4 A5 A6 A7 s8 s9 s10 s11 s0 tbl ix G f0 qt qi O W harg2 harg3 harg4 harg5 harg6 harg7 hG hI) $$ [Hpay HB HS HO]
    isplitr; · iexact Hmw
    isplitl [Hpay]; · iexact Hpay
    isplitl [HB]; · iexact HB
    isplitl [HS]; · iexact HS
    iexists W
    isplitr; · ipureintro; exact fun p hp => Or.inl hp
    iexact HO
  iintro %_ ⟨Hpay, HB, HS, HO⟩
  isplitl [Hpay]; · iexact Hpay
  isplitl [HB HRB]; · isplitl [HB] <;> iassumption
  isplitl [HS HRS]; · isplitl [HS] <;> iassumption
  iexact HO

end Own

/-! ## The obligations of the two calls -/

variable (m : (ℓ : Loc nD τ sig) → Buf (Elt F) ℓ)

/-- What the gathers ask: every entry of the two lists names a row. -/
structure ListsOK : Prop where
  first : ∀ (d : Dev nD) (x : S131072.Idx), BitVec.toNat (V1 m d main_v5 x) < 4096
  second : ∀ (d : Dev nD) (x : S131072.Idx), BitVec.toNat (V5 m d main_v11 x) < 4096

def coordsV (c : Fin (grid0.bound 0)) (s : Fin (grid0.bound 1)) : grid0.Coords :=
  fun | 0 => c | 1 => s | ⟨_ + 2, h⟩ => absurd h (Nat.not_lt.2 (Nat.le_add_left _ _))

theorem defs₀_first (c : Fin τ.nSC) (s : Fin τ.nSub) :
    defs₀ (F := F) (.scVector c s) 0 ()
      = SparseCore.onTile hcore0 hsub0 (fun c s => cc0_gxj (coordsV c s) (Memref.whole main_v3_scv) (Memref.isWhole_whole _)
          (Memref.whole main_v5_scv) (Memref.isWhole_whole _) (Memref.whole main_v6_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5 cc0_scratch6 cc0_scoped0) ⟨⟩ c s := rfl

/-- The second call runs the same text on other buffers. -/
theorem defs₀_second (c : Fin τ.nSC) (s : Fin τ.nSub) :
    defs₀ (F := F) (.scVector c s) 2 ()
      = SparseCore.onTile hcore0 hsub0 (fun c s => cc0_gxj (coordsV c s) (Memref.whole main_v8_scv) (Memref.isWhole_whole _)
          (Memref.whole main_v11_scv) (Memref.isWhole_whole _) (Memref.whole main_v12_scv) (Memref.isWhole_whole _)
          (Memref.whole cc2_scratch0) (Memref.isWhole_whole _) (Memref.whole cc2_scratch1) (Memref.isWhole_whole _)
          (Memref.whole cc2_scratch2) (Memref.isWhole_whole _) cc2_scratch3 cc2_scratch4 cc2_scratch5 cc2_scratch6 cc2_scoped0) ⟨⟩ c s := rfl

theorem bigSep_five (Φ : Fin 5 → sProp (MK F)) : bigSep Finset.univ Φ = iprop(Φ 0 ∗ Φ 1 ∗ Φ 2 ∗ Φ 3 ∗ Φ 4) :=
  bigSep_univ_eq_bigSepL [0, 1, 2, 3, 4] (by decide) (by decide) Φ

def sems0 : Fin 5 → SemLoc sig :=
  ![.dma cc0_scratch3.sem, .dma cc0_scratch4.sem, .dma cc0_scratch5.sem, .dma cc0_scratch6.sem, .dma cc0_scoped0.sem]
def sems1 : Fin 5 → SemLoc sig :=
  ![.dma cc2_scratch3.sem, .dma cc2_scratch4.sem, .dma cc2_scratch5.sem, .dma cc2_scratch6.sem, .dma cc2_scoped0.sem]
def bufs0 : Fin 3 → Ref sig .scVector := ![cc0_scratch0, cc0_scratch1, cc0_scratch2]
def bufs1 : Fin 3 → Ref sig .scVector := ![cc2_scratch0, cc2_scratch1, cc2_scratch2]

theorem obl_post {thr : Thread nD τ} {A B C : sProp (MK F)} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ SparseCore.Cfg.Blocks.blk (Q := 2) (N := 2) q p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

theorem outSet_first (lo : ℕ) : outSet (Memref.whole main_v6_scv) lo = rowsIn lo := Finset.map_refl
theorem outSet_second (lo : ℕ) : outSet (Memref.whole main_v12_scv) lo = rowsIn lo := Finset.map_refl

theorem tile0_eq (d : Dev nD) (c : Fin 2) (s : Fin 16) (f : Rows F) : tile0 m d f c s
    = iprop(((Memref.whole main_v3_scv).view.loc (tV d (coordsV c s)) ↦{leaf 4 (leaf 1 fullShare c) s} V1 m d main_v3)
      ∗ ((Memref.whole main_v5_scv).view.loc (tV d (coordsV c s)) ↦{leaf 4 (leaf 1 fullShare c) s} V1 m d main_v5)
      ∗ bigSep (Finset.range 16) (outPts d (coordsV c s) (Memref.whole main_v6_scv) f)) := by
  have ho : bigSep (Finset.range 16) (outPts d (coordsV c s) (Memref.whole main_v6_scv) f)
      = bigSep (Finset.range 16) fun i => ((SparseCore.T d).loc main_v6 ↦[rowsIn (8192 * s.val + 4096 * c.val + 256 * i)]{fullShare} f : sProp (MK F)) := by
    refine bigSep_congr fun i _ => ?_
    unfold outPts
    rw [outSet_first]
    rfl
  rw [ho]
  unfold tile0 tilePay
  rfl

theorem tileObl0 (h : ListsOK m) : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_first]; simp only [SparseCore.onTile, hcs, _root_.and_self, ↓reduceDIte]
  have hS := own_five (F := F) (tV d (coordsV ⟨_, hcs.1⟩ ⟨_, hcs.2⟩)) sems0 (by unfold sems0; decide) (by intro k; fin_cases k <;> rfl)
  have hB := own_three (F := F) d (cV (coordsV ⟨_, hcs.1⟩ ⟨_, hcs.2⟩)) (jV (coordsV ⟨_, hcs.1⟩ ⟨_, hcs.2⟩)) bufs0 (by unfold bufs0; decide)
    (by intro k; fin_cases k <;> rfl)
  rw [bigSep_five] at hS
  rw [Ring.bigSep_fin3] at hB
  have ht := task_own d (coordsV ⟨_, hcs.1⟩ ⟨_, hcs.2⟩) (Memref.whole main_v3_scv) (Memref.whole main_v5_scv) (Memref.whole main_v6_scv)
    (Memref.whole cc0_scratch0) (Memref.whole cc0_scratch1) (Memref.whole cc0_scratch2)
    cc0_scratch3 cc0_scratch4 cc0_scratch5 cc0_scratch6 cc0_scoped0 (tbl := V1 m d main_v3) (ix := V1 m d main_v5) (G := rows0 m d)
    (f0 := V1 m d main_v6) (qt := leaf 4 (leaf 1 fullShare c) s) (qi := leaf 4 (leaf 1 fullShare c) s) O W
    (Memref.isWhole_whole _) (Memref.isWhole_whole _) (Memref.isWhole_whole _) (Memref.isWhole_whole _) (Memref.isWhole_whole _) (Memref.isWhole_whole _)
    (fun _ => rfl) (h.first d) hO hB hS
  have e (f : Rows F) := tile0_eq m d c s f
  change _ ⊢ wp _ _ _ (cc0_gxj (coordsV ⟨_, hcs.1⟩ ⟨_, hcs.2⟩) _ _ _ _ _ _ _ _ _ _ _ _ _ _ _ _ _) _
  show iprop(_ ∗ _ ∗ tile0 m d (V1 m d main_v6) c s ∗ _) ⊢ wp _ _ _ _ fun _ => iprop(tile0 m d (rows0 m d) c s ∗ _)
  rw [e, e]
  exact ht.trans (wp_mono frame _ _ fun _ => obl_post)

theorem tile1_eq (d : Dev nD) (c : Fin 2) (s : Fin 16) (f : Rows F) : tile1 m d f c s
    = iprop(((Memref.whole main_v8_scv).view.loc (tV d (coordsV c s)) ↦{leaf 4 (leaf 1 fullShare c) s} V5 m d main_v8)
      ∗ ((Memref.whole main_v11_scv).view.loc (tV d (coordsV c s)) ↦{leaf 4 (leaf 1 fullShare c) s} V5 m d main_v11)
      ∗ bigSep (Finset.range 16) (outPts d (coordsV c s) (Memref.whole main_v12_scv) f)) := by
  have ho : bigSep (Finset.range 16) (outPts d (coordsV c s) (Memref.whole main_v12_scv) f)
      = bigSep (Finset.range 16) fun i => ((SparseCore.T d).loc main_v12 ↦[rowsIn (8192 * s.val + 4096 * c.val + 256 * i)]{fullShare} f : sProp (MK F)) := by
    refine bigSep_congr fun i _ => ?_
    unfold outPts
    rw [outSet_second]
    rfl
  rw [ho]
  unfold tile1 tilePay
  rfl

theorem tileObl1 (h : ListsOK m) : (K (F := F)).TileObl (D (F := F)) 𝒱 (P m) v₀ 1 := by
  intro d c s O W hO _ _
  simp only [show (P m).ox = fun _ _ => 0 from rfl, add_zero]
  have hcs : ((K (F := F)).core 1 c).val < grid0.bound 0 ∧ ((K (F := F)).sub 1 s).val < grid0.bound 1 := ⟨c.isLt, s.isLt⟩
  change _ ⊢ wp _ _ _ (Pipeline.liftProg (defs₀ (F := F) (.scVector ((K (F := F)).core 1 c) ((K (F := F)).sub 1 s)) 2 ())) _
  refine BI.Entails.trans ?_ (Pipeline.wp_liftProg (D (F := F)) (Pipeline.defs_kernel pcfgs defs₀) 𝒱₀ _ Set.univ none _ _)
  rw [defs₀_second]; simp only [SparseCore.onTile, hcs, _root_.and_self, ↓reduceDIte]
  have hS := own_five (F := F) (tV d (coordsV ⟨_, hcs.1⟩ ⟨_, hcs.2⟩)) sems1 (by unfold sems1; decide) (by intro k; fin_cases k <;> rfl)
  have hB := own_three (F := F) d (cV (coordsV ⟨_, hcs.1⟩ ⟨_, hcs.2⟩)) (jV (coordsV ⟨_, hcs.1⟩ ⟨_, hcs.2⟩)) bufs1 (by unfold bufs1; decide)
    (by intro k; fin_cases k <;> rfl)
  rw [bigSep_five] at hS
  rw [Ring.bigSep_fin3] at hB
  have ht := task_own d (coordsV ⟨_, hcs.1⟩ ⟨_, hcs.2⟩) (Memref.whole main_v8_scv) (Memref.whole main_v11_scv) (Memref.whole main_v12_scv)
    (Memref.whole cc2_scratch0) (Memref.whole cc2_scratch1) (Memref.whole cc2_scratch2)
    cc2_scratch3 cc2_scratch4 cc2_scratch5 cc2_scratch6 cc2_scoped0 (tbl := V5 m d main_v8) (ix := V5 m d main_v11) (G := rows1 m d)
    (f0 := V5 m d main_v12) (qt := leaf 4 (leaf 1 fullShare c) s) (qi := leaf 4 (leaf 1 fullShare c) s) O W
    (Memref.isWhole_whole _) (Memref.isWhole_whole _) (Memref.isWhole_whole _) (Memref.isWhole_whole _) (Memref.isWhole_whole _) (Memref.isWhole_whole _)
    (fun _ => rfl) (h.second d) hO hB hS
  have e (f : Rows F) := tile1_eq m d c s f
  change _ ⊢ wp _ _ _ (cc0_gxj (coordsV ⟨_, hcs.1⟩ ⟨_, hcs.2⟩) _ _ _ _ _ _ _ _ _ _ _ _ _ _ _ _ _) _
  show iprop(_ ∗ _ ∗ tile1 m d (V5 m d main_v12) c s ∗ _) ⊢ wp _ _ _ _ fun _ => iprop(tile1 m d (rows1 m d) c s ∗ _)
  rw [e, e]
  exact ht.trans (wp_mono frame _ _ fun _ => obl_post)

end Cert.Proof
-- ==== Proof.Regions.lean ====
/-
  The three pipelines as steps of the program: each entered from the tensor core's buffers at one boundary's contents
  and left at the next's, beside what the tensor core owes the SparseCores meanwhile.
-/
module

public import proofs.«01_k».proof.Proof.Memory

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation)

variable {F : FTy → Type} [FloatOps F]

variable (m : (ℓ : Loc nD τ sig) → Buf (Elt F) ℓ)

/-! ## The arrays at a pipeline's exit -/

theorem exit1 (c : Dev nD) (w : Fin cfg1.W) : (dat1 (V3 m) c).arrAt w cfg1.N = V4 m c (Pipeline.arrRef spec1 w) := by
  unfold V4 W4
  exact (Pipeline.withArrays_arr spec1 launch1.win.arr_inj c _ (fun w => (dat1 (V3 m) c).arrAt w cfg1.N) w).symm

theorem kept1 (c : Dev nD) (b : Ref sig .tc) (hb : b ∉ Finset.univ.image (Pipeline.arrRef spec1)) : V4 m c b = V3 m c b := by
  unfold V4 W4
  exact Pipeline.withArrays_of_ne spec1 c _ _ b fun w e => hb (Finset.mem_image.mpr ⟨w, Finset.mem_univ _, e⟩)

theorem exit2 (c : Dev nD) (w : Fin cfg3.W) : (dat2 (V7 m) c).arrAt w cfg3.N = V8 m c (Pipeline.arrRef spec3 w) := by
  unfold V8 W8
  exact ((dat2 (V7 m) c).withArrays_arrAt launch₀3.sharedIn _ (A2 (V7 m) c) w).symm

theorem kept2 (c : Dev nD) (b : Ref sig .tc) (hb : b ∉ Finset.univ.image (Pipeline.arrRef spec3)) : V8 m c b = V7 m c b := by
  unfold V8 W8
  exact Pipeline.withArrays_of_ne spec3 c _ _ b fun w e => hb (Finset.mem_image.mpr ⟨w, Finset.mem_univ _, e⟩)

theorem exit4 (c : Dev nD) (w : Fin cfg4.W) : (dat4 (V9 m) c).arrAt w cfg4.N = V10 m c (Pipeline.arrRef spec4 w) := by
  unfold V10 W10
  exact (Pipeline.withArrays_arr spec4 launch4.win.arr_inj c _ (fun w => (dat4 (V9 m) c).arrAt w cfg4.N) w).symm

theorem kept4 (c : Dev nD) (b : Ref sig .tc) (hb : b ∉ Finset.univ.image (Pipeline.arrRef spec4)) : V10 m c b = V9 m c b := by
  unfold V10 W10
  exact Pipeline.withArrays_of_ne spec4 c _ _ b fun w e => hb (Finset.mem_image.mpr ⟨w, Finset.mem_univ _, e⟩)

/-! ## What the tensor core owes, as the launch and as a pipeline state it -/

/-- What the tensor core owes before call `n` of the SparseCores. -/
def owing (n : ℕ) (c : Dev nD) : sProp (MK F) :=
  iprop(∃ W, ⌜(K (F := F)).WBelow (T c) W (8 * SparseCore.Cfg.Blocks.fst (Q := 2) (N := 2) n)⌝ ∗ owes (T c) ((K (F := F)).Otc c n) W)

theorem owing_in (n : ℕ) (c : Dev nD) (X : Set (SemLoc sig × HIx 2)) :
    owing (F := F) n c ⊢ Pipeline.owesWithin c ((K (F := F)).Otc c n) (seen F n c ∪ X) := by
  unfold owing Pipeline.owesWithin
  iintro ⟨%W, %h, H⟩
  iexists W
  isplitr
  · ipureintro
    intro p hp
    exact Or.inl (h p hp)
  iexact H

theorem owing_out (n : ℕ) (c : Dev nD) (X : Set (SemLoc sig × HIx 2)) (hX : ∀ p ∈ X, p.2 = none) :
    Pipeline.owesWithin c ((K (F := F)).Otc c n) (seen F n c ∪ X) ⊢ owing (F := F) n c := by
  unfold owing Pipeline.owesWithin
  iintro ⟨%W, %h, H⟩
  iexists W
  isplitr
  · ipureintro
    intro p hp
    rcases h hp with h | h
    · exact h
    · obtain ⟨s, ι⟩ := p
      obtain rfl : ι = none := hX _ h
      exact Nat.zero_le _
  iexact H

/-! ## The pipelines' data, and their steps -/

abbrev adm : (p : Fin 3) → (pcfgs (F := F) p).Adm := fun p => (cfgs p).toPCfg_adm

def pdats : (p : Fin 3) → (c : Dev nD) → Dat τ (Elt F) (HIx 2) ℕ UU ℕ (Pipeline.pin (pcfgs (F := F)) adm p) c
  | ⟨0, _⟩ => dat1 (V3 m)
  | ⟨1, _⟩ => dat2 (V7 m)
  | ⟨2, _⟩ => dat4 (V9 m)

/-- The state of the tensor core at a boundary: its buffers at contents `W`, the generator register, its debts. -/
def boundaryAt (n : ℕ) (W : Dev nD → Valuation τ sig (Elt F)) (c : Dev nD) : sProp (MK F) :=
  iprop(StableHlo.held (c : Thread nD τ) (Pipeline.ucRefs τ sig) (W c) ∗ (∃ r, prngReg c r) ∗ owing (F := F) n c)

theorem otc_none (n : ℕ) (c : Dev nD) (g : GSem nD τ sig) : (K (F := F)).Otc c n g none = 0 := by
  by_contra h
  exact absurd ((K (F := F)).lev_of_Otc_pos (Nat.pos_of_ne_zero h)) (Nat.not_succ_le_zero _)

set_option backward.isDefEq.respectTransparency.types false in
def reg0 : Pipeline.RegionSeg (pcfgs (F := F)) adm (pdats m) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (obligation1 (V3 m) c).loose
  hwaits c := Pipeline.cellsWaits_intro _ _ _ 0 c fun w s t => (K (F := F)).mayWait_none _ (otc_none 1 c)
  pre := boundaryAt 1 (W3 m)
  post := boundaryAt 1 (W4 m)
  X c := iprop(∃ r, prngReg c r)
  Y c := iprop(∃ r, prngReg c r)
  Z c := Pipeline.unscopedRest (Ix := HIx 2) (Name := ℕ) (U := UU) (Lvl := ℕ) spec1 c (V3 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V3 m c) (A1 (V3 m) c)
    rw [Pipeline.unscopedBufs_held] at hsplit
    unfold boundaryAt
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owing_in 1 c _) $$ HO
    isplitl [Hp]; · iexact Hp
    iexact Hrest
  hin c := by
    rw [show (pdats m 0 c).Φ 0 = rest spec1 c from rfl]; unfold rest
    iintro ⟨Hp, -, Hr⟩
    isplitl [Hr]; · iexact Hr
    iexact Hp
  hout c := by
    rw [Pipeline.ownSems0_none, show (pdats m 0 c).Φ (Fin.last _) = rest spec1 c from rfl]; unfold rest
    iintro ⟨Hr, Hp⟩
    isplitl [Hp]; · iexact Hp
    isplitr; · iempintro
    iexact Hr
  hexit c := by
    have hjoin := Pipeline.unscopedBufs_of_arrays (p := 0) (pcfgs (F := F)) adm (Ix := HIx 2) (Name := ℕ) (U := UU) (Lvl := ℕ)
      launch1.win launch1.arr_whole c (pdats m) ((pdats m 0 c).share_full fun _ => rfl)
      (V3 m c) (V4 m c) ((pdats m 0 c).arrAt · cfg1.N) (exit1 m c) (kept1 m c)
    rw [Pipeline.unscopedBufs_held] at hjoin
    unfold boundaryAt
    iintro ⟨Ha, HO, HY, Hrest⟩
    imodintro
    isplitl [Ha Hrest]
    · iapply hjoin; isplitl [Ha] <;> iassumption
    isplitl [HY]; · iexact HY
    iapply (show (pdats m 0 c).owesAt none (Fin.last _) ⊢ owing 1 c from owing_out 1 c _ (by rintro _ ⟨w, s, rfl⟩; rfl)) $$ HO

set_option backward.isDefEq.respectTransparency.types false in
def reg1 : Pipeline.RegionSeg (pcfgs (F := F)) adm (pdats m) none defs₀ 𝒱₀ (K (F := F)).L (K (F := F)).lev 1 where
  win := launch₀3.win
  block_pos := launch₀3.block_pos
  stage_whole := launch₀3.stage_whole
  K := PEmpty
  osem k := k.elim
  ho := Pipeline.OwnSemFacts.none _
  hbody c := (obligation2 (V7 m) c).loose
  hwaits c := Pipeline.cellsWaits_intro _ _ _ 1 c fun w s t => (K (F := F)).mayWait_none _ (otc_none 2 c)
  pre := boundaryAt 2 (W7 m)
  post := boundaryAt 2 (W8 m)
  X c := iprop(∃ r, prngReg c r)
  Y c := iprop(∃ r, prngReg c r)
  Z c := Pipeline.unscopedRest (Ix := HIx 2) (Name := ℕ) (U := UU) (Lvl := ℕ) spec3 c (V7 m c)
  hentry c := by
    rw [Pipeline.ownSems0_none]
    have hsplit := Pipeline.arrays_of_unscopedBufs_shared (p := 1) (pcfgs (F := F)) adm (pdats m) launch₀3.win launch₀3.sharedIn launch₀3.arr_whole c
      (fun _ _ => rfl) (V7 m c) (A2 (V7 m) c)
    rw [Pipeline.unscopedBufs_held] at hsplit
    unfold boundaryAt
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owing_in 2 c _) $$ HO
    isplitl [Hp]; · iexact Hp
    iexact Hrest
  hin c := by
    rw [show (pdats m 1 c).Φ 0 = rest spec3 c from rfl]; unfold rest
    iintro ⟨Hp, -, Hr⟩
    isplitl [Hr]; · iexact Hr
    iexact Hp
  hout c := by
    rw [Pipeline.ownSems0_none, show (pdats m 1 c).Φ (Fin.last _) = rest spec3 c from rfl]; unfold rest
    iintro ⟨Hr, Hp⟩
    isplitl [Hp]; · iexact Hp
    isplitr; · iempintro
    iexact Hr
  hexit c := by
    have hjoin := Pipeline.unscopedBufs_of_arrays_shared (p := 1) (pcfgs (F := F)) adm (Ix := HIx 2) (Name := ℕ) (U := UU) (Lvl := ℕ)
      launch₀3.win launch₀3.sharedIn launch₀3.arr_whole c (pdats m) (fun _ _ => rfl)
      (V7 m c) (V8 m c) ((pdats m 1 c).arrAt · cfg3.N) (exit2 m c) (kept2 m c)
    rw [Pipeline.unscopedBufs_held] at hjoin
    unfold boundaryAt
    iintro ⟨Ha, HO, HY, Hrest⟩
    imodintro
    isplitl [Ha Hrest]
    · iapply hjoin; isplitl [Ha] <;> iassumption
    isplitl [HY]; · iexact HY
    iapply (show (pdats m 1 c).owesAt none (Fin.last _) ⊢ owing 2 c from owing_out 2 c _ (by rintro _ ⟨w, s, rfl⟩; rfl)) $$ HO

set_option backward.isDefEq.respectTransparency.types false in
def reg2 : Pipeline.RegionSeg (pcfgs (F := F)) adm (pdats m) none defs₀ 𝒱₀ (K (F := F)).L (K (F := F)).lev 2 where
  win := launch4.win.to₀
  block_pos := launch4.block_pos
  stage_whole := launch4.stage_whole
  K := PEmpty
  osem k := k.elim
  ho := Pipeline.OwnSemFacts.none _
  hbody c := (obligation4 (V9 m) c).loose
  hwaits c := Pipeline.cellsWaits_intro _ _ _ 2 c fun w s t => (K (F := F)).mayWait_none _ (otc_none 2 c)
  pre := boundaryAt 2 (W9 m)
  post := boundaryAt 2 (W10 m)
  X c := iprop(∃ r, prngReg c r)
  Y c := iprop(∃ r, prngReg c r)
  Z c := Pipeline.unscopedRest (Ix := HIx 2) (Name := ℕ) (U := UU) (Lvl := ℕ) spec4 c (V9 m c)
  hentry c := by
    rw [Pipeline.ownSems0_none]
    have hsplit := Pipeline.arrays_of_unscopedBufs (p := 2) (pcfgs (F := F)) adm (pdats m) launch4.win launch4.arr_whole c
      ((pdats m 2 c).share_full fun _ => rfl) (V9 m c) (A4 (V9 m) c)
    rw [Pipeline.unscopedBufs_held] at hsplit
    unfold boundaryAt
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owing_in 2 c _) $$ HO
    isplitl [Hp]; · iexact Hp
    iexact Hrest
  hin c := by
    rw [show (pdats m 2 c).Φ 0 = rest spec4 c from rfl]; unfold rest
    iintro ⟨Hp, -, Hr⟩
    isplitl [Hr]; · iexact Hr
    iexact Hp
  hout c := by
    rw [Pipeline.ownSems0_none, show (pdats m 2 c).Φ (Fin.last _) = rest spec4 c from rfl]; unfold rest
    iintro ⟨Hr, Hp⟩
    isplitl [Hp]; · iexact Hp
    isplitr; · iempintro
    iexact Hr
  hexit c := by
    have hjoin := Pipeline.unscopedBufs_of_arrays (p := 2) (pcfgs (F := F)) adm (Ix := HIx 2) (Name := ℕ) (U := UU) (Lvl := ℕ)
      launch4.win launch4.arr_whole c (pdats m) ((pdats m 2 c).share_full fun _ => rfl)
      (V9 m c) (V10 m c) ((pdats m 2 c).arrAt · cfg4.N) (exit4 m c) (kept4 m c)
    rw [Pipeline.unscopedBufs_held] at hjoin
    unfold boundaryAt
    iintro ⟨Ha, HO, HY, Hrest⟩
    imodintro
    isplitl [Ha Hrest]
    · iapply hjoin; isplitl [Ha] <;> iassumption
    isplitl [HY]; · iexact HY
    iapply (show (pdats m 2 c).owesAt none (Fin.last _) ⊢ owing 2 c from owing_out 2 c _ (by rintro _ ⟨w, s, rfl⟩; rfl)) $$ HO

end Cert.Proof
-- ==== Proof.Steps.lean ====
/-
  The steps of the program on the tensor core: a stretch of host operations, a call of the SparseCores, a pipeline.
-/
module

public import proofs.«01_k».proof.Proof.Tasks
public import proofs.«01_k».proof.Proof.Regions

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.Pipeline (Dat Window BodyObligation)

variable {F : FTy → Type} [FloatOps F]

/-! ## The host operations touch the tensor core's buffers only, and allocate none -/

def Plain (ops : List (HloOp τ sig (Elt F))) : Prop :=
  (∀ op ∈ ops, op.bufs ⊆ Pipeline.ucRefs τ sig) ∧ ∀ op ∈ ops, op.fresh = ∅

theorem plain_of {ops : List (HloOp τ sig (Elt F))} (hs : ops.Forall fun op => op.bufs ⊆ StableHlo.tcRefs τ sig)
    (hf : ops.Forall fun op => op.fresh = ∅) : Plain ops :=
  ⟨fun op h => Pipeline.sub_ucRefs op ((List.forall_iff_forall_mem.mp hs) op h), fun op h => (List.forall_iff_forall_mem.mp hf) op h⟩

theorem plain0 : Plain (ops0 (F := F)) :=
  plain_of ⟨StableHlo.reshape_bufs_sub .., StableHlo.unary_bufs_sub .., StableHlo.unary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.reshape_bufs_sub ..⟩ (by simp only [List.Forall]; repeat' constructor)
theorem plain1 : Plain (ops1 (F := F)) := plain_of (StableHlo.reshape_bufs_sub ..) (by simp only [List.Forall]; repeat' constructor)
theorem plain2 : Plain (ops2 (F := F)) :=
  plain_of ⟨StableHlo.unary_bufs_sub .., StableHlo.unary_bufs_sub .., StableHlo.reshape_bufs_sub ..⟩ (by simp only [List.Forall]; repeat' constructor)
theorem plain3 : Plain (ops3 (F := F)) := plain_of (StableHlo.reshape_bufs_sub ..) (by simp only [List.Forall]; repeat' constructor)
theorem plain4 : Plain (ops4 (F := F)) := plain_of (StableHlo.reshape_bufs_sub ..) (by simp only [List.Forall]; repeat' constructor)
theorem plain5 : Plain (ops5 (F := F)) := plain_of (StableHlo.reshape_bufs_sub ..) (by simp only [List.Forall]; repeat' constructor)

/-! ## A call of the SparseCores among the tensor core's buffers -/

theorem held_three (d : Dev nD) (a b o : Ref sig .tc) (hab : a ≠ b) (hao : a ≠ o) (hbo : b ≠ o)
    (hs : ∀ r ∈ [a, b, o], (Proc.devRef (τ := τ) .tc r) ∈ Pipeline.ucRefs τ sig) (W : Valuation τ sig (Elt F)) :
    (StableHlo.held (d : Thread nD τ) (Pipeline.ucRefs τ sig) W : sProp (MK F))
      = iprop(wholePay ((SparseCore.T d).loc a) ((SparseCore.T d).loc b) ((SparseCore.T d).loc o)
            (W (Proc.devRef .tc a)) (W (Proc.devRef .tc b)) (W (Proc.devRef .tc o))
          ∗ StableHlo.held (d : Thread nD τ) (Pipeline.ucRefs τ sig \ {Proc.devRef .tc a, Proc.devRef .tc b, Proc.devRef .tc o}) W) := by
  have ne {x y : Ref sig .tc} (h : x ≠ y) : Proc.devRef (τ := τ) .tc x ≠ Proc.devRef .tc y := fun e => h (Proc.devRef_injective _ e)
  rw [StableHlo.held_sub_split (T := {Proc.devRef .tc a, Proc.devRef .tc b, Proc.devRef .tc o})]
  · congr 1
    unfold StableHlo.held wholePay
    rw [SparseCore.bigSep_insert' (by simp [ne hab, ne hao]), SparseCore.bigSep_insert' (by simp [ne hbo]), bigSep_singleton]
  · intro x hx
    simp only [Finset.mem_insert, Finset.mem_singleton] at hx
    rcases hx with rfl | rfl | rfl <;> exact hs _ (by simp)

theorem held_gathered (d : Dev nD) (a b o : Ref sig .tc) (hab : a ≠ b) (hao : a ≠ o) (hbo : b ≠ o)
    (hs : ∀ r ∈ [a, b, o], (Proc.devRef (τ := τ) .tc r) ∈ Pipeline.ucRefs τ sig) (W : Valuation τ sig (Elt F))
    (f : (Proc.devRef (τ := τ) .tc o).ty.Contents (Elt F)) :
    (StableHlo.held (d : Thread nD τ) (Pipeline.ucRefs τ sig) (gathered W o f) : sProp (MK F))
      = iprop(wholePay ((SparseCore.T d).loc a) ((SparseCore.T d).loc b) ((SparseCore.T d).loc o)
            (W (Proc.devRef .tc a)) (W (Proc.devRef .tc b)) f
          ∗ StableHlo.held (d : Thread nD τ) (Pipeline.ucRefs τ sig \ {Proc.devRef .tc a, Proc.devRef .tc b, Proc.devRef .tc o}) W) := by
  have ne {x y : Ref sig .tc} (h : x ≠ y) : Proc.devRef (τ := τ) .tc x ≠ Proc.devRef .tc y := fun e => h (Proc.devRef_injective _ e)
  rw [held_three d a b o hab hao hbo hs]
  unfold gathered
  rw [Function.update_of_ne (ne hao), Function.update_of_ne (ne hbo), Function.update_self]
  congr 1
  refine StableHlo.held_congr _ fun x hx => Function.update_of_ne ?_ _ _
  rintro rfl
  simp at hx

variable (m : (ℓ : Loc nD τ sig) → Buf (Elt F) ℓ)

theorem row_iff (lo : ℕ) (j : S131072x128.Idx) : j ∈ rowsIn lo ↔ lo ≤ (j 0).val ∧ (j 0).val < lo + 256 := by
  unfold rowsIn; rw [Finset.mem_filter]; exact and_iff_right (Finset.mem_univ _)

theorem cores0 (d : Dev nD) (t : Table F) (l : List32 F) (o : Rows F) :
    wholePay ((SparseCore.T d).loc main_v3) ((SparseCore.T d).loc main_v5) ((SparseCore.T d).loc main_v6) t l o
      = (bigSep Finset.univ fun c : Fin 2 =>
          corePay ((SparseCore.T d).loc main_v3) ((SparseCore.T d).loc main_v5) ((SparseCore.T d).loc main_v6) rowsIn t l o c : sProp (MK F)) :=
  wholePay_cores ((SparseCore.T d).loc main_v3) ((SparseCore.T d).loc main_v5) ((SparseCore.T d).loc main_v6) rowsIn t l o
    (fun j : S131072x128.Idx => (j 0).val) (fun j => (j 0).isLt) row_iff

theorem cores1 (d : Dev nD) (t : Table F) (l : List32 F) (o : Rows F) :
    wholePay ((SparseCore.T d).loc main_v8) ((SparseCore.T d).loc main_v11) ((SparseCore.T d).loc main_v12) t l o
      = (bigSep Finset.univ fun c : Fin 2 =>
          corePay ((SparseCore.T d).loc main_v8) ((SparseCore.T d).loc main_v11) ((SparseCore.T d).loc main_v12) rowsIn t l o c : sProp (MK F)) :=
  wholePay_cores ((SparseCore.T d).loc main_v8) ((SparseCore.T d).loc main_v11) ((SparseCore.T d).loc main_v12) rowsIn t l o
    (fun j : S131072x128.Idx => (j 0).val) (fun j => (j 0).isLt) row_iff

/-- The first gather: the padded features' rows, listed by the first index list. -/
theorem gather0 (κ : GSem nD τ sig → ℕ) (d : Dev nD) (Φ : PUnit → sProp (MK F)) :
    iprop((K (F := F)).ctx EH (P m) κ ∗ (K (F := F)).tcSt EH d 0 ∗ StableHlo.held (d : Thread nD τ) (Pipeline.ucRefs τ sig) (W1 m d)
        ∗ (((K (F := F)).tcSt EH d 1 ∗ StableHlo.held (d : Thread nD τ) (Pipeline.ucRefs τ sig) (W2 m d)) -∗ Φ ⟨⟩))
      ⊢ wp frame (wpE ((K (F := F)).defs (D (F := F))) 𝒱 (SparseCore.T d) none) Set.univ ((K (F := F)).run d 0) Φ := by
  unfold W2
  rw [held_three d main_v3 main_v5 main_v6 (by decide) (by decide) (by decide) (by decide),
    held_gathered d main_v3 main_v5 main_v6 (by decide) (by decide) (by decide) (by decide), cores0, cores0]
  iintro ⟨#Hctx, Hst, ⟨Hp, Hrest⟩, Hk⟩
  iapply ((K (F := F)).wp_run (D (F := F)) 𝒱 (EH := EH) (P := P m) κ d 0) $$ [Hst Hp Hrest Hk]
  isplitr; · iexact Hctx
  isplitl [Hst]; · iexact Hst
  isplitl [Hp]; · iexact Hp
  iintro ⟨Hst, Hp⟩
  iapply Hk
  isplitl [Hst]; · iexact Hst
  isplitl [Hp]; · iexact Hp
  iexact Hrest

/-- The second: the first layer's rows, listed by the second. -/
theorem gather1 (κ : GSem nD τ sig → ℕ) (d : Dev nD) (Φ : PUnit → sProp (MK F)) :
    iprop((K (F := F)).ctx EH (P m) κ ∗ (K (F := F)).tcSt EH d 1 ∗ StableHlo.held (d : Thread nD τ) (Pipeline.ucRefs τ sig) (W5 m d)
        ∗ (((K (F := F)).tcSt EH d 2 ∗ StableHlo.held (d : Thread nD τ) (Pipeline.ucRefs τ sig) (W6 m d)) -∗ Φ ⟨⟩))
      ⊢ wp frame (wpE ((K (F := F)).defs (D (F := F))) 𝒱 (SparseCore.T d) none) Set.univ ((K (F := F)).run d 1) Φ := by
  unfold W6
  rw [held_three d main_v8 main_v11 main_v12 (by decide) (by decide) (by decide) (by decide),
    held_gathered d main_v8 main_v11 main_v12 (by decide) (by decide) (by decide) (by decide), cores1, cores1]
  iintro ⟨#Hctx, Hst, ⟨Hp, Hrest⟩, Hk⟩
  iapply ((K (F := F)).wp_run (D (F := F)) 𝒱 (EH := EH) (P := P m) κ d 1) $$ [Hst Hp Hrest Hk]
  isplitr; · iexact Hctx
  isplitl [Hst]; · iexact Hst
  isplitl [Hp]; · iexact Hp
  iintro ⟨Hst, Hp⟩
  iapply Hk
  isplitl [Hst]; · iexact Hst
  isplitl [Hp]; · iexact Hp
  iexact Hrest

end Cert.Proof
-- ==== Proof.Ghost.lean ====
/-
  The ghost state of the launch — the calls' handshakes, the pipelines' transfers — and a pipeline as a step of the
  tensor core's program.
-/
module

public import proofs.«01_k».proof.Proof.Steps

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.Pipeline (Dat Window BodyObligation)

variable {F : FTy → Type} [FloatOps F]

/-! ## The launch's ghost state -/

/-- The pipelines' share of the ghost state. -/
abbrev EP : Emb UPl (MK F) := (Emb.inl : Emb UPl (UPl × Counters)).trans embR

instance : (EP (F := F)).LandsIn (upEmb : UEmb _ (MK F)) := by unfold EP; infer_instance

/-- What the launch deals device `d`'s tensor core for its pipelines. -/
def G (d : Dev nD) : sProp (MK F) :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem pin_inj : Function.Injective (Pipeline.cellOf (nD := nD) (τ := τ) (Pipeline.pin (pcfgs (F := F)) adm)) := cellOf_inj

def uPl : UPl := initOf (Pipeline.cells (Pipeline.pin (pcfgs (F := F)) adm) pin_inj) (Pipeline.launchToks (Pipeline.pin (pcfgs (F := F)) adm) pin_inj)

def u₀ : UU := (initOf (K (F := F)).hsCells (K (F := F)).hsToks, uPl (F := F), 1)

variable (m : (ℓ : Loc nD τ sig) → Buf (Elt F) ℓ) (ρ : Dev nD → PrngReg)

theorem hu₀ : (ownU (u₀ (F := F)) : sProp (MK F))
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 2 => (P m).x q thr) := by
  have hx : (bigSep Finset.univ fun thr : Thread nD τ => bigSep Finset.univ fun q : Fin 2 => (P (F := F) m).x q thr) = iprop(emp) := by
    exact (bigSep_congr fun thr _ => bigSep_emp_const _).trans (bigSep_emp_const _)
  have hG : bigSep Finset.univ (G (F := F)) = iprop((bigSep Finset.univ fun d : Dev nD => bigSep Finset.univ fun p =>
        Pipeline.cellsGhost (Pipeline.pin (pcfgs (F := F)) adm) EP p d)
      ∗ bigSep Finset.univ fun d : Dev nD => bigSep Finset.univ fun p => Pipeline.toksInit (Pipeline.pin (pcfgs (F := F)) adm) EP p d) := by
    unfold G; rw [bigSep_sep']
  rw [hx, hG]
  unfold u₀
  iintro Hu
  ihave H := (ownU_pair (initOf (K (F := F)).hsCells (K (F := F)).hsToks) (uPl (F := F), (1 : Counters))) $$ Hu
  icases H with ⟨HH, HR⟩
  ihave H := (own_pair_emb (embR : Emb (UPl × Counters) (MK F)) (uPl (F := F)) (1 : Counters)) $$ HR
  icases H with ⟨HP, -⟩
  have hf : BI.own (((Emb.inl : Emb UPl (UPl × Counters)).trans (embR : Emb (UPl × Counters) (MK F))) (uPl (F := F))) ⊢ _ :=
    Pipeline.fund_ghost (Pipeline.pin (pcfgs (F := F)) adm) (EP (F := F)) pin_inj
  imod hf $$ HP with ⟨Hc, Ht⟩
  imodintro
  isplitl [HH]; · iexact HH
  isplitl
  · isplitl [Hc]; · iexact Hc
    iexact Ht
  iempintro

/-! ## A pipeline as a step -/

/-- What of the tensor core's state beside its debts the calls keep. -/
def keep (d : Dev nD) (n : ℕ) : sProp (MK F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ (bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ Idealize.ShloMosaic.cred (tallyAt ((K (F := F)).doneCell d) (some (SparseCore.Cfg.Blocks.last q)) 1))))

theorem tcSt_eq (d : Dev nD) (n : ℕ) : (K (F := F)).tcSt EH d n = iprop(owing (F := F) n d ∗ keep d n) := rfl

theorem pipeline_step [∀ e, Nonempty (Elt F e)] (p : Fin 3) (n : ℕ) (κ : GSem nD τ sig → ℕ) (d : Dev nD)
    (R : Pipeline.RegionSeg (pcfgs (F := F)) adm (pdats m) none defs₀ 𝒱₀ (K (F := F)).L (K (F := F)).lev p)
    (W W' : Dev nD → Valuation τ sig (Elt F)) (hpre : R.pre d = boundaryAt n W d) (hpost : R.post d = boundaryAt n W' d) (Φ : PUnit → sProp (MK F)) :
    iprop((K (F := F)).ctx EH (P m) κ ∗ (K (F := F)).tcSt EH d n ∗ boundary (d : Thread nD τ)
        ∗ StableHlo.held (d : Thread nD τ) (Pipeline.ucRefs τ sig) (W d) ∗ (∃ r, prngReg d r)
        ∗ Pipeline.cellsGhost (Pipeline.pin (pcfgs (F := F)) adm) EP p d ∗ Pipeline.toksInit (Pipeline.pin (pcfgs (F := F)) adm) EP p d
        ∗ (((K (F := F)).tcSt EH d n ∗ boundary (d : Thread nD τ) ∗ StableHlo.held (d : Thread nD τ) (Pipeline.ucRefs τ sig) (W' d)
            ∗ ∃ r, prngReg d r) -∗ Φ ⟨⟩))
      ⊢ wp frame (wpE ((K (F := F)).defs (D (F := F))) 𝒱 (SparseCore.T d) none) Set.univ
          (Prog.lift (.customCall (SparseCore.inner (Pipeline.entry p)) ())) Φ := by
  have hR := R.wp (pcfgs (F := F)) adm (pdats m) none pin_inj EP defs₀ 𝒱₀ (K (F := F)).L (K (F := F)).lev d none (fun _ h => nomatch h) Prog.ret Φ
  rw [hpre, hpost] at hR
  unfold boundaryAt at hR
  rw [tcSt_eq]
  have hl := (K (F := F)).wp_liftProg (D (F := F)) 𝒱 (SparseCore.T d) Set.univ none
    (.op (.customCall (Pipeline.entry p) ()) Prog.ret) Φ
  iintro ⟨#Hctx, ⟨HO, Hkeep⟩, Hb, Hh, Hr, Hc, Ht, Hk⟩
  iapply (show _ ⊢ wp frame (wpE ((K (F := F)).defs (D (F := F))) 𝒱 (SparseCore.T d) none) Set.univ
    (Prog.lift (.customCall (SparseCore.inner (Pipeline.entry p)) ())) Φ from hR.trans hl)
  isplitl [Hkeep Hk]
  · iintro ⟨Hb, Hh, Hr, HO⟩
    rw [wp_ret]; imodintro
    iapply Hk
    isplitl [HO Hkeep]; · isplitl [HO] <;> iassumption
    isplitl [Hb]; · iexact Hb
    isplitl [Hh]; · iexact Hh
    iexact Hr
  isplitl [Hb]; · iexact Hb
  isplitl [Hh Hr HO]
  · isplitl [Hh]; · iexact Hh
    isplitl [Hr]; · iexact Hr
    iexact HO
  isplitr; · iapply (SparseCore.Cfg.ctx_levAts κ) $$ Hctx
  isplitl [Hc]; · iexact Hc
  iexact Ht

end Cert.Proof
-- ==== Proof.Run.lean ====
/-
  The program's run: from any launch memory whose index lists name rows, every weakly fair execution ends with every
  unscoped buffer at its contents after the last host operation, and every semaphore counter at zero.
-/
module

public import proofs.«01_k».proof.Proof.Ghost

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.Pipeline (Dat Window BodyObligation)

variable {F : FTy → Type} [FloatOps F]

variable (m : (ℓ : Loc nD τ sig) → Buf (Elt F) ℓ) (ρ : Dev nD → PrngReg)

/-- What the tensor core holds at its end. -/
abbrev FIN (d : Dev nD) : sProp (MK F) := StableHlo.held (d : Thread nD τ) (Pipeline.ucRefs τ sig) (W11 m d)

theorem G_eq (d : Dev nD) : G (F := F) d = iprop((Pipeline.cellsGhost (Pipeline.pin (pcfgs (F := F)) adm) EP 0 d
      ∗ Pipeline.cellsGhost (Pipeline.pin (pcfgs (F := F)) adm) EP 1 d ∗ Pipeline.cellsGhost (Pipeline.pin (pcfgs (F := F)) adm) EP 2 d)
    ∗ Pipeline.toksInit (Pipeline.pin (pcfgs (F := F)) adm) EP 0 d ∗ Pipeline.toksInit (Pipeline.pin (pcfgs (F := F)) adm) EP 1 d
      ∗ Pipeline.toksInit (Pipeline.pin (pcfgs (F := F)) adm) EP 2 d) := by
  unfold G; rw [Ring.bigSep_fin3, Ring.bigSep_fin3]

theorem start_held (d : Dev nD) : (unscopedBufs d (fun b => m ((SparseCore.T d).loc b)) : sProp (MK F))
    = StableHlo.held (d : Thread nD τ) (Pipeline.ucRefs τ sig) (W0 m d) := Pipeline.unscopedBufs_held d (W0 m d)

/-- A stretch of host operations as a step. -/
theorem host_step (d : Dev nD) {ops : List (HloOp τ sig (Elt F))} (h : Plain ops) (W : Valuation τ sig (Elt F))
    (k : PUnit → Prog (TpuEff nD τ sig (Elt F) (SparseCore.Sig (ΛP (F := F)) 2) .tc) PUnit) (Φ : PUnit → sProp (MK F)) :
    iprop(boundary (d : Thread nD τ) ∗ StableHlo.held (d : Thread nD τ) (Pipeline.ucRefs τ sig) W
        ∗ ((boundary (d : Thread nD τ) ∗ StableHlo.held (d : Thread nD τ) (Pipeline.ucRefs τ sig) (StableHlo.after ops W))
          -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (StableHlo.seq ops >>= k) Φ := by
  iintro ⟨Hb, Hh, Hk⟩
  iapply (StableHlo.wp_seq 𝒱 none Set.univ d (Pipeline.ucRefs τ sig) k ops h.1 h.2 W) $$ [Hb Hh]
  · isplitl [Hb] <;> iassumption
  iexact Hk

set_option maxRecDepth 16384 in
/-- @main on device `d`'s tensor core. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [start_held, G_eq, main_eq]
  iintro ⟨#Hctx, Hst, ⟨Hb, Hh, Hts, Hr⟩, ⟨Hc0, Hc1, Hc2⟩, Ht0, Ht1, Ht2⟩
  iapply (host_step d plain0 (W0 m d) _ _) $$ [-]
  isplitl [Hb]; · iexact Hb
  isplitl [Hh]; · iexact Hh
  iintro ⟨Hb, Hh⟩
  iapply (Entails.of_eq (wp_bind ..).symm) $$ [-]
  iapply (gather0 m κ d _) $$ [-]
  isplitr; · iexact Hctx
  isplitl [Hst]; · iexact Hst
  isplitl [Hh]; · iexact Hh
  iintro ⟨Hst, Hh⟩
  iapply (host_step d plain1 (W2 m d) _ _) $$ [-]
  isplitl [Hb]; · iexact Hb
  isplitl [Hh]; · iexact Hh
  iintro ⟨Hb, Hh⟩
  iapply (Entails.of_eq (wp_bind ..).symm) $$ [-]
  iapply (pipeline_step m 0 1 κ d (reg0 m) (W3 m) (W4 m) rfl rfl _) $$ [-]
  isplitr; · iexact Hctx
  isplitl [Hst]; · iexact Hst
  isplitl [Hb]; · iexact Hb
  isplitl [Hh]; · iexact Hh
  isplitl [Hr]; · iexists (ρ d); iexact Hr
  isplitl [Hc0]; · iexact Hc0
  isplitl [Ht0]; · iexact Ht0
  iintro ⟨Hst, Hb, Hh, Hr⟩
  iapply (host_step d plain2 (W4 m d) _ _) $$ [-]
  isplitl [Hb]; · iexact Hb
  isplitl [Hh]; · iexact Hh
  iintro ⟨Hb, Hh⟩
  iapply (Entails.of_eq (wp_bind ..).symm) $$ [-]
  iapply (gather1 m κ d _) $$ [-]
  isplitr; · iexact Hctx
  isplitl [Hst]; · iexact Hst
  isplitl [Hh]; · iexact Hh
  iintro ⟨Hst, Hh⟩
  iapply (host_step d plain3 (W6 m d) _ _) $$ [-]
  isplitl [Hb]; · iexact Hb
  isplitl [Hh]; · iexact Hh
  iintro ⟨Hb, Hh⟩
  iapply (Entails.of_eq (wp_bind ..).symm) $$ [-]
  iapply (pipeline_step m 1 2 κ d (reg1 m) (W7 m) (W8 m) rfl rfl _) $$ [-]
  isplitr; · iexact Hctx
  isplitl [Hst]; · iexact Hst
  isplitl [Hb]; · iexact Hb
  isplitl [Hh]; · iexact Hh
  isplitl [Hr]; · iexact Hr
  isplitl [Hc1]; · iexact Hc1
  isplitl [Ht1]; · iexact Ht1
  iintro ⟨Hst, Hb, Hh, Hr⟩
  iapply (host_step d plain4 (W8 m d) _ _) $$ [-]
  isplitl [Hb]; · iexact Hb
  isplitl [Hh]; · iexact Hh
  iintro ⟨Hb, Hh⟩
  iapply (Entails.of_eq (wp_bind ..).symm) $$ [-]
  iapply (pipeline_step m 2 2 κ d (reg2 m) (W9 m) (W10 m) rfl rfl _) $$ [-]
  isplitr; · iexact Hctx
  isplitl [Hst]; · iexact Hst
  isplitl [Hb]; · iexact Hb
  isplitl [Hh]; · iexact Hh
  isplitl [Hr]; · iexact Hr
  isplitl [Hc2]; · iexact Hc2
  isplitl [Ht2]; · iexact Ht2
  iintro ⟨Hst, Hb, Hh, -⟩
  iapply (host_step d plain5 (W10 m d) Prog.ret _) $$ [-]
  isplitl [Hb]; · iexact Hb
  isplitl [Hh]; · iexact Hh
  iintro ⟨Hb, Hh⟩
  iapply (Entails.of_eq (wp_ret ..).symm) $$ [-]
  imodintro
  isplitl [Hst]; · iexact Hst
  isplitl [Hh]; · iexact Hh
  isplitl [Hb] <;> iassumption

/-- What the last memory holds: the last contents, at every unscoped buffer. -/
def fq (d : Dev nD) (s' : Phys nD τ sig (Elt F)) : Prop := ∀ b ∈ Pipeline.ucRefs τ sig, s'.mem.mem (d, b) = W11 m d b

theorem hfin (d : Dev nD) (s' : Phys nD τ sig (Elt F)) : iprop(FIN m d ∗ SI s') ⊢ (⌜fq m d s'⌝ : sProp (MK F)) := by
  unfold FIN StableHlo.held
  have h : ∀ b ∈ Pipeline.ucRefs τ sig, iprop((bigSep (Pipeline.ucRefs τ sig) fun b => ((d, b) : Loc nD τ sig) ↦{fullShare} W11 m d b) ∗ SI s')
      ⊢ (⌜s'.mem.mem (d, b) = W11 m d b⌝ : sProp (MK F)) := fun b hb => by
    iintro ⟨H, HSI⟩
    ihave H' := (show (bigSep (Pipeline.ucRefs τ sig) fun b => ((d, b) : Loc nD τ sig) ↦{fullShare} W11 m d b)
        ⊢ iprop((bigSep {b} fun b => ((d, b) : Loc nD τ sig) ↦{fullShare} W11 m d b)
          ∗ bigSep (Pipeline.ucRefs τ sig \ {b}) fun b => ((d, b) : Loc nD τ sig) ↦{fullShare} W11 m d b) from
      Entails.of_eq (BI.bigSep_sdiff_split (Finset.singleton_subset_iff.mpr hb))) $$ H
    icases H' with ⟨H1, -⟩
    ihave H2 := (Entails.of_eq (bigSep_singleton ..)) $$ H1
    ihave H := (SI_pointsTo_agree (st := s') (ℓ := (d, b)) (I := Finset.univ) (q := fullShare) (f := W11 m d b)) $$ [HSI H2]
    · isplitl [HSI] <;> iassumption
    icases H with %h
    ipureintro; exact funext fun i => h i (Finset.mem_univ i)
  exact (Idealize.SL.BI.BIClass.forall_intro fun b => Laws.pure_imp_intro fun hb => h b hb).trans Laws.pure_forall.2

def QC : PUnit × MemSt nD τ sig (Elt F) → Prop := fun r =>
  (∀ c : Dev nD, ∀ b ∈ Pipeline.ucRefs τ sig, r.2.mem (c, b) = W11 m c b) ∧ r.2.sem = fun _ => 0

theorem run_main [∀ e, Nonempty (Elt F e)] (h : ListsOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 | 1 => nomatch hq)
    (fun q _ => match q with | 0 => tileObl0 m h | 1 => tileObl1 m h)
    (fun q _ => match q with | 0 => SparseCore.Cfg.VecSplit.of_plain (split0 m) | 1 => SparseCore.Cfg.VecSplit.of_plain (split1 m))
    m ρ main G (FIN m) (u₀ (F := F)) (sep_elim_left.trans (hu₀ m)) (hmain m ρ) (fq m) (hfin m) (QC m) (fun _ h hz => ⟨h, hz⟩)

end Cert.Proof
-- ==== Proof.Args.lean ====
/-
  What each stretch of the program leaves as it was, the arguments above all; and what the precondition says of the
  neighbour lists and the targets.
-/
module

public import proofs.«01_k».proof.Proof.Run
public import Idealize.ShloMosaic.Lib.ReduceAll
public import proofs.«01_k».proof.Proof.Gen.Pre_in_range

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.Pipeline (Dat Window BodyObligation)

variable {F : FTy → Type} [FloatOps F]

variable (m : (ℓ : Loc nD τ sig) → Buf (Elt F) ℓ)

/-! ## What each stretch writes -/

abbrev wr0 : List (Ref sig .tc) := [main_v0, main_v1, main_v2, main_c, main_call0_v0, main_v3, main_c_0, main_call1_v0, main_v4, main_v5]

theorem keep1 (c : Dev nD) (r : Ref sig .tc) (h : r ∉ wr0) : W1 m c (Proc.devRef .tc r) = m ((c : Thread nD τ).loc r) :=
  StableHlo.after_of_writes_sub (W := wr0) ops0 _ (StableHlo.forall_writes_sub_of_map rfl) h

theorem keep2 (c : Dev nD) (r : Ref sig .tc) (h : r ≠ main_v6) : W2 m c (Proc.devRef .tc r) = W1 m c (Proc.devRef .tc r) :=
  Function.update_of_ne (fun e => h (Proc.devRef_injective _ e)) _ _

theorem keep3 (c : Dev nD) (r : Ref sig .tc) (h : r ∉ [main_v7]) : W3 m c (Proc.devRef .tc r) = W2 m c (Proc.devRef .tc r) :=
  StableHlo.after_of_writes_sub (W := [main_v7]) ops1 _ (StableHlo.forall_writes_sub_of_map rfl) h

theorem keep4 (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (exit1 m c w).symm.trans (((dat1 (V3 m) c).arrAt_in w (h w rfl) _).trans (A1 (V3 m) c w))
  · exact kept1 m c r fun hb => hw ((Finset.mem_image.mp hb).imp fun _ h => h.2)

theorem keep5 (c : Dev nD) (r : Ref sig .tc) (h : r ∉ [main_v9, main_v10, main_v11]) : W5 m c (Proc.devRef .tc r) = W4 m c (Proc.devRef .tc r) :=
  StableHlo.after_of_writes_sub (W := [main_v9, main_v10, main_v11]) ops2 _ (StableHlo.forall_writes_sub_of_map rfl) h

theorem keep6 (c : Dev nD) (r : Ref sig .tc) (h : r ≠ main_v12) : W6 m c (Proc.devRef .tc r) = W5 m c (Proc.devRef .tc r) :=
  Function.update_of_ne (fun e => h (Proc.devRef_injective _ e)) _ _

theorem keep7 (c : Dev nD) (r : Ref sig .tc) (h : r ∉ [main_v13]) : W7 m c (Proc.devRef .tc r) = W6 m c (Proc.devRef .tc r) :=
  StableHlo.after_of_writes_sub (W := [main_v13]) ops3 _ (StableHlo.forall_writes_sub_of_map rfl) h

theorem keep8 (c : Dev nD) (r : Ref sig .tc) (h : ∀ w : Fin cfg3.W, Pipeline.arrRef spec3 w = r → (cfg3.win w).isOut = false) :
    W8 m c (Proc.devRef .tc r) = W7 m c (Proc.devRef .tc r) := by
  by_cases hw : ∃ w : Fin cfg3.W, Pipeline.arrRef spec3 w = r
  · obtain ⟨w, rfl⟩ := hw
    exact (exit2 m c w).symm.trans (((dat2 (V7 m) c).arrAt_in w (h w rfl) _).trans (A2 (V7 m) c w))
  · exact kept2 m c r fun hb => hw ((Finset.mem_image.mp hb).imp fun _ h => h.2)

theorem keep9 (c : Dev nD) (r : Ref sig .tc) (h : r ∉ [main_v15]) : W9 m c (Proc.devRef .tc r) = W8 m c (Proc.devRef .tc r) :=
  StableHlo.after_of_writes_sub (W := [main_v15]) ops4 _ (StableHlo.forall_writes_sub_of_map rfl) h

theorem keep10 (c : Dev nD) (r : Ref sig .tc) (h : ∀ w : Fin cfg4.W, Pipeline.arrRef spec4 w = r → (cfg4.win w).isOut = false) :
    W10 m c (Proc.devRef .tc r) = W9 m c (Proc.devRef .tc r) := by
  by_cases hw : ∃ w : Fin cfg4.W, Pipeline.arrRef spec4 w = r
  · obtain ⟨w, rfl⟩ := hw
    exact (exit4 m c w).symm.trans (((dat4 (V9 m) c).arrAt_in w (h w rfl) _).trans (A4 (V9 m) c w))
  · exact kept4 m c r fun hb => hw ((Finset.mem_image.mp hb).imp fun _ h => h.2)

theorem keep11 (c : Dev nD) (r : Ref sig .tc) (h : r ∉ [main_v17]) : W11 m c (Proc.devRef .tc r) = W10 m c (Proc.devRef .tc r) :=
  StableHlo.after_of_writes_sub (W := [main_v17]) ops5 _ (StableHlo.forall_writes_sub_of_map rfl) h

/-! ## The arguments -/

abbrev argRefs : List (Ref sig .tc) :=
  [main_arg0, main_arg1, main_arg2, main_arg3, main_arg4, main_arg5, main_arg6, main_arg7, main_arg8, main_arg9]

/-- No stretch of host operations and no gather writes an argument, and no pipeline has one among its outputs. -/
theorem args_apart : ∀ a ∈ argRefs, a ∉ wr0 ∧ a ≠ main_v6 ∧ a ∉ [main_v7] ∧ a ∉ [main_v9, main_v10, main_v11] ∧ a ≠ main_v12 ∧ a ∉ [main_v13]
    ∧ a ∉ [main_v15] ∧ a ∉ [main_v17] := ListAll.forall_mem_of_all_decide (by decide +kernel)

theorem args_in1 : ∀ a ∈ argRefs, ∀ w : Fin cfg1.W, Pipeline.arrRef spec1 w = a → (cfg1.win w).isOut = false :=
  ListAll.forall_mem_of_all_decide (by decide +kernel)
theorem args_in2 : ∀ a ∈ argRefs, ∀ w : Fin cfg3.W, Pipeline.arrRef spec3 w = a → (cfg3.win w).isOut = false :=
  ListAll.forall_mem_of_all_decide (by decide +kernel)
theorem args_in4 : ∀ a ∈ argRefs, ∀ w : Fin cfg4.W, Pipeline.arrRef spec4 w = a → (cfg4.win w).isOut = false :=
  ListAll.forall_mem_of_all_decide (by decide +kernel)

theorem args3 (c : Dev nD) (a : Ref sig .tc) (h : a ∈ argRefs) : W3 m c (Proc.devRef .tc a) = m ((c : Thread nD τ).loc a) :=
  have hw := args_apart a h
  (keep3 m c a hw.2.2.1).trans ((keep2 m c a hw.2.1).trans (keep1 m c a hw.1))
theorem args4 (c : Dev nD) (a : Ref sig .tc) (h : a ∈ argRefs) : W4 m c (Proc.devRef .tc a) = m ((c : Thread nD τ).loc a) :=
  (keep4 m c a (args_in1 a h)).trans (args3 m c a h)
theorem args6 (c : Dev nD) (a : Ref sig .tc) (h : a ∈ argRefs) : W6 m c (Proc.devRef .tc a) = m ((c : Thread nD τ).loc a) :=
  have hw := args_apart a h
  (keep6 m c a hw.2.2.2.2.1).trans ((keep5 m c a hw.2.2.2.1).trans (args4 m c a h))
theorem args8 (c : Dev nD) (a : Ref sig .tc) (h : a ∈ argRefs) : W8 m c (Proc.devRef .tc a) = m ((c : Thread nD τ).loc a) :=
  have hw := args_apart a h
  (keep8 m c a (args_in2 a h)).trans ((keep7 m c a hw.2.2.2.2.2.1).trans (args6 m c a h))
theorem args9 (c : Dev nD) (a : Ref sig .tc) (h : a ∈ argRefs) : W9 m c (Proc.devRef .tc a) = m ((c : Thread nD τ).loc a) :=
  (keep9 m c a (args_apart a h).2.2.2.2.2.2.1).trans (args8 m c a h)
theorem args11 (c : Dev nD) (a : Ref sig .tc) (h : a ∈ argRefs) : W11 m c (Proc.devRef .tc a) = m ((c : Thread nD τ).loc a) :=
  (keep11 m c a (args_apart a h).2.2.2.2.2.2.2).trans ((keep10 m c a (args_in4 a h)).trans (args9 m c a h))

theorem args_unscoped : ∀ a ∈ argRefs, Proc.devRef (τ := τ) .tc a ∈ Pipeline.ucRefs τ sig := by
  have hs : ∀ a ∈ argRefs, a.isScoped = false := ListAll.forall_mem_of_all_decide (by decide +kernel)
  exact fun a h => Finset.mem_filter.mpr ⟨StableHlo.devRef_mem_tcRefs a, by rw [Proc.isScoped_devRef, hs a h]; exact Bool.false_ne_true⟩

/-- At a final memory every argument is as it was. -/
theorem args_end {r : PUnit × MemSt nD τ sig (Elt F)} (h : QC m r) (c : Dev nD) (a : Ref sig .tc) (ha : a ∈ argRefs) :
    r.2.mem ((c : Thread nD τ).loc a) = m ((c : Thread nD τ).loc a) :=
  (h.1 c _ (args_unscoped a ha)).trans (args11 m c a ha)

/-! ## The lists the gathers find -/

theorem v5_eq (c : Dev nD) : V1 m c main_v5 = shapeCast S131072 (m ((c : Thread nD τ).loc main_arg1)) shapeCasts_S4096x32_S131072 := by
  show StableHlo.after ops0 (W0 m c) _ = _
  rfl

theorem v11_eq (c : Dev nD) : V5 m c main_v11 = shapeCast S131072 (m ((c : Thread nD τ).loc main_arg2)) shapeCasts_S4096x32_S131072 := by
  rw [← args4 m c main_arg2 (by decide)]
  rfl

/-- The two index lists name rows of the 4096. -/
structure InRange (i0 i1 : IVec S4096x32 32) (t : IVec S4096 32) : Prop where
  first : ∀ x, (i0 x).toNat < 4096
  second : ∀ x, (i1 x).toNat < 4096
  targets : ∀ x, (t x).toNat < 40

theorem nat_lt {v : BitVec 32} {k : ℕ} (hk : k < 2 ^ 31) (h0 : IntOp.cmpi .sge v 0#32 = 1#1) (h1 : IntOp.cmpi .slt v (BitVec.ofNat 32 k) = 1#1) : v.toNat < k := by
  have one (p : Bool) : (BitVec.ofBool p = 1#1) ↔ p = true := by cases p <;> decide
  simp only [IntOp.cmpi, one, BitVec.sle_eq_decide, BitVec.slt_eq_decide, decide_eq_true_eq, BitVec.toInt_eq_toNat_cond, BitVec.toNat_ofNat] at h0 h1
  omega

theorem and_one {a b : BitVec 1} (h : IntOp.andi a b = 1#1) : a = 1#1 ∧ b = 1#1 := by
  revert a b; decide

theorem inRange_of {x : FVec F S4096x64 .f32} {i0 i1 : IVec S4096x32 32} {t : IVec S4096 32} {w0 : FVec F S128x128 .f32} {b0 : FVec F S128 .f32}
    {w1 : FVec F S256x256 .f32} {b1 : FVec F S256 .f32} {wc : FVec F S256x40 .f32} {bc : FVec F S40 .f32}
    (h : Cert.Pre_in_range.fn (F := F) x i0 i1 t w0 b0 w1 b1 wc bc = fun _ => 1#1) : InRange i0 i1 t := by
  have e := congrFun h fun i => i.elim0
  obtain ⟨e, e6⟩ := and_one e
  obtain ⟨e, e5⟩ := and_one e
  obtain ⟨e, e4⟩ := and_one e
  obtain ⟨e, e3⟩ := and_one e
  obtain ⟨e1, e2⟩ := and_one e
  exact ⟨fun x => nat_lt (by decide) (Host.reduce_andi_all _ _ _ _ _ e1 x) (Host.reduce_andi_all _ _ _ _ _ e2 x),
    fun x => nat_lt (by decide) (Host.reduce_andi_all _ _ _ _ _ e3 x) (Host.reduce_andi_all _ _ _ _ _ e4 x),
    fun x => nat_lt (by decide) (Host.reduce_andi_all _ _ _ _ _ e5 x) (Host.reduce_andi_all _ _ _ _ _ e6 x)⟩

theorem listsOK (h : ∀ c : Dev nD, InRange (m ((c : Thread nD τ).loc main_arg1)) (m ((c : Thread nD τ).loc main_arg2)) (m ((c : Thread nD τ).loc main_arg3))) :
    ListsOK m :=
  ⟨fun d x => by rw [v5_eq]; exact (h d).first _, fun d x => by rw [v11_eq]; exact (h d).second _⟩

end Cert.Proof
-- ==== Proof.Contents.lean ====
/-
  What each array of the kernel's memory holds, named by the arguments: the two edge calls leave the two layers' features,
  and the classifier the softmax of their scores and the mean loss.
-/
module

public import proofs.«01_k».proof.Proof.EdgeConv
public import proofs.«01_k».proof.Proof.ClsValue
public import proofs.«01_k».proof.Proof.Args

@[expose] public section

set_option maxRecDepth 16384

noncomputable section

namespace Cert.Proof

open Cert.KernelIdeal Cert.KernelIdeal.Gen
open Idealize.ShloMosaic Idealize.ShloMosaic.TcCoe

variable (m : (ℓ : Loc nD τ sig) → Buf (Elt Ideal) ℓ) (c : Dev nD)

/-! ## What a memory keeps up to the call that reads it -/

theorem to3 (r : Ref sig .tc) (h : r ≠ main_v6 ∧ r ∉ [main_v7]) : V3 m c r = V1 m c r :=
  (keep3 m c r h.2).trans (keep2 m c r h.1)

theorem to7 (r : Ref sig .tc) (h : r ≠ main_v12 ∧ r ∉ [main_v13]) : V7 m c r = V5 m c r :=
  (keep7 m c r h.2).trans (keep6 m c r h.1)

/-! ## The first layer -/

theorem at3_v1 : V3 m c main_v1 = extractStridedSlice S64x128 ![0, 0] (m ((c : Thread nD τ).loc main_arg4)) slices_S128x128_S64x128_0_0 := by
  rw [to3 m c _ (by decide)]
  show StableHlo.after ops0 (W0 m c) _ = _
  rfl

theorem at1_v3 : V1 m c main_v3 = padRows (m ((c : Thread nD τ).loc main_arg0)) := by
  show StableHlo.after ops0 (W0 m c) _ = _
  rfl

theorem at3_v4 : V3 m c main_v4 = pad S128x128 ![0, 0] ![64, 0] ![0, 0]
    (extractStridedSlice S64x128 ![64, 0] (m ((c : Thread nD τ).loc main_arg4)) slices_S128x128_S64x128_64_0) zeroPad pads_S64x128_S128x128_0640_000 h_S_ := by
  rw [to3 m c _ (by decide)]
  show StableHlo.after ops0 (W0 m c) _ = _
  rfl

theorem at3_v6 : V3 m c main_v6 = gatherAll (F := Ideal) (padRows (m ((c : Thread nD τ).loc main_arg0)))
    (shapeCast S131072 (m ((c : Thread nD τ).loc main_arg1)) shapeCasts_S4096x32_S131072) := by
  have e : W2 m c (Proc.devRef .tc main_v6) = rows0 m c := by
    unfold W2 gathered
    exact Function.update_self _ _ _
  refine (keep3 m c main_v6 (by decide)).trans (e.trans ?_)
  exact congrArg₂ (gatherAll (F := Ideal)) (at1_v3 m c) (v5_eq m c)

theorem at3_v7 : V3 m c main_v7 = shapeCast S1x128 (m ((c : Thread nD τ).loc main_arg5)) shapeCasts_S128_S1x128 := by
  rw [← args3 m c main_arg5 (by decide), keep3 m c main_arg5 (by decide)]
  show StableHlo.after ops1 (W2 m c) _ = _
  rfl

/-- The first layer's features. -/
def feats1 : FVec Ideal S4096x128 .f32 := fun i =>
  conv (fun i (q : Fin 64) => (show FVec Ideal S4096x64 .f32 from m ((c : Thread nD τ).loc main_arg0)) (ix2 i q))
    (fun i k => nbr ((show IVec S4096x32 32 from m ((c : Thread nD τ).loc main_arg1)) (ix2 i k)))
    (fun q o => (show FVec Ideal S128x128 .f32 from m ((c : Thread nD τ).loc main_arg4)) (ix2 ⟨q.val, by omega⟩ o))
    (fun q o => (show FVec Ideal S128x128 .f32 from m ((c : Thread nD τ).loc main_arg4)) (ix2 ⟨64 + q.val, by omega⟩ o))
    (fun o => (show FVec Ideal S128 .f32 from m ((c : Thread nD τ).loc main_arg5)) (ix1 o)) (i 0) (i 1)

theorem at4_v8 : V4 m c main_v8 = feats1 m c := by
  refine (exit1 m c 6).symm.trans ((final1 (V3 m) c).trans ?_)
  rw [at3_v6, to3 m c main_v3 (by decide), at1_v3, at3_v1, at3_v4, at3_v7,
    show V3 m c main_arg0 = _ from args3 m c main_arg0 (by decide)]
  exact funext fun i => edge_conv1 _ _ _ _ (i 0) (i 1)

/-! ## The second layer -/

theorem at5_v8 : V5 m c main_v8 = feats1 m c := (keep5 m c main_v8 (by decide)).trans (at4_v8 m c)

theorem at7_v9 : V7 m c main_v9 = extractStridedSlice S128x256 ![0, 0] (m ((c : Thread nD τ).loc main_arg6)) slices_S256x256_S128x256_0_0 := by
  rw [to7 m c _ (by decide), ← args4 m c main_arg6 (by decide)]
  show StableHlo.after ops2 (W4 m c) _ = _
  rfl

theorem at7_v10 : V7 m c main_v10 = extractStridedSlice S128x256 ![128, 0] (m ((c : Thread nD τ).loc main_arg6)) slices_S256x256_S128x256_128_0 := by
  rw [to7 m c _ (by decide), ← args4 m c main_arg6 (by decide)]
  show StableHlo.after ops2 (W4 m c) _ = _
  rfl

theorem at7_v12 : V7 m c main_v12 = gatherAll (F := Ideal) (feats1 m c)
    (shapeCast S131072 (m ((c : Thread nD τ).loc main_arg2)) shapeCasts_S4096x32_S131072) := by
  have e : W6 m c (Proc.devRef .tc main_v12) = rows1 m c := by
    unfold W6 gathered
    exact Function.update_self _ _ _
  refine (keep7 m c main_v12 (by decide)).trans (e.trans ?_)
  exact congrArg₂ (gatherAll (F := Ideal)) (at5_v8 m c) (v11_eq m c)

theorem at7_v13 : V7 m c main_v13 = shapeCast S1x256 (m ((c : Thread nD τ).loc main_arg7)) shapeCasts_S256_S1x256 := by
  rw [← args6 m c main_arg7 (by decide)]
  show StableHlo.after ops3 (W6 m c) _ = _
  rfl

/-- The second layer's features. -/
def feats2 : FVec Ideal S4096x256 .f32 := fun i =>
  conv (fun i (q : Fin 128) => feats1 m c (ix2 i q))
    (fun i k => nbr ((show IVec S4096x32 32 from m ((c : Thread nD τ).loc main_arg2)) (ix2 i k)))
    (fun q o => (show FVec Ideal S256x256 .f32 from m ((c : Thread nD τ).loc main_arg6)) (ix2 ⟨q.val, by omega⟩ o))
    (fun q o => (show FVec Ideal S256x256 .f32 from m ((c : Thread nD τ).loc main_arg6)) (ix2 ⟨128 + q.val, by omega⟩ o))
    (fun o => (show FVec Ideal S256 .f32 from m ((c : Thread nD τ).loc main_arg7)) (ix1 o)) (i 0) (i 1)

theorem at8_v14 : V8 m c main_v14 = feats2 m c := by
  refine (exit2 m c 6).symm.trans ((final2 (V7 m) c).trans ?_)
  rw [at7_v12, to7 m c main_v8 (by decide), at5_v8, at7_v9, at7_v10, at7_v13]
  exact funext fun i => edge_conv2 _ _ _ _ (i 0) (i 1)

/-! ## The classifier -/

theorem at9_v14 : V9 m c main_v14 = feats2 m c := (keep9 m c main_v14 (by decide)).trans (at8_v14 m c)

theorem at9_v15 : V9 m c main_v15 = shapeCast S1x40 (m ((c : Thread nD τ).loc main_arg9)) shapeCasts_S40_S1x40 := by
  rw [← args8 m c main_arg9 (by decide)]
  show StableHlo.after ops4 (W8 m c) _ = _
  rfl

theorem apart1_v0 : ∀ w : Fin cfg1.W, Pipeline.arrRef spec1 w = main_v0 → (cfg1.win w).isOut = false := by decide +kernel
theorem apart2_v0 : ∀ w : Fin cfg3.W, Pipeline.arrRef spec3 w = main_v0 → (cfg3.win w).isOut = false := by decide +kernel

theorem at9_v0 : V9 m c main_v0 = shapeCast S4096x1 (m ((c : Thread nD τ).loc main_arg3)) shapeCasts_S4096_S4096x1 := by
  refine (keep9 m c main_v0 (by decide)).trans ((keep8 m c main_v0 apart2_v0).trans ((to7 m c main_v0 (by decide)).trans
    ((keep5 m c main_v0 (by decide)).trans ((keep4 m c main_v0 apart1_v0).trans ((to3 m c main_v0 (by decide)).trans ?_)))))
  show StableHlo.after ops0 (W0 m c) _ = _
  rfl

/-- The classes' scores at one row. -/
def logits (i : Fin 4096) (j : Fin 40) : EReal :=
  ∑ q : Fin 256, feats2 m c (ix2 i q) * (show FVec Ideal S256x40 .f32 from m ((c : Thread nD τ).loc main_arg8)) (ix2 q j)
    + (show FVec Ideal S40 .f32 from m ((c : Thread nD τ).loc main_arg9)) (ix1 j)

theorem allScores_eq : allScores (V9 m) c = logits m c := by
  unfold allScores
  rw [at9_v14, at9_v15, show V9 m c main_arg8 = _ from args9 m c main_arg8 (by decide)]
  funext i j
  unfold rowScores logits
  pointwise []

/-- The probabilities the kernel leaves. -/
def probsOf : FVec Ideal S4096x40 .f32 := fun i => soft (logits m c (i 0)) (i 1)

/-- The loss the kernel leaves. -/
def lossOf : EReal := mean (∑ i : Fin 4096, Ideal.log (soft (logits m c i)
  (cls ((show IVec S4096 32 from m ((c : Thread nD τ).loc main_arg3)) (ix1 i)))))

theorem at11_v16_0 : W11 m c (Proc.devRef .tc main_v16_0) = probsOf m c := by
  refine (keep11 m c main_v16_0 (by decide)).trans ((exit4 m c 4).symm.trans ((final4 (V9 m) c).trans ?_))
  rw [allScores_eq]
  rfl

theorem column_at (t : IVec S4096 32) (i : Fin 4096) :
    shapeCast S4096x1 t shapeCasts_S4096_S4096x1 (ix2 i 0) = t (ix1 i) := by
  pointwise []

theorem at11_v17 (ht : ∀ i, ((show IVec S4096 32 from m ((c : Thread nD τ).loc main_arg3)) i).toNat < 40) :
    W11 m c (Proc.devRef .tc main_v17) = (fun _ => lossOf m c : FVec Ideal S_ .f32) := by
  have h0 (i : Fin 4096) : (show IVec S4096x1 32 from V9 m c main_v0) (ix2 i 0)
      = (show IVec S4096 32 from m ((c : Thread nD τ).loc main_arg3)) (ix1 i) :=
    (congrFun (at9_v0 m c) (ix2 i 0)).trans (column_at _ i)
  have e : V10 m c main_v16_1 = (fun _ => lossOf m c : FVec Ideal S1x1 .f32) := by
    refine (exit4 m c 5).symm.trans ((final5 (V9 m) c fun i => ?_).trans ?_)
    · exact lt_of_eq_of_lt (congrArg BitVec.toNat (h0 i)) (ht _)
    · unfold lossOf
      refine funext fun _ => congrArg mean (Finset.sum_congr rfl fun i _ => ?_)
      rw [allScores_eq]
      exact congrArg (fun v => Ideal.log (soft (logits m c i) (cls v))) (h0 i)
  have s : W11 m c (Proc.devRef .tc main_v17) = shapeCast S_ (V10 m c main_v16_1) shapeCasts_S1x1_S_ := by
    show StableHlo.after ops5 (W10 m c) _ = _
    rfl
  rw [s, e]
  rfl

end Cert.Proof
-- ==== Proof.RefConv.lean ====
/-
  The reference's stages as functions of their operands, and each edge convolution read at coordinates.
-/
module

public import proofs.«01_k».proof.Proof.Spec
public import proofs.«01_k».proof.Proof.Gen.ReferenceIdeal.Run
public import Idealize.ShloMosaic.Lib.Tactic

@[expose] public section

set_option maxRecDepth 16384

noncomputable section

namespace Cert.Proof.Ref

open Idealize.ShloMosaic Cert.ReferenceIdeal Cert.ReferenceIdeal.Gen

/-- A gather of rows of a 4096-row table by a [4096, 32] list of starts, at an index whose start is in range. -/
theorem gather_rows {α : Type} {C : ℕ} (d : GatherDims ⟨2, ![4096, C]⟩ ⟨3, ![4096, 32, 1]⟩ ⟨3, ![4096, 32, C]⟩)
    (h1 : d.offsetDims = [2]) (h2 : d.collapsedSliceDims = [0]) (h3 : d.operandBatchingDims = []) (h4 : d.startIndicesBatchingDims = [])
    (h5 : d.startIndexMap = [0]) (h6 : d.indexVectorDim = 2) (h7 : d.sliceSizes = ![1, C])
    (x : (⟨2, ![4096, C]⟩ : Shape).Idx → α) (idx : IVec ⟨3, ![4096, 32, 1]⟩ 32) (i : Fin 4096) (k : Fin 32) (q : Fin C)
    (hr : (idx (ix3 i k 0)).toNat < 4096) :
    Host.gather d x idx (ix3 i k q) = x (ix2 (nbr (idx (ix3 i k 0))) q) := by
  obtain ⟨o, cs, ob, sb, sm, iv, ss, wf⟩ := d
  simp only at h1 h2 h3 h4 h5 h6 h7
  subst h1 h2 h3 h4 h5 h6 h7
  set d : GatherDims ⟨2, ![4096, C]⟩ ⟨3, ![4096, 32, 1]⟩ ⟨3, ![4096, 32, C]⟩ := ⟨[2], [0], [], [], [0], 2, ![1, C], wf⟩ with hd
  unfold Host.gather
  congr 1
  funext a
  refine Fin.ext ?_
  show d.start (ix3 i k q) idx a + d.batchCoord (ix3 i k q) a + d.offCoord (ix3 i k q) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ d.startIndexMap from List.mem_singleton.mpr rfl)]
    have hsi : d.siIdx (ix3 i k q) ⟨List.idxOf (0 : Fin 2) d.startIndexMap, List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    rw [hsi, toInt_of_lt hr]
    show min (idx (ix3 i k 0)).toNat (4096 - 1) + 0 + 0 = (idx (ix3 i k 0)).toNat % 4096
    omega
  · unfold GatherDims.start
    rw [dif_neg (show ¬(1 : Fin 2) ∈ d.startIndexMap from by simp [hd])]
    show 0 + 0 + q.val = q.val
    omega

/-- The starts: an entry below zero counted from the end. -/
def starts (l : IVec S4096x32 32) : IVec S4096x32x1 32 :=
  broadcastInDim S4096x32x1 ![0, 1] bcast_S4096x32_S4096x32x1_0_1
    (select (cmpi .slt l (broadcastInDim S4096x32 ![] bcast_S_S4096x32 (constantI S_ 32 0#32)))
      (addi l (broadcastInDim S4096x32 ![] bcast_S_S4096x32 (constantI S_ 32 4096#32))) l)

theorem starts_apply (l : IVec S4096x32 32) (i : Fin 4096) (k : Fin 32) (h : (l (ix2 i k)).toNat < 4096) :
    starts l (ix3 i k 0) = l (ix2 i k) := by
  pointwise [starts]
  exact select_nonneg h _

/-- The first convolution. -/
def conv1 (x : FVec Ideal S4096x64 .f32) (l : IVec S4096x32 32) (W : FVec Ideal S128x128 .f32) (b : FVec Ideal S128 .f32) :
    FVec Ideal S4096x128 .f32 :=
  Host.reduce FloatOps.maximumf (maximumf (addf (Host.dotGeneral dot_S4096x32x128_S128x128_S4096x32x128_2_0_01_1_n_n none
    (concatenate S4096x32x128 2
      [⟨S4096x32x64, broadcastInDim S4096x32x64 ![0, 1, 2] bcast_S4096x1x64_S4096x32x64_0_1_2 (broadcastInDim S4096x1x64 ![0, 2] bcast_S4096x64_S4096x1x64_0_2 x)⟩,
       ⟨S4096x32x64, subf (Host.gather gather_S4096x64_S4096x32x1_S4096x32x64_2_0_n_n_0_2_164 x (starts l))
        (broadcastInDim S4096x32x64 ![0, 1, 2] bcast_S4096x1x64_S4096x32x64_0_1_2 (broadcastInDim S4096x1x64 ![0, 2] bcast_S4096x64_S4096x1x64_0_2 x))⟩]
      concatenates_S4096x32x64_S4096x32x64_S4096x32x128_d2) W)
    (broadcastInDim S4096x32x128 ![0, 1, 2] bcast_S1x1x128_S4096x32x128_0_1_2 (broadcastInDim S1x1x128 ![2] bcast_S128_S1x1x128_2 b)))
    (broadcastInDim S4096x32x128 ![] bcast_S_S4096x32x128 (constant S_ .f32 0x00000000#32))) (constant S_ .f32 0xFF800000#32)
    reducesTo_S4096x32x128_S4096x128_d1 h_S_

theorem conv1_apply (x : FVec Ideal S4096x64 .f32) (l : IVec S4096x32 32) (W : FVec Ideal S128x128 .f32) (b : FVec Ideal S128 .f32)
    (h : ∀ i k, (l (ix2 i k)).toNat < 4096) (i : Fin 4096) (j : Fin 128) :
    conv1 x l W b (ix2 i j) = conv (fun i (q : Fin 64) => x (ix2 i q)) (fun i k => nbr (l (ix2 i k)))
      (fun q o => W (ix2 ⟨q.val, by omega⟩ o)) (fun q o => W (ix2 ⟨64 + q.val, by omega⟩ o)) (fun o => b (ix1 o)) i j := by
  pointwise [conv1]
  rw [ofBits_neg_inf, fold_max_bot]
  unfold conv
  refine Finset.sup_congr rfl fun k _ => ?_
  have hs := starts_apply l i k (h i k)
  have hg : ∀ q, Host.gather gather_S4096x64_S4096x32x1_S4096x32x64_2_0_n_n_0_2_164 x (starts l) (ix3 i k q) = x (ix2 (nbr (l (ix2 i k))) q) := fun q => by
    rw [← hs]; exact gather_rows _ rfl rfl rfl rfl rfl rfl rfl x (starts l) i k q (hs ▸ h i k)
  simp only [hg]

/-- The second convolution. -/
def conv2 (x : FVec Ideal S4096x128 .f32) (l : IVec S4096x32 32) (W : FVec Ideal S256x256 .f32) (b : FVec Ideal S256 .f32) :
    FVec Ideal S4096x256 .f32 :=
  Host.reduce FloatOps.maximumf (maximumf (addf (Host.dotGeneral dot_S4096x32x256_S256x256_S4096x32x256_2_0_01_1_n_n none
    (concatenate S4096x32x256 2
      [⟨S4096x32x128, broadcastInDim S4096x32x128 ![0, 1, 2] bcast_S4096x1x128_S4096x32x128_0_1_2 (broadcastInDim S4096x1x128 ![0, 2] bcast_S4096x128_S4096x1x128_0_2 x)⟩,
       ⟨S4096x32x128, subf (Host.gather gather_S4096x128_S4096x32x1_S4096x32x128_2_0_n_n_0_2_1128 x (starts l))
        (broadcastInDim S4096x32x128 ![0, 1, 2] bcast_S4096x1x128_S4096x32x128_0_1_2 (broadcastInDim S4096x1x128 ![0, 2] bcast_S4096x128_S4096x1x128_0_2 x))⟩]
      concatenates_S4096x32x128_S4096x32x128_S4096x32x256_d2) W)
    (broadcastInDim S4096x32x256 ![0, 1, 2] bcast_S1x1x256_S4096x32x256_0_1_2 (broadcastInDim S1x1x256 ![2] bcast_S256_S1x1x256_2 b)))
    (broadcastInDim S4096x32x256 ![] bcast_S_S4096x32x256 (constant S_ .f32 0x00000000#32))) (constant S_ .f32 0xFF800000#32)
    reducesTo_S4096x32x256_S4096x256_d1 h_S_

theorem conv2_apply (x : FVec Ideal S4096x128 .f32) (l : IVec S4096x32 32) (W : FVec Ideal S256x256 .f32) (b : FVec Ideal S256 .f32)
    (h : ∀ i k, (l (ix2 i k)).toNat < 4096) (i : Fin 4096) (j : Fin 256) :
    conv2 x l W b (ix2 i j) = conv (fun i (q : Fin 128) => x (ix2 i q)) (fun i k => nbr (l (ix2 i k)))
      (fun q o => W (ix2 ⟨q.val, by omega⟩ o)) (fun q o => W (ix2 ⟨128 + q.val, by omega⟩ o)) (fun o => b (ix1 o)) i j := by
  pointwise [conv2]
  rw [ofBits_neg_inf, fold_max_bot]
  unfold conv
  refine Finset.sup_congr rfl fun k _ => ?_
  have hs := starts_apply l i k (h i k)
  have hg : ∀ q, Host.gather gather_S4096x128_S4096x32x1_S4096x32x128_2_0_n_n_0_2_1128 x (starts l) (ix3 i k q) = x (ix2 (nbr (l (ix2 i k))) q) := fun q => by
    rw [← hs]; exact gather_rows _ rfl rfl rfl rfl rfl rfl rfl x (starts l) i k q (hs ▸ h i k)
  simp only [hg]

end Cert.Proof.Ref
-- ==== Proof.RefCls.lean ====
/-
  The reference's classifier and its loss as functions of their operands, read at coordinates; and the reference's two
  results as those functions of its arguments.
-/
module

public import proofs.«01_k».proof.Proof.RefConv

@[expose] public section

set_option maxRecDepth 16384

noncomputable section

namespace Cert.Proof.Ref

open Idealize.ShloMosaic Cert.ReferenceIdeal Cert.ReferenceIdeal.Gen

/-- A gather of single elements of a [4096, 40] table at pairs of starts, at an index whose starts are in range. -/
theorem gather_pair {α : Type} (x : S4096x40.Idx → α) (idx : IVec S4096x2 32) (i : Fin 4096)
    (h0 : (idx (ix2 i 0)).toNat < 4096) (h1 : (idx (ix2 i 1)).toNat < 40) :
    Host.gather gather_S4096x40_S4096x2_S4096_n_01_n_n_01_1_11 x idx (ix1 i)
      = x (ix2 (n0 := 4096) (n1 := 40) ⟨(idx (ix2 i 0)).toNat, h0⟩ ⟨(idx (ix2 i 1)).toNat, h1⟩) := by
  set d := gather_S4096x40_S4096x2_S4096_n_01_n_n_01_1_11 with hd
  unfold Host.gather
  congr 1
  funext a
  refine Fin.ext ?_
  show d.start (ix1 i) idx a + d.batchCoord (ix1 i) a + d.offCoord (ix1 i) a = _
  have hm : ∀ a : Fin 2, a ∈ d.startIndexMap := by decide
  have hk : ∀ a : Fin 2, a ∈ d.collapsedSliceDims := by decide
  rw [GatherDims.batchCoord_eq_zero _ _ _ List.not_mem_nil,
    GatherDims.offCoord_eq_zero _ _ _ (fun h => ((GatherDims.mem_sKept _ _).mp h).1 (hk a))]
  unfold GatherDims.start
  rw [dif_pos (hm a)]
  have h01 : a = 0 ∨ a = 1 := by
    match a with
    | ⟨0, _⟩ => exact Or.inl rfl
    | ⟨1, _⟩ => exact Or.inr rfl
  rcases h01 with rfl | rfl
  · have hsi : d.siIdx (ix1 i) ⟨List.idxOf (0 : Fin 2) d.startIndexMap, List.idxOf_lt_length_iff.2 (hm 0)⟩ = ix2 i 0 := by
      funext b; refine Fin.ext ?_
      match b with
      | ⟨0, _⟩ => rfl
      | ⟨1, _⟩ => rfl
    rw [hsi, toInt_of_lt h0]
    show min (idx (ix2 i 0)).toNat (4096 - 1) + 0 + 0 = (idx (ix2 i 0)).toNat
    omega
  · have hsi : d.siIdx (ix1 i) ⟨List.idxOf (1 : Fin 2) d.startIndexMap, List.idxOf_lt_length_iff.2 (hm 1)⟩ = ix2 i 1 := by
      funext b; refine Fin.ext ?_
      match b with
      | ⟨0, _⟩ => rfl
      | ⟨1, _⟩ => rfl
    rw [hsi, toInt_of_lt (by omega)]
    show min (idx (ix2 i 1)).toNat (40 - 1) + 0 + 0 = (idx (ix2 i 1)).toNat
    omega

/-- The class scores. -/
def scores (h : FVec Ideal S4096x256 .f32) (Wc : FVec Ideal S256x40 .f32) (bc : FVec Ideal S40 .f32) : FVec Ideal S4096x40 .f32 :=
  addf (Host.dotGeneral dot_S4096x256_S256x40_S4096x40_1_0_0_1_n_n none h Wc)
    (broadcastInDim S4096x40 ![0, 1] bcast_S1x40_S4096x40_0_1 (broadcastInDim S1x40 ![1] bcast_S40_S1x40_1 bc))

/-- The exponentials of the scores below their greatest. -/
def exps (z : FVec Ideal S4096x40 .f32) : FVec Ideal S4096x40 .f32 :=
  Host.exp (subf z (broadcastInDim S4096x40 ![0, 1] bcast_S4096x1_S4096x40_0_1 (broadcastInDim S4096x1 ![0] bcast_S4096_S4096x1_0
    (maximumf (broadcastInDim S4096 ![] bcast_S_S4096 (constant S_ .f32 0xFF800000#32))
      (Host.reduce FloatOps.maximumf z (constant S_ .f32 0xFF800000#32) reducesTo_S4096x40_S4096_d1 h_S_)))))

/-- The class probabilities of scores. -/
def softmax (z : FVec Ideal S4096x40 .f32) : FVec Ideal S4096x40 .f32 :=
  Host.divf (exps z) (broadcastInDim S4096x40 ![0, 1] bcast_S4096x1_S4096x40_0_1 (broadcastInDim S4096x1 ![0] bcast_S4096_S4096x1_0
    (Host.reduceAdd (exps z) (constant S_ .f32 0x00000000#32) reducesTo_S4096x40_S4096_d1 h_S_)))

/-- The pairs (point, target class) at which the log probabilities are read. -/
def pairs (tg : IVec S4096 32) : IVec S4096x2 32 :=
  concatenate S4096x2 1
    [⟨S4096x1, broadcastInDim S4096x1 ![0] bcast_S4096_S4096x1_0 (select (cmpi .slt (iotaInDim S4096 32 0) (broadcastInDim S4096 ![] bcast_S_S4096 (constantI S_ 32 0#32)))
      (addi (iotaInDim S4096 32 0) (broadcastInDim S4096 ![] bcast_S_S4096 (constantI S_ 32 4096#32))) (iotaInDim S4096 32 0))⟩,
     ⟨S4096x1, broadcastInDim S4096x1 ![0] bcast_S4096_S4096x1_0 (select (cmpi .slt tg (broadcastInDim S4096 ![] bcast_S_S4096 (constantI S_ 32 0#32)))
      (addi tg (broadcastInDim S4096 ![] bcast_S_S4096 (constantI S_ 32 40#32))) tg)⟩]
    concatenates_S4096x1_S4096x1_S4096x2_d1

/-- The mean negative log probability of the targets. -/
def nll (p : FVec Ideal S4096x40 .f32) (tg : IVec S4096 32) : FVec Ideal S_ .f32 :=
  Host.negf (Host.divf (Host.reduceAdd (Host.gather gather_S4096x40_S4096x2_S4096_n_01_n_n_01_1_11 (Host.log p) (pairs tg))
    (constant S_ .f32 0x00000000#32) reducesTo_S4096_S_d0 h_S_) (constant S_ .f32 0x45800000#32))

theorem scores_apply (h : FVec Ideal S4096x256 .f32) (Wc : FVec Ideal S256x40 .f32) (bc : FVec Ideal S40 .f32) (i : Fin 4096) (j : Fin 40) :
    scores h Wc bc (ix2 i j) = (∑ q : Fin 256, h (ix2 i q) * Wc (ix2 q j)) + bc (ix1 j) := by
  pointwise [scores]

theorem softmax_apply (z : FVec Ideal S4096x40 .f32) (i : Fin 4096) (j : Fin 40) :
    softmax z (ix2 i j) = soft (fun j => z (ix2 i j)) j := by
  pointwise [softmax, exps]
  simp only [ofBits_neg_inf, fold_max_bot, bot_le, max_eq_right]
  rfl

theorem pairs_apply (tg : IVec S4096 32) (i : Fin 4096) (h : (tg (ix1 i)).toNat < 40) :
    pairs tg (ix2 i 0) = BitVec.ofNat 32 i.val ∧ pairs tg (ix2 i 1) = tg (ix1 i) := by
  constructor
  · pointwise [pairs]
    exact select_nonneg (by rw [BitVec.toNat_ofNat]; omega) _
  · pointwise [pairs]
    exact select_nonneg (by omega) _

theorem nll_apply (p : FVec Ideal S4096x40 .f32) (tg : IVec S4096 32) (h : ∀ i, (tg (ix1 i)).toNat < 40) (j : S_.Idx) :
    nll p tg j = -Ideal.div (∑ i : Fin 4096, Ideal.log (p (ix2 i (cls (tg (ix1 i)))))) (Ideal.ofBits .f32 0x45800000#32) := by
  pointwise [nll]
  have hg : ∀ i : Fin 4096, Host.gather gather_S4096x40_S4096x2_S4096_n_01_n_n_01_1_11 (Host.log p) (pairs tg) (ix1 i)
      = Ideal.log (p (ix2 i (cls (tg (ix1 i))))) := fun i => by
    have hp := pairs_apply tg i (h i)
    have h0 : (pairs tg (ix2 i 0)).toNat = i.val := by rw [hp.1, BitVec.toNat_ofNat]; omega
    have h1 : (pairs tg (ix2 i 1)).toNat = (tg (ix1 i)).toNat := by rw [hp.2]
    refine (gather_pair (Host.log p) (pairs tg) i (h0 ▸ i.isLt) (h1 ▸ h i)).trans ?_
    refine congrArg (fun j => Ideal.log (p j)) ?_
    congr 1
    · exact Fin.ext h0
    · exact Fin.ext (h1.trans (Nat.mod_eq_of_lt (h i)).symm)
  simp only [hg]

/-- The reference's two results, of its arguments. -/
theorem probs_eq (m : (ℓ : Loc nD τ sig) → Buf (Elt Ideal) ℓ) (c : Dev nD) :
    Value.res_main_v48 m c = softmax (scores (conv2 (conv1 (m ((c.tc : Thread nD τ).loc main_arg0)) (m ((c.tc : Thread nD τ).loc main_arg1))
        (m ((c.tc : Thread nD τ).loc main_arg4)) (m ((c.tc : Thread nD τ).loc main_arg5))) (m ((c.tc : Thread nD τ).loc main_arg2))
        (m ((c.tc : Thread nD τ).loc main_arg6)) (m ((c.tc : Thread nD τ).loc main_arg7)))
      (m ((c.tc : Thread nD τ).loc main_arg8)) (m ((c.tc : Thread nD τ).loc main_arg9))) := by
  unfold Value.res_main_v48; rfl

theorem loss_eq (m : (ℓ : Loc nD τ sig) → Buf (Elt Ideal) ℓ) (c : Dev nD) :
    Value.res_main_v67 m c = nll (Value.res_main_v48 m c) (m ((c.tc : Thread nD τ).loc main_arg3)) := by
  unfold Value.res_main_v67 Value.res_main_v48; rfl

end Cert.Proof.Ref
-- ==== Proof.Same.lean ====
/-
  The kernel and its idealization are one text, so at one kind of float they are one program: their bodies agree at every
  label of every processor, and the tables and threads over the bodies agree.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

abbrev Same (p : Proc Cert.KernelIdeal.τ) (ℓ : Fin 5) : Prop := ∀ a, Cert.Kernel.defs₀ (F := Bits) p ℓ a = Cert.KernelIdeal.defs₀ (F := Bits) p ℓ a

theorem same_tc : ∀ ℓ, Same .tc ℓ
  | 0 => fun _ => rfl
  | 1 => fun ⟨_, _⟩ => rfl
  | 2 => fun _ => rfl
  | 3 => fun ⟨_, _⟩ => rfl
  | 4 => fun ⟨_, _⟩ => rfl

theorem same_scs (c) : ∀ ℓ, Same (.scScalar c) ℓ
  | 0 => fun _ => rfl
  | 1 => fun ⟨_, _⟩ => rfl
  | 2 => fun _ => rfl
  | 3 => fun ⟨_, _⟩ => rfl
  | 4 => fun ⟨_, _⟩ => rfl

theorem same_scv (c s) : ∀ ℓ, Same (.scVector c s) ℓ
  | 0 => fun _ => rfl
  | 1 => fun ⟨_, _⟩ => rfl
  | 2 => fun _ => rfl
  | 3 => fun ⟨_, _⟩ => rfl
  | 4 => fun ⟨_, _⟩ => rfl

theorem same_bodies : Cert.Kernel.defs₀ (F := Bits) = Cert.KernelIdeal.defs₀ (F := Bits) :=
  funext fun p => funext fun ℓ => funext fun a => by
    cases p with
    | tc => exact same_tc ℓ a
    | scScalar c => exact same_scs c ℓ a
    | scVector c s => exact same_scv c s ℓ a

set_option maxHeartbeats 4000000 in
theorem same_over (b : Defs Cert.KernelIdeal.nD Cert.KernelIdeal.τ Cert.KernelIdeal.sig (Elt Bits) Cert.KernelIdeal.Λ₀) :
    Cert.Kernel.sc.defs (Pipeline.defs Cert.Kernel.pcfgs b) = Cert.KernelIdeal.sc.defs (Pipeline.defs Cert.KernelIdeal.pcfgs b) := rfl

set_option maxHeartbeats 4000000 in
theorem same_defs : Cert.Kernel.defs (F := Bits) = Cert.KernelIdeal.defs (F := Bits) := by
  unfold Cert.Kernel.defs Cert.KernelIdeal.defs
  rw [same_bodies]
  exact same_over _
set_option maxHeartbeats 4000000 in
theorem same_main : Cert.Kernel.main (F := Bits) = Cert.KernelIdeal.main (F := Bits) := rfl

set_option maxHeartbeats 4000000 in
theorem same_threads : Cert.Kernel.threads (F := Bits) = Cert.KernelIdeal.threads (F := Bits) := by
  unfold Cert.Kernel.threads Cert.KernelIdeal.threads
  rw [same_main]
  rfl

end Cert.Proof
-- ==== Proof.Frames.lean ====
/-
  The frames: the kernel at each kind of float, and the reference, run to their ends, leave their arguments and end with
  every semaphore counter at zero.
-/
module

public import proofs.«01_k».proof.Proof.Args
public import proofs.«01_k».proof.Proof.Same
public import proofs.«01_k».proof.Proof.Gen.ReferenceIdeal.Run

@[expose] public section

noncomputable section

namespace Cert.Proof

open Idealize.ShloMosaic Idealize.SL.Sem

/-- Every argument at its first contents, one conjunct each. -/
theorem args_all {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) :=
  ⟨args_end m h c _ (by decide), args_end m h c _ (by decide), args_end m h c _ (by decide), args_end m h c _ (by decide),
    args_end m h c _ (by decide), args_end m h c _ (by decide), args_end m h c _ (by decide), args_end m h c _ (by decide),
    args_end m h c _ (by decide), args_end m h c _ (by decide)⟩

set_option maxHeartbeats 4000000 in
theorem frame_kernel : Cert.quiescent_Kernel := by
  intro m ρ hpre
  rw [same_defs, same_threads]
  exact (θ_run (Cert.KernelIdeal.defs (F := Bits)) Cert.KernelIdeal.threads _).mono (fun _ h => ⟨args_all h, h.2⟩)
    (run_main (F := Bits) m ρ (listsOK m fun c => inRange_of (hpre c)))

theorem frame_ideal : Cert.quiescent_KernelIdeal := fun m ρ hpre =>
  (θ_run (Cert.KernelIdeal.defs (F := Ideal)) _ _).mono (fun _ h => ⟨args_all h, h.2⟩)
    (run_main (F := Ideal) m ρ (listsOK m fun c => inRange_of (hpre c)))

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof
-- ==== Proof.Algebraic.lean ====
/-
  The value claim: over the reals the kernel's probabilities and loss are the reference's.
-/
module

public import proofs.«01_k».proof.Proof.Contents
public import proofs.«01_k».proof.Proof.RefCls
public import proofs.«01_k».proof.Proof.Frames

@[expose] public section

set_option maxRecDepth 16384

noncomputable section

namespace Cert.Proof

open Idealize.ShloMosaic Idealize.ShloMosaic.TcCoe Idealize.SL.Sem

theorem frame_reference_pre : Cert.quiescent_ReferenceIdeal_pre_in_range := fun m ρ _ =>
  (θ_run Cert.ReferenceIdeal.defs _ _).mono (fun r h => ⟨fun c => (h c).2.2, sem_eq_zero_of_no_sems (by decide) r.2⟩)
    (Cert.ReferenceIdeal.Value.run (F := Ideal) m ρ)

section values

open Cert.KernelIdeal

/-- The reference's scores at an index: the two layers' sums and the classifier's. -/
theorem scores_of (x : FVec Ideal S4096x64 .f32) (i0 i1 : IVec S4096x32 32) (w0 : FVec Ideal S128x128 .f32) (b0 : FVec Ideal S128 .f32)
    (w1 : FVec Ideal S256x256 .f32) (b1 : FVec Ideal S256 .f32) (wc : FVec Ideal S256x40 .f32) (bc : FVec Ideal S40 .f32)
    (h0 : ∀ y, (i0 y).toNat < 4096) (h1 : ∀ y, (i1 y).toNat < 4096) (i : Fin 4096) (j : Fin 40) :
    Ref.scores (Ref.conv2 (Ref.conv1 x i0 w0 b0) i1 w1 b1) wc bc (ix2 i j)
      = ∑ q : Fin 256, conv
          (fun i (q : Fin 128) => conv (fun i (q : Fin 64) => x (ix2 i q)) (fun i k => nbr (i0 (ix2 i k)))
            (fun q o => w0 (ix2 ⟨q.val, by omega⟩ o)) (fun q o => w0 (ix2 ⟨64 + q.val, by omega⟩ o)) (fun o => b0 (ix1 o)) i q)
          (fun i k => nbr (i1 (ix2 i k))) (fun q o => w1 (ix2 ⟨q.val, by omega⟩ o)) (fun q o => w1 (ix2 ⟨128 + q.val, by omega⟩ o))
          (fun o => b1 (ix1 o)) i q * wc (ix2 q j) + bc (ix1 j) := by
  rw [Ref.scores_apply]
  refine congrArg (· + bc (ix1 j)) (Finset.sum_congr rfl fun q _ => congrArg (· * wc (ix2 q j)) ?_)
  rw [Ref.conv2_apply _ _ _ _ fun i k => h1 _]
  refine congrArg (fun f => conv f _ _ _ _ i q) (funext fun i => funext fun q => ?_)
  rw [Ref.conv1_apply _ _ _ _ fun i k => h0 _]

variable (m : (ℓ : Loc nD τ sig) → Buf (Elt Ideal) ℓ) (c : Dev nD)

/-- The reference's scores, of the kernel's arguments. -/
def refScores : FVec Ideal S4096x40 .f32 :=
  Ref.scores (Ref.conv2 (Ref.conv1 (m ((c : Thread nD τ).loc main_arg0)) (m ((c : Thread nD τ).loc main_arg1)) (m ((c : Thread nD τ).loc main_arg4)) (m ((c : Thread nD τ).loc main_arg5)))
    (m ((c : Thread nD τ).loc main_arg2)) (m ((c : Thread nD τ).loc main_arg6)) (m ((c : Thread nD τ).loc main_arg7)))
    (m ((c : Thread nD τ).loc main_arg8)) (m ((c : Thread nD τ).loc main_arg9))

theorem refScores_at (h : InRange (m ((c : Thread nD τ).loc main_arg1)) (m ((c : Thread nD τ).loc main_arg2)) (m ((c : Thread nD τ).loc main_arg3)))
    (i : Fin 4096) (j : Fin 40) : refScores m c (ix2 i j) = logits m c i j :=
  scores_of _ _ _ _ _ _ _ _ _ h.first h.second i j

theorem refProbs (h : InRange (m ((c : Thread nD τ).loc main_arg1)) (m ((c : Thread nD τ).loc main_arg2)) (m ((c : Thread nD τ).loc main_arg3))) :
    Ref.softmax (refScores m c) = probsOf m c := by
  funext i
  rw [eq_ix2 i]
  refine (Ref.softmax_apply _ _ _).trans ?_
  exact congrArg (fun z => soft z (i 1)) (funext fun j => refScores_at m c h (i 0) j)

theorem refLoss (h : InRange (m ((c : Thread nD τ).loc main_arg1)) (m ((c : Thread nD τ).loc main_arg2)) (m ((c : Thread nD τ).loc main_arg3))) :
    Ref.nll (probsOf m c) (m ((c : Thread nD τ).loc main_arg3)) = (fun _ => lossOf m c : FVec Ideal S_ .f32) := by
  funext j
  refine (Ref.nll_apply _ _ (fun i => h.targets _) j).trans ((mean_eq _).trans ?_)
  rfl

theorem results_unscoped : ∀ a ∈ [main_v17, main_v16_0], Proc.devRef (τ := τ) .tc a ∈ Pipeline.ucRefs τ sig := by
  have hs : ∀ a ∈ [main_v17, main_v16_0], a.isScoped = false := ListAll.forall_mem_of_all_decide (by decide +kernel)
  exact fun a h => Finset.mem_filter.mpr ⟨StableHlo.devRef_mem_tcRefs a, by rw [Proc.isScoped_devRef, hs a h]; exact Bool.false_ne_true⟩

end values

/-- The reference's probabilities are the kernel's, from arguments that agree. -/
theorem probs_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (e2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (e4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (e5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (e6 : m' ((c : Thread Cert.ReferenceIdeal.nD Cert.ReferenceIdeal.τ).loc Cert.ReferenceIdeal.main_arg6) = m ((c : Thread Cert.KernelIdeal.nD Cert.KernelIdeal.τ).loc Cert.KernelIdeal.main_arg6))
    (e7 : m' ((c : Thread Cert.ReferenceIdeal.nD Cert.ReferenceIdeal.τ).loc Cert.ReferenceIdeal.main_arg7) = m ((c : Thread Cert.KernelIdeal.nD Cert.KernelIdeal.τ).loc Cert.KernelIdeal.main_arg7))
    (e8 : m' ((c : Thread Cert.ReferenceIdeal.nD Cert.ReferenceIdeal.τ).loc Cert.ReferenceIdeal.main_arg8) = m ((c : Thread Cert.KernelIdeal.nD Cert.KernelIdeal.τ).loc Cert.KernelIdeal.main_arg8))
    (e9 : m' ((c : Thread Cert.ReferenceIdeal.nD Cert.ReferenceIdeal.τ).loc Cert.ReferenceIdeal.main_arg9) = m ((c : Thread Cert.KernelIdeal.nD Cert.KernelIdeal.τ).loc Cert.KernelIdeal.main_arg9))
    (h : InRange (m ((c : Thread Cert.KernelIdeal.nD Cert.KernelIdeal.τ).loc Cert.KernelIdeal.main_arg1)) (m ((c : Thread Cert.KernelIdeal.nD Cert.KernelIdeal.τ).loc Cert.KernelIdeal.main_arg2))
      (m ((c : Thread Cert.KernelIdeal.nD Cert.KernelIdeal.τ).loc Cert.KernelIdeal.main_arg3))) :
    Cert.ReferenceIdeal.Value.res_main_v48 m' c = probsOf m c := by
  refine (Ref.probs_eq m' c).trans (Eq.trans ?_ (refProbs m c h))
  unfold refScores
  rw [e0, e1, e2, e4, e5, e6, e7, e8, e9]

theorem algebraic : Cert.algebraic_KernelIdeal_ReferenceIdeal := by
  intro m g m' g' hpre hargs
  have hr (c : Dev Cert.KernelIdeal.nD) := inRange_of (hpre c)
  have ep (c : Dev Cert.KernelIdeal.nD) : Cert.ReferenceIdeal.Value.res_main_v48 m' c = probsOf m c := by
    obtain ⟨e0, e1, e2, e3, e4, e5, e6, e7, e8, e9⟩ := hargs c
    exact probs_agree m m' c e0 e1 e2 e4 e5 e6 e7 e8 e9 (hr c)
  have el (c : Dev Cert.KernelIdeal.nD) : Cert.ReferenceIdeal.Value.res_main_v67 m' c = (fun _ => lossOf m c : FVec Ideal Cert.KernelIdeal.S_ .f32) := by
    obtain ⟨e0, e1, e2, e3, -⟩ := hargs c
    refine (Ref.loss_eq m' c).trans (Eq.trans ?_ (refLoss m c (hr c)))
    rw [ep c, e3]
  refine ⟨fun c => (fun _ => lossOf m c : FVec Ideal Cert.KernelIdeal.S_ .f32), fun c => probsOf m c, ?_, ?_⟩
  · refine (θ_run (Cert.KernelIdeal.defs (F := Ideal)) _ _).mono (fun r h c => ?_) (run_main (F := Ideal) m g (listsOK m hr))
    exact ⟨(h.1 c _ (results_unscoped _ (by decide))).trans (at11_v17 m c (hr c).targets),
      (h.1 c _ (results_unscoped _ (by decide))).trans (at11_v16_0 m c), args_all h c⟩
  · refine (θ_run Cert.ReferenceIdeal.defs _ _).mono (fun r h c => ?_) (Cert.ReferenceIdeal.Value.run (F := Ideal) m' g')
    exact ⟨(h c).1.trans (el c), (h c).2.1.trans (ep c), (h c).2.2⟩

end Cert.Proof
-- ==== Proof.KnnRounds.lean ====
/-
  The nearest neighbours of one row: taking the least entry's first column, striking it out, and going round again
  picks, as long as finite entries remain, the columns in the order of a stable sort of the row.
-/
module

public import Idealize.ShloMosaic.Lib.SortPrefix
public import Idealize.ShloMosaic.Lib.SortNet.Extract
public import Mathlib.Data.EReal.Basic
public import Mathlib.Data.Finset.Fold

@[expose] public section

noncomputable section

namespace Cert.Proof.Knn

open Idealize.ShloMosaic

variable {n : Nat}

/-- Column `j` is the first at which the row is least. -/
def IsFirst (d : Fin n → EReal) (j : Fin n) : Prop := (∀ p, d j ≤ d p) ∧ ∀ p, d p = d j → j ≤ p

theorem IsFirst.unique {d : Fin n → EReal} {i j : Fin n} (hi : IsFirst d i) (hj : IsFirst d j) : i = j :=
  le_antisymm (hi.2 j (le_antisymm (hj.1 i) (hi.1 j))) (hj.2 i (le_antisymm (hi.1 j) (hj.1 i)))

variable [NeZero n]

theorem exists_isFirst (d : Fin n → EReal) : ∃ j, IsFirst d j := by
  classical
  obtain ⟨q, -, hq⟩ := Finset.exists_min_image Finset.univ d ⟨0, Finset.mem_univ _⟩
  have hne : (Finset.univ.filter fun p => d p = d q).Nonempty := ⟨q, by simp⟩
  have hm := Finset.min'_mem _ hne
  simp only [Finset.mem_filter, Finset.mem_univ, true_and] at hm
  refine ⟨_, fun p => hm.trans_le (hq p (Finset.mem_univ _)), fun p hp => Finset.min'_le _ _ ?_⟩
  simp only [Finset.mem_filter, Finset.mem_univ, true_and]
  exact hp.trans hm

/-- The first column at which the row is least. -/
def first (d : Fin n → EReal) : Fin n := (exists_isFirst d).choose

theorem first_spec (d : Fin n → EReal) : IsFirst d (first d) := (exists_isFirst d).choose_spec

/-- The row after `t` rounds, each striking out its first least column. -/
def struck (d : Fin n → EReal) : Nat → Fin n → EReal
  | 0 => d
  | t + 1 => Function.update (struck d t) (first (struck d t)) ⊤

/-- The column that round `t` picks. -/
def picked (d : Fin n → EReal) (t : Nat) : Fin n := first (struck d t)

theorem struck_of_picked (d : Fin n → EReal) {s : Nat} : ∀ {t : Nat}, s < t → struck d t (picked d s) = ⊤
  | t + 1, h => by
    show Function.update _ _ _ _ = _
    by_cases e : picked d s = first (struck d t)
    · rw [e, Function.update_self]
    · rw [Function.update_of_ne e]
      exact struck_of_picked d (lt_of_le_of_ne (Nat.lt_succ_iff.mp h) fun hs => e (hs ▸ rfl))

theorem struck_of_not_picked (d : Fin n → EReal) {p : Fin n} : ∀ {t : Nat}, (∀ s < t, picked d s ≠ p) → struck d t p = d p
  | 0, _ => rfl
  | t + 1, h => by
    show Function.update _ _ _ _ = _
    rw [Function.update_of_ne (fun e => h t (Nat.lt_succ_self t) e.symm : p ≠ first (struck d t))]
    exact struck_of_not_picked d fun s hs => h s (hs.trans (Nat.lt_succ_self t))

theorem struck_ne_top (d : Fin n → EReal) {t : Nat} (ht : t < (Finset.univ.filter fun p => d p ≠ ⊤).card) :
    struck d t (picked d t) ≠ ⊤ := by
  classical
  have hcard : ((Finset.range t).image (picked d)).card ≤ t := Finset.card_image_le.trans (Finset.card_range t).le
  obtain ⟨p, hp, hnp⟩ := Finset.exists_mem_notMem_of_card_lt_card (hcard.trans_lt ht)
  have hd : struck d t p = d p := struck_of_not_picked d fun s hs e =>
    hnp (Finset.mem_image.mpr ⟨s, Finset.mem_range.mpr hs, e⟩)
  have := (first_spec (struck d t)).1 p
  rw [hd] at this
  exact ne_top_of_le_ne_top (Finset.mem_filter.mp hp).2 this

theorem picked_ne (d : Fin n → EReal) {s t : Nat} (hst : s < t) (ht : t < (Finset.univ.filter fun p => d p ≠ ⊤).card) :
    picked d s ≠ picked d t := fun e =>
  struck_ne_top d ht (e ▸ struck_of_picked d hst)

/-- Before: the lower entry first, and of equal entries the lower column. -/
def before (d : Fin n → EReal) (k k' : Fin n) : Bool :=
  decide (d k < d k') || (decide (d k = d k') && decide (k < k'))

theorem before_total (d : Fin n → EReal) : StrictTotalBefore (before d) :=
  StrictTotalBefore.of_key_then_position (fun a b : EReal => decide (a < b)) d (by simp)
    (fun a b c h h' => by simp only [decide_eq_true_eq] at *; exact h.trans h')
    (fun a b => by simp only [decide_eq_true_eq]; exact lt_trichotomy a b)

theorem not_before (d : Fin n → EReal) {t : Nat} (ht : t < (Finset.univ.filter fun p => d p ≠ ⊤).card) {p : Fin n}
    (hp : ∀ s < t, picked d s ≠ p) : before d p (picked d t) = false := by
  have hs : struck d t (picked d t) = d (picked d t) :=
    struck_of_not_picked d fun s hs => picked_ne d hs ht
  have hf := first_spec (struck d t)
  have h1 := hf.1 p
  have h2 := hf.2 p
  change struck d t (picked d t) ≤ _ at h1
  change _ = struck d t (picked d t) → picked d t ≤ p at h2
  rw [hs, struck_of_not_picked d hp] at h1 h2
  simp only [before, Bool.or_eq_false_iff, Bool.and_eq_false_iff, decide_eq_false_iff_not, not_lt]
  refine ⟨h1, ?_⟩
  by_cases e : d p = d (picked d t)
  · exact Or.inr (h2 e)
  · exact Or.inl e

/-- A comparison that agrees with a strict total one wherever the first column is the later sorts a list of columns alike. -/
theorem stableSort_agree {ι : Type} (R R' : ι → ι → Bool) :
    ∀ l : List ι, l.Pairwise (fun a b => R b a = R' b a) → stableSort R l = stableSort R' l
  | [], _ => rfl
  | a :: l, h => by
    rw [List.pairwise_cons] at h
    show insertBefore R a (stableSort R l) = insertBefore R' a (stableSort R' l)
    rw [stableSort_agree R R' l h.2]
    exact insertBefore_congr R R' a _ fun b hb => h.1 b ((perm_stableSort R' l).mem_iff.mp hb)

theorem sortedFrom_lt (d : Fin n → EReal) (k : Fin n) :
    sortedFrom (fun k k' => decide (d k < d k')) k = sortedFrom (before d) k := by
  have h : sortPositions n (fun k k' => decide (d k < d k')) = sortPositions n (before d) := by
    refine stableSort_agree _ _ _ ?_
    refine (List.pairwise_lt_finRange n).imp fun {a b} hab => ?_
    simp [before, not_lt.mpr hab.le]
  unfold sortedFrom
  simp only [h, List.get_eq_getElem, Fin.val_cast]

/-- While finite entries remain, the stable sort's column at place `t` is the column that round `t` picks. -/
theorem sortedFrom_picked (d : Fin n → EReal) {k : Nat} (hk : k ≤ (Finset.univ.filter fun p => d p ≠ ⊤).card) (hn : k ≤ n)
    (t : Fin k) : sortedFrom (fun k k' => decide (d k < d k')) (t.castLE hn) = picked d t.val := by
  rw [sortedFrom_lt]
  have hlt : ∀ i : Fin k, i.val < (Finset.univ.filter fun p => d p ≠ ⊤).card := fun i => i.isLt.trans_le hk
  refine (before_total d).sortedFrom_eq_of_prefix hn (fun i : Fin k => picked d i.val) ?_ ?_ ?_ t
  · intro i j e
    rcases lt_trichotomy i.val j.val with h | h | h
    · exact absurd e (picked_ne d h (hlt j))
    · exact Fin.ext h
    · exact absurd e.symm (picked_ne d h (hlt i))
  · exact fun i j hij => not_before d (hlt i) fun s hs => picked_ne d (hs.trans hij) (hlt j)
  · exact fun i p hp => not_before d (hlt i) fun s hs => hp ⟨s, hs.trans i.isLt⟩

/-- The least of the words in the signed order, when one of them is below all and below the start. -/
theorem fold_minsi {ι : Type} (s : Finset ι) (b : BitVec 32) (f : ι → BitVec 32) {j : ι} (hj : j ∈ s)
    (hb : (f j).toInt ≤ b.toInt) (hf : ∀ x ∈ s, (f j).toInt ≤ (f x).toInt) : s.fold IntOp.minsi b f = f j := by
  refine BitVec.eq_of_toInt_eq ?_
  rw [← Finset.fold_hom (op := IntOp.minsi) (op' := min) (m := BitVec.toInt) (fun a b => SortNet.toInt_minsi a b)]
  refine le_antisymm ((Finset.fold_min_le _).mpr (Or.inr ⟨j, hj, le_rfl⟩)) ((Finset.le_fold_min _).mpr ⟨hb, hf⟩)

/-- The least number, counted from `k`, among the columns at which the row is least is the first such column's. -/
theorem fold_first_from (k : ℕ) (hn : k + n ≤ 4096) (d : Fin n → EReal) :
    (Finset.univ : Finset (Fin n)).fold IntOp.minsi 2147483647#32
      (fun x => if d x = Finset.univ.fold min ⊤ d then BitVec.ofNat 32 (k + x.val) else 4096#32) = BitVec.ofNat 32 (k + (first d).val) := by
  have hm : Finset.univ.fold min ⊤ d = d (first d) :=
    le_antisymm ((Finset.fold_min_le _).mpr (Or.inr ⟨_, Finset.mem_univ _, le_rfl⟩))
      ((Finset.le_fold_min _).mpr ⟨le_top, fun x _ => (first_spec d).1 x⟩)
  have hi : ∀ k, k ≤ 4096 → (BitVec.ofNat 32 k).toInt = k := fun k hk => by
    rw [BitVec.toInt_eq_toNat_cond, BitVec.toNat_ofNat]; omega
  rw [hm]
  have hl := (first d).isLt
  refine (fold_minsi (j := first d) _ _ _ (Finset.mem_univ _) ?_ ?_).trans (if_pos rfl)
  · rw [if_pos rfl, hi _ (by omega)]
    show ((k + (first d).val : ℕ) : Int) ≤ 2147483647
    omega
  · intro x _
    have hx := x.isLt
    rw [if_pos rfl, hi _ (by omega)]
    split
    · rename_i h
      rw [hi _ (by omega)]
      have : (first d).val ≤ x.val := (first_spec d).2 x h
      omega
    · show ((k + (first d).val : ℕ) : Int) ≤ 4096
      omega

/-- The least number among the columns at which the row is least is the first such column. -/
theorem fold_first (hn : n ≤ 4096) (d : Fin n → EReal) :
    (Finset.univ : Finset (Fin n)).fold IntOp.minsi 2147483647#32
      (fun x => if d x = Finset.univ.fold min ⊤ d then BitVec.ofNat 32 x.val else 4096#32) = BitVec.ofNat 32 (first d).val := by
  have h := fold_first_from 0 (by omega : 0 + n ≤ 4096) d
  simpa only [Nat.zero_add] using h

end Cert.Proof.Knn

end
-- ==== Proof.KnnBody.lean ====
/-
  The body of the kNN call over all columns, on one block of rows: column `t` of its result is the first column at
  which the block's distances, after `t` rounds of striking out, are least.
-/
module

public import proofs.«01_k».proof.Proof.Gen.KnnAllIdeal.Value
public import proofs.«01_k».proof.Proof.KnnRounds
public import Idealize.ShloMosaic.Lib.Pointwise
public import Idealize.ShloMosaic.Lib.VecWindow

@[expose] public section

set_option maxRecDepth 16384

noncomputable section

namespace Cert.Proof.Knn

open Cert.KnnAllIdeal Cert.KnnAllIdeal.Gen
open Idealize.ShloMosaic

variable {F : FTy → Type} [FloatOps F]

/-- The number of each column. -/
def cols : IVec S256x4096 32 := iota .tc S256x4096 32 [1] iota_S256x4096_d1_w32

/-- Of each row, the first column at which it is least. -/
def least (V : Vec F S256x4096 .f32) : IVec S256x1 32 := k0_pay7 cols V

/-- The rows with that column struck out. -/
def clear (V : Vec F S256x4096 .f32) : Vec F S256x4096 .f32 := k0_pay8 cols V

/-- What the result is to hold: column `t` the first least columns of the `t`-th round's distances. -/
def columns (d : Vec F S256x4096 .f32) : S256x32.Idx → Elt F .i32 := fun y => least (clear^[(y 1).val] d) (ix2 (y 0) 0)

/-- One stored column of the result, read at coordinates. -/
theorem piece_at (d : Vec F S256x4096 .f32) (k : Nat) (hk : k < 32)
    (inb : ∀ a, (![0, k] : Fin 2 → Nat) a + (![256, 1] : Fin 2 → Nat) a ≤ S256x32.size a)
    (x : (Rect.unit (s := S256x32) ![0, k] ![256, 1] inb).shape.Idx) :
    least (clear^[k] d) x = columns d ((Rect.unit ![0, k] ![256, 1] inb).emb x) := by
  have h0 : ((Rect.unit (s := S256x32) ![0, k] ![256, 1] inb).emb x) 0 = (x 0 : Fin 256) := Fin.ext (by
    show 0 + 1 * (x 0).val = (x 0).val
    omega)
  have h1 : ((Rect.unit (s := S256x32) ![0, k] ![256, 1] inb).emb x) 1 = (⟨k, hk⟩ : Fin 32) := Fin.ext (by
    have := (x 1).isLt
    change (x 1).val < 1 at this
    show k + 1 * (x 1).val = k
    omega)
  have hx : x = ix2 (x 0 : Fin 256) (0 : Fin 1) := by
    funext a
    match a with
    | ⟨0, _⟩ => rfl
    | ⟨1, _⟩ => exact Subsingleton.elim (α := Fin 1) _ _
  unfold columns
  rw [h0, h1]
  exact congrArg _ hx

theorem piece_of {b d : Vec F S256x4096 .f32} {k : Nat} (hk : k < 32) (hb : b = clear^[k] d)
    (inb : ∀ a, (![0, k] : Fin 2 → Nat) a + (![256, 1] : Fin 2 → Nat) a ≤ S256x32.size a)
    (x : (Rect.unit (s := S256x32) ![0, k] ![256, 1] inb).shape.Idx) :
    least b x = columns d ((Rect.unit ![0, k] ![256, 1] inb).emb x) := by
  subst hb
  exact piece_at d k hk inb x

/-- Each stored piece holds a function's values, one piece more. -/
theorem pieces_cons {s : Shape} {e : EltTy} {G : s.Idx → Elt F e} {L : List (View.Piece (Elt F) s e)} (r : Rect s) (w : r.shape.Idx → Elt F e)
    (h : ∀ x, w x = G (r.emb x)) (hL : ∀ p ∈ L, ∀ x, p.2 x = G (p.1.emb x)) :
    ∀ p ∈ (⟨r, w⟩ :: L : List (View.Piece (Elt F) s e)), ∀ x, p.2 x = G (p.1.emb x) :=
  List.forall_mem_cons.mpr ⟨h, hL⟩

/-- After round `n`: the newest of the rounds' distances, and the stored columns of the result. -/
structure Rounds (d : Vec F S256x4096 .f32) {n : ℕ} (W : Fin (n + 1) → Vec F S256x4096 .f32) (L : List (View.Piece (Elt F) S256x32 .i32)) : Prop where
  newest : W 0 = clear^[n] d
  pieces : ∀ p ∈ L, ∀ x, p.2 x = columns d (p.1.emb x)
  covers : ∀ y : S256x32.Idx, (y 1).val < n + 1 → ∃ p ∈ L, y ∈ p.1.set

theorem mem_column {k : ℕ} (inb : ∀ a, (![0, k] : Fin 2 → Nat) a + (![256, 1] : Fin 2 → Nat) a ≤ S256x32.size a) {y : S256x32.Idx}
    (hy : (y 1).val = k) : y ∈ (Rect.unit (s := S256x32) ![0, k] ![256, 1] inb).set := by
  refine Rect.mem_set_unit.mpr fun a => ?_
  match a with
  | ⟨0, _⟩ =>
    have h : (y 0).val < 256 := (y 0).isLt
    refine ⟨Nat.zero_le _, ?_⟩
    show (y 0).val < 0 + 256
    omega
  | ⟨1, _⟩ =>
    refine ⟨hy.ge, ?_⟩
    show (y 1).val < k + 1
    omega

theorem Rounds.one {d a : Vec F S256x4096 .f32} (ha : a = d) {inb : ∀ a, (![0, 0] : Fin 2 → Nat) a + (![256, 1] : Fin 2 → Nat) a ≤ S256x32.size a}
    {w : (Rect.unit (s := S256x32) ![0, 0] ![256, 1] inb).shape.Idx → Elt F .i32} (hw : w = least a) :
    Rounds d ![a] [⟨Rect.unit (s := S256x32) ![0, 0] ![256, 1] inb, w⟩] := by
  subst hw
  have hp := piece_of (by decide) ha inb
  refine ⟨ha, pieces_cons _ _ hp fun _ h => absurd h List.not_mem_nil, fun y hy => ?_⟩
  exact ⟨_, List.mem_cons_self, mem_column inb (Nat.lt_one_iff.mp hy)⟩

theorem Rounds.cons {d : Vec F S256x4096 .f32} {n k : ℕ} {a b : Vec F S256x4096 .f32} {W : Fin n → Vec F S256x4096 .f32}
    {L : List (View.Piece (Elt F) S256x32 .i32)} (hk : k < 32) (hn : n + 1 = k) (hb : b = clear a)
    {inb : ∀ a, (![0, k] : Fin 2 → Nat) a + (![256, 1] : Fin 2 → Nat) a ≤ S256x32.size a}
    {w : (Rect.unit (s := S256x32) ![0, k] ![256, 1] inb).shape.Idx → Elt F .i32} (hw : w = least b) (h : Rounds d (Matrix.vecCons a W) L) :
    Rounds d (Matrix.vecCons b (Matrix.vecCons a W)) (⟨Rect.unit (s := S256x32) ![0, k] ![256, 1] inb, w⟩ :: L) := by
  subst hn hw
  have hb' : b = clear^[n + 1] d := by
    rw [Function.iterate_succ_apply', ← h.newest]
    exact hb
  have hp := piece_of hk hb' inb
  refine ⟨hb', pieces_cons _ _ hp h.pieces, fun y hy => ?_⟩
  · rcases Nat.lt_succ_iff_lt_or_eq.mp hy with hy | hy
    · obtain ⟨p, hp, hs⟩ := h.covers y hy
      exact ⟨p, List.mem_cons_of_mem _ hp, hs⟩
    · exact ⟨_, List.mem_cons_self, mem_column inb hy⟩

/-- After the last round a buffer with the stored pieces reads as the columns. -/
theorem Rounds.read {sig : RefSig} {κ : Kind} {sp : Space} {d : Vec F S256x4096 .f32} {W : Fin 32 → Vec F S256x4096 .f32}
    {L : List (View.Piece (Elt F) S256x32 .i32)} (h : Rounds d W L) (v : View sig κ sp S256x32 .i32) (f : v.ty.Contents (Elt F)) :
    v.read (Elt F) (v.writes (Elt F) f L) = columns d :=
  funext fun y => View.read_writes_apply_of_pieces (e := .i32) (Val := Elt F) _ _ _ _ h.pieces y (h.covers y (y 1).isLt)

/-- A whole argument's contents, read back whole. -/
theorem read_back {sig : RefSig} {s : Shape} {e : EltTy} {m : Memref sig .tc .vmem s e} (h : m.IsWhole) (X : s.Idx → Elt F e) {off : Fin s.rank → ℕ} (ho : ∀ a, off a = 0)
    (inb : ∀ a, off a + s.size a ≤ s.size a) : m.view.readAt (Elt F) (Rect.unit off s.size inb).toLoadRect (h.unread X) = X := by
  obtain rfl : off = fun _ => 0 := funext ho
  exact (View.readAt_full _ _ inb).trans (h.read_unread X)

section Body

variable (c : Dev nD) (i : grid0.Coords) (arg1 : Memref sig .tc .vmem S64x4096 .f32) (harg1 : arg1.IsWhole) (arg2 : Memref sig .tc .vmem S1x4096 .i32) (harg2 : arg2.IsWhole)
  (arg3 : Memref sig .tc .vmem S256x64 .f32) (harg3 : arg3.IsWhole) (arg4 : Memref sig .tc .vmem S256x1 .i32) (harg4 : arg4.IsWhole) (arg5 : Memref sig .tc .vmem S256x32 .i32) (harg5 : arg5.IsWhole)
  (arg6 : Memref sig .tc .vmem S256x4096 .f32) (harg6 : arg6.IsWhole)
  (x0 : Vec F S64x4096 .f32) (x1 : Vec F S1x4096 .i32) (x2 : Vec F S256x64 .f32) (x3 : Vec F S256x1 .i32)

/-- The distances as the thirty-two rounds find them, the newest first. -/
def found : Fin 32 → Vec F S256x4096 .f32 := ![
  kernelRun0_A.sl.v564 c i arg1 harg1 arg2 harg2 arg3 harg3 arg4 harg4 arg6 x0 x1 x2 x3,
  kernelRun0_A.sl.v547 c i arg1 harg1 arg2 harg2 arg3 harg3 arg4 harg4 arg6 x0 x1 x2 x3,
  kernelRun0_A.sl.v530 c i arg1 harg1 arg2 harg2 arg3 harg3 arg4 harg4 arg6 x0 x1 x2 x3,
  kernelRun0_A.sl.v513 c i arg1 harg1 arg2 harg2 arg3 harg3 arg4 harg4 arg6 x0 x1 x2 x3,
  kernelRun0_A.sl.v496 c i arg1 harg1 arg2 harg2 arg3 harg3 arg4 harg4 arg6 x0 x1 x2 x3,
  kernelRun0_A.sl.v479 c i arg1 harg1 arg2 harg2 arg3 harg3 arg4 harg4 arg6 x0 x1 x2 x3,
  kernelRun0_A.sl.v462 c i arg1 harg1 arg2 harg2 arg3 harg3 arg4 harg4 arg6 x0 x1 x2 x3,
  kernelRun0_A.sl.v445 c i arg1 harg1 arg2 harg2 arg3 harg3 arg4 harg4 arg6 x0 x1 x2 x3,
  kernelRun0_A.sl.v428 c i arg1 harg1 arg2 harg2 arg3 harg3 arg4 harg4 arg6 x0 x1 x2 x3,
  kernelRun0_A.sl.v411 c i arg1 harg1 arg2 harg2 arg3 harg3 arg4 harg4 arg6 x0 x1 x2 x3,
  kernelRun0_A.sl.v394 c i arg1 harg1 arg2 harg2 arg3 harg3 arg4 harg4 arg6 x0 x1 x2 x3,
  kernelRun0_A.sl.v377 c i arg1 harg1 arg2 harg2 arg3 harg3 arg4 harg4 arg6 x0 x1 x2 x3,
  kernelRun0_A.sl.v360 c i arg1 harg1 arg2 harg2 arg3 harg3 arg4 harg4 arg6 x0 x1 x2 x3,
  kernelRun0_A.sl.v343 c i arg1 harg1 arg2 harg2 arg3 harg3 arg4 harg4 arg6 x0 x1 x2 x3,
  kernelRun0_A.sl.v326 c i arg1 harg1 arg2 harg2 arg3 harg3 arg4 harg4 arg6 x0 x1 x2 x3,
  kernelRun0_A.sl.v309 c i arg1 harg1 arg2 harg2 arg3 harg3 arg4 harg4 arg6 x0 x1 x2 x3,
  kernelRun0_A.sl.v292 c i arg1 harg1 arg2 harg2 arg3 harg3 arg4 harg4 arg6 x0 x1 x2 x3,
  kernelRun0_A.sl.v275 c i arg1 harg1 arg2 harg2 arg3 harg3 arg4 harg4 arg6 x0 x1 x2 x3,
  kernelRun0_A.sl.v258 c i arg1 harg1 arg2 harg2 arg3 harg3 arg4 harg4 arg6 x0 x1 x2 x3,
  kernelRun0_A.sl.v241 c i arg1 harg1 arg2 harg2 arg3 harg3 arg4 harg4 arg6 x0 x1 x2 x3,
  kernelRun0_A.sl.v224 c i arg1 harg1 arg2 harg2 arg3 harg3 arg4 harg4 arg6 x0 x1 x2 x3,
  kernelRun0_A.sl.v207 c i arg1 harg1 arg2 harg2 arg3 harg3 arg4 harg4 arg6 x0 x1 x2 x3,
  kernelRun0_A.sl.v190 c i arg1 harg1 arg2 harg2 arg3 harg3 arg4 harg4 arg6 x0 x1 x2 x3,
  kernelRun0_A.sl.v173 c i arg1 harg1 arg2 harg2 arg3 harg3 arg4 harg4 arg6 x0 x1 x2 x3,
  kernelRun0_A.sl.v156 c i arg1 harg1 arg2 harg2 arg3 harg3 arg4 harg4 arg6 x0 x1 x2 x3,
  kernelRun0_A.sl.v139 c i arg1 harg1 arg2 harg2 arg3 harg3 arg4 harg4 arg6 x0 x1 x2 x3,
  kernelRun0_A.sl.v122 c i arg1 harg1 arg2 harg2 arg3 harg3 arg4 harg4 arg6 x0 x1 x2 x3,
  kernelRun0_A.sl.v105 c i arg1 harg1 arg2 harg2 arg3 harg3 arg4 harg4 arg6 x0 x1 x2 x3,
  kernelRun0_A.sl.v88 c i arg1 harg1 arg2 harg2 arg3 harg3 arg4 harg4 arg6 x0 x1 x2 x3,
  kernelRun0_A.sl.v71 c i arg1 harg1 arg2 harg2 arg3 harg3 arg4 harg4 arg6 x0 x1 x2 x3,
  kernelRun0_A.sl.v54 c i arg1 harg1 arg2 harg2 arg3 harg3 arg4 harg4 arg6 x0 x1 x2 x3,
  kernelRun0_A.sl.v37 c i arg1 harg1 arg2 harg2 arg3 harg3 arg4 harg4 arg6 x0 x1 x2 x3]

theorem found_first : kernelRun0_A.sl.v37 c i arg1 harg1 arg2 harg2 arg3 harg3 arg4 harg4 arg6 x0 x1 x2 x3 = k0_pay3 i x2 x0 x1 x3 := by
  unfold kernelRun0_A.sl.v37 kernelRun0_A.sl.HS0_1
  rw [View.readCov_cons_toLoadRect]
  have z : ∀ a : Fin 2, (![0, 0] : Fin 2 → ℕ) a = 0 := by decide
  exact congr (congr (congr (congrArg (k0_pay3 i) (read_back harg3 x2 z _)) (read_back harg1 x0 z _)) (read_back harg2 x1 z _)) (read_back harg4 x3 z _)

theorem rounds : Rounds (k0_pay3 i x2 x0 x1 x3) (found c i arg1 harg1 arg2 harg2 arg3 harg3 arg4 harg4 arg6 x0 x1 x2 x3)
    (kernelRun0_A c i arg1 harg1 arg2 harg2 arg3 harg3 arg4 harg4 arg5 harg5 arg6 harg6 x0 x1 x2 x3).1 := by
  unfold found kernelRun0_A
  iterate 31 refine Rounds.cons (by decide) rfl (View.readCov_cons_toLoadRect _ _ _ _) rfl ?_
  exact Rounds.one (found_first c i arg1 harg1 arg2 harg2 arg3 harg3 arg4 harg4 arg6 x0 x1 x2 x3) rfl

theorem out_at : out0_A_4 c i arg1 harg1 arg2 harg2 arg3 harg3 arg4 harg4 arg5 harg5 arg6 harg6 x0 x1 x2 x3
    = columns (k0_pay3 i x2 x0 x1 x3) :=
  (rounds c i arg1 harg1 arg2 harg2 arg3 harg3 arg4 harg4 arg5 harg5 arg6 harg6 x0 x1 x2 x3).read _ _

end Body

theorem ofBits_inf : Ideal.ofBits .f32 0x7F800000#32 = (⊤ : EReal) := by
  simp [Ideal.ofBits, Ideal.ieee]

theorem least_at (V : Vec Ideal S256x4096 .f32) (r : Fin 256) :
    least V (ix2 r 0) = BitVec.ofNat 32 (first fun x : Fin 4096 => V (ix2 r x)).val := by
  unfold least
  pointwise [k0_pay7, cols]
  rw [ofBits_inf]
  exact fold_first le_rfl _

theorem ofNat_eq_iff {a b : ℕ} (ha : a < 4096) (hb : b < 4096) : BitVec.ofNat 32 a = BitVec.ofNat 32 b ↔ a = b := by
  refine ⟨fun h => ?_, congrArg _⟩
  have := congrArg BitVec.toNat h
  rw [BitVec.toNat_ofNat, BitVec.toNat_ofNat] at this
  omega

theorem select_update {d : Fin 4096 → EReal} (j x : Fin 4096) :
    Scalar.select (IntOp.cmpi .eq (BitVec.ofNat 32 x.val) (BitVec.ofNat 32 j.val)) (⊤ : EReal) (d x) = Function.update d j ⊤ x := by
  by_cases h : x = j
  · subst h
    rw [Function.update_self]
    simp [Scalar.select, IntOp.cmpi]
  · have : ¬ BitVec.ofNat 32 x.val = BitVec.ofNat 32 j.val := fun e => h (Fin.ext ((ofNat_eq_iff x.isLt j.isLt).mp e))
    rw [Function.update_of_ne h]
    have hf : (BitVec.ofNat 32 x.val == BitVec.ofNat 32 j.val) = false := beq_eq_false_iff_ne.mpr this
    show (if BitVec.ofBool (BitVec.ofNat 32 x.val == BitVec.ofNat 32 j.val) = 1#1 then (⊤ : EReal) else d x) = d x
    rw [hf]
    rfl

theorem clear_at (V : Vec Ideal S256x4096 .f32) (r : Fin 256) (x : Fin 4096) :
    clear V (ix2 r x) = Function.update (fun x : Fin 4096 => V (ix2 r x)) (first fun x : Fin 4096 => V (ix2 r x)) ⊤ x := by
  have h : clear V (ix2 r x) = Scalar.select (IntOp.cmpi .eq (BitVec.ofNat 32 x.val) (least V (ix2 r 0)))
      (Ideal.ofBits .f32 0x7F800000#32) (V (ix2 r x)) := by
    unfold clear least
    pointwise [k0_pay8, cols]
  rw [h, least_at, ofBits_inf]
  exact select_update (d := fun x => V (ix2 r x)) _ x

theorem clear_iterate (V : Vec Ideal S256x4096 .f32) (r : Fin 256) (t : ℕ) :
    (fun x : Fin 4096 => clear^[t] V (ix2 r x)) = struck (fun x : Fin 4096 => V (ix2 r x)) t := by
  induction t with
  | zero => rfl
  | succ t ih =>
    funext x
    rw [Function.iterate_succ_apply', clear_at, ih]
    rfl

/-- Entry `(r, t)` of what a block's body leaves: the column that round `t` picks in row `r`. -/
theorem columns_at (V : Vec Ideal S256x4096 .f32) (r : Fin 256) (t : Fin 32) :
    columns V (ix2 r t) = BitVec.ofNat 32 (picked (fun x : Fin 4096 => V (ix2 r x)) t.val).val := by
  refine (least_at (clear^[t.val] V) r).trans ?_
  rw [clear_iterate]
  rfl

/-- A block's masked distances, at coordinates. -/
theorem distances_at (i : grid0.Coords) (x2 : Vec Ideal S256x64 .f32) (x0 : Vec Ideal S64x4096 .f32) (x1 : Vec Ideal S1x4096 .i32)
    (x3 : Vec Ideal S256x1 .i32) (r : Fin 256) (j : Fin 4096) : k0_pay3 i x2 x0 x1 x3 (ix2 r j)
      = Scalar.select (IntOp.ori (IntOp.cmpi .ne (x1 (ix2 0 j)) (x3 (ix2 r 0)))
          (IntOp.cmpi .eq (IntOp.addi (Scalar.muli (BitVec.ofNat 32 (i 0).val) 256#32) (BitVec.ofNat 32 r.val)) (BitVec.ofNat 32 j.val)))
        (Ideal.ofBits .f32 0x7F800000#32)
        (∑ q : Fin 64, x2 (ix2 r q) * x2 (ix2 r q) + ∑ q : Fin 64, x0 (ix2 q j) * x0 (ix2 q j)
          - Ideal.ofBits .f32 0x40000000#32 * ∑ q : Fin 64, x2 (ix2 r q) * x0 (ix2 q j)) := by
  pointwise [k0_pay3]

end Cert.Proof.Knn

end
-- ==== Proof.KnnArrays.lean ====
/-
  The array that the kNN call over all columns leaves, read at coordinates: row `i`, column `t` holds the column that
  round `t` picks among the distances of row `i`.
-/
module

public import proofs.«01_k».proof.Proof.KnnBody
public import Idealize.ShloMosaic.Lib.Pipeline.ValueKit

@[expose] public section

set_option maxRecDepth 16384

noncomputable section

namespace Cert.Proof.Knn

open Cert.KnnAllIdeal Cert.KnnAllIdeal.Gen
open Idealize.ShloMosaic Idealize.ShloMosaic.TcCoe
open Idealize.ShloMosaic.Pipeline (Dat)

/-- The squared distance of rows `i` and `j`; infinite when they are of different batches, or the same row. -/
def far {n : ℕ} (x : Fin 4096 → Fin n → EReal) (b : Fin 4096 → BitVec 32) (i j : Fin 4096) : EReal :=
  if b j ≠ b i ∨ i = j then ⊤
  else ∑ q, x i q * x i q + ∑ q, x j q * x j q - Ideal.ofBits .f32 0x40000000#32 * ∑ q, x i q * x j q

theorem select_of_iff {α : Type} {c : BitVec 1} {p : Prop} [Decidable p] (h : c = 1#1 ↔ p) (u v : α) : Scalar.select c u v = if p then u else v := by
  unfold Scalar.select
  by_cases hp : p
  · exact (if_pos (h.mpr hp)).trans (if_pos hp).symm
  · exact (if_neg fun e => hp (h.mp e)).trans (if_neg hp).symm

theorem ori_iff (a b : BitVec 1) : IntOp.ori a b = 1#1 ↔ a = 1#1 ∨ b = 1#1 := by
  revert a b
  decide

theorem cmpi_ne_iff {w : ℕ} (a b : BitVec w) : IntOp.cmpi .ne a b = 1#1 ↔ a ≠ b := by
  show BitVec.ofBool (a != b) = 1#1 ↔ a ≠ b
  rw [← bne_iff_ne]
  cases a != b <;> decide

theorem cmpi_eq_iff {w : ℕ} (a b : BitVec w) : IntOp.cmpi .eq a b = 1#1 ↔ a = b := by
  refine Iff.trans ?_ (beq_iff_eq (a := a) (b := b))
  show BitVec.ofBool (a == b) = 1#1 ↔ (a == b) = true
  cases a == b <;> decide

theorem row_number (t : ℕ) (r : ℕ) : IntOp.addi (Scalar.muli (BitVec.ofNat 32 t) 256#32) (BitVec.ofNat 32 r) = BitVec.ofNat 32 (t * 256 + r) := by
  show BitVec.ofNat 32 t * BitVec.ofNat 32 256 + BitVec.ofNat 32 r = _
  rw [← BitVec.ofNat_mul, ← BitVec.ofNat_add]

theorem idx0 : ∀ t : Fin cfg0.N, win0_0.index t = ![0, 0] ∧ win0_1.index t = ![0, 0] ∧ win0_2.index t = ![t.val, 0]
    ∧ win0_3.index t = ![t.val, 0] ∧ win0_4.index t = ![t.val, 0] ∧ (grid0.coords t 0).val = t.val :=
  (by decide +kernel : ∀ t : Fin grid0.N, _)

/-- The picked columns of every row. -/
def pickedOf {n : ℕ} (x : Fin 4096 → Fin n → EReal) (b : Fin 4096 → BitVec 32) : IVec S4096x32 32 :=
  fun i => BitVec.ofNat 32 (picked (far x b (i 0)) (i 1).val).val

/-- The number of a block's row among all the rows. -/
def row (t : Fin 16) (r : Fin 256) : Fin 4096 := ⟨t.val * 256 + r.val, by omega⟩

theorem first_block (w o : ℕ) : 0 * w + o = o := (congrArg (· + o) (Nat.zero_mul w)).trans (Nat.zero_add o)

/-- An index with the coordinates of a block of rows is that row's index. -/
theorem eq_row {s : ℕ} {y : (⟨2, ![4096, s]⟩ : Shape).Idx} {t : Fin 16} {r : Fin 256} {o : Fin s} (h0 : (y 0).val = t.val * 256 + r.val)
    (h1 : (y 1).val = o.val) : y = ix2 (row t r) o := by
  funext a
  match a with
  | ⟨0, _⟩ => exact Fin.ext h0
  | ⟨1, _⟩ => exact Fin.ext h1

/-- Squared distances masked as a grid point masks them are the row's distances. -/
theorem masked_far {n : ℕ} (x : Fin 4096 → Fin n → EReal) (b : Fin 4096 → BitVec 32) (t : Fin 16) (r : Fin 256) (j : Fin 4096) :
    Scalar.select (IntOp.ori (IntOp.cmpi .ne (b j) (b (row t r)))
        (IntOp.cmpi .eq (IntOp.addi (Scalar.muli (BitVec.ofNat 32 t.val) 256#32) (BitVec.ofNat 32 r.val)) (BitVec.ofNat 32 j.val)))
      (Ideal.ofBits .f32 0x7F800000#32)
      (∑ q, x (row t r) q * x (row t r) q + ∑ q, x j q * x j q - Ideal.ofBits .f32 0x40000000#32 * ∑ q, x (row t r) q * x j q)
      = far x b (row t r) j := by
  rw [row_number, ofBits_inf]
  refine select_of_iff (p := b j ≠ b (row t r) ∨ row t r = j) ?_ _ _
  refine (ori_iff _ _).trans (or_congr (cmpi_ne_iff _ _) ((cmpi_eq_iff _ _).trans ?_))
  exact (ofNat_eq_iff (row t r).isLt j.isLt).trans Fin.ext_iff.symm

/-- The columns of a block whose distances are its rows' are those rows' picked columns. -/
theorem columns_far {n : ℕ} {x : Fin 4096 → Fin n → EReal} {b : Fin 4096 → BitVec 32} {t : Fin 16} {d : Vec Ideal S256x4096 .f32}
    (h : ∀ r j, d (ix2 r j) = far x b (row t r) j) (r : Fin 256) (o : Fin 32) : columns d (ix2 r o) = pickedOf x b (ix2 (row t r) o) := by
  refine (columns_at _ r o).trans ?_
  rw [show (fun j => d (ix2 r j)) = far x b (row t r) from funext (h r)]
  rfl

theorem as_row (v : IVec S4096 32) (j : Fin 4096) : shapeCast S1x4096 v shapeCasts_S4096_S1x4096 (ix2 0 j) = v (ix1 j) := by
  pointwise []

theorem as_column (v : IVec S4096 32) (i : Fin 4096) : shapeCast S4096x1 v shapeCasts_S4096_S4096x1 (ix2 i 0) = v (ix1 i) := by
  pointwise []

variable (m : (ℓ : Loc nD τ sig) → Buf (Elt Ideal) ℓ)

theorem V_v0 (c : Dev nD) : V m c main_v0 = transpose S64x4096 [1, 0] (m ((c : Thread nD τ).loc main_arg0)) transposes_S4096x64_S64x4096_1_0 := by
  rfl

theorem V_v1 (c : Dev nD) : V m c main_v1 = shapeCast S1x4096 (m ((c : Thread nD τ).loc main_arg1)) shapeCasts_S4096_S1x4096 := by
  rfl

theorem V_v2 (c : Dev nD) : V m c main_v2 = shapeCast S4096x1 (m ((c : Thread nD τ).loc main_arg1)) shapeCasts_S4096_S4096x1 := by
  rfl

theorem out4 (c : Dev nD) (t : Fin cfg0.N) : (dats m 0 c).after 4 t
    = columns (k0_pay3 (grid0.coords t) (iblk m c 2 t) (iblk m c 0 t) (iblk m c 1 t) (iblk m c 3 t)) := by
  refine (after0_4 m c t).trans ?_
  unfold outsAt0
  exact out_at _ _ _ _ _ _ _ _ _ _ _ _ _ _ _ _ _ _

theorem iblk2_at (c : Dev nD) (t : Fin cfg0.N) (r : Fin 256) (q : Fin 64) :
    (iblk m c 2 t : FVec Ideal S256x64 .f32) (ix2 r q) = (m ((c : Thread nD τ).loc main_arg0) : FVec Ideal S4096x64 .f32) (ix2 (row t r) q) := by
  have h : (iblk m c 2 t : FVec Ideal S256x64 .f32) (ix2 r q) = (V m c main_arg0 : FVec Ideal S4096x64 .f32) (ix2 (row t r) q) := by
    have e : ((cfg0.win 2).blk t).view.emb (ix2 r q) = ix2 (row t r) q := by
      apply eq_row <;> blk_simp <;> rw [(idx0 t).2.2.1]
      · rfl
      · exact first_block _ _
    exact congrArg (V m c main_arg0 : FVec Ideal S4096x64 .f32) e
  rw [h, V_main_arg0]

theorem iblk0_at (c : Dev nD) (t : Fin cfg0.N) (j : Fin 4096) (q : Fin 64) :
    (iblk m c 0 t : FVec Ideal S64x4096 .f32) (ix2 q j) = (m ((c : Thread nD τ).loc main_arg0) : FVec Ideal S4096x64 .f32) (ix2 j q) := by
  have h : (iblk m c 0 t : FVec Ideal S64x4096 .f32) (ix2 q j) = (V m c main_v0 : FVec Ideal S64x4096 .f32) (ix2 q j) := by
    blk_point [iblk, idx0 t]
  rw [h, V_v0]
  pointwise []

theorem iblk1_at (c : Dev nD) (t : Fin cfg0.N) (j : Fin 4096) :
    (iblk m c 1 t : IVec S1x4096 32) (ix2 0 j) = (m ((c : Thread nD τ).loc main_arg1) : IVec S4096 32) (ix1 j) := by
  have h : (iblk m c 1 t : IVec S1x4096 32) (ix2 0 j) = (V m c main_v1 : IVec S1x4096 32) (ix2 0 j) := by
    blk_point [iblk, idx0 t]
  rw [h, V_v1]
  exact as_row _ j

theorem iblk3_at (c : Dev nD) (t : Fin cfg0.N) (r : Fin 256) :
    (iblk m c 3 t : IVec S256x1 32) (ix2 r 0) = (m ((c : Thread nD τ).loc main_arg1) : IVec S4096 32) (ix1 (row t r)) := by
  have h : (iblk m c 3 t : IVec S256x1 32) (ix2 r 0) = (V m c main_v2 : IVec S4096x1 32) (ix2 (row t r) 0) := by
    blk_point [iblk, row, idx0 t]
  rw [h, V_v2]
  exact as_column _ _

/-- A grid point's distances are the rows' distances. -/
theorem block_far (c : Dev nD) (t : Fin cfg0.N) (r : Fin 256) (j : Fin 4096) :
    k0_pay3 (grid0.coords t) (iblk m c 2 t) (iblk m c 0 t) (iblk m c 1 t) (iblk m c 3 t) (ix2 r j)
      = far (fun i q => m ((c : Thread nD τ).loc main_arg0) (ix2 i q)) (fun i => m ((c : Thread nD τ).loc main_arg1) (ix1 i)) (row t r) j := by
  refine (distances_at _ _ _ _ _ r j).trans ?_
  simp only [iblk0_at, iblk1_at, iblk2_at, iblk3_at, (idx0 t).2.2.2.2.2]
  exact masked_far (fun i q => m ((c : Thread nD τ).loc main_arg0) (ix2 i q)) (fun i => m ((c : Thread nD τ).loc main_arg1) (ix1 i)) t r j

theorem final (c : Dev nD) : (dats m 0 c).arrAt 4 cfg0.N
    = pickedOf (fun i q => m ((c : Thread nD τ).loc main_arg0) (ix2 i q)) (fun i => m ((c : Thread nD τ).loc main_arg1) (ix1 i)) := by
  refine (dats m 0 c).arrAt_eq_of_covers 4 _ (by decide +kernel) fun t _ y => ?_
  blk_simp
  rw [out4]
  obtain ⟨r, o, rfl⟩ : ∃ (r : Fin 256) (o : Fin 32), y = ix2 r o := ⟨y 0, y 1, eq_ix2 y⟩
  refine (columns_far (block_far m c t) r o).trans (congrArg _ ?_)
  symm
  apply eq_row <;> blk_simp <;> rw [(idx0 t).2.2.2.2.1]
  · rfl
  · exact first_block _ _

end Cert.Proof.Knn

end
-- ==== Proof.KnnReference.lean ====
/-
  The reference of the kNN call, read at coordinates: the sort of a row's distances picks the columns that the rounds
  pick, when enough of the row's distances are finite.
-/
module

public import proofs.«01_k».proof.Proof.KnnArrays
public import proofs.«01_k».proof.Proof.Gen.KnnReferenceIdeal.Run
public import proofs.«01_k».proof.Proof.Gen.Pre_enough_neighbours
public import Idealize.ShloMosaic.Lib.ReduceAll

@[expose] public section

set_option maxRecDepth 16384

noncomputable section

namespace Cert.Proof.Knn

open Idealize.ShloMosaic

/-! ## The sort -/

theorem gt_neg (a b : EReal) : (FloatOps.cmpfTotal (F := Ideal) (φ := .f32) .gt (-a) (-b) == 1#1) = decide (a < b) := by
  show (BitVec.ofBool (decide (-b < -a)) == 1#1) = decide (a < b)
  have h : (-b < -a) ↔ a < b := EReal.neg_lt_neg_iff
  simp only [h]
  by_cases e : a < b <;> simp [e]

theorem along_row {m n : Nat} (i : Fin m) (j k : Fin n) : (ix2 i j).along 1 k = ix2 i k := by
  funext a
  match a with
  | ⟨0, _⟩ => rfl
  | ⟨1, _⟩ => rfl

/-- A sort of two arrays along their rows reads each row at its sorted columns. -/
theorem sort_at {m n : Nat} {α β : Type} (cmp : α × β → α × β → BitVec 1) (x : (⟨2, ![m, n]⟩ : Shape).Idx → α)
    (y : (⟨2, ![m, n]⟩ : Shape).Idx → β) (i : Fin m) (j : Fin n) : (Host.sort2 ⟨2, ![m, n]⟩ 1 cmp x y).2 (ix2 i j)
      = y (ix2 i (sortedFrom (fun k k' : Fin n => cmp (x (ix2 i k), y (ix2 i k)) (x (ix2 i k'), y (ix2 i k')) == 1#1) j)) := by
  have h : (fun k : Fin n => (ix2 i j).along 1 k) = fun k => ix2 i k := funext fun k => along_row i j k
  exact congrArg (fun a : Fin n → (⟨2, ![m, n]⟩ : Shape).Idx =>
    y (a (sortedFrom (fun k k' : Fin n => cmp (x (a k), y (a k)) (x (a k'), y (a k')) == 1#1) j))) h

theorem slice_at {m n k : Nat} {α : Type} (hk : k ≤ n) (z : (⟨2, ![m, n]⟩ : Shape).Idx → α)
    (h : (⟨2, ![m, n]⟩ : Shape).Slices (fun _ => 0) ⟨2, ![m, k]⟩) (i : Fin m) (t : Fin k) :
    extractStridedSlice ⟨2, ![m, k]⟩ (fun _ => 0) z h (ix2 i t) = z (ix2 i (t.castLE hk)) := by
  refine congrArg z (funext fun a => ?_)
  match a with
  | ⟨0, _⟩ => exact Fin.ext (Nat.zero_add _)
  | ⟨1, _⟩ => exact Fin.ext (Nat.zero_add _)

theorem gt_at {m n : Nat} (v : FVec Ideal ⟨2, ![m, n]⟩ .f32) (i : Fin m) :
    (fun k k' : Fin n => FloatOps.cmpfTotal (F := Ideal) (φ := .f32) .gt (Host.negf v (ix2 i k)) (Host.negf v (ix2 i k')) == 1#1)
      = fun k k' => decide (v (ix2 i k) < v (ix2 i k')) :=
  funext fun _ => funext fun _ => gt_neg _ _

/-- The columns of the greatest entries of the negated rows, in order, are the sorted columns of the rows. -/
theorem topK_at {m n k : Nat} (hk : k ≤ n) (v : FVec Ideal ⟨2, ![m, n]⟩ .f32) (h : (⟨2, ![m, n]⟩ : Shape).Slices (fun _ => 0) ⟨2, ![m, k]⟩) (i : Fin m) (t : Fin k) :
    (Host.topK ⟨2, ![m, k]⟩ 1 (FloatOps.cmpfTotal .gt) (Host.negf v) h).2 (ix2 i t)
      = BitVec.ofNat 32 (sortedFrom (fun k k' : Fin n => decide (v (ix2 i k) < v (ix2 i k'))) (t.castLE hk)).val := by
  rw [← gt_at v i]
  have e : (Host.topK ⟨2, ![m, k]⟩ 1 (FloatOps.cmpfTotal .gt) (Host.negf v) h).2 = extractStridedSlice ⟨2, ![m, k]⟩ (fun _ => 0)
      (Host.sort2 ⟨2, ![m, n]⟩ 1 (fun l r => FloatOps.cmpfTotal (F := Ideal) (φ := .f32) .gt l.1 r.1) (Host.negf v) (iotaInDim ⟨2, ![m, n]⟩ 32 1)).2 h := rfl
  rw [e, slice_at hk _ h i t, sort_at]
  rfl

open Cert.KnnReferenceIdeal (S4096x32 S4096x4096) in
/-- The sorted columns of an array's rows are the columns that the rounds pick, when enough of each row is finite. -/
theorem sorted_picked {v : FVec Ideal S4096x4096 .f32} {f : Fin 4096 → Fin 4096 → EReal} (hv : ∀ i j, v (ix2 i j) = f i j)
    (h : ∀ i, 32 ≤ (Finset.univ.filter fun j => f i j ≠ ⊤).card) (hs : S4096x4096.Slices (fun _ => 0) S4096x32) :
    (Host.topK S4096x32 1 (FloatOps.cmpfTotal .gt) (Host.negf v) hs).2 = fun y => BitVec.ofNat 32 (picked (f (y 0)) (y 1).val).val := by
  funext y
  obtain ⟨i, t, rfl⟩ : ∃ (i : Fin 4096) (t : Fin 32), y = ix2 i t := ⟨y 0, y 1, eq_ix2 y⟩
  refine (topK_at (by decide) v _ i t).trans ?_
  have hs : (fun k k' : Fin 4096 => decide (v (ix2 i k) < v (ix2 i k'))) = fun k k' => decide (f i k < f i k') := by
    funext k k'
    rw [hv, hv]
  rw [hs, sortedFrom_picked _ (h i) (by decide) t]
  rfl

/-! ## The distances -/

/-- Squared distances masked as the reference masks them. -/
theorem mask_far {n : ℕ} (x : Fin 4096 → Fin n → EReal) (b : Fin 4096 → BitVec 32) (i j : Fin 4096) :
    Scalar.select (IntOp.ori (IntOp.cmpi .ne (b i) (b j)) (IntOp.cmpi .eq (IntOp.addi (BitVec.ofNat 32 i.val) 0#32) (BitVec.ofNat 32 j.val)))
      (Ideal.ofBits .f32 0x7F800000#32) (∑ q, x i q * x i q + ∑ q, x j q * x j q - Ideal.ofBits .f32 0x40000000#32 * ∑ q, x i q * x j q)
      = far x b i j := by
  rw [ofBits_inf]
  refine select_of_iff (p := b j ≠ b i ∨ i = j) ?_ _ _
  refine (ori_iff _ _).trans (or_congr ((cmpi_ne_iff _ _).trans ne_comm) ((cmpi_eq_iff _ _).trans ?_))
  have h0 : IntOp.addi (BitVec.ofNat 32 i.val) 0#32 = BitVec.ofNat 32 i.val := BitVec.add_zero _
  rw [h0]
  exact (ofNat_eq_iff i.isLt j.isLt).trans Fin.ext_iff.symm

namespace Ref

open Cert.KnnReferenceIdeal Cert.KnnReferenceIdeal.Gen

/-- The reference's masked distances. -/
def dist (x : FVec Ideal S4096x64 .f32) (b : IVec S4096 32) : FVec Ideal S4096x4096 .f32 :=
  select (ori (cmpi .ne (broadcastInDim S4096x4096 ![0, 1] bcast_S4096x1_S4096x4096_0_1 (broadcastInDim S4096x1 ![0] bcast_S4096_S4096x1_0 b)) (broadcastInDim S4096x4096 ![0, 1] bcast_S1x4096_S4096x4096_0_1 (broadcastInDim S1x4096 ![1] bcast_S4096_S1x4096_1 b))) (cmpi .eq (addi (iotaInDim S4096x4096 32 0) (broadcastInDim S4096x4096 ![] bcast_S_S4096x4096 (constantI S_ 32 0#32))) (iotaInDim S4096x4096 32 1))) (broadcastInDim S4096x4096 ![] bcast_S_S4096x4096 (id (constant S_ .f32 0x7F800000#32))) (subf (addf (broadcastInDim S4096x4096 ![0, 1] bcast_S4096x1_S4096x4096_0_1 (broadcastInDim S4096x1 ![0] bcast_S4096_S4096x1_0 (Host.reduceAdd (mulf x x) (constant S_ .f32 0x00000000#32) reducesTo_S4096x64_S4096_d1 h_S_))) (broadcastInDim S4096x4096 ![0, 1] bcast_S1x4096_S4096x4096_0_1 (broadcastInDim S1x4096 ![1] bcast_S4096_S1x4096_1 (Host.reduceAdd (mulf x x) (constant S_ .f32 0x00000000#32) reducesTo_S4096x64_S4096_d1 h_S_)))) (mulf (broadcastInDim S4096x4096 ![] bcast_S_S4096x4096 (constant S_ .f32 0x40000000#32)) (Host.dotGeneral dot_S4096x64_S64x4096_S4096x4096_1_0_0_1_n_n none x (transpose S64x4096 [1, 0] x transposes_S4096x64_S64x4096_1_0))))

theorem dist_select (x : FVec Ideal S4096x64 .f32) (b : IVec S4096 32) (i j : Fin 4096) : dist x b (ix2 i j)
    = Scalar.select (IntOp.ori (IntOp.cmpi .ne (b (ix1 i)) (b (ix1 j))) (IntOp.cmpi .eq (IntOp.addi (BitVec.ofNat 32 i.val) 0#32) (BitVec.ofNat 32 j.val)))
        (Ideal.ofBits .f32 0x7F800000#32)
        (∑ q : Fin 64, x (ix2 i q) * x (ix2 i q) + ∑ q : Fin 64, x (ix2 j q) * x (ix2 j q)
          - Ideal.ofBits .f32 0x40000000#32 * ∑ q : Fin 64, x (ix2 i q) * x (ix2 j q)) := by
  pointwise [dist]
  rfl

theorem dist_at (x : FVec Ideal S4096x64 .f32) (b : IVec S4096 32) (i j : Fin 4096) :
    dist x b (ix2 i j) = far (fun i q => x (ix2 i q)) (fun i => b (ix1 i)) i j := by
  rw [dist_select]
  exact mask_far (fun i q => x (ix2 i q)) (fun i => b (ix1 i)) i j

/-- The reference's columns are the picked ones. -/
theorem indices (x : FVec Ideal S4096x64 .f32) (b : IVec S4096 32)
    (h : ∀ i, 32 ≤ (Finset.univ.filter fun j => far (fun i q => x (ix2 i q)) (fun i => b (ix1 i)) i j ≠ ⊤).card) :
    (Host.topK S4096x32 1 (FloatOps.cmpfTotal .gt) (Host.negf (dist x b)) sliceFits_S4096x4096_S4096x32).2
      = pickedOf (fun i q => x (ix2 i q)) (fun i => b (ix1 i)) :=
  sorted_picked (dist_at x b) h _

end Ref

namespace Pre

open Cert.Pre_enough_neighbours Cert.Pre_enough_neighbours.Gen

theorem fold_count {ι : Type} [DecidableEq ι] (p : ι → Prop) [DecidablePred p] (s : Finset ι) :
    s.fold IntOp.addi 0#32 (fun j => BitVec.setWidth 32 (BitVec.ofBool (decide (p j)))) = BitVec.ofNat 32 (s.filter p).card := by
  induction s using Finset.induction_on with
  | empty => rfl
  | insert j s hj ih =>
    rw [Finset.fold_insert hj, ih, Finset.filter_insert]
    by_cases h : p j
    · rw [if_pos h, Finset.card_insert_of_notMem fun hm => hj (Finset.mem_filter.mp hm).1, decide_eq_true h]
      show 1#32 + BitVec.ofNat 32 _ = _
      rw [BitVec.ofNat_add, BitVec.add_comm]
    · rw [if_neg h, decide_eq_false h]
      exact BitVec.zero_add _

/-- How many of each row's entries are finite. -/
def count (v : FVec Ideal S4096x4096 .f32) : IVec S4096 32 :=
  Host.reduce IntOp.addi (extui 32 (cmpf .olt v (broadcastInDim S4096x4096 ![] bcast_S_S4096x4096 (constant S_ .f32 0x7F800000#32))) natLt_1_32)
    (constantI S_ 32 0#32) reducesTo_S4096x4096_S4096_d1 h_S_

/-- Whether every row has as many finite entries as are asked for. -/
def full (v : FVec Ideal S4096x4096 .f32) : IVec S_ 1 :=
  Host.reduce IntOp.andi (cmpi .sge (count v) (broadcastInDim S4096 ![] bcast_S_S4096 (constantI S_ 32 32#32))) (constantI S_ 1 1#1) reducesTo_S4096_S_d0 h_S_

theorem count_at {v : FVec Ideal S4096x4096 .f32} {f : Fin 4096 → Fin 4096 → EReal} (hv : ∀ i j, v (ix2 i j) = f i j) (i : Fin 4096) :
    count v (ix1 i) = BitVec.ofNat 32 (Finset.univ.filter fun j => f i j ≠ ⊤).card := by
  have h : count v (ix1 i) = (Finset.univ : Finset (Fin 4096)).fold IntOp.addi 0#32
      (fun j => BitVec.setWidth 32 (BitVec.ofBool (decide (v (ix2 i j) < Ideal.ofBits .f32 0x7F800000#32)))) := by
    pointwise [count]
  rw [h, fold_count (fun j : Fin 4096 => v (ix2 i j) < Ideal.ofBits .f32 0x7F800000#32)]
  refine congrArg (fun s : Finset (Fin 4096) => BitVec.ofNat 32 s.card) (Finset.filter_congr fun j _ => ?_)
  rw [ofBits_inf, hv]
  exact lt_top_iff_ne_top

theorem full_apply {v : FVec Ideal S4096x4096 .f32} (i : Fin 4096) (h : full v = fun _ => 1#1) : IntOp.cmpi .sge (count v (ix1 i)) 32#32 = 1#1 := by
  unfold full at h
  exact Host.reduce_andi_all _ _ _ _ _ (congrFun h fun i => i.elim0) (ix1 i)

theorem full_enough {v : FVec Ideal S4096x4096 .f32} {f : Fin 4096 → Fin 4096 → EReal} (hv : ∀ i j, v (ix2 i j) = f i j)
    (h : full v = fun _ => 1#1) (i : Fin 4096) : 32 ≤ (Finset.univ.filter fun j => f i j ≠ ⊤).card := by
  have e := full_apply i h
  have hc : (Finset.univ.filter fun j => f i j ≠ ⊤).card ≤ 4096 := (Finset.card_le_univ _).trans (Fintype.card_fin _).le
  rw [count_at hv] at e
  generalize (Finset.univ.filter fun j => f i j ≠ ⊤).card = n at e hc
  have one (p : Bool) : (BitVec.ofBool p = 1#1) ↔ p = true := by cases p <;> decide
  simp only [IntOp.cmpi, one, BitVec.sle_eq_decide, decide_eq_true_eq, BitVec.toInt_eq_toNat_cond, BitVec.toNat_ofNat] at e
  omega

theorem fn_eq (x : FVec Ideal S4096x64 .f32) (b : IVec S4096 32) : fn x b = full (Ref.dist x b) := rfl

/-- The precondition: every row has thirty-two finite distances. -/
theorem enough {x : FVec Ideal S4096x64 .f32} {b : IVec S4096 32} (h : fn x b = fun _ => 1#1) (i : Fin 4096) :
    32 ≤ (Finset.univ.filter fun j => far (fun i q => x (ix2 i q)) (fun i => b (ix1 i)) i j ≠ ⊤).card :=
  full_enough (Ref.dist_at x b) ((fn_eq x b).symm.trans h) i

end Pre

end Cert.Proof.Knn

end
-- ==== Proof.KnnAlgebraic.lean ====
/-
  The kNN call: its frames, and that over the reals it writes the reference's columns.
-/
module

public import proofs.«01_k».proof.Defs
public import proofs.«01_k».proof.Proof.KnnReference
public import proofs.«01_k».proof.Proof.Gen.KnnAll.Frame

@[expose] public section

noncomputable section

namespace Cert.Proof.Knn

open Idealize.ShloMosaic Idealize.SL.Sem

theorem frame_all : Cert.quiescent_KnnAll := fun m ρ _ => Cert.KnnAll.Gen.frame m ρ

theorem frame_ideal : Cert.quiescent_KnnAllIdeal := fun m ρ _ => Cert.KnnAllIdeal.Gen.frame m ρ

theorem frame_ideal_pre : Cert.quiescent_KnnAllIdeal_pre_enough_neighbours := fun m ρ _ => frame_ideal m ρ trivial

theorem frame_reference : Cert.quiescent_KnnReferenceIdeal := fun m ρ _ =>
  (θ_run Cert.KnnReferenceIdeal.defs _ _).mono (fun r h => ⟨fun c => (h c).2, sem_eq_zero_of_no_sems (by decide) r.2⟩)
    (Cert.KnnReferenceIdeal.Value.run (F := Ideal) m ρ)

theorem frame_reference_pre : Cert.quiescent_KnnReferenceIdeal_pre_enough_neighbours := fun m ρ _ => frame_reference m ρ trivial

theorem algebraic : Cert.algebraic_KnnAllIdeal_KnnReferenceIdeal_pre_enough_neighbours := by
  intro m g m' g' hpre hargs
  refine ⟨fun c => pickedOf (fun i q => m ((c.tc : Thread Cert.KnnAllIdeal.nD Cert.KnnAllIdeal.τ).loc Cert.KnnAllIdeal.main_arg0) (ix2 i q))
    (fun i => m ((c.tc : Thread Cert.KnnAllIdeal.nD Cert.KnnAllIdeal.τ).loc Cert.KnnAllIdeal.main_arg1) (ix1 i)), ?_, ?_⟩
  · refine (θ_run (Cert.KnnAllIdeal.defs (F := Ideal)) _ _).mono (fun r h c => ?_) (Cert.KnnAllIdeal.Value.run_blocks (F := Ideal) m g)
    exact ⟨(h c).1.trans (final m c), (h c).2⟩
  · refine (θ_run Cert.KnnReferenceIdeal.defs _ _).mono (fun r h c => ?_) (Cert.KnnReferenceIdeal.Value.run (F := Ideal) m' g')
    refine ⟨(h c).1.trans ?_, (h c).2⟩
    obtain ⟨e0, e1⟩ := hargs c
    rw [e0, e1]
    exact Ref.indices _ _ fun i => Pre.enough (hpre c) i

end Cert.Proof.Knn
-- ==== Proof.KnnWideBody.lean ====
/-
  The body of the second layer's kNN call, of 128 features. Its rounds over a block's distances are the first layer's
  (`Rounds`, `columns`); here the run's values are named, and its distances read.
-/
module

public import proofs.«01_k».proof.Proof.Gen.KnnWideIdeal.Value
public import proofs.«01_k».proof.Proof.KnnBody

@[expose] public section

set_option maxRecDepth 16384

noncomputable section

namespace Cert.Proof.Knn.Wide

open Cert.KnnWideIdeal Cert.KnnWideIdeal.Gen
open Idealize.ShloMosaic

variable {F : FTy → Type} [FloatOps F]

section Body

variable (c : Dev nD) (i : grid0.Coords) (arg1 : Memref sig .tc .vmem S128x4096 .f32) (harg1 : arg1.IsWhole) (arg2 : Memref sig .tc .vmem S1x4096 .i32) (harg2 : arg2.IsWhole)
  (arg3 : Memref sig .tc .vmem S256x128 .f32) (harg3 : arg3.IsWhole) (arg4 : Memref sig .tc .vmem S256x1 .i32) (harg4 : arg4.IsWhole) (arg5 : Memref sig .tc .vmem S256x32 .i32) (harg5 : arg5.IsWhole)
  (arg6 : Memref sig .tc .vmem S256x4096 .f32) (harg6 : arg6.IsWhole)
  (x0 : Vec F S128x4096 .f32) (x1 : Vec F S1x4096 .i32) (x2 : Vec F S256x128 .f32) (x3 : Vec F S256x1 .i32)

/-- The values of the run that are the rounds' distances, the newest first. -/
def found : Fin 32 → Vec F S256x4096 .f32 := ![
  kernelRun0_A.sl.v564 c i arg1 harg1 arg2 harg2 arg3 harg3 arg4 harg4 arg6 x0 x1 x2 x3,
  kernelRun0_A.sl.v547 c i arg1 harg1 arg2 harg2 arg3 harg3 arg4 harg4 arg6 x0 x1 x2 x3,
  kernelRun0_A.sl.v530 c i arg1 harg1 arg2 harg2 arg3 harg3 arg4 harg4 arg6 x0 x1 x2 x3,
  kernelRun0_A.sl.v513 c i arg1 harg1 arg2 harg2 arg3 harg3 arg4 harg4 arg6 x0 x1 x2 x3,
  kernelRun0_A.sl.v496 c i arg1 harg1 arg2 harg2 arg3 harg3 arg4 harg4 arg6 x0 x1 x2 x3,
  kernelRun0_A.sl.v479 c i arg1 harg1 arg2 harg2 arg3 harg3 arg4 harg4 arg6 x0 x1 x2 x3,
  kernelRun0_A.sl.v462 c i arg1 harg1 arg2 harg2 arg3 harg3 arg4 harg4 arg6 x0 x1 x2 x3,
  kernelRun0_A.sl.v445 c i arg1 harg1 arg2 harg2 arg3 harg3 arg4 harg4 arg6 x0 x1 x2 x3,
  kernelRun0_A.sl.v428 c i arg1 harg1 arg2 harg2 arg3 harg3 arg4 harg4 arg6 x0 x1 x2 x3,
  kernelRun0_A.sl.v411 c i arg1 harg1 arg2 harg2 arg3 harg3 arg4 harg4 arg6 x0 x1 x2 x3,
  kernelRun0_A.sl.v394 c i arg1 harg1 arg2 harg2 arg3 harg3 arg4 harg4 arg6 x0 x1 x2 x3,
  kernelRun0_A.sl.v377 c i arg1 harg1 arg2 harg2 arg3 harg3 arg4 harg4 arg6 x0 x1 x2 x3,
  kernelRun0_A.sl.v360 c i arg1 harg1 arg2 harg2 arg3 harg3 arg4 harg4 arg6 x0 x1 x2 x3,
  kernelRun0_A.sl.v343 c i arg1 harg1 arg2 harg2 arg3 harg3 arg4 harg4 arg6 x0 x1 x2 x3,
  kernelRun0_A.sl.v326 c i arg1 harg1 arg2 harg2 arg3 harg3 arg4 harg4 arg6 x0 x1 x2 x3,
  kernelRun0_A.sl.v309 c i arg1 harg1 arg2 harg2 arg3 harg3 arg4 harg4 arg6 x0 x1 x2 x3,
  kernelRun0_A.sl.v292 c i arg1 harg1 arg2 harg2 arg3 harg3 arg4 harg4 arg6 x0 x1 x2 x3,
  kernelRun0_A.sl.v275 c i arg1 harg1 arg2 harg2 arg3 harg3 arg4 harg4 arg6 x0 x1 x2 x3,
  kernelRun0_A.sl.v258 c i arg1 harg1 arg2 harg2 arg3 harg3 arg4 harg4 arg6 x0 x1 x2 x3,
  kernelRun0_A.sl.v241 c i arg1 harg1 arg2 harg2 arg3 harg3 arg4 harg4 arg6 x0 x1 x2 x3,
  kernelRun0_A.sl.v224 c i arg1 harg1 arg2 harg2 arg3 harg3 arg4 harg4 arg6 x0 x1 x2 x3,
  kernelRun0_A.sl.v207 c i arg1 harg1 arg2 harg2 arg3 harg3 arg4 harg4 arg6 x0 x1 x2 x3,
  kernelRun0_A.sl.v190 c i arg1 harg1 arg2 harg2 arg3 harg3 arg4 harg4 arg6 x0 x1 x2 x3,
  kernelRun0_A.sl.v173 c i arg1 harg1 arg2 harg2 arg3 harg3 arg4 harg4 arg6 x0 x1 x2 x3,
  kernelRun0_A.sl.v156 c i arg1 harg1 arg2 harg2 arg3 harg3 arg4 harg4 arg6 x0 x1 x2 x3,
  kernelRun0_A.sl.v139 c i arg1 harg1 arg2 harg2 arg3 harg3 arg4 harg4 arg6 x0 x1 x2 x3,
  kernelRun0_A.sl.v122 c i arg1 harg1 arg2 harg2 arg3 harg3 arg4 harg4 arg6 x0 x1 x2 x3,
  kernelRun0_A.sl.v105 c i arg1 harg1 arg2 harg2 arg3 harg3 arg4 harg4 arg6 x0 x1 x2 x3,
  kernelRun0_A.sl.v88 c i arg1 harg1 arg2 harg2 arg3 harg3 arg4 harg4 arg6 x0 x1 x2 x3,
  kernelRun0_A.sl.v71 c i arg1 harg1 arg2 harg2 arg3 harg3 arg4 harg4 arg6 x0 x1 x2 x3,
  kernelRun0_A.sl.v54 c i arg1 harg1 arg2 harg2 arg3 harg3 arg4 harg4 arg6 x0 x1 x2 x3,
  kernelRun0_A.sl.v37 c i arg1 harg1 arg2 harg2 arg3 harg3 arg4 harg4 arg6 x0 x1 x2 x3]

/-- What the body stores: the columns of its distances. -/
theorem out_at : out0_A_4 c i arg1 harg1 arg2 harg2 arg3 harg3 arg4 harg4 arg5 harg5 arg6 harg6 x0 x1 x2 x3
    = columns (k0_pay3 i x2 x0 x1 x3) := by
  have h0 : kernelRun0_A.sl.v37 c i arg1 harg1 arg2 harg2 arg3 harg3 arg4 harg4 arg6 x0 x1 x2 x3 = k0_pay3 i x2 x0 x1 x3 := by
    have z : ∀ a : Fin 2, (![0, 0] : Fin 2 → ℕ) a = 0 := by decide
    refine (View.readCov_cons_toLoadRect _ _ _ _).trans ?_
    exact congr (congr (congr (congrArg (k0_pay3 i) (read_back harg3 x2 z _)) (read_back harg1 x0 z _)) (read_back harg2 x1 z _)) (read_back harg4 x3 z _)
  have h : Rounds (k0_pay3 i x2 x0 x1 x3) (found c i arg1 harg1 arg2 harg2 arg3 harg3 arg4 harg4 arg6 x0 x1 x2 x3)
      (kernelRun0_A c i arg1 harg1 arg2 harg2 arg3 harg3 arg4 harg4 arg5 harg5 arg6 harg6 x0 x1 x2 x3).1 := by
    unfold found kernelRun0_A
    iterate 31 refine Rounds.cons (by decide) rfl (View.readCov_cons_toLoadRect _ _ _ _) rfl ?_
    exact Rounds.one h0 rfl
  exact h.read _ _

end Body

/-- A block's masked distances, at coordinates. -/
theorem distances_at (i : grid0.Coords) (x2 : Vec Ideal S256x128 .f32) (x0 : Vec Ideal S128x4096 .f32) (x1 : Vec Ideal S1x4096 .i32)
    (x3 : Vec Ideal S256x1 .i32) (r : Fin 256) (j : Fin 4096) : k0_pay3 i x2 x0 x1 x3 (ix2 r j)
      = Scalar.select (IntOp.ori (IntOp.cmpi .ne (x1 (ix2 0 j)) (x3 (ix2 r 0)))
          (IntOp.cmpi .eq (IntOp.addi (Scalar.muli (BitVec.ofNat 32 (i 0).val) 256#32) (BitVec.ofNat 32 r.val)) (BitVec.ofNat 32 j.val)))
        (Ideal.ofBits .f32 0x7F800000#32)
        (∑ q : Fin 128, x2 (ix2 r q) * x2 (ix2 r q) + ∑ q : Fin 128, x0 (ix2 q j) * x0 (ix2 q j)
          - Ideal.ofBits .f32 0x40000000#32 * ∑ q : Fin 128, x2 (ix2 r q) * x0 (ix2 q j)) := by
  pointwise [k0_pay3]

end Cert.Proof.Knn.Wide

end
-- ==== Proof.KnnWideArrays.lean ====
/-
  The array that the second layer's kNN call leaves. What a block of rows says of its rows is `masked_far` and
  `columns_far`, for any number of features; here are this call's blocks.
-/
module

public import proofs.«01_k».proof.Proof.KnnWideBody
public import proofs.«01_k».proof.Proof.KnnArrays

@[expose] public section

set_option maxRecDepth 16384

noncomputable section

namespace Cert.Proof.Knn.Wide

open Cert.KnnWideIdeal Cert.KnnWideIdeal.Gen
open Idealize.ShloMosaic Idealize.ShloMosaic.TcCoe
open Idealize.ShloMosaic.Pipeline (Dat)

theorem idx0 : ∀ t : Fin cfg0.N, win0_0.index t = ![0, 0] ∧ win0_1.index t = ![0, 0] ∧ win0_2.index t = ![t.val, 0]
    ∧ win0_3.index t = ![t.val, 0] ∧ win0_4.index t = ![t.val, 0] ∧ (grid0.coords t 0).val = t.val :=
  (by decide +kernel : ∀ t : Fin grid0.N, _)

variable (m : (ℓ : Loc nD τ sig) → Buf (Elt Ideal) ℓ) (c : Dev nD)

/-- The features. -/
def feats (i : Fin 4096) (q : Fin 128) : EReal := (m ((c : Thread nD τ).loc main_arg0) : FVec Ideal S4096x128 .f32) (ix2 i q)

/-- The batch numbers. -/
def nums (i : Fin 4096) : BitVec 32 := (m ((c : Thread nD τ).loc main_arg1) : IVec S4096 32) (ix1 i)

/-- The four inputs' blocks at a point: all the columns' features and numbers, and a block of the rows'. -/
theorem blocks_at (t : Fin cfg0.N) (r : Fin 256) (j : Fin 4096) (q : Fin 128) :
    (iblk m c 0 t : FVec Ideal S128x4096 .f32) (ix2 q j) = feats m c j q ∧ (iblk m c 1 t : IVec S1x4096 32) (ix2 0 j) = nums m c j
      ∧ (iblk m c 2 t : FVec Ideal S256x128 .f32) (ix2 r q) = feats m c (row t r) q ∧ (iblk m c 3 t : IVec S256x1 32) (ix2 r 0) = nums m c (row t r) := by
  have e : ((cfg0.win 2).blk t).view.emb (ix2 r q) = ix2 (row t r) q := by
    apply eq_row <;> blk_simp <;> rw [(idx0 t).2.2.1]
    · rfl
    · exact first_block _ _
  have h0 : (iblk m c 0 t : FVec Ideal S128x4096 .f32) (ix2 q j) = (V m c main_v0 : FVec Ideal S128x4096 .f32) (ix2 q j) := by
    blk_point [iblk, idx0 t]
  have h1 : (iblk m c 1 t : IVec S1x4096 32) (ix2 0 j) = (V m c main_v1 : IVec S1x4096 32) (ix2 0 j) := by
    blk_point [iblk, idx0 t]
  have h2 : (iblk m c 2 t : FVec Ideal S256x128 .f32) (ix2 r q) = (V m c main_arg0 : FVec Ideal S4096x128 .f32) (ix2 (row t r) q) :=
    congrArg (V m c main_arg0 : FVec Ideal S4096x128 .f32) e
  have h3 : (iblk m c 3 t : IVec S256x1 32) (ix2 r 0) = (V m c main_v2 : IVec S4096x1 32) (ix2 (row t r) 0) := by
    blk_point [iblk, row, idx0 t]
  have v0 : V m c main_v0 = transpose S128x4096 [1, 0] (m ((c : Thread nD τ).loc main_arg0)) transposes_S4096x128_S128x4096_1_0 := rfl
  have v1 : V m c main_v1 = shapeCast S1x4096 (m ((c : Thread nD τ).loc main_arg1)) shapeCasts_S4096_S1x4096 := rfl
  have v2 : V m c main_v2 = shapeCast S4096x1 (m ((c : Thread nD τ).loc main_arg1)) shapeCasts_S4096_S4096x1 := rfl
  refine ⟨h0.trans ?_, h1.trans ?_, h2.trans ?_, h3.trans ?_⟩
  · rw [v0]
    unfold feats
    pointwise []
  · rw [v1]
    exact as_row _ j
  · rw [V_main_arg0]
    rfl
  · rw [v2]
    exact as_column _ _

theorem final : (dats m 0 c).arrAt 4 cfg0.N = pickedOf (feats m c) (nums m c) := by
  refine (dats m 0 c).arrAt_eq_of_covers 4 _ (by decide +kernel) fun t _ y => ?_
  obtain ⟨r, o, rfl⟩ : ∃ (r : Fin 256) (o : Fin 32), y = ix2 r o := ⟨y 0, y 1, eq_ix2 y⟩
  have hd : ∀ r j, k0_pay3 (grid0.coords t) (iblk m c 2 t) (iblk m c 0 t) (iblk m c 1 t) (iblk m c 3 t) (ix2 r j) = far (feats m c) (nums m c) (row t r) j := by
    intro r j
    refine (distances_at _ _ _ _ _ r j).trans ?_
    simp only [(blocks_at m c t r j _).1, (blocks_at m c t r j 0).2.1, (blocks_at m c t r j _).2.2.1, (blocks_at m c t r j 0).2.2.2, (idx0 t).2.2.2.2.2]
    exact masked_far (feats m c) (nums m c) t r j
  have ho : (dats m 0 c).after 4 t = columns (k0_pay3 (grid0.coords t) (iblk m c 2 t) (iblk m c 0 t) (iblk m c 1 t) (iblk m c 3 t)) := by
    refine (after0_4 m c t).trans ?_
    unfold outsAt0
    exact out_at _ _ _ _ _ _ _ _ _ _ _ _ _ _ _ _ _ _
  blk_simp
  rw [ho]
  refine (columns_far hd r o).trans (congrArg _ (Eq.symm ?_))
  apply eq_row <;> blk_simp <;> rw [(idx0 t).2.2.2.2.1]
  · rfl
  · exact first_block _ _

end Cert.Proof.Knn.Wide

end
-- ==== Proof.KnnWideReference.lean ====
/-
  The reference of the second layer's kNN call, read at coordinates, and its precondition.
-/
module

public import proofs.«01_k».proof.Proof.KnnReference
public import proofs.«01_k».proof.Proof.Gen.KnnWideReferenceIdeal.Run
public import proofs.«01_k».proof.Proof.Gen.Pre_enough_neighbours_wide

@[expose] public section

set_option maxRecDepth 16384

noncomputable section

namespace Cert.Proof.Knn.Wide

open Idealize.ShloMosaic

namespace Ref

open Cert.KnnWideReferenceIdeal Cert.KnnWideReferenceIdeal.Gen

/-- The reference's masked distances. -/
def dist (x : FVec Ideal S4096x128 .f32) (b : IVec S4096 32) : FVec Ideal S4096x4096 .f32 :=
  select (ori (cmpi .ne (broadcastInDim S4096x4096 ![0, 1] bcast_S4096x1_S4096x4096_0_1 (broadcastInDim S4096x1 ![0] bcast_S4096_S4096x1_0 b)) (broadcastInDim S4096x4096 ![0, 1] bcast_S1x4096_S4096x4096_0_1 (broadcastInDim S1x4096 ![1] bcast_S4096_S1x4096_1 b))) (cmpi .eq (addi (iotaInDim S4096x4096 32 0) (broadcastInDim S4096x4096 ![] bcast_S_S4096x4096 (constantI S_ 32 0#32))) (iotaInDim S4096x4096 32 1))) (broadcastInDim S4096x4096 ![] bcast_S_S4096x4096 (id (constant S_ .f32 0x7F800000#32))) (subf (addf (broadcastInDim S4096x4096 ![0, 1] bcast_S4096x1_S4096x4096_0_1 (broadcastInDim S4096x1 ![0] bcast_S4096_S4096x1_0 (Host.reduceAdd (mulf x x) (constant S_ .f32 0x00000000#32) reducesTo_S4096x128_S4096_d1 h_S_))) (broadcastInDim S4096x4096 ![0, 1] bcast_S1x4096_S4096x4096_0_1 (broadcastInDim S1x4096 ![1] bcast_S4096_S1x4096_1 (Host.reduceAdd (mulf x x) (constant S_ .f32 0x00000000#32) reducesTo_S4096x128_S4096_d1 h_S_)))) (mulf (broadcastInDim S4096x4096 ![] bcast_S_S4096x4096 (constant S_ .f32 0x40000000#32)) (Host.dotGeneral dot_S4096x128_S128x4096_S4096x4096_1_0_0_1_n_n none x (transpose S128x4096 [1, 0] x transposes_S4096x128_S128x4096_1_0))))

theorem dist_at (x : FVec Ideal S4096x128 .f32) (b : IVec S4096 32) (i j : Fin 4096) :
    dist x b (ix2 i j) = far (fun i q => x (ix2 i q)) (fun i => b (ix1 i)) i j := by
  refine Eq.trans ?_ (mask_far (fun i q => x (ix2 i q)) (fun i => b (ix1 i)) i j)
  pointwise [dist]
  rfl

end Ref

open Cert.KnnWideReferenceIdeal (S4096 S4096x128) in
/-- The precondition: every row has thirty-two finite distances. -/
theorem enough {x : FVec Ideal S4096x128 .f32} {b : IVec S4096 32} (h : Cert.Pre_enough_neighbours_wide.fn x b = fun _ => 1#1) (i : Fin 4096) :
    32 ≤ (Finset.univ.filter fun j => far (fun i q => x (ix2 i q)) (fun i => b (ix1 i)) i j ≠ ⊤).card :=
  Knn.Pre.full_enough (v := Ref.dist x b) (Ref.dist_at x b) h i

end Cert.Proof.Knn.Wide

end
-- ==== Proof.KnnWideAlgebraic.lean ====
/-
  The second layer's kNN call: its frames, and that over the reals it writes the reference's columns.
-/
module

public import proofs.«01_k».proof.Defs
public import proofs.«01_k».proof.Proof.KnnWideArrays
public import proofs.«01_k».proof.Proof.KnnWideReference
public import proofs.«01_k».proof.Proof.Gen.KnnWide.Frame

@[expose] public section

noncomputable section

namespace Cert.Proof.Knn.Wide

open Idealize.ShloMosaic Idealize.SL.Sem

theorem frame_all : Cert.quiescent_KnnWide := fun m ρ _ => Cert.KnnWide.Gen.frame m ρ

theorem frame_ideal : Cert.quiescent_KnnWideIdeal := fun m ρ _ => Cert.KnnWideIdeal.Gen.frame m ρ

theorem frame_ideal_pre : Cert.quiescent_KnnWideIdeal_pre_enough_neighbours_wide := fun m ρ _ => frame_ideal m ρ trivial

theorem frame_reference : Cert.quiescent_KnnWideReferenceIdeal := fun m ρ _ =>
  (θ_run Cert.KnnWideReferenceIdeal.defs _ _).mono (fun r h => ⟨fun c => (h c).2, sem_eq_zero_of_no_sems (by decide) r.2⟩)
    (Cert.KnnWideReferenceIdeal.Value.run (F := Ideal) m ρ)

theorem frame_reference_pre : Cert.quiescent_KnnWideReferenceIdeal_pre_enough_neighbours_wide := fun m ρ _ => frame_reference m ρ trivial

theorem algebraic : Cert.algebraic_KnnWideIdeal_KnnWideReferenceIdeal_pre_enough_neighbours_wide := by
  intro m g m' g' hpre hargs
  have hk := Cert.KnnWideIdeal.Value.run_blocks (F := Ideal) m g
  have hr := Cert.KnnWideReferenceIdeal.Value.run (F := Ideal) m' g'
  refine ⟨fun c => pickedOf (feats m c) (nums m c), (θ_run _ _ _).mono (fun r h c => ?_) hk, (θ_run _ _ _).mono (fun r h c => ?_) hr⟩
  · exact ⟨(h c).1.trans (final m c), (h c).2⟩
  · obtain ⟨e0, e1⟩ := hargs c
    refine ⟨(h c).1.trans ?_, (h c).2⟩
    rw [e0, e1]
    exact sorted_picked (Ref.dist_at _ _) (fun i => enough (hpre c) i) _

end Cert.Proof.Knn.Wide
-- ==== Proof.SegCheck.lean ====
/-
  The words of the kNN call over one segment: the counts it takes of the batch numbers, and the first row and the first
  column of a grid point's block, which always lie inside the arrays.
-/
module

public import proofs.«01_k».proof.Proof.Gen.KnnSegIdeal.Skeleton
public import proofs.«01_k».proof.Proof.KnnReference

@[expose] public section

set_option maxRecDepth 16384

noncomputable section

namespace Cert.Proof.Seg

open Cert.KnnSegIdeal Cert.KnnSegIdeal.Gen
open Idealize.ShloMosaic

variable {F : FTy → Type} [FloatOps F]

/-- How many points come before the segment. -/
def before (i : grid0.Coords) (x1 : Vec F S1x4096 .i32) : BitVec 32 := extractAt ![0, 0, 0] (k0_pay2 i x1) inpos_S1x1x1_p0_0_0

/-- How many points the segment has. -/
def within (i : grid0.Coords) (x1 : Vec F S1x4096 .i32) : BitVec 32 := extractAt ![0, 0, 0] (k0_pay3 i x1) inpos_S1x1x1_p0_0_0

/-- A count over one row of words. -/
theorem count_row (f : Fin 4096 → BitVec 1) (p : Fin 4096 → Prop) [DecidablePred p] (h : ∀ j, f j = BitVec.ofBool (decide (p j))) :
    (Finset.univ : Finset (Fin 1 × Fin 4096)).fold IntOp.addi 0#32 (fun x => BitVec.setWidth 32 (f x.2)) = BitVec.ofNat 32 (Finset.univ.filter p).card := by
  simp only [h]
  refine (Knn.Pre.fold_count (fun x : Fin 1 × Fin 4096 => p x.2) _).trans (congrArg _ ?_)
  exact Finset.card_equiv (Equiv.uniqueProd (Fin 4096) (Fin 1)) fun x => by simp

theorem before_eq (i : grid0.Coords) (x1 : Vec F S1x4096 .i32) : before i x1
    = BitVec.ofNat 32 (Finset.univ.filter fun j : Fin 4096 => BitVec.slt (x1 (ix2 0 j)) (BitVec.ofNat 32 (i 0).val) = true).card := by
  have h : before i x1 = (Finset.univ : Finset (Fin 1 × Fin 4096)).fold IntOp.addi 0#32
      (fun x => BitVec.setWidth 32 (IntOp.cmpi .slt (x1 (ix2 0 x.2)) (BitVec.ofNat 32 (i 0).val))) := by
    pointwise [before, k0_pay2, k0_pay1]
  rw [h]
  exact count_row (fun j => IntOp.cmpi .slt (x1 (ix2 0 j)) (BitVec.ofNat 32 (i 0).val)) _ fun j => congrArg BitVec.ofBool (Bool.decide_eq_true).symm

theorem within_eq (i : grid0.Coords) (x1 : Vec F S1x4096 .i32) : within i x1
    = BitVec.ofNat 32 (Finset.univ.filter fun j : Fin 4096 => (x1 (ix2 0 j) : BitVec 32) = BitVec.ofNat 32 (i 0).val).card := by
  have h : within i x1 = (Finset.univ : Finset (Fin 1 × Fin 4096)).fold IntOp.addi 0#32
      (fun x => BitVec.setWidth 32 (IntOp.cmpi .eq (x1 (ix2 0 x.2)) (BitVec.ofNat 32 (i 0).val))) := by
    pointwise [within, k0_pay3, k0_pay1]
  rw [h]
  exact count_row (fun j => IntOp.cmpi .eq (x1 (ix2 0 j)) (BitVec.ofNat 32 (i 0).val)) _ fun j => rfl

/-- The multiple of eight at or below a word. -/
def down8 (v : BitVec 32) : BitVec 32 :=
  Scalar.muli (Scalar.select (Scalar.andi
    (Scalar.cmpi .ne (Scalar.subi (Scalar.extui (Scalar.cmpi .sgt v 0#32)) (Scalar.extui (Scalar.cmpi .slt v 0#32)))
      (Scalar.subi (Scalar.extui (Scalar.cmpi .sgt 8#32 0#32)) (Scalar.extui (Scalar.cmpi .slt 8#32 0#32))))
    (Scalar.cmpi .ne (Scalar.remsi v 8#32) 0#32)) (Scalar.subi (Scalar.divsi v 8#32) 1#32) (Scalar.divsi v 8#32)) 8#32

/-- The multiple of 128 at or below a word. -/
def down128 (v : BitVec 32) : BitVec 32 :=
  Scalar.muli (Scalar.select (Scalar.andi
    (Scalar.cmpi .ne (Scalar.subi (Scalar.extui (Scalar.cmpi .sgt v 0#32)) (Scalar.extui (Scalar.cmpi .slt v 0#32)))
      (Scalar.subi (Scalar.extui (Scalar.cmpi .sgt 128#32 0#32)) (Scalar.extui (Scalar.cmpi .slt 128#32 0#32))))
    (Scalar.cmpi .ne (Scalar.remsi v 128#32) 0#32)) (Scalar.subi (Scalar.divsi v 128#32) 1#32) (Scalar.divsi v 128#32)) 128#32

/-- The first row of a grid point's block, as a word. -/
def rowWord (i : grid0.Coords) (v : BitVec 32) : BitVec 32 :=
  Scalar.minsi (Scalar.addi (down8 v) (Scalar.muli (BitVec.ofNat 32 (i 1).val) 256#32)) 3840#32

/-- The first column of a segment's columns, as a word. -/
def colWord (v : BitVec 32) : BitVec 32 := Scalar.minsi (down128 v) 2816#32

theorem down8_split : ∀ (q : Fin 65) (r : Fin 64), down8 (BitVec.ofNat 32 (64 * q.val + r.val)) = BitVec.ofNat 32 ((64 * q.val + r.val) / 8 * 8) := by
  decide +kernel

theorem down128_split : ∀ (q : Fin 65) (r : Fin 64), down128 (BitVec.ofNat 32 (64 * q.val + r.val)) = BitVec.ofNat 32 ((64 * q.val + r.val) / 128 * 128) := by
  decide +kernel

theorem down8_eq {n : ℕ} (hn : n ≤ 4096) : down8 (BitVec.ofNat 32 n) = BitVec.ofNat 32 (n / 8 * 8) := by
  have h := down8_split ⟨n / 64, by omega⟩ ⟨n % 64, by omega⟩
  have e : 64 * (n / 64) + n % 64 = n := by omega
  simpa only [e] using h

theorem down128_eq {n : ℕ} (hn : n ≤ 4096) : down128 (BitVec.ofNat 32 n) = BitVec.ofNat 32 (n / 128 * 128) := by
  have h := down128_split ⟨n / 64, by omega⟩ ⟨n % 64, by omega⟩
  have e : 64 * (n / 64) + n % 64 = n := by omega
  simpa only [e] using h

theorem minsi_ofNat {a b : ℕ} (ha : a < 65536) (hb : b < 65536) : Scalar.minsi (BitVec.ofNat 32 a) (BitVec.ofNat 32 b) = BitVec.ofNat 32 (min a b) := by
  have hi : ∀ k, k < 65536 → (BitVec.ofNat 32 k).toInt = k := fun k hk => by
    rw [BitVec.toInt_eq_toNat_cond, BitVec.toNat_ofNat]; omega
  refine BitVec.eq_of_toInt_eq ((SortNet.toInt_minsi _ _).trans ?_)
  rw [hi a ha, hi b hb, hi _ (by omega)]
  omega

/-- The first row of a grid point's block. -/
def rowAt (j n : ℕ) : ℕ := min (n / 8 * 8 + j * 256) 3840

/-- The first column of a segment's columns. -/
def colAt (n : ℕ) : ℕ := min (n / 128 * 128) 2816

theorem rowWord_eq (i : grid0.Coords) {n : ℕ} (hn : n ≤ 4096) : rowWord i (BitVec.ofNat 32 n) = BitVec.ofNat 32 (rowAt (i 1).val n) := by
  have hi : (i 1).val < 5 := (i 1).isLt
  unfold rowWord rowAt
  rw [down8_eq hn]
  have h : Scalar.addi (BitVec.ofNat 32 (n / 8 * 8)) (Scalar.muli (BitVec.ofNat 32 (i 1).val) 256#32) = BitVec.ofNat 32 (n / 8 * 8 + (i 1).val * 256) := by
    show BitVec.ofNat 32 (n / 8 * 8) + BitVec.ofNat 32 (i 1).val * BitVec.ofNat 32 256 = _
    rw [← BitVec.ofNat_mul, ← BitVec.ofNat_add]
  rw [h]
  exact minsi_ofNat (by omega) (by omega)

theorem colWord_eq {n : ℕ} (hn : n ≤ 4096) : colWord (BitVec.ofNat 32 n) = BitVec.ofNat 32 (colAt n) := by
  unfold colWord colAt
  rw [down128_eq hn]
  exact minsi_ofNat (by omega) (by omega)

theorem off1_eq (i : grid0.Coords) {n : ℕ} (hn : n ≤ 4096) : k0_off1 i (BitVec.ofNat 32 n) = ![rowAt (i 1).val n, 0] := by
  have h : k0_off1 i (BitVec.ofNat 32 n) = ![(rowWord i (BitVec.ofNat 32 n)).toNat, 0] := rfl
  have hl : rowAt (i 1).val n < 2 ^ 32 := by unfold rowAt; omega
  rw [h, rowWord_eq i hn, BitVec.toNat_ofNat, Nat.mod_eq_of_lt hl]

theorem off4_eq (i : grid0.Coords) {n : ℕ} (hn : n ≤ 4096) : k0_off4 i (BitVec.ofNat 32 n) = ![rowAt (i 1).val n, 0] := by
  have h : k0_off4 i (BitVec.ofNat 32 n) = ![(rowWord i (BitVec.ofNat 32 n)).toNat, 0] := rfl
  have hl : rowAt (i 1).val n < 2 ^ 32 := by unfold rowAt; omega
  rw [h, rowWord_eq i hn, BitVec.toNat_ofNat, Nat.mod_eq_of_lt hl]

theorem off2_eq {n : ℕ} (hn : n ≤ 4096) : k0_off2 (BitVec.ofNat 32 n) = ![0, colAt n] := by
  have h : k0_off2 (BitVec.ofNat 32 n) = ![0, (colWord (BitVec.ofNat 32 n)).toNat] := rfl
  have hl : colAt n < 2 ^ 32 := by unfold colAt; omega
  rw [h, colWord_eq hn, BitVec.toNat_ofNat, Nat.mod_eq_of_lt hl]

theorem off3_eq {n : ℕ} (hn : n ≤ 4096) : k0_off3 (BitVec.ofNat 32 n) = ![0, colAt n] := by
  have h : k0_off3 (BitVec.ofNat 32 n) = ![0, (colWord (BitVec.ofNat 32 n)).toNat] := rfl
  have hl : colAt n < 2 ^ 32 := by unfold colAt; omega
  rw [h, colWord_eq hn, BitVec.toNat_ofNat, Nat.mod_eq_of_lt hl]

theorem bound_of (r : ℕ) {k d : ℕ} {s : Fin 2 → ℕ} {u : Fin 2 → ℕ} (h0 : r + s 0 ≤ u 0) (h1 : d + s 1 ≤ u 1) :
    ∀ a, (![r, d] : Fin 2 → ℕ) a + s a ≤ u a := fun a => by
  match a with
  | ⟨0, _⟩ => exact h0
  | ⟨1, _⟩ => exact h1

theorem chk_of (i : grid0.Coords) {n : ℕ} (hn : n ≤ 4096) (w : BitVec 32) : k0_chk1 i (BitVec.ofNat 32 n) w := by
  have hr : rowAt (i 1).val n ≤ 3840 := by unfold rowAt; omega
  have hc : colAt n ≤ 2816 := by unfold colAt; omega
  unfold k0_chk1
  rw [off1_eq i hn, off4_eq i hn, off2_eq hn, off3_eq hn]
  refine ⟨fun _ => ?_, fun _ => ?_, fun _ => ?_, fun _ => ?_⟩
  · exact bound_of (k := 0) _ (by show _ + 256 ≤ 4096; omega) (by decide)
  · exact bound_of (k := 0) _ (by decide) (by show _ + 1280 ≤ 4096; omega)
  · exact bound_of (k := 0) _ (by decide) (by show _ + 1280 ≤ 4096; omega)
  · exact bound_of (k := 0) _ (by show _ + 256 ≤ 4096; omega) (by decide)

theorem card_le (p : Fin 4096 → Prop) [DecidablePred p] : (Finset.univ.filter p).card ≤ 4096 :=
  (Finset.card_le_univ _).trans (Fintype.card_fin _).le

/-- The side conditions of a grid point hold of any batch numbers. -/
theorem chk (i : grid0.Coords) (x1 : Vec F S1x4096 .i32) : k0_chk1 i (before i x1) (within i x1) := by
  rw [before_eq]
  exact chk_of i (card_le _) _

theorem cond_eq (i : grid0.Coords) {n k : ℕ} (hn : n ≤ 4096) (hk : k ≤ 4096) :
    k0_cond1 i (BitVec.ofNat 32 n) (BitVec.ofNat 32 k) = 1#1 ↔ n / 8 * 8 + (i 1).val * 256 < n + k := by
  have hi : (i 1).val < 5 := (i 1).isLt
  have h : k0_cond1 i (BitVec.ofNat 32 n) (BitVec.ofNat 32 k)
      = Scalar.cmpi .ne (Scalar.extui (Scalar.cmpi .slt (Scalar.addi (down8 (BitVec.ofNat 32 n)) (Scalar.muli (BitVec.ofNat 32 (i 1).val) 256#32))
        (Scalar.addi (BitVec.ofNat 32 n) (BitVec.ofNat 32 k)))) 0#32 := rfl
  have ha : Scalar.addi (BitVec.ofNat 32 (n / 8 * 8)) (Scalar.muli (BitVec.ofNat 32 (i 1).val) 256#32) = BitVec.ofNat 32 (n / 8 * 8 + (i 1).val * 256) := by
    show BitVec.ofNat 32 (n / 8 * 8) + BitVec.ofNat 32 (i 1).val * BitVec.ofNat 32 256 = _
    rw [← BitVec.ofNat_mul, ← BitVec.ofNat_add]
  have hb : Scalar.addi (BitVec.ofNat 32 n) (BitVec.ofNat 32 k) = BitVec.ofNat 32 (n + k) := (BitVec.ofNat_add ..).symm
  have hx : ∀ b : BitVec 1, Scalar.cmpi .ne (Scalar.extui b) 0#32 = 1#1 ↔ b = 1#1 := by decide
  rw [h, down8_eq hn, ha, hb, hx]
  have one (p : Bool) : (BitVec.ofBool p = 1#1) ↔ p = true := by cases p <;> decide
  simp only [Scalar.cmpi, IntOp.cmpi, one, BitVec.slt_eq_decide, decide_eq_true_eq, BitVec.toInt_eq_toNat_cond, BitVec.toNat_ofNat]
  omega

end Cert.Proof.Seg

end
-- ==== Proof.SegRun.lean ====
/-
  The body of the kNN call over one segment, run once on whole staging memrefs: at a grid point whose block of rows lies
  in the segment it writes one rectangle of its output, and at another point nothing.
-/
module

public import proofs.«01_k».proof.Proof.Gen.KnnSegIdeal.Launch
public import proofs.«01_k».proof.Proof.Gen.KnnSegIdeal.Skeleton
public import proofs.«01_k».proof.Proof.Gen.KnnSegIdeal.Points
public import proofs.«01_k».proof.Proof.SegCheck
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Seg

open Cert.KnnSegIdeal Cert.KnnSegIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The batch numbers as the body loads them. -/
def batch (arg3 : Memref sig .tc .vmem S1x4096 .i32) (harg3 : arg3.IsWhole) (x1 : Vec F S1x4096 .i32) : Vec F S1x4096 .i32 :=
  arg3.view.readAt (Elt F) (Rect.unit (s := S1x4096) ![0, 0] S1x4096.size inb_S1x4096_S1x4096_0_0).toLoadRect (harg3.unread x1)

theorem batch_eq (arg3 : Memref sig .tc .vmem S1x4096 .i32) (harg3 : arg3.IsWhole) (x1 : Vec F S1x4096 .i32) : batch arg3 harg3 x1 = x1 :=
  Knn.read_back harg3 x1 (by decide) _

set_option maxHeartbeats 4000000 in
/-- A point whose block of rows lies in the segment: the rectangle that its body writes of the output. -/
def runIn (c : Dev nD) (i : grid0.Coords) (arg2 : Memref sig .tc .vmem S64x4096 .f32) (harg2 : arg2.IsWhole) (arg3 : Memref sig .tc .vmem S1x4096 .i32) (harg3 : arg3.IsWhole)
    (arg4 : Memref sig .tc .vmem S4096x64 .f32) (harg4 : arg4.IsWhole) (arg5 : Memref sig .tc .vmem S4096x32 .i32) (harg5 : arg5.IsWhole) (arg6 : Memref sig .tc .vmem S256x1280 .f32) (harg6 : arg6.IsWhole)
    (x0 : Vec F S64x4096 .f32) (x1 : Vec F S1x4096 .i32) (x2 : Vec F S4096x64 .f32) (y : Vec F S4096x32 .i32)
    (hchk : k0_chk1 i (extractAt ![0, 0, 0] (k0_pay2 i (batch arg3 harg3 x1)) inpos_S1x1x1_p0_0_0) (extractAt ![0, 0, 0] (k0_pay3 i (batch arg3 harg3 x1)) inpos_S1x1x1_p0_0_0))
    (hin : k0_cond1 i (extractAt ![0, 0, 0] (k0_pay2 i (batch arg3 harg3 x1)) inpos_S1x1x1_p0_0_0) (extractAt ![0, 0, 0] (k0_pay3 i (batch arg3 harg3 x1)) inpos_S1x1x1_p0_0_0) = 1#1) :
    Σ' (L : List (View.Piece (Elt F) S4096x32 .i32)), { LT : List (View.Piece (Elt F) S256x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare y ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (arg5.view.loc (c : Thread nD τ) ↦[arg5.view.set]{fullShare} arg5.view.writes (Elt F) (harg5.unread y) L) ∗ (∃ f, arg6.view.loc (c : Thread nD τ) ↦[arg6.view.set]{fullShare} arg6.view.writes (Elt F) f LT)) -∗ K ⟨⟩))
          ⊢ wp frame (wpE (defs₀ (F := F)) Variants.none c none) E (cc0__knn_seg_body i arg2 harg2 arg3 harg3 arg4 harg4 arg5 harg5 arg6 harg6) K } := by
  refine ⟨?_, ?_, fun E K => ?run⟩
  case run =>
    simp only [cc0__knn_seg_body_eq_skeleton]; unfold cc0__knn_seg_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    unfold batch at hchk hin
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexists _; iexact HS0

/-- Another point: its body writes nothing. -/
theorem runOut (c : Dev nD) (i : grid0.Coords) (arg2 : Memref sig .tc .vmem S64x4096 .f32) (harg2 : arg2.IsWhole) (arg3 : Memref sig .tc .vmem S1x4096 .i32) (harg3 : arg3.IsWhole)
    (arg4 : Memref sig .tc .vmem S4096x64 .f32) (harg4 : arg4.IsWhole) (arg5 : Memref sig .tc .vmem S4096x32 .i32) (harg5 : arg5.IsWhole) (arg6 : Memref sig .tc .vmem S256x1280 .f32) (harg6 : arg6.IsWhole)
    (x1 : Vec F S1x4096 .i32)
    (hchk : k0_chk1 i (extractAt ![0, 0, 0] (k0_pay2 i (batch arg3 harg3 x1)) inpos_S1x1x1_p0_0_0) (extractAt ![0, 0, 0] (k0_pay3 i (batch arg3 harg3 x1)) inpos_S1x1x1_p0_0_0))
    (hout : ¬ k0_cond1 i (extractAt ![0, 0, 0] (k0_pay2 i (batch arg3 harg3 x1)) inpos_S1x1x1_p0_0_0) (extractAt ![0, 0, 0] (k0_pay3 i (batch arg3 harg3 x1)) inpos_S1x1x1_p0_0_0) = 1#1)
    (E : Set ℕ) (K : PUnit → sProp 𝕄) :
    iprop(owns (c : Thread nD τ) arg3 fullShare x1 ∗ (owns (c : Thread nD τ) arg3 fullShare x1 -∗ K ⟨⟩))
      ⊢ wp frame (wpE (defs₀ (F := F)) Variants.none c none) E (cc0__knn_seg_body i arg2 harg2 arg3 harg3 arg4 harg4 arg5 harg5 arg6 harg6) K := by
  simp only [cc0__knn_seg_body_eq_skeleton]; unfold cc0__knn_seg_body_skel
  unfold owns
  iintro ⟨⟨%f1, %hf1, H1⟩, Hk⟩
  obtain rfl := harg3.eq_unread hf1
  unfold batch at hchk hout
  sl_exec
  sl_step
  iapply Hk
  iexists _; isplitr; · ipureintro; exact harg3.read_unread _
  iexact H1

end Cert.Proof.Seg

end
-- ==== Proof.SegRegion.lean ====
/-
  The region of the kNN call over one segment: its output's staging buffer holds, after each grid point, what it held
  before with that point's rectangle written, and its run leaves the arguments and ends with no semaphore counted.
-/
module

public import proofs.«01_k».proof.Proof.SegRun
public import Idealize.ShloMosaic.Lib.Claim

@[expose] public section

set_option maxRecDepth 16384

noncomputable section

namespace Cert.Proof.Seg

open Cert.KnnSegIdeal Cert.KnnSegIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the region finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1⟩))

/-- A window's block at a point, of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S64x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x32 .i32 := win0_3.stage (cfg0.slots t 3)
abbrev hs3 (t : Fin cfg0.N) : (ms3 t).IsWhole := hstage0_3 ((cfg0.slots t 3).cast nbuf0_3)
abbrev scM : Memref sig .tc .vmem S256x1280 .f32 := Memref.whole cc0_scratch0

theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Whether a point's block of rows lies in the segment. -/
def In (i : grid0.Coords) (arg3 : Memref sig .tc .vmem S1x4096 .i32) (harg3 : arg3.IsWhole) (x1 : Vec F S1x4096 .i32) : Prop :=
  k0_cond1 i (before i (batch arg3 harg3 x1)) (within i (batch arg3 harg3 x1)) = 1#1

/-- What a point whose block of rows lies in the segment leaves in the output's buffer. -/
def wrote (c : Dev nD) (i : grid0.Coords) (arg2 : Memref sig .tc .vmem S64x4096 .f32) (harg2 : arg2.IsWhole) (arg3 : Memref sig .tc .vmem S1x4096 .i32) (harg3 : arg3.IsWhole)
    (arg4 : Memref sig .tc .vmem S4096x64 .f32) (harg4 : arg4.IsWhole) (arg5 : Memref sig .tc .vmem S4096x32 .i32) (harg5 : arg5.IsWhole)
    (x0 : Vec F S64x4096 .f32) (x1 : Vec F S1x4096 .i32) (x2 : Vec F S4096x64 .f32) (y : Vec F S4096x32 .i32) (hin : In i arg3 harg3 x1) : Vec F S4096x32 .i32 :=
  arg5.view.read (Elt F) (arg5.view.writes (Elt F) (harg5.unread y)
    (runIn c i arg2 harg2 arg3 harg3 arg4 harg4 arg5 harg5 scM (Memref.isWhole_whole _) x0 x1 x2 y (chk i (batch arg3 harg3 x1)) hin).1)

open Classical in
/-- What a point leaves in the output's buffer that held `y`. -/
def step (c : Dev nD) (t : Fin cfg0.N) (y : Vec F S4096x32 .i32) : Vec F S4096x32 .i32 :=
  if hin : In (grid0.coords t) (ms1 t) (hs1 t) (iblk m c 1 t) then
    wrote c (grid0.coords t) (ms0 t) (hs0 t) (ms1 t) (hs1 t) (ms2 t) (hs2 t) (ms3 t) (hs3 t) (iblk m c 0 t) (iblk m c 1 t) (iblk m c 2 t) y hin
  else y

/-- The inputs' data: each point leaves their blocks in place. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

/-- The output's relation, in place of one that would name its contents. -/
def outRel (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => some fun t Y X => X = step m c t Y

def rdat (c : Dev nD) : RDat τ (Elt F) Unit ℕ (UR sig nD τ) ℕ cfg0 c := (dat m c).toR.override (outRel m c)

theorem A_eq (c : Dev nD) (w : Fin cfg0.W) : (dat m c).A w = V m c (Pipeline.arrRef spec0 w) := by
  dsimp only [dat]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]

theorem before0 (c : Dev nD) (t : Fin cfg0.N) (d) : (dat m c).before 0 t d = iblk m c 0 t :=
  ((dat m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat m c).before 1 t d = iblk m c 1 t :=
  ((dat m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat m c).before 2 t d = iblk m c 2 t :=
  ((dat m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem finds0 (c : Dev nD) (t : Fin cfg0.N) {X} (h : (rdat m c).Finds 0 t X) : X = iblk m c 0 t := by
  obtain ⟨d, rfl⟩ := (dat m c).toR_finds 0 t X (((dat m c).toR.override_finds rfl t X).mp h)
  exact before0 m c t d
theorem finds1 (c : Dev nD) (t : Fin cfg0.N) {X} (h : (rdat m c).Finds 1 t X) : X = iblk m c 1 t := by
  obtain ⟨d, rfl⟩ := (dat m c).toR_finds 1 t X (((dat m c).toR.override_finds rfl t X).mp h)
  exact before1 m c t d
theorem finds2 (c : Dev nD) (t : Fin cfg0.N) {X} (h : (rdat m c).Finds 2 t X) : X = iblk m c 2 t := by
  obtain ⟨d, rfl⟩ := (dat m c).toR_finds 2 t X (((dat m c).toR.override_finds rfl t X).mp h)
  exact before2 m c t d

theorem leave0 (c : Dev nD) (t : Fin cfg0.N) (Y) : (rdat m c).after 0 t Y (iblk m c 0 t) := (after0 m c t).symm
theorem leave1 (c : Dev nD) (t : Fin cfg0.N) (Y) : (rdat m c).after 1 t Y (iblk m c 1 t) := (after1 m c t).symm
theorem leave2 (c : Dev nD) (t : Fin cfg0.N) (Y) : (rdat m c).after 2 t Y (iblk m c 2 t) := (after2 m c t).symm
theorem leave3 (c : Dev nD) (t : Fin cfg0.N) (Y X) : (rdat m c).after 3 t Y X ↔ X = step m c t Y := Iff.rfl

/-- The body at any point. -/
theorem sound_body (c : Dev nD) (t : Fin cfg0.N) (Y : Vec F S4096x32 .i32) :
    iprop(Pipeline.ΦA spec0 c ∗ (rdat m c).owesAt () t.castSucc
      ∗ owns (c : Thread nD τ) (ms0 t) fullShare (iblk m c 0 t) ∗ owns (c : Thread nD τ) (ms1 t) fullShare (iblk m c 1 t)
      ∗ owns (c : Thread nD τ) (ms2 t) fullShare (iblk m c 2 t) ∗ owns (c : Thread nD τ) (ms3 t) fullShare Y)
    ⊢ wp frame (wpE (defs₀ (F := F)) Variants.none c none) Set.univ (bodyAt0 t) (fun _ =>
      iprop(Pipeline.ΦA spec0 c ∗ (rdat m c).owesAt () t.castSucc
      ∗ owns (c : Thread nD τ) (ms0 t) fullShare (iblk m c 0 t) ∗ owns (c : Thread nD τ) (ms1 t) fullShare (iblk m c 1 t)
      ∗ owns (c : Thread nD τ) (ms2 t) fullShare (iblk m c 2 t) ∗ owns (c : Thread nD τ) (ms3 t) fullShare (step m c t Y))) := by
  unfold bodyAt0
  by_cases hin : In (grid0.coords t) (ms1 t) (hs1 t) (iblk m c 1 t)
  · have hstep : step m c t Y = wrote c (grid0.coords t) (ms0 t) (hs0 t) (ms1 t) (hs1 t) (ms2 t) (hs2 t) (ms3 t) (hs3 t) (iblk m c 0 t) (iblk m c 1 t) (iblk m c 2 t) Y hin := dif_pos hin
    rw [hstep, PhiA0_eq]
    unfold wrote
    iintro ⟨⟨HS0, Hg⟩, Ho, H0, H1, H2, H3⟩
    iapply ((runIn c (grid0.coords t) (ms0 t) (hs0 t) (ms1 t) (hs1 t) (ms2 t) (hs2 t) (ms3 t) (hs3 t) scM (Memref.isWhole_whole _) (iblk m c 0 t) (iblk m c 1 t) (iblk m c 2 t) Y (chk _ _) hin).2.2 Set.univ _)
    isplitl [H0]; · iexact H0
    isplitl [H1]; · iexact H1
    isplitl [H2]; · iexact H2
    isplitl [H3]; · iexact H3
    isplitl [HS0]; · iexact HS0
    iintro ⟨H0, H1, H2, H3, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · have hstep : step m c t Y = Y := dif_neg hin
    rw [hstep]
    iintro ⟨HP, Ho, H0, H1, H2, H3⟩
    iapply (runOut c (grid0.coords t) (ms0 t) (hs0 t) (ms1 t) (hs1 t) (ms2 t) (hs2 t) (ms3 t) (hs3 t) scM (Memref.isWhole_whole _) (iblk m c 1 t) (chk _ _) hin Set.univ _)
    isplitl [H1]; · iexact H1
    iintro H1
    isplitl [HP]; · iexact HP
    isplitl [Ho]; · iexact Ho
    isplitl [H0]; · iexact H0
    isplitl [H1]; · iexact H1
    isplitl [H2]; · iexact H2
    iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  have e0 := finds0 m c t (hY 0)
  have e1 := finds1 m c t (hY 1)
  have e2 := finds2 m c t (hY 2)
  rw [e0, e1, e2]
  refine triple_restated (sound_body m c t (Y 3)) rfl .rfl fun _ => ?_
  rw [show (rdat m c).Φ t.succ = Pipeline.ΦA spec0 c from rfl, show (rdat m c).owesAt () t.succ = (rdat m c).owesAt () t.castSucc from rfl]
  iintro ⟨HP, Ho, H0, H1, H2, H3⟩
  isplitl [HP]; · iexact HP
  isplitl [Ho]; · iexact Ho
  isplitl [H0]
  · iexists _; isplitr; · ipureintro; exact leave0 m c t _
    iexact H0
  isplitl [H1]
  · iexists _; isplitr; · ipureintro; exact leave1 m c t _
    iexact H1
  isplitl [H2]
  · iexists _; isplitr; · ipureintro; exact leave2 m c t _
    iexact H2
  iexists _; isplitr; · ipureintro; exact (leave3 m c t _ _).mpr rfl
  iexact H3

set_option backward.isDefEq.respectTransparency.types false in
theorem run : θ_run defs (onTc (τ := τ) (main (F := F))) (s₀ m ρ) (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => body_obligation m c) (hshare := fun c => (dat m c).share_full fun _ => rfl)
    (howed := fun _ _ => rfl) (V := V m) (hmain := hmain m Variants.none) (hA := A_eq m) (hΦ := fun _ _ => rfl)

theorem args_end {r : PUnit × MemSt nD τ sig (Elt F)} (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h.arr_in c 2 rfl).trans ((A_eq m c 2).trans (V_arg m c main_arg0 (by decide) (by decide))),
    ((h c).2 main_arg1 (Pipeline.mem_restRefs_of main_arg1 (by decide) (by decide))).trans (V_arg m c main_arg1 (by decide) (by decide))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨args_end m h.1, h.2⟩) (run m ρ)

end Cert.Proof.Seg

end
-- ==== Proof.SegBody.lean ====
/-
  The body of the kNN call over one segment, at a point whose block of rows lies in the segment: column `t` of the
  rectangle it writes is, in the segment's rows, the first column at which the block's distances, after `t` rounds of
  striking out, are least, and in other rows what it was.
-/
module

public import proofs.«01_k».proof.Proof.SegRegion
public import Idealize.ShloMosaic.Lib.Pipeline.ValueKit
public import Idealize.ShloMosaic.Lib.WritesUnit
public import Idealize.ShloMosaic.Lib.WholeRead

@[expose] public section

set_option maxRecDepth 16384

noncomputable section

namespace Cert.Proof.Seg

open Cert.KnnSegIdeal Cert.KnnSegIdeal.Gen
open Idealize.ShloMosaic Idealize.ShloMosaic.TcCoe
open Idealize.ShloMosaic.ValueKit.Tiles

variable {F : FTy → Type} [FloatOps F]

/-- Of each row, the first column at which it is least. -/
def least (q : BitVec 32) (V : Vec F S256x1280 .f32) : IVec S256x1 32 := k0_pay7 q V

/-- The rows with that column struck out. -/
def clear (q : BitVec 32) (V : Vec F S256x1280 .f32) : Vec F S256x1280 .f32 := k0_pay8 q V

/-- Column `t` holds the first least columns of the `t`-th round's distances. -/
def columns (q : BitVec 32) (d : Vec F S256x1280 .f32) : IVec S256x32 32 :=
  fun y => least q ((clear q)^[(y 1).val] d) (ix2 (y 0 : Fin 256) (0 : Fin 1))

/-- The columns of thirty-two rounds, each striking out the last one's, put side by side. -/
theorem columns_eq (q : BitVec 32) (W : Fin 32 → Vec F S256x1280 .f32) (d : Vec F S256x1280 .f32) (h0 : W 0 = d)
    (hW : ∀ k : Fin 31, W k.succ = clear q (W k.castSucc)) (y : S256x32.Idx) :
    ConcatAt 1 y (columns q d y) (List.ofFn fun k : Fin 32 => (⟨S256x1, least q (W k)⟩ : (s : Shape) × (s.Idx → BitVec 32))) 0 := by
  have hit : ∀ k (hk : k < 32), W ⟨k, hk⟩ = (clear q)^[k] d := by
    intro k
    induction k with
    | zero => exact fun _ => h0
    | succ k ih =>
      intro hk
      rw [Function.iterate_succ_apply', ← ih (by omega)]
      exact hW ⟨k, by omega⟩
  refine ConcatAt.of_getElem fun k hk => ?_
  have hk' : k < 32 := by simpa using hk
  rw [List.getElem_ofFn]
  intro hy _ x hx hb
  rw [hit k hk']
  have hy : (y 1).val = k := by omega
  have e : x = (ix2 (y 0 : Fin 256) (0 : Fin 1) : S256x1.Idx) := by
    funext a
    match a with
    | ⟨0, _⟩ => exact Fin.ext (hb 0 (by decide))
    | ⟨1, _⟩ => exact Fin.ext hx
  unfold columns
  rw [e, hy]

theorem concats (f : Fin 32 → IVec S256x1 32) :
    Shape.Concatenates ((List.ofFn fun k : Fin 32 => (⟨S256x1, f k⟩ : (s : Shape) × (s.Idx → BitVec 32))).map (·.1)) S256x32 1 :=
  concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1

/-- Each round's distances are the last one's with their least struck out: one round more. -/
theorem next_cons {q : BitVec 32} {n : ℕ} {a b : Vec F S256x1280 .f32} {W : Fin n → Vec F S256x1280 .f32} (h : b = clear q a)
    (hW : ∀ k : Fin n, Matrix.vecCons b W k.succ = clear q (Matrix.vecCons b W k.castSucc)) :
    ∀ k : Fin (n + 1), Matrix.vecCons a (Matrix.vecCons b W) k.succ = clear q (Matrix.vecCons a (Matrix.vecCons b W) k.castSucc) :=
  Fin.cases h hW

/-- What a point writes of its rectangle: the new columns in the segment's rows, what it was in the others. -/
def blend (ss sz r0 : BitVec 32) (new old : IVec S256x32 32) : IVec S256x32 32 :=
  select (andi (cmpi .sge (addi (broadcast S256x32 r0) (iota .tc S256x32 32 [0] iota_S256x32_d0_w32)) (broadcast S256x32 ss))
    (cmpi .slt (addi (broadcast S256x32 r0) (iota .tc S256x32 32 [0] iota_S256x32_d0_w32)) (broadcast S256x32 (Scalar.addi ss sz))))
    new (shapeCast S256x32 old shapeCasts_S256x32_S256x32)

section Body

variable (c : Dev nD) (i : grid0.Coords) (arg2 : Memref sig .tc .vmem S64x4096 .f32) (harg2 : arg2.IsWhole) (arg3 : Memref sig .tc .vmem S1x4096 .i32) (harg3 : arg3.IsWhole)
  (arg4 : Memref sig .tc .vmem S4096x64 .f32) (harg4 : arg4.IsWhole) (arg5 : Memref sig .tc .vmem S4096x32 .i32) (harg5 : arg5.IsWhole) (arg6 : Memref sig .tc .vmem S256x1280 .f32) (harg6 : arg6.IsWhole)
  (x0 : Vec F S64x4096 .f32) (x1 : Vec F S1x4096 .i32) (x2 : Vec F S4096x64 .f32) (y : Vec F S4096x32 .i32)
  (hchk : k0_chk1 i (before i (batch arg3 harg3 x1)) (within i (batch arg3 harg3 x1))) (hin : In i arg3 harg3 x1)

/-- The block's distances. -/
def dists : Vec F S256x1280 .f32 :=
  k0_pay6 (BitVec.ofNat 32 (i 0).val) (rowWord i (before i (batch arg3 harg3 x1))) (colWord (before i (batch arg3 harg3 x1)))
    (k0_pay4 (runIn.sl.v63 c i arg3 harg3 arg4 harg4 x1 x2 hchk hin) (runIn.sl.v65 c i arg2 harg2 arg3 harg3 x0 x1 hchk hin))
    (iota .tc S256x1280 32 [0] iota_S256x1280_d0_w32) (runIn.sl.v89 c i arg3 harg3 x1 hchk hin)

/-- The distances as the thirty-two rounds find them. -/
def found : Fin 32 → Vec F S256x1280 .f32 := ![
  runIn.sl.v101 c i arg2 harg2 arg3 harg3 arg4 harg4 arg6 x0 x1 x2 hchk hin,
  runIn.sl.v117 c i arg2 harg2 arg3 harg3 arg4 harg4 arg6 x0 x1 x2 hchk hin,
  runIn.sl.v133 c i arg2 harg2 arg3 harg3 arg4 harg4 arg6 x0 x1 x2 hchk hin,
  runIn.sl.v149 c i arg2 harg2 arg3 harg3 arg4 harg4 arg6 x0 x1 x2 hchk hin,
  runIn.sl.v165 c i arg2 harg2 arg3 harg3 arg4 harg4 arg6 x0 x1 x2 hchk hin,
  runIn.sl.v181 c i arg2 harg2 arg3 harg3 arg4 harg4 arg6 x0 x1 x2 hchk hin,
  runIn.sl.v197 c i arg2 harg2 arg3 harg3 arg4 harg4 arg6 x0 x1 x2 hchk hin,
  runIn.sl.v213 c i arg2 harg2 arg3 harg3 arg4 harg4 arg6 x0 x1 x2 hchk hin,
  runIn.sl.v229 c i arg2 harg2 arg3 harg3 arg4 harg4 arg6 x0 x1 x2 hchk hin,
  runIn.sl.v245 c i arg2 harg2 arg3 harg3 arg4 harg4 arg6 x0 x1 x2 hchk hin,
  runIn.sl.v261 c i arg2 harg2 arg3 harg3 arg4 harg4 arg6 x0 x1 x2 hchk hin,
  runIn.sl.v277 c i arg2 harg2 arg3 harg3 arg4 harg4 arg6 x0 x1 x2 hchk hin,
  runIn.sl.v293 c i arg2 harg2 arg3 harg3 arg4 harg4 arg6 x0 x1 x2 hchk hin,
  runIn.sl.v309 c i arg2 harg2 arg3 harg3 arg4 harg4 arg6 x0 x1 x2 hchk hin,
  runIn.sl.v325 c i arg2 harg2 arg3 harg3 arg4 harg4 arg6 x0 x1 x2 hchk hin,
  runIn.sl.v341 c i arg2 harg2 arg3 harg3 arg4 harg4 arg6 x0 x1 x2 hchk hin,
  runIn.sl.v357 c i arg2 harg2 arg3 harg3 arg4 harg4 arg6 x0 x1 x2 hchk hin,
  runIn.sl.v373 c i arg2 harg2 arg3 harg3 arg4 harg4 arg6 x0 x1 x2 hchk hin,
  runIn.sl.v389 c i arg2 harg2 arg3 harg3 arg4 harg4 arg6 x0 x1 x2 hchk hin,
  runIn.sl.v405 c i arg2 harg2 arg3 harg3 arg4 harg4 arg6 x0 x1 x2 hchk hin,
  runIn.sl.v421 c i arg2 harg2 arg3 harg3 arg4 harg4 arg6 x0 x1 x2 hchk hin,
  runIn.sl.v437 c i arg2 harg2 arg3 harg3 arg4 harg4 arg6 x0 x1 x2 hchk hin,
  runIn.sl.v453 c i arg2 harg2 arg3 harg3 arg4 harg4 arg6 x0 x1 x2 hchk hin,
  runIn.sl.v469 c i arg2 harg2 arg3 harg3 arg4 harg4 arg6 x0 x1 x2 hchk hin,
  runIn.sl.v485 c i arg2 harg2 arg3 harg3 arg4 harg4 arg6 x0 x1 x2 hchk hin,
  runIn.sl.v501 c i arg2 harg2 arg3 harg3 arg4 harg4 arg6 x0 x1 x2 hchk hin,
  runIn.sl.v517 c i arg2 harg2 arg3 harg3 arg4 harg4 arg6 x0 x1 x2 hchk hin,
  runIn.sl.v533 c i arg2 harg2 arg3 harg3 arg4 harg4 arg6 x0 x1 x2 hchk hin,
  runIn.sl.v549 c i arg2 harg2 arg3 harg3 arg4 harg4 arg6 x0 x1 x2 hchk hin,
  runIn.sl.v565 c i arg2 harg2 arg3 harg3 arg4 harg4 arg6 x0 x1 x2 hchk hin,
  runIn.sl.v581 c i arg2 harg2 arg3 harg3 arg4 harg4 arg6 x0 x1 x2 hchk hin,
  runIn.sl.v597 c i arg2 harg2 arg3 harg3 arg4 harg4 arg6 x0 x1 x2 hchk hin]

theorem found_first : found c i arg2 harg2 arg3 harg3 arg4 harg4 arg6 x0 x1 x2 hchk hin 0 = dists c i arg2 harg2 arg3 harg3 arg4 harg4 x0 x1 x2 hchk hin := by
  show runIn.sl.v101 c i arg2 harg2 arg3 harg3 arg4 harg4 arg6 x0 x1 x2 hchk hin = _
  unfold runIn.sl.v101 runIn.sl.HS0_1
  rw [View.readCov_cons_toLoadRect]
  rfl

theorem found_next : ∀ k : Fin 31, found c i arg2 harg2 arg3 harg3 arg4 harg4 arg6 x0 x1 x2 hchk hin k.succ
    = clear (colWord (before i (batch arg3 harg3 x1))) (found c i arg2 harg2 arg3 harg3 arg4 harg4 arg6 x0 x1 x2 hchk hin k.castSucc) := by
  unfold found
  iterate 31 refine next_cons (View.readCov_cons_toLoadRect _ _ _ _) ?_
  exact fun k => k.elim0

/-- What the body writes of its rectangle. -/
theorem rect_eq : ∃ inb, (runIn c i arg2 harg2 arg3 harg3 arg4 harg4 arg5 harg5 arg6 harg6 x0 x1 x2 y hchk hin).1
    = [⟨Rect.unit (k0_off4 i (before i (batch arg3 harg3 x1))) S256x32.size inb,
        blend (before i (batch arg3 harg3 x1)) (within i (batch arg3 harg3 x1)) (rowWord i (before i (batch arg3 harg3 x1)))
          (columns (colWord (before i (batch arg3 harg3 x1))) (dists c i arg2 harg2 arg3 harg3 arg4 harg4 x0 x1 x2 hchk hin))
          (runIn.sl.v624 c i arg3 harg3 arg5 harg5 x1 y hchk hin)⟩] := by
  have hc : ∀ z : S256x32.Idx, _ := fun z => concatenate_unit_eq (t := S256x32) 1 _
    (concats _)
    z _ rfl (columns_eq _ _ _ (found_first c i arg2 harg2 arg3 harg3 arg4 harg4 arg6 x0 x1 x2 hchk hin) (found_next c i arg2 harg2 arg3 harg3 arg4 harg4 arg6 x0 x1 x2 hchk hin) z)
  rw [← funext hc]
  exact ⟨_, rfl⟩

end Body

end Cert.Proof.Seg

end
-- ==== Proof.SegWindow.lean ====
/-
  Rounds over a window of the columns: when a row is infinite outside a window, the rounds pick, while finite entries
  remain, the columns that they pick in the window alone.
-/
module

public import proofs.«01_k».proof.Proof.KnnRounds

@[expose] public section

noncomputable section

namespace Cert.Proof.Seg

open Idealize.ShloMosaic
open Cert.Proof.Knn (first first_spec IsFirst struck picked struck_ne_top)

variable {n w : ℕ}

/-- The row `D` is `d` in the window and infinite outside it. -/
def Shows (e : Fin w → Fin n) (D : Fin n → EReal) (d : Fin w → EReal) : Prop :=
  (∀ j, D (e j) = d j) ∧ ∀ p, (∀ j, e j ≠ p) → D p = ⊤

variable [NeZero n] [NeZero w] {e : Fin w → Fin n} (he : StrictMono e)

include he

theorem first_window {D : Fin n → EReal} {d : Fin w → EReal} (h : Shows e D d) (hD : D (first D) ≠ ⊤) : first D = e (first d) := by
  obtain ⟨j, hj⟩ : ∃ j, e j = first D := by
    by_contra hne
    exact hD (h.2 _ fun j hj => hne ⟨j, hj⟩)
  have hf := first_spec D
  rw [← hj] at hf
  have hd : IsFirst d j := ⟨fun p => by rw [← h.1, ← h.1]; exact hf.1 _,
    fun p hp => he.le_iff_le.mp (hf.2 _ (by rw [h.1, h.1]; exact hp))⟩
  rw [← hj, hd.unique (first_spec d)]

theorem struck_window {D : Fin n → EReal} {d : Fin w → EReal} (h : Shows e D d) :
    ∀ t, t ≤ (Finset.univ.filter fun p => D p ≠ ⊤).card → Shows e (struck D t) (struck d t)
  | 0, _ => h
  | t + 1, ht => by
    have ih := struck_window h t (by omega)
    have hp : picked D t = e (picked d t) := first_window he ih (struck_ne_top D ht)
    have hs : struck D (t + 1) = Function.update (struck D t) (e (picked d t)) ⊤ := by
      rw [← hp]
      rfl
    rw [hs]
    refine ⟨fun j => ?_, fun p hne => ?_⟩
    · show _ = Function.update (struck d t) (picked d t) ⊤ j
      by_cases hj : j = picked d t
      · rw [hj, Function.update_self, Function.update_self]
      · rw [Function.update_of_ne hj, Function.update_of_ne (he.injective.ne hj), ih.1]
    · rw [Function.update_of_ne (hne _).symm, ih.2 p hne]

theorem picked_window {D : Fin n → EReal} {d : Fin w → EReal} (h : Shows e D d) {t : ℕ} (ht : t < (Finset.univ.filter fun p => D p ≠ ⊤).card) :
    picked D t = e (picked d t) :=
  first_window he (struck_window he h t ht.le) (struck_ne_top D ht)

end Cert.Proof.Seg

end
-- ==== Proof.SegValue.lean ====
/-
  The value of the kNN call over one segment at one point: in the segment's rows its rectangle holds the columns that
  the rounds pick among all the row's distances, and the rest of the output is as it was.
-/
module

public import proofs.«01_k».proof.Proof.SegBody
public import proofs.«01_k».proof.Proof.SegWindow
public import proofs.«01_k».proof.Proof.KnnArrays

@[expose] public section

set_option maxRecDepth 16384

noncomputable section

namespace Cert.Proof.Seg

open Cert.KnnSegIdeal Cert.KnnSegIdeal.Gen
open Idealize.ShloMosaic Idealize.ShloMosaic.TcCoe
open Cert.Proof.Knn (first first_spec IsFirst struck picked far fold_first_from ofBits_inf select_of_iff ori_iff cmpi_ne_iff cmpi_eq_iff)

/-- A rectangle's load of a whole argument's contents, at coordinates. -/
theorem load_at {F : FTy → Type} {sig : RefSig} {s : Shape} {e : EltTy} {m : Memref sig .tc .vmem s e} (h : m.IsWhole) (X : s.Idx → Elt F e)
    {off off' size : Fin s.rank → ℕ} (inb : ∀ a, off a + size a ≤ s.size a) (ho : off = off') (x : (Rect.unit off size inb).toLoadRect.shape.Idx) (y : s.Idx)
    (hy : ∀ a, (y a).val = off' a + (x a).val) : m.view.readAt (Elt F) (Rect.unit off size inb).toLoadRect (h.unread X) x = X y := by
  subst ho
  rw [h.readAt_unread]
  congr 1
  funext a
  refine Fin.ext ?_
  rw [hy]
  show off a + 1 * (x a).val = _
  omega

theorem least_at {q : ℕ} (hq : q ≤ 2816) (V : Vec Ideal S256x1280 .f32) (r : Fin 256) :
    least (BitVec.ofNat 32 q) V (ix2 r 0) = BitVec.ofNat 32 (q + (first fun x : Fin 1280 => V (ix2 r x)).val) := by
  unfold least
  pointwise [k0_pay7, k0_pay5]
  rw [ofBits_inf]
  simp only [IntOp.addi, ← BitVec.ofNat_add]
  exact fold_first_from q (by omega) _

theorem ofNat_inj {a b : ℕ} (ha : a < 65536) (hb : b < 65536) : BitVec.ofNat 32 a = BitVec.ofNat 32 b ↔ a = b := by
  refine ⟨fun h => ?_, congrArg _⟩
  have := congrArg BitVec.toNat h
  rw [BitVec.toNat_ofNat, BitVec.toNat_ofNat] at this
  omega

theorem clear_at {q : ℕ} (hq : q ≤ 2816) (V : Vec Ideal S256x1280 .f32) (r : Fin 256) (x : Fin 1280) :
    clear (BitVec.ofNat 32 q) V (ix2 r x) = Function.update (fun x : Fin 1280 => V (ix2 r x)) (first fun x : Fin 1280 => V (ix2 r x)) ⊤ x := by
  have h : clear (BitVec.ofNat 32 q) V (ix2 r x) = Scalar.select (IntOp.cmpi .eq (IntOp.addi (BitVec.ofNat 32 q) (BitVec.ofNat 32 x.val)) (least (BitVec.ofNat 32 q) V (ix2 r 0)))
      (Ideal.ofBits .f32 0x7F800000#32) (V (ix2 r x)) := by
    unfold clear least
    pointwise [k0_pay8, k0_pay5]
  rw [h, least_at hq, ofBits_inf]
  generalize (first fun x : Fin 1280 => V (ix2 r x)) = j
  refine (select_of_iff (p := x = j) ?_ _ _).trans ?_
  · rw [cmpi_eq_iff]
    simp only [IntOp.addi, ← BitVec.ofNat_add]
    rw [ofNat_inj (by omega) (by omega), Fin.ext_iff]
    omega
  · by_cases hx : x = j
    · rw [if_pos hx, hx, Function.update_self]
    · rw [if_neg hx, Function.update_of_ne hx]

theorem clear_iterate {q : ℕ} (hq : q ≤ 2816) (V : Vec Ideal S256x1280 .f32) (r : Fin 256) (t : ℕ) :
    (fun x : Fin 1280 => (clear (BitVec.ofNat 32 q))^[t] V (ix2 r x)) = struck (fun x : Fin 1280 => V (ix2 r x)) t := by
  induction t with
  | zero => rfl
  | succ t ih =>
    funext x
    rw [Function.iterate_succ_apply', clear_at hq, ih]
    rfl

theorem columns_at {q : ℕ} (hq : q ≤ 2816) (V : Vec Ideal S256x1280 .f32) (r : Fin 256) (o : Fin 32) :
    columns (BitVec.ofNat 32 q) V (ix2 r o) = BitVec.ofNat 32 (q + (picked (fun x : Fin 1280 => V (ix2 r x)) o.val).val) := by
  refine (least_at hq ((clear (BitVec.ofNat 32 q))^[o.val] V) r).trans ?_
  rw [clear_iterate hq]
  rfl

/-- A block's masked distances, at coordinates. -/
theorem distances_at (s r0 q : BitVec 32) (xr : Vec Ideal S256x64 .f32) (xw : Vec Ideal S64x1280 .f32) (bw : Vec Ideal S1x1280 .i32) (r : Fin 256) (j : Fin 1280) :
    k0_pay6 s r0 q (k0_pay4 xr xw) (iota .tc S256x1280 32 [0] iota_S256x1280_d0_w32) bw (ix2 r j)
      = Scalar.select (IntOp.ori (IntOp.cmpi .ne (bw (ix2 0 j)) s)
          (IntOp.cmpi .eq (IntOp.addi r0 (BitVec.ofNat 32 r.val)) (IntOp.addi q (BitVec.ofNat 32 j.val))))
        (Ideal.ofBits .f32 0x7F800000#32)
        (∑ q : Fin 64, xr (ix2 r q) * xr (ix2 r q) + ∑ q : Fin 64, xw (ix2 q j) * xw (ix2 q j)
          - Ideal.ofBits .f32 0x40000000#32 * ∑ q : Fin 64, xr (ix2 r q) * xw (ix2 q j)) := by
  pointwise [k0_pay6, k0_pay4, k0_pay5]

/-- Whether a row lies in the segment, at coordinates. -/
theorem blend_at {n k r0 : ℕ} (hn : n ≤ 4096) (hk : k ≤ 4096) (hr : r0 ≤ 3840) (new old : IVec S256x32 32) (r : Fin 256) (o : Fin 32) :
    blend (BitVec.ofNat 32 n) (BitVec.ofNat 32 k) (BitVec.ofNat 32 r0) new old (ix2 r o)
      = if n ≤ r0 + r.val ∧ r0 + r.val < n + k then new (ix2 r o) else old (ix2 r o) := by
  have h : blend (BitVec.ofNat 32 n) (BitVec.ofNat 32 k) (BitVec.ofNat 32 r0) new old (ix2 r o)
      = Scalar.select (IntOp.andi (IntOp.cmpi .sge (IntOp.addi (BitVec.ofNat 32 r0) (BitVec.ofNat 32 r.val)) (BitVec.ofNat 32 n))
          (IntOp.cmpi .slt (IntOp.addi (BitVec.ofNat 32 r0) (BitVec.ofNat 32 r.val)) (Scalar.addi (BitVec.ofNat 32 n) (BitVec.ofNat 32 k))))
        (new (ix2 r o)) (old (ix2 r o)) := by
    pointwise [blend]
  rw [h]
  refine select_of_iff ?_ _ _
  have hand : ∀ a b : BitVec 1, IntOp.andi a b = 1#1 ↔ a = 1#1 ∧ b = 1#1 := by decide
  have one (p : Bool) : (BitVec.ofBool p = 1#1) ↔ p = true := by cases p <;> decide
  rw [hand]
  simp only [IntOp.addi, Scalar.addi, ← BitVec.ofNat_add]
  simp only [IntOp.cmpi, one, BitVec.slt_eq_decide, BitVec.sle_eq_decide, decide_eq_true_eq, BitVec.toInt_eq_toNat_cond, BitVec.toNat_ofNat]
  omega

end Cert.Proof.Seg

end
-- ==== Proof.SegPoint.lean ====
/-
  What one point of the kNN call over one segment leaves in the output, at coordinates: the picked columns in the rows
  of its rectangle that lie in the segment, and elsewhere what was there.
-/
module

public import proofs.«01_k».proof.Proof.SegValue

@[expose] public section

set_option maxRecDepth 16384

noncomputable section

namespace Cert.Proof.Seg

open Cert.KnnSegIdeal Cert.KnnSegIdeal.Gen
open Idealize.ShloMosaic Idealize.ShloMosaic.TcCoe
open Cert.Proof.Knn (first first_spec IsFirst struck picked far ofBits_inf select_of_iff ori_iff cmpi_ne_iff cmpi_eq_iff)

theorem rowAt_le (j n : ℕ) : rowAt j n ≤ 3840 := by unfold rowAt; omega
theorem colAt_le (n : ℕ) : colAt n ≤ 2816 := by unfold colAt; omega

/-- A block's row among all the rows. -/
def rowOf (j n : ℕ) (r : Fin 256) : Fin 4096 := ⟨rowAt j n + r.val, by have := rowAt_le j n; omega⟩

/-- A segment's column among all the columns. -/
def colOf (n : ℕ) (j : Fin 1280) : Fin 4096 := ⟨colAt n + j.val, by have := colAt_le n; omega⟩

theorem colOf_mono (n : ℕ) : StrictMono (colOf n) := fun a b (h : a.val < b.val) => by
  show colAt n + a.val < colAt n + b.val
  omega

/-- A rectangle's load of a whole argument's contents, at a row and a column. -/
theorem load_at₂ {sig : RefSig} {d : Fin 2 → ℕ} {e : EltTy} {m : Memref sig .tc .vmem ⟨2, d⟩ e} (h : m.IsWhole) (X : (⟨2, d⟩ : Shape).Idx → Elt Ideal e)
    {off size : Fin 2 → ℕ} {u v : ℕ} (inb : ∀ a : Fin 2, off a + size a ≤ d a) (ho : off = ![u, v])
    (x : (Rect.unit (s := ⟨2, d⟩) off size inb).toLoadRect.shape.Idx) (y : (⟨2, d⟩ : Shape).Idx) (hy : (y (0 : Fin 2)).val = u + (x (0 : Fin 2)).val)
    (hz : (y (1 : Fin 2)).val = v + (x (1 : Fin 2)).val) :
    m.view.readAt (Elt Ideal) (Rect.unit (s := ⟨2, d⟩) off size inb).toLoadRect (h.unread X) x = X y := by
  refine load_at h X inb ho _ _ fun a => ?_
  match a with
  | ⟨0, _⟩ => exact hy
  | ⟨1, _⟩ => exact hz

section Point

variable (c : Dev nD) (i : grid0.Coords) (arg2 : Memref sig .tc .vmem S64x4096 .f32) (harg2 : arg2.IsWhole) (arg3 : Memref sig .tc .vmem S1x4096 .i32) (harg3 : arg3.IsWhole)
  (arg4 : Memref sig .tc .vmem S4096x64 .f32) (harg4 : arg4.IsWhole) (arg5 : Memref sig .tc .vmem S4096x32 .i32) (harg5 : arg5.IsWhole)
  (x0 : Vec Ideal S64x4096 .f32) (x1 : Vec Ideal S1x4096 .i32) (x2 : Vec Ideal S4096x64 .f32) (y : Vec Ideal S4096x32 .i32)
  (hin : In i arg3 harg3 x1) {n k : ℕ} (hn : n ≤ 4096) (hk : k ≤ 4096)
  (hb : before i (batch arg3 harg3 x1) = BitVec.ofNat 32 n) (hw : within i (batch arg3 harg3 x1) = BitVec.ofNat 32 k)

include hn hb

theorem rows_at (r : Fin 256) (q : Fin 64) : runIn.sl.v63 c i arg3 harg3 arg4 harg4 x1 x2 (chk i (batch arg3 harg3 x1)) hin (ix2 r q)
    = x2 (ix2 (rowOf (i 1).val n r) q) := by
  have ho : _ = _ := (congrArg (k0_off1 i) hb).trans (off1_eq i hn)
  unfold runIn.sl.v63
  exact load_at₂ harg4 x2 _ ho _ _ rfl ((Nat.zero_add _).symm)

theorem wide_at (q : Fin 64) (j : Fin 1280) : runIn.sl.v65 c i arg2 harg2 arg3 harg3 x0 x1 (chk i (batch arg3 harg3 x1)) hin (ix2 q j)
    = x0 (ix2 q (colOf n j)) := by
  have ho : _ = _ := (congrArg k0_off2 hb).trans (off2_eq hn)
  unfold runIn.sl.v65
  exact load_at₂ harg2 x0 _ ho _ _ ((Nat.zero_add _).symm) rfl

theorem bat_at (j : Fin 1280) : runIn.sl.v89 c i arg3 harg3 x1 (chk i (batch arg3 harg3 x1)) hin (ix2 0 j)
    = x1 (ix2 0 (colOf n j)) := by
  have ho : _ = _ := (congrArg k0_off3 hb).trans (off3_eq hn)
  unfold runIn.sl.v89
  exact load_at₂ harg3 x1 _ ho _ _ rfl rfl

theorem old_at (r : Fin 256) (o : Fin 32) : runIn.sl.v624 c i arg3 harg3 arg5 harg5 x1 y (chk i (batch arg3 harg3 x1)) hin (ix2 r o)
    = y (ix2 (rowOf (i 1).val n r) o) := by
  have ho : _ = _ := (congrArg (k0_off4 i) hb).trans (off4_eq i hn)
  unfold runIn.sl.v624
  exact load_at₂ harg5 y _ ho _ _ rfl ((Nat.zero_add _).symm)

/-- The block's distances are the rows' distances, in the segment's columns. -/
theorem dists_at {x : Fin 4096 → Fin 64 → EReal} {b : Fin 4096 → BitVec 32} (hx0 : ∀ q j, x0 (ix2 q j) = x j q) (hx1 : ∀ j, x1 (ix2 0 j) = b j)
    (hx2 : ∀ p q, x2 (ix2 p q) = x p q) (r : Fin 256) (hr : b (rowOf (i 1).val n r) = BitVec.ofNat 32 (i 0).val) (j : Fin 1280) :
    dists c i arg2 harg2 arg3 harg3 arg4 harg4 x0 x1 x2 (chk i (batch arg3 harg3 x1)) hin (ix2 r j)
      = far x b (rowOf (i 1).val n r) (colOf n j) := by
  refine (distances_at _ _ _ _ _ _ r j).trans ?_
  rw [bat_at c i arg3 harg3 x1 hin hn hb, hb, rowWord_eq i hn, colWord_eq hn, ofBits_inf, hx1]
  refine (select_of_iff (p := b (colOf n j) ≠ b (rowOf (i 1).val n r) ∨ rowOf (i 1).val n r = colOf n j) ?_ _ _).trans ?_
  · rw [ori_iff, cmpi_ne_iff, cmpi_eq_iff, hr]
    simp only [IntOp.addi, ← BitVec.ofNat_add]
    have h1 := (rowOf (i 1).val n r).isLt
    have h2 := (colOf n j).isLt
    refine or_congr_right ((ofNat_inj ?_ ?_).trans (Fin.ext_iff (a := rowOf (i 1).val n r) (b := colOf n j)).symm)
    · exact h1.trans (by decide)
    · exact h2.trans (by decide)
  · unfold far
    simp only [rows_at c i arg3 harg3 arg4 harg4 x1 x2 hin hn hb, wide_at c i arg2 harg2 arg3 harg3 x0 x1 hin hn hb, hx0, hx2]

include hk hw

/-- A row of the point's rectangle. -/
theorem wrote_row (r : Fin 256) (o : Fin 32) :
    wrote c i arg2 harg2 arg3 harg3 arg4 harg4 arg5 harg5 x0 x1 x2 y hin (ix2 (rowOf (i 1).val n r) o)
      = if n ≤ rowAt (i 1).val n + r.val ∧ rowAt (i 1).val n + r.val < n + k then
          BitVec.ofNat 32 (colOf n (picked (fun j : Fin 1280 => dists c i arg2 harg2 arg3 harg3 arg4 harg4 x0 x1 x2 (chk i (batch arg3 harg3 x1)) hin (ix2 r j)) o.val)).val
        else y (ix2 (rowOf (i 1).val n r) o) := by
  unfold wrote
  obtain ⟨inb, h⟩ := rect_eq c i arg2 harg2 arg3 harg3 arg4 harg4 arg5 harg5 scM (Memref.isWhole_whole _) x0 x1 x2 y (chk i (batch arg3 harg3 x1)) hin
  rw [h]
  refine (View.read_writes_cons_rows_of_mem _ _ inb _ [] _ (ix2 r o) ((congrArg (k0_off4 i) hb).trans (off4_eq i hn)) rfl rfl).trans ?_
  rw [hb, hw, rowWord_eq i hn, colWord_eq hn]
  refine (blend_at hn hk (rowAt_le _ _) _ _ r o).trans ?_
  rw [columns_at (colAt_le n), old_at c i arg3 harg3 arg5 harg5 x1 y hin hn hb]
  rfl

/-- A row outside the point's rectangle. -/
theorem wrote_off (p : Fin 4096) (o : Fin 32) (hp : p.val < rowAt (i 1).val n ∨ rowAt (i 1).val n + 256 ≤ p.val) :
    wrote c i arg2 harg2 arg3 harg3 arg4 harg4 arg5 harg5 x0 x1 x2 y hin (ix2 p o) = y (ix2 p o) := by
  unfold wrote
  obtain ⟨inb, h⟩ := rect_eq c i arg2 harg2 arg3 harg3 arg4 harg4 arg5 harg5 scM (Memref.isWhole_whole _) x0 x1 x2 y (chk i (batch arg3 harg3 x1)) hin
  rw [h]
  refine (View.read_writes_cons_rows_of_not_mem _ _ inb _ [] _ ((congrArg (k0_off4 i) hb).trans (off4_eq i hn)) (W := 256) rfl hp).trans ?_
  exact congrFun (harg5.read_unread y) _

end Point

end Cert.Proof.Seg

end
-- ==== Proof.SegSorted.lean ====
/-
  Rows sorted by batch: a batch's rows are the ones from its start on, as many as it has, and its five blocks of rows
  cover them.
-/
module

public import proofs.«01_k».proof.Proof.SegCheck
public import Mathlib.Order.Interval.Finset.Fin

@[expose] public section

noncomputable section

namespace Cert.Proof.Seg

theorem mem_lower {n : ℕ} {A : Finset (Fin n)} (hA : ∀ p ∈ A, ∀ q ≤ p, q ∈ A) (p : Fin n) : p ∈ A ↔ p.val < A.card := by
  constructor
  · intro hp
    have h := Finset.card_le_card (fun q hq => hA p hp q (Finset.mem_Iic.mp hq) : Finset.Iic p ⊆ A)
    rw [Fin.card_Iic] at h
    omega
  · intro hp
    by_contra hn
    have h := Finset.card_le_card (fun q hq => Finset.mem_Iio.mpr (lt_of_not_ge fun hle => hn (hA q hq p hle)) : A ⊆ Finset.Iio p)
    rw [Fin.card_Iio] at h
    omega

/-- The rows of lower batches. -/
def start (β : Fin 4096 → ℕ) (s : ℕ) : ℕ := (Finset.univ.filter fun j => β j < s).card

/-- The rows of a batch. -/
def size (β : Fin 4096 → ℕ) (s : ℕ) : ℕ := (Finset.univ.filter fun j => β j = s).card

theorem start_succ (β : Fin 4096 → ℕ) (s : ℕ) : start β (s + 1) = start β s + size β s := by
  unfold start size
  rw [← Finset.card_union_of_disjoint (Finset.disjoint_filter.mpr fun j _ h => by omega), ← Finset.filter_or]
  exact congrArg Finset.card (Finset.filter_congr fun j _ => Nat.lt_succ_iff_lt_or_eq)

theorem lt_start {β : Fin 4096 → ℕ} (hβ : Monotone β) (s : ℕ) (p : Fin 4096) : β p < s ↔ p.val < start β s := by
  refine Iff.trans ?_ (mem_lower (A := Finset.univ.filter fun j => β j < s) (fun p hp q hq => ?_) p)
  · rw [Finset.mem_filter]
    exact (and_iff_right (Finset.mem_univ p)).symm
  · rw [Finset.mem_filter] at hp ⊢
    exact ⟨Finset.mem_univ q, (hβ hq).trans_lt hp.2⟩

theorem mem_segment {β : Fin 4096 → ℕ} (hβ : Monotone β) (s : ℕ) (p : Fin 4096) : β p = s ↔ start β s ≤ p.val ∧ p.val < start β s + size β s := by
  have h1 := lt_start hβ s p
  have h2 := lt_start hβ (s + 1) p
  rw [start_succ] at h2
  omega

/-- The batch numbers are `β`: four batches, sorted, and none too large. -/
structure Fits (b : Fin 4096 → BitVec 32) (β : Fin 4096 → ℕ) : Prop where
  val : ∀ j, b j = BitVec.ofNat 32 (β j)
  four : ∀ j, β j < 4
  mono : Monotone β
  few : ∀ s, s < 4 → size β s ≤ 1152

theorem start_le (β : Fin 4096 → ℕ) (s : ℕ) : start β s ≤ 4096 := card_le _
theorem size_le (β : Fin 4096 → ℕ) (s : ℕ) : size β s ≤ 4096 := card_le _

theorem start_size_le (β : Fin 4096 → ℕ) (s : ℕ) : start β s + size β s ≤ 4096 := by
  rw [← start_succ]
  exact start_le β (s + 1)

variable {b : Fin 4096 → BitVec 32} {β : Fin 4096 → ℕ} (h : Fits b β)

include h

theorem Fits.eq_iff (s : ℕ) (hs : s < 4) (j : Fin 4096) : b j = BitVec.ofNat 32 s ↔ β j = s := by
  rw [h.val]
  have := h.four j
  refine ⟨fun e => ?_, congrArg _⟩
  have := congrArg BitVec.toNat e
  rw [BitVec.toNat_ofNat, BitVec.toNat_ofNat] at this
  omega

theorem Fits.slt_iff (s : ℕ) (hs : s < 4) (j : Fin 4096) : BitVec.slt (b j) (BitVec.ofNat 32 s) = true ↔ β j < s := by
  rw [h.val]
  have := h.four j
  simp only [BitVec.slt_eq_decide, decide_eq_true_eq, BitVec.toInt_eq_toNat_cond, BitVec.toNat_ofNat]
  omega

/-- A batch's rows lie in its columns. -/
theorem Fits.window {s : ℕ} (hs : s < 4) {p : Fin 4096} (hp : β p = s) : colAt (start β s) ≤ p.val ∧ p.val < colAt (start β s) + 1280 := by
  have h1 := (mem_segment h.mono s p).mp hp
  have h2 := h.few s hs
  have := p.isLt
  unfold colAt
  omega

/-- A batch's row lies in one of its five blocks. -/
theorem Fits.block {s : ℕ} (hs : s < 4) {p : Fin 4096} (hp : β p = s) : ∃ j, j < 5 ∧ start β s / 8 * 8 + j * 256 < start β s + size β s
    ∧ rowAt j (start β s) ≤ p.val ∧ p.val < rowAt j (start β s) + 256 := by
  have h1 := (mem_segment h.mono s p).mp hp
  have h2 := h.few s hs
  have := p.isLt
  refine ⟨(p.val - start β s / 8 * 8) / 256, ?_⟩
  unfold rowAt
  omega

end Cert.Proof.Seg

end
-- ==== Proof.SegChain.lean ====
/-
  The points of the kNN call over one segment, one after the other: once the points that cover a row have run, the
  output's row holds the picked columns, and no later point takes them away.
-/
module

public import proofs.«01_k».proof.Proof.SegPoint
public import proofs.«01_k».proof.Proof.SegSorted
public import Idealize.ShloMosaic.Lib.Pipeline.ValueKit

@[expose] public section

set_option maxRecDepth 16384

noncomputable section

namespace Cert.Proof.Seg

open Cert.KnnSegIdeal Cert.KnnSegIdeal.Gen
open Idealize.ShloMosaic Idealize.ShloMosaic.TcCoe
open Idealize.ShloMosaic.Pipeline (RDat)
open Cert.Proof.Knn (picked far pickedOf as_row)

theorem idx0 : ∀ t : Fin cfg0.N, win0_0.index t = ![0, 0] ∧ win0_1.index t = ![0, 0] ∧ win0_2.index t = ![0, 0]
    ∧ win0_3.index t = ![0, 0] ∧ (grid0.coords t 0).val = t.val / 5 ∧ (grid0.coords t 1).val = t.val % 5 :=
  (by decide +kernel : ∀ t : Fin grid0.N, _)

variable (m : (ℓ : Loc nD τ sig) → Buf (Elt Ideal) ℓ)

/-- The features. -/
def feats (c : Dev nD) (i : Fin 4096) (q : Fin 64) : EReal := (m ((c : Thread nD τ).loc main_arg0) : FVec Ideal S4096x64 .f32) (ix2 i q)

/-- The batch numbers. -/
def nums (c : Dev nD) (i : Fin 4096) : BitVec 32 := (m ((c : Thread nD τ).loc main_arg1) : IVec S4096 32) (ix1 i)

theorem V_v0 (c : Dev nD) : V m c main_v0 = transpose S64x4096 [1, 0] (m ((c : Thread nD τ).loc main_arg0)) transposes_S4096x64_S64x4096_1_0 := by
  rfl

theorem V_v1 (c : Dev nD) : V m c main_v1 = shapeCast S1x4096 (m ((c : Thread nD τ).loc main_arg1)) shapeCasts_S4096_S1x4096 := by
  rfl

theorem iblk0_at (c : Dev nD) (t : Fin cfg0.N) (q : Fin 64) (j : Fin 4096) : (iblk m c 0 t : FVec Ideal S64x4096 .f32) (ix2 q j) = feats m c j q := by
  have h : (iblk m c 0 t : FVec Ideal S64x4096 .f32) (ix2 q j) = (V m c main_v0 : FVec Ideal S64x4096 .f32) (ix2 q j) := by
    blk_point [iblk, idx0 t]
  rw [h, V_v0]
  unfold feats
  pointwise []

theorem iblk1_at (c : Dev nD) (t : Fin cfg0.N) (j : Fin 4096) : (iblk m c 1 t : IVec S1x4096 32) (ix2 0 j) = nums m c j := by
  have h : (iblk m c 1 t : IVec S1x4096 32) (ix2 0 j) = (V m c main_v1 : IVec S1x4096 32) (ix2 0 j) := by
    blk_point [iblk, idx0 t]
  rw [h, V_v1]
  exact as_row _ j

theorem iblk2_at (c : Dev nD) (t : Fin cfg0.N) (p : Fin 4096) (q : Fin 64) : (iblk m c 2 t : FVec Ideal S4096x64 .f32) (ix2 p q) = feats m c p q := by
  have h : (iblk m c 2 t : FVec Ideal S4096x64 .f32) (ix2 p q) = (V m c main_arg0 : FVec Ideal S4096x64 .f32) (ix2 p q) := by
    blk_point [iblk, idx0 t]
  rw [h, V_arg m c main_arg0 (by decide) (by decide)]
  rfl

/-- A column that a segment's rows pick, found in the segment's window. -/
theorem picked_segment {x : Fin 4096 → Fin 64 → EReal} {b : Fin 4096 → BitVec 32} {β : Fin 4096 → ℕ} (h : Fits b β) {s : ℕ} (hs : s < 4) {p : Fin 4096} (hp : β p = s)
    (hf : 32 ≤ (Finset.univ.filter fun j => far x b p j ≠ ⊤).card) (o : Fin 32) :
    picked (far x b p) o.val = colOf (start β s) (picked (fun j => far x b p (colOf (start β s) j)) o.val) := by
  refine picked_window (colOf_mono _) ⟨fun _ => rfl, fun j hj => ?_⟩ (lt_of_lt_of_le o.isLt hf)
  unfold far
  refine if_pos (Or.inl fun e => ?_)
  have hj' : β j = s := (h.eq_iff s hs j).mp (e.trans ((h.eq_iff s hs p).mpr hp))
  have hw := h.window hs hj'
  refine hj ⟨j.val - colAt (start β s), by omega⟩ (Fin.ext ?_)
  show colAt (start β s) + (j.val - colAt (start β s)) = j.val
  omega

section Chain

variable {β : Fin 4096 → ℕ} (c : Dev nD) (h : Fits (nums m c) β)
  (hf : ∀ p, 32 ≤ (Finset.univ.filter fun j => far (feats m c) (nums m c) p j ≠ ⊤).card)

/-- The batch of a point. -/
abbrev at0 (t : Fin cfg0.N) : ℕ := (grid0.coords t 0).val

theorem at0_lt (t : Fin cfg0.N) : at0 t < 4 := (grid0.coords t 0).isLt

include h

theorem before_at (t : Fin cfg0.N) : before (grid0.coords t) (batch (ms1 t) (hs1 t) (iblk m c 1 t)) = BitVec.ofNat 32 (start β (at0 t)) := by
  rw [batch_eq, before_eq]
  refine congrArg (fun n => BitVec.ofNat 32 n) (congrArg Finset.card (Finset.filter_congr fun j _ => ?_))
  rw [iblk1_at]
  exact h.slt_iff _ (at0_lt t) j

theorem within_at (t : Fin cfg0.N) : within (grid0.coords t) (batch (ms1 t) (hs1 t) (iblk m c 1 t)) = BitVec.ofNat 32 (size β (at0 t)) := by
  rw [batch_eq, within_eq]
  refine congrArg (fun n => BitVec.ofNat 32 n) (congrArg Finset.card (Finset.filter_congr fun j _ => ?_))
  rw [iblk1_at]
  exact h.eq_iff _ (at0_lt t) j

/-- Whether a point writes a row. -/
def Hits (β : Fin 4096 → ℕ) (t : Fin cfg0.N) (p : Fin 4096) : Prop :=
  β p = at0 t ∧ start β (at0 t) / 8 * 8 + (grid0.coords t 1).val * 256 < start β (at0 t) + size β (at0 t)
    ∧ rowAt (grid0.coords t 1).val (start β (at0 t)) ≤ p.val ∧ p.val < rowAt (grid0.coords t 1).val (start β (at0 t)) + 256

include hf

/-- In a point that runs, a row of its rectangle holds its picked columns if it is of the segment, and stays if not. -/
theorem step_row (t : Fin cfg0.N) (hin : In (grid0.coords t) (ms1 t) (hs1 t) (iblk m c 1 t)) (y : Vec Ideal S4096x32 .i32) (r : Fin 256) (o : Fin 32) :
    step m c t y (ix2 (rowOf (grid0.coords t 1).val (start β (at0 t)) r) o)
      = if β (rowOf (grid0.coords t 1).val (start β (at0 t)) r) = at0 t then
          BitVec.ofNat 32 (picked (far (feats m c) (nums m c) (rowOf (grid0.coords t 1).val (start β (at0 t)) r)) o.val).val
        else y (ix2 (rowOf (grid0.coords t 1).val (start β (at0 t)) r) o) := by
  have hstep : step m c t y = _ := dif_pos hin
  rw [hstep]
  refine (wrote_row c (grid0.coords t) (ms0 t) (hs0 t) (ms1 t) (hs1 t) (ms2 t) (hs2 t) (ms3 t) (hs3 t) (iblk m c 0 t) (iblk m c 1 t) (iblk m c 2 t) y hin
    (start_le β _) (size_le β _) (before_at m c h t) (within_at m c h t) r o).trans ?_
  have hseg := mem_segment h.mono (at0 t) (rowOf (grid0.coords t 1).val (start β (at0 t)) r)
  by_cases hr : β (rowOf (grid0.coords t 1).val (start β (at0 t)) r) = at0 t
  · refine (if_pos (hseg.mp hr)).trans (Eq.trans ?_ (if_pos hr).symm)
    rw [picked_segment h (at0_lt t) hr (hf _) o]
    have e : (fun j : Fin 1280 => dists c (grid0.coords t) (ms0 t) (hs0 t) (ms1 t) (hs1 t) (ms2 t) (hs2 t) (iblk m c 0 t) (iblk m c 1 t) (iblk m c 2 t)
        (chk (grid0.coords t) (batch (ms1 t) (hs1 t) (iblk m c 1 t))) hin (ix2 r j))
        = fun j => far (feats m c) (nums m c) (rowOf (grid0.coords t 1).val (start β (at0 t)) r) (colOf (start β (at0 t)) j) :=
      funext fun j => dists_at c (grid0.coords t) (ms0 t) (hs0 t) (ms1 t) (hs1 t) (ms2 t) (hs2 t) (iblk m c 0 t) (iblk m c 1 t) (iblk m c 2 t) hin
        (start_le β _) (before_at m c h t) (fun q j => iblk0_at m c t q j) (fun j => iblk1_at m c t j) (fun p q => iblk2_at m c t p q) r
        ((h.eq_iff _ (at0_lt t) _).mpr hr) j
    rw [e]
  · exact (if_neg fun hc => hr (hseg.mpr hc)).trans (if_neg hr).symm

theorem step_or (t : Fin cfg0.N) (y : Vec Ideal S4096x32 .i32) (p : Fin 4096) (o : Fin 32) :
    step m c t y (ix2 p o) = BitVec.ofNat 32 (picked (far (feats m c) (nums m c) p) o.val).val ∨ step m c t y (ix2 p o) = y (ix2 p o) := by
  by_cases hin : In (grid0.coords t) (ms1 t) (hs1 t) (iblk m c 1 t)
  · by_cases hp : p.val < rowAt (grid0.coords t 1).val (start β (at0 t)) ∨ rowAt (grid0.coords t 1).val (start β (at0 t)) + 256 ≤ p.val
    · have hstep : step m c t y = _ := dif_pos hin
      rw [hstep]
      exact Or.inr (wrote_off c (grid0.coords t) (ms0 t) (hs0 t) (ms1 t) (hs1 t) (ms2 t) (hs2 t) (ms3 t) (hs3 t) (iblk m c 0 t) (iblk m c 1 t) (iblk m c 2 t) y hin
        (start_le β _) (size_le β _) (before_at m c h t) (within_at m c h t) p o hp)
    · obtain ⟨r, rfl⟩ : ∃ r, p = rowOf (grid0.coords t 1).val (start β (at0 t)) r :=
        ⟨⟨p.val - rowAt (grid0.coords t 1).val (start β (at0 t)), by omega⟩, Fin.ext (by
          show p.val = rowAt (grid0.coords t 1).val (start β (at0 t)) + (p.val - rowAt (grid0.coords t 1).val (start β (at0 t)))
          omega)⟩
      rw [step_row m c h hf t hin y r o]
      split
      · exact Or.inl rfl
      · exact Or.inr rfl
  · have hstep : step m c t y = y := dif_neg hin
    exact Or.inr (congrFun hstep _)

theorem step_hit (t : Fin cfg0.N) (y : Vec Ideal S4096x32 .i32) (p : Fin 4096) (hp : Hits β t p) (o : Fin 32) :
    step m c t y (ix2 p o) = BitVec.ofNat 32 (picked (far (feats m c) (nums m c) p) o.val).val := by
  obtain ⟨h1, h2, h3, h4⟩ := hp
  have hin : In (grid0.coords t) (ms1 t) (hs1 t) (iblk m c 1 t) := by
    unfold In
    rw [before_at m c h t, within_at m c h t]
    exact (cond_eq _ (start_le β _) (size_le β _)).mpr h2
  obtain ⟨r, rfl⟩ : ∃ r, p = rowOf (grid0.coords t 1).val (start β (at0 t)) r :=
    ⟨⟨p.val - rowAt (grid0.coords t 1).val (start β (at0 t)), by omega⟩, Fin.ext (by
      show p.val = rowAt (grid0.coords t 1).val (start β (at0 t)) + (p.val - rowAt (grid0.coords t 1).val (start β (at0 t)))
      omega)⟩
  rw [step_row m c h hf t hin y r o]
  exact if_pos h1

/-- After a point, the rows that it or an earlier one writes hold their picked columns. -/
theorem chain : ∀ (n : ℕ) (t : Fin cfg0.N), t.val = n → ∀ X, (rdat m c).Leaves 3 t X → ∀ (p : Fin 4096) (o : Fin 32), (∃ u : Fin cfg0.N, u.val ≤ n ∧ Hits β u p) →
    (X : Vec Ideal S4096x32 .i32) (ix2 p o) = BitVec.ofNat 32 (picked (far (feats m c) (nums m c) p) o.val).val
  | n, t, ht, X, ⟨Y, hY, hX⟩, p, o, ⟨u, hu, hp⟩ => by
    have e : X = step m c t Y := (leave3 m c t Y X).mp hX
    rw [e]
    by_cases hut : u = t
    · exact step_hit m c h hf t Y p (hut ▸ hp) o
    · have hlt : u.val < t.val := lt_of_le_of_ne (ht ▸ hu) fun e => hut (Fin.ext e)
      rcases step_or m c h hf t Y p o with e | e
      · exact e
      · rw [e]
        have h0 : t.val ≠ 0 := by omega
        rcases (RDat.finds_of_pos (rd := rdat m c) (w := 3) (t := t) rfl h0 Y).mp hY with hfl | hl
        · have hm : (t.val - 1) % 20 = 19 := (flush0_3 _).mp hfl
          have ht' : t.val < 20 := t.isLt
          omega
        · exact chain (n - 1) ⟨t.val - 1, _⟩ (congrArg (· - 1) ht) Y hl p o ⟨u, by omega, hp⟩

end Chain

end Cert.Proof.Seg

end
-- ==== Proof.SegFrames.lean ====
/-
  The frames of the kNN call over one segment: the call and its idealization are one text, so at one kind of float they
  are one program.
-/
module

public import proofs.«01_k».proof.Defs
public import proofs.«01_k».proof.Proof.SegRegion
public import proofs.«01_k».proof.Proof.Gen.KnnSeg
public import proofs.«01_k».proof.Proof.Gen.Pre_seg_fits

@[expose] public section

noncomputable section

namespace Cert.Proof.Seg

open Idealize.ShloMosaic Idealize.SL.Sem

abbrev Same (p : Proc Cert.KnnSegIdeal.τ) (ℓ : Fin 1) : Prop := ∀ a, Cert.KnnSeg.defs₀ (F := Bits) p ℓ a = Cert.KnnSegIdeal.defs₀ (F := Bits) p ℓ a

theorem same_tc : ∀ ℓ, Same .tc ℓ
  | 0 => fun ⟨_, _⟩ => rfl

theorem same_scs (c) : ∀ ℓ, Same (.scScalar c) ℓ
  | 0 => fun ⟨_, _⟩ => rfl

theorem same_scv (c s) : ∀ ℓ, Same (.scVector c s) ℓ
  | 0 => fun ⟨_, _⟩ => rfl

theorem same_bodies : Cert.KnnSeg.defs₀ (F := Bits) = Cert.KnnSegIdeal.defs₀ (F := Bits) :=
  funext fun p => funext fun ℓ => funext fun a => by
    cases p with
    | tc => exact same_tc ℓ a
    | scScalar c => exact same_scs c ℓ a
    | scVector c s => exact same_scv c s ℓ a

theorem same_defs : Cert.KnnSeg.defs (F := Bits) = Cert.KnnSegIdeal.defs (F := Bits) := by
  unfold Cert.KnnSeg.defs Cert.KnnSegIdeal.defs
  rw [same_bodies]
  rfl

theorem same_main : Cert.KnnSeg.main (F := Bits) = Cert.KnnSegIdeal.main (F := Bits) := rfl

theorem frame_seg : Cert.quiescent_KnnSeg := by
  intro m ρ _
  rw [same_defs, same_main]
  exact frame (F := Bits) m ρ

theorem frame_ideal : Cert.quiescent_KnnSegIdeal := fun m ρ _ => frame m ρ

theorem frame_ideal_pre : Cert.quiescent_KnnSegIdeal_pre_seg_fits := fun m ρ _ => frame m ρ

end Cert.Proof.Seg

end
-- ==== Proof.SegAlgebraic.lean ====
/-
  The kNN call over one segment: over the reals it writes the reference's columns, where the rows are sorted by batch,
  no batch is larger than the window, and every row has thirty-two finite distances.
-/
module

public import proofs.«01_k».proof.Proof.SegChain
public import proofs.«01_k».proof.Proof.SegFrames
public import proofs.«01_k».proof.Proof.KnnAlgebraic
public import proofs.«01_k».proof.Proof.Gen.Pre_seg_fits
public import Idealize.ShloMosaic.Lib.Pipeline.ArrRel

@[expose] public section

set_option maxRecDepth 16384

noncomputable section

namespace Cert.Proof.Seg

open Idealize.ShloMosaic Idealize.ShloMosaic.TcCoe Idealize.SL.Sem
open Cert.Proof.Knn (picked far pickedOf)

namespace Pre

open Cert.Pre_seg_fits Cert.Pre_seg_fits.Gen

/-- Whether all batch numbers are at least zero. -/
def least (b : IVec S4096 32) : IVec S_ 1 :=
  Host.reduce IntOp.andi (cmpi .sge b (broadcastInDim S4096 ![] Facts.bcast_S_S4096 (constantI S_ 32 0#32))) (constantI S_ 1 1#1) Facts.reducesTo_S4096_S_d0 Facts.h_S_

/-- Whether all batch numbers are below four. -/
def below (b : IVec S4096 32) : IVec S_ 1 :=
  Host.reduce IntOp.andi (cmpi .slt b (broadcastInDim S4096 ![] Facts.bcast_S_S4096 (constantI S_ 32 4#32))) (constantI S_ 1 1#1) Facts.reducesTo_S4096_S_d0 Facts.h_S_

/-- Whether each batch number is at most the next. -/
def sorted (b : IVec S4096 32) : IVec S_ 1 :=
  Host.reduce IntOp.andi (cmpi .sle (extractStridedSlice S4095 ![0] b Facts.slices_S4096_S4095_0) (extractStridedSlice S4095 ![1] b Facts.slices_S4096_S4095_1))
    (constantI S_ 1 1#1) Facts.reducesTo_S4095_S_d0 Facts.h_S_

/-- How many rows a batch has. -/
def rows (b : IVec S4096 32) (s : BitVec 32) : IVec S_ 32 :=
  Host.reduce IntOp.addi (extui 32 (cmpi .eq b (broadcastInDim S4096 ![] Facts.bcast_S_S4096 (constantI S_ 32 s))) Facts.natLt_1_32)
    (constantI S_ 32 0#32) Facts.reducesTo_S4096_S_d0 Facts.h_S_

/-- Whether a batch is no larger than asked for. -/
def few (b : IVec S4096 32) (s : BitVec 32) : IVec S_ 1 := cmpi .sle (rows b s) (constantI S_ 32 1152#32)

theorem fn_eq (x : FVec Ideal S4096x64 .f32) (b : IVec S4096 32) : fn x b
    = andi (andi (andi (andi (andi (andi (andi (least b) (below b)) (sorted b)) (few b 0#32)) (few b 1#32)) (few b 2#32)) (few b 3#32)) (Knn.Pre.full (Knn.Ref.dist x b)) := rfl

theorem one (p : Bool) : BitVec.ofBool p = 1#1 ↔ p = true := by cases p <;> decide

theorem both {u v : IVec S_ 1} (h : andi u v = fun _ => 1#1) : u = (fun _ => 1#1) ∧ v = fun _ => 1#1 := by
  have key : ∀ a b : BitVec 1, IntOp.andi a b = 1#1 → a = 1#1 ∧ b = 1#1 := by decide
  exact ⟨funext fun i => (key _ _ (congrFun h i)).1, funext fun i => (key _ _ (congrFun h i)).2⟩

theorem least_apply {b : IVec S4096 32} (h : least b = fun _ => 1#1) (i : Fin 4096) : IntOp.cmpi .sge (b (ix1 i)) 0#32 = 1#1 := by
  unfold least at h
  exact Host.reduce_andi_all _ _ _ _ _ (congrFun h fun i => i.elim0) (ix1 i)

theorem below_apply {b : IVec S4096 32} (h : below b = fun _ => 1#1) (i : Fin 4096) : IntOp.cmpi .slt (b (ix1 i)) 4#32 = 1#1 := by
  unfold below at h
  exact Host.reduce_andi_all _ _ _ _ _ (congrFun h fun i => i.elim0) (ix1 i)

theorem sorted_apply {b : IVec S4096 32} (h : sorted b = fun _ => 1#1) (i : Fin 4095) : IntOp.cmpi .sle (b (ix1 i.castSucc)) (b (ix1 i.succ)) = 1#1 := by
  unfold sorted at h
  have e := Host.reduce_andi_all _ _ _ _ _ (congrFun h fun i => i.elim0) (ix1 i)
  have e0 : extractStridedSlice S4095 ![0] b Facts.slices_S4096_S4095_0 (ix1 i) = b (ix1 i.castSucc) := by
    refine congrArg b (funext fun a => Fin.ext ?_)
    match a with
    | ⟨0, _⟩ => exact Nat.zero_add _
  have e1 : extractStridedSlice S4095 ![1] b Facts.slices_S4096_S4095_1 (ix1 i) = b (ix1 i.succ) := by
    refine congrArg b (funext fun a => Fin.ext ?_)
    match a with
    | ⟨0, _⟩ => exact Nat.add_comm _ _
  rw [← e0, ← e1]
  exact e

theorem rows_at (b : IVec S4096 32) (s : BitVec 32) : rows b s (fun i => i.elim0) = BitVec.ofNat 32 (Finset.univ.filter fun j : Fin 4096 => b (ix1 j) = s).card := by
  have h : rows b s (fun i => i.elim0) = (Finset.univ : Finset (Fin 4096)).fold IntOp.addi 0#32 (fun j => BitVec.setWidth 32 (IntOp.cmpi .eq (b (ix1 j)) s)) := by
    pointwise [rows]
  rw [h]
  exact Knn.Pre.fold_count (fun j : Fin 4096 => b (ix1 j) = s) _

theorem few_apply {b : IVec S4096 32} {s : BitVec 32} (h : few b s = fun _ => 1#1) : (Finset.univ.filter fun j : Fin 4096 => b (ix1 j) = s).card ≤ 1152 := by
  have e : IntOp.cmpi .sle (rows b s fun i => i.elim0) 1152#32 = 1#1 := congrFun h fun i => i.elim0
  have hc := card_le fun j : Fin 4096 => b (ix1 j) = s
  rw [rows_at] at e
  generalize (Finset.univ.filter fun j : Fin 4096 => b (ix1 j) = s).card = n at e hc
  simp only [IntOp.cmpi, one, BitVec.sle_eq_decide, decide_eq_true_eq, BitVec.toInt_eq_toNat_cond, BitVec.toNat_ofNat] at e
  omega

/-- The precondition: the batch numbers fit. -/
theorem fits {x : FVec Ideal S4096x64 .f32} {b : IVec S4096 32} (h : fn x b = fun _ => 1#1) : Fits (fun i => b (ix1 i)) fun i => (b (ix1 i)).toNat := by
  rw [fn_eq] at h
  obtain ⟨h, -⟩ := both h
  obtain ⟨h, h3⟩ := both h
  obtain ⟨h, h2⟩ := both h
  obtain ⟨h, h1⟩ := both h
  obtain ⟨h, h0⟩ := both h
  obtain ⟨h, hs⟩ := both h
  obtain ⟨hg, hl⟩ := both h
  have four : ∀ j : Fin 4096, (b (ix1 j)).toNat < 4 := fun j => by
    have e1 := least_apply hg j
    have e2 := below_apply hl j
    simp only [IntOp.cmpi, one, BitVec.sle_eq_decide, BitVec.slt_eq_decide, decide_eq_true_eq, BitVec.toInt_eq_toNat_cond, BitVec.toNat_ofNat] at e1 e2
    have := (b (ix1 j)).isLt
    omega
  refine ⟨fun j => by rw [BitVec.ofNat_toNat, BitVec.setWidth_eq], four, Fin.monotone_iff_le_succ.mpr fun i => ?_, fun s hs4 => ?_⟩
  · have e := sorted_apply hs i
    have f0 := four i.castSucc
    have f1 := four i.succ
    simp only [IntOp.cmpi, one, BitVec.sle_eq_decide, decide_eq_true_eq, BitVec.toInt_eq_toNat_cond] at e
    omega
  · have he : size (fun i => (b (ix1 i)).toNat) s = (Finset.univ.filter fun j : Fin 4096 => b (ix1 j) = BitVec.ofNat 32 s).card := by
      unfold size
      refine congrArg Finset.card (Finset.filter_congr fun j _ => ?_)
      show (b (ix1 j)).toNat = s ↔ _
      rw [← BitVec.toNat_inj, BitVec.toNat_ofNat]
      omega
    rw [he]
    interval_cases s
    · exact few_apply h0
    · exact few_apply h1
    · exact few_apply h2
    · exact few_apply h3

/-- The precondition: every row has thirty-two finite distances. -/
theorem enough {x : FVec Ideal S4096x64 .f32} {b : IVec S4096 32} (h : fn x b = fun _ => 1#1) (i : Fin 4096) :
    32 ≤ (Finset.univ.filter fun j => far (fun i q => x (ix2 i q)) (fun i => b (ix1 i)) i j ≠ ⊤).card := by
  rw [fn_eq] at h
  exact Knn.Pre.full_enough (Knn.Ref.dist_at x b) (both h).2 i

end Pre

section Final

open Cert.KnnSegIdeal Cert.KnnSegIdeal.Gen
open Idealize.ShloMosaic.Pipeline (RDat)

variable (m : (ℓ : Loc nD τ sig) → Buf (Elt Ideal) ℓ)

/-- The last point, whose buffer is written back. -/
def lastPoint : Fin cfg0.N := ⟨19, by decide⟩

theorem lastPoint_whole : (cfg0.win 3).WholeAt lastPoint := by
  decide +kernel

/-- Every row is written by some point. -/
theorem hit {b : Fin 4096 → BitVec 32} {β : Fin 4096 → ℕ} (h : Fits b β) (p : Fin 4096) : ∃ u : Fin cfg0.N, u.val ≤ 19 ∧ Hits β u p := by
  have h4 := h.four p
  obtain ⟨j, hj, hb⟩ := h.block h4 rfl
  have hN : cfg0.N = 20 := rfl
  obtain ⟨u, hu⟩ : ∃ u : Fin cfg0.N, u.val = β p * 5 + j := ⟨⟨β p * 5 + j, by omega⟩, rfl⟩
  have e0 : at0 u = β p := by
    refine (idx0 u).2.2.2.2.1.trans ?_
    omega
  have e1 : (grid0.coords u 1).val = j := by
    refine (idx0 u).2.2.2.2.2.trans ?_
    omega
  refine ⟨u, by omega, ?_⟩
  unfold Hits
  rw [e0, e1]
  exact ⟨rfl, hb⟩

theorem final (c : Dev nD) {β : Fin 4096 → ℕ} (h : Fits (nums m c) β) (hf : ∀ p, 32 ≤ (Finset.univ.filter fun j => far (feats m c) (nums m c) p j ≠ ⊤).card)
    {G : Buf (Elt Ideal) ((cfg0.win 3).arr.view.loc (c.tc : Thread nD τ))} (hG : (rdat m c).ArrAt 3 cfg0.N G) :
    (G : IVec S4096x32 32) = pickedOf (feats m c) (nums m c) := by
  obtain ⟨X, hl, e⟩ := RDat.ArrAt.emb_eq_of_wholeAt (rd := rdat m c) (w := 3) hG lastPoint_whole
  have hc := chain m c h hf 19 lastPoint rfl X hl
  funext j
  obtain ⟨p, o, rfl⟩ : ∃ (p : Fin 4096) (o : Fin 32), j = ix2 p o := ⟨j 0, j 1, eq_ix2 j⟩
  exact (e (ix2 p o)).trans (hc p o (hit h p))

end Final

theorem frame_reference_pre : Cert.quiescent_KnnReferenceIdeal_pre_seg_fits := fun m ρ _ => Knn.frame_reference m ρ trivial

theorem algebraic : Cert.algebraic_KnnSegIdeal_KnnReferenceIdeal_pre_seg_fits := by
  intro m g m' g' hpre hargs
  refine ⟨fun c => pickedOf (feats m c) (nums m c), ?_, ?_⟩
  · refine (θ_run (Cert.KnnSegIdeal.defs (F := Ideal)) _ _).mono (fun r h c => ?_) (run (F := Ideal) m g)
    exact ⟨final m c (Pre.fits (hpre c)) (fun p => Pre.enough (hpre c) p) ((h.1 c).1 3), args_end m h.1 c⟩
  · refine (θ_run Cert.KnnReferenceIdeal.defs _ _).mono (fun r h c => ?_) (Cert.KnnReferenceIdeal.Value.run (F := Ideal) m' g')
    refine ⟨(h c).1.trans ?_, (h c).2⟩
    obtain ⟨e0, e1⟩ := hargs c
    rw [e0, e1]
    exact Knn.Ref.indices _ _ fun i => Pre.enough (hpre c) i

end Cert.Proof.Seg

end
-- ==== Proof.lean ====
/-
  The certificate: the kernel's frame at the machine's floats and at the reals, the reference's frame, the
  idealization's rewrites (there are none), and that the kernel's two results over the reals are the reference's;
  then the same of each layer's kNN call over all columns, and of the first layer's over one segment.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.KnnAll
public import proofs.«01_k».proof.Proof.Gen.KnnAllIdeal
public import proofs.«01_k».proof.Proof.Gen.KnnReferenceIdeal
public import proofs.«01_k».proof.Proof.Gen.Pre_enough_neighbours
public import proofs.«01_k».proof.Proof.Gen.KnnWide
public import proofs.«01_k».proof.Proof.Gen.KnnWideIdeal
public import proofs.«01_k».proof.Proof.Gen.KnnWideReferenceIdeal
public import proofs.«01_k».proof.Proof.Gen.Pre_enough_neighbours_wide
public import proofs.«01_k».proof.Proof.Gen.KnnSeg
public import proofs.«01_k».proof.Proof.Gen.KnnSegIdeal
public import proofs.«01_k».proof.Proof.Gen.Pre_seg_fits
public import proofs.«01_k».proof.Proof.Algebraic
public import proofs.«01_k».proof.Proof.KnnAlgebraic
public import proofs.«01_k».proof.Proof.KnnWideAlgebraic
public import proofs.«01_k».proof.Proof.SegAlgebraic

@[expose] public section

noncomputable section

namespace Cert.Proof

theorem claim : Cert.Claim :=
  ⟨Cert.Kernel.Gen.facts, Cert.KernelIdeal.Gen.facts, Cert.ReferenceIdeal.Gen.facts, Cert.KnnAll.Gen.facts,
    Cert.KnnAllIdeal.Gen.facts, Cert.KnnReferenceIdeal.Gen.facts, Cert.KnnWide.Gen.facts, Cert.KnnWideIdeal.Gen.facts,
    Cert.KnnWideReferenceIdeal.Gen.facts, Cert.KnnSeg.Gen.facts, Cert.KnnSegIdeal.Gen.facts, Cert.Pre_in_range.Gen.facts,
    Cert.Pre_enough_neighbours.Gen.facts, Cert.Pre_seg_fits.Gen.facts, Cert.Pre_enough_neighbours_wide.Gen.facts,
    frame_kernel, frame_ideal, frame_reference, frame_reference_pre,
    Knn.frame_all, Knn.frame_ideal, Knn.frame_ideal_pre, Knn.frame_reference, Knn.frame_reference_pre, Seg.frame_reference_pre,
    Knn.Wide.frame_all, Knn.Wide.frame_ideal, Knn.Wide.frame_ideal_pre, Knn.Wide.frame_reference, Knn.Wide.frame_reference_pre,
    Seg.frame_seg, Seg.frame_ideal, Seg.frame_ideal_pre,
    trivial, algebraic, trivial, Knn.algebraic, trivial, Knn.Wide.algebraic, trivial, Seg.algebraic⟩

end Cert.Proof

end
